-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_UpDwKernel (m : (ℓ : Loc Cert.UpDwKernel.nD Cert.UpDwKernel.τ Cert.UpDwKernel.sig) → Buf (Elt Bits) ℓ) : Prop :=
  True

def Pre_UpDwKernelIdeal (m : (ℓ : Loc Cert.UpDwKernelIdeal.nD Cert.UpDwKernelIdeal.τ Cert.UpDwKernelIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_DownDxKernel (m : (ℓ : Loc Cert.DownDxKernel.nD Cert.DownDxKernel.τ Cert.DownDxKernel.sig) → Buf (Elt Bits) ℓ) : Prop :=
  True

def Pre_DownDxKernelIdeal (m : (ℓ : Loc Cert.DownDxKernelIdeal.nD Cert.DownDxKernelIdeal.τ Cert.DownDxKernelIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDwKernel (m : (ℓ : Loc Cert.DownDwKernel.nD Cert.DownDwKernel.τ Cert.DownDwKernel.sig) → Buf (Elt Bits) ℓ) : Prop :=
  True

def Pre_DownDwKernelIdeal (m : (ℓ : Loc Cert.DownDwKernelIdeal.nD Cert.DownDwKernelIdeal.τ Cert.DownDwKernelIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_NormIKernel (m : (ℓ : Loc Cert.NormIKernel.nD Cert.NormIKernel.τ Cert.NormIKernel.sig) → Buf (Elt Bits) ℓ) : Prop :=
  True

def Pre_NormIKernelIdeal (m : (ℓ : Loc Cert.NormIKernelIdeal.nD Cert.NormIKernelIdeal.τ Cert.NormIKernelIdeal.sig) → Buf (Elt Ideal) ℓ) : Prop :=
  True

def Pre_NormIKernelIdeal_finite_norm1 [hPre_finite_norm1 : Cert.Pre_finite_norm1.Facts] (m : (ℓ : Loc Cert.NormIKernelIdeal.nD Cert.NormIKernelIdeal.τ Cert.NormIKernelIdeal.sig) → Buf (Elt Ideal) ℓ) : Prop :=
  ∀ c : Dev Cert.NormIKernelIdeal.nD,
    (Cert.Pre_finite_norm1.fn (F := Ideal) (m ((c.tc : Thread Cert.NormIKernelIdeal.nD Cert.NormIKernelIdeal.τ).loc Cert.NormIKernelIdeal.main_arg0)) (m ((c.tc : Thread Cert.NormIKernelIdeal.nD Cert.NormIKernelIdeal.τ).loc Cert.NormIKernelIdeal.main_arg1)) (m ((c.tc : Thread Cert.NormIKernelIdeal.nD Cert.NormIKernelIdeal.τ).loc Cert.NormIKernelIdeal.main_arg2)) (m ((c.tc : Thread Cert.NormIKernelIdeal.nD Cert.NormIKernelIdeal.τ).loc Cert.NormIKernelIdeal.main_arg3)) (m ((c.tc : Thread Cert.NormIKernelIdeal.nD Cert.NormIKernelIdeal.τ).loc Cert.NormIKernelIdeal.main_arg4)) (m ((c.tc : Thread Cert.NormIKernelIdeal.nD Cert.NormIKernelIdeal.τ).loc Cert.NormIKernelIdeal.main_arg5)) (m ((c.tc : Thread Cert.NormIKernelIdeal.nD Cert.NormIKernelIdeal.τ).loc Cert.NormIKernelIdeal.main_arg6)) (m ((c.tc : Thread Cert.NormIKernelIdeal.nD Cert.NormIKernelIdeal.τ).loc Cert.NormIKernelIdeal.main_arg7)) (m ((c.tc : Thread Cert.NormIKernelIdeal.nD Cert.NormIKernelIdeal.τ).loc Cert.NormIKernelIdeal.main_arg8))) = (fun _ => 1#1)

def Pre_NormIReferenceIdeal (m : (ℓ : Loc Cert.NormIReferenceIdeal.nD Cert.NormIReferenceIdeal.τ Cert.NormIReferenceIdeal.sig) → Buf (Elt Ideal) ℓ) : Prop :=
  True

def Pre_NormIReferenceIdeal_finite_norm1 [hPre_finite_norm1 : Cert.Pre_finite_norm1.Facts] (m : (ℓ : Loc Cert.NormIReferenceIdeal.nD Cert.NormIReferenceIdeal.τ Cert.NormIReferenceIdeal.sig) → Buf (Elt Ideal) ℓ) : Prop :=
  ∀ c : Dev Cert.NormIReferenceIdeal.nD,
    (Cert.Pre_finite_norm1.fn (F := Ideal) (m ((c.tc : Thread Cert.NormIReferenceIdeal.nD Cert.NormIReferenceIdeal.τ).loc Cert.NormIReferenceIdeal.main_arg0)) (m ((c.tc : Thread Cert.NormIReferenceIdeal.nD Cert.NormIReferenceIdeal.τ).loc Cert.NormIReferenceIdeal.main_arg1)) (m ((c.tc : Thread Cert.NormIReferenceIdeal.nD Cert.NormIReferenceIdeal.τ).loc Cert.NormIReferenceIdeal.main_arg2)) (m ((c.tc : Thread Cert.NormIReferenceIdeal.nD Cert.NormIReferenceIdeal.τ).loc Cert.NormIReferenceIdeal.main_arg3)) (m ((c.tc : Thread Cert.NormIReferenceIdeal.nD Cert.NormIReferenceIdeal.τ).loc Cert.NormIReferenceIdeal.main_arg4)) (m ((c.tc : Thread Cert.NormIReferenceIdeal.nD Cert.NormIReferenceIdeal.τ).loc Cert.NormIReferenceIdeal.main_arg5)) (m ((c.tc : Thread Cert.NormIReferenceIdeal.nD Cert.NormIReferenceIdeal.τ).loc Cert.NormIReferenceIdeal.main_arg6)) (m ((c.tc : Thread Cert.NormIReferenceIdeal.nD Cert.NormIReferenceIdeal.τ).loc Cert.NormIReferenceIdeal.main_arg7)) (m ((c.tc : Thread Cert.NormIReferenceIdeal.nD Cert.NormIReferenceIdeal.τ).loc Cert.NormIReferenceIdeal.main_arg8))) = (fun _ => 1#1)

def Pre_NormIIKernel (m : (ℓ : Loc Cert.NormIIKernel.nD Cert.NormIIKernel.τ Cert.NormIIKernel.sig) → Buf (Elt Bits) ℓ) : Prop :=
  True

def Pre_NormIIKernelIdeal (m : (ℓ : Loc Cert.NormIIKernelIdeal.nD Cert.NormIIKernelIdeal.τ Cert.NormIIKernelIdeal.sig) → Buf (Elt Ideal) ℓ) : Prop :=
  True

def Pre_NormIIKernelIdeal_finite_norm2 [hPre_finite_norm2 : Cert.Pre_finite_norm2.Facts] (m : (ℓ : Loc Cert.NormIIKernelIdeal.nD Cert.NormIIKernelIdeal.τ Cert.NormIIKernelIdeal.sig) → Buf (Elt Ideal) ℓ) : Prop :=
  ∀ c : Dev Cert.NormIIKernelIdeal.nD,
    (Cert.Pre_finite_norm2.fn (F := Ideal) (m ((c.tc : Thread Cert.NormIIKernelIdeal.nD Cert.NormIIKernelIdeal.τ).loc Cert.NormIIKernelIdeal.main_arg0)) (m ((c.tc : Thread Cert.NormIIKernelIdeal.nD Cert.NormIIKernelIdeal.τ).loc Cert.NormIIKernelIdeal.main_arg1)) (m ((c.tc : Thread Cert.NormIIKernelIdeal.nD Cert.NormIIKernelIdeal.τ).loc Cert.NormIIKernelIdeal.main_arg2)) (m ((c.tc : Thread Cert.NormIIKernelIdeal.nD Cert.NormIIKernelIdeal.τ).loc Cert.NormIIKernelIdeal.main_arg3)) (m ((c.tc : Thread Cert.NormIIKernelIdeal.nD Cert.NormIIKernelIdeal.τ).loc Cert.NormIIKernelIdeal.main_arg4)) (m ((c.tc : Thread Cert.NormIIKernelIdeal.nD Cert.NormIIKernelIdeal.τ).loc Cert.NormIIKernelIdeal.main_arg5)) (m ((c.tc : Thread Cert.NormIIKernelIdeal.nD Cert.NormIIKernelIdeal.τ).loc Cert.NormIIKernelIdeal.main_arg6)) (m ((c.tc : Thread Cert.NormIIKernelIdeal.nD Cert.NormIIKernelIdeal.τ).loc Cert.NormIIKernelIdeal.main_arg7)) (m ((c.tc : Thread Cert.NormIIKernelIdeal.nD Cert.NormIIKernelIdeal.τ).loc Cert.NormIIKernelIdeal.main_arg8)) (m ((c.tc : Thread Cert.NormIIKernelIdeal.nD Cert.NormIIKernelIdeal.τ).loc Cert.NormIIKernelIdeal.main_arg9)) (m ((c.tc : Thread Cert.NormIIKernelIdeal.nD Cert.NormIIKernelIdeal.τ).loc Cert.NormIIKernelIdeal.main_arg10))) = (fun _ => 1#1)

def Pre_NormIIReferenceIdeal (m : (ℓ : Loc Cert.NormIIReferenceIdeal.nD Cert.NormIIReferenceIdeal.τ Cert.NormIIReferenceIdeal.sig) → Buf (Elt Ideal) ℓ) : Prop :=
  True

def Pre_NormIIReferenceIdeal_finite_norm2 [hPre_finite_norm2 : Cert.Pre_finite_norm2.Facts] (m : (ℓ : Loc Cert.NormIIReferenceIdeal.nD Cert.NormIIReferenceIdeal.τ Cert.NormIIReferenceIdeal.sig) → Buf (Elt Ideal) ℓ) : Prop :=
  ∀ c : Dev Cert.NormIIReferenceIdeal.nD,
    (Cert.Pre_finite_norm2.fn (F := Ideal) (m ((c.tc : Thread Cert.NormIIReferenceIdeal.nD Cert.NormIIReferenceIdeal.τ).loc Cert.NormIIReferenceIdeal.main_arg0)) (m ((c.tc : Thread Cert.NormIIReferenceIdeal.nD Cert.NormIIReferenceIdeal.τ).loc Cert.NormIIReferenceIdeal.main_arg1)) (m ((c.tc : Thread Cert.NormIIReferenceIdeal.nD Cert.NormIIReferenceIdeal.τ).loc Cert.NormIIReferenceIdeal.main_arg2)) (m ((c.tc : Thread Cert.NormIIReferenceIdeal.nD Cert.NormIIReferenceIdeal.τ).loc Cert.NormIIReferenceIdeal.main_arg3)) (m ((c.tc : Thread Cert.NormIIReferenceIdeal.nD Cert.NormIIReferenceIdeal.τ).loc Cert.NormIIReferenceIdeal.main_arg4)) (m ((c.tc : Thread Cert.NormIIReferenceIdeal.nD Cert.NormIIReferenceIdeal.τ).loc Cert.NormIIReferenceIdeal.main_arg5)) (m ((c.tc : Thread Cert.NormIIReferenceIdeal.nD Cert.NormIIReferenceIdeal.τ).loc Cert.NormIIReferenceIdeal.main_arg6)) (m ((c.tc : Thread Cert.NormIIReferenceIdeal.nD Cert.NormIIReferenceIdeal.τ).loc Cert.NormIIReferenceIdeal.main_arg7)) (m ((c.tc : Thread Cert.NormIIReferenceIdeal.nD Cert.NormIIReferenceIdeal.τ).loc Cert.NormIIReferenceIdeal.main_arg8)) (m ((c.tc : Thread Cert.NormIIReferenceIdeal.nD Cert.NormIIReferenceIdeal.τ).loc Cert.NormIIReferenceIdeal.main_arg9)) (m ((c.tc : Thread Cert.NormIIReferenceIdeal.nD Cert.NormIIReferenceIdeal.τ).loc Cert.NormIIReferenceIdeal.main_arg10))) = (fun _ => 1#1)

def Pre_InDwIKernel (m : (ℓ : Loc Cert.InDwIKernel.nD Cert.InDwIKernel.τ Cert.InDwIKernel.sig) → Buf (Elt Bits) ℓ) : Prop :=
  True

def Pre_InDwIKernelIdeal (m : (ℓ : Loc Cert.InDwIKernelIdeal.nD Cert.InDwIKernelIdeal.τ Cert.InDwIKernelIdeal.sig) → Buf (Elt Ideal) ℓ) : Prop :=
  True

def Pre_InDwIReferenceIdeal (m : (ℓ : Loc Cert.InDwIReferenceIdeal.nD Cert.InDwIReferenceIdeal.τ Cert.InDwIReferenceIdeal.sig) → Buf (Elt Ideal) ℓ) : Prop :=
  True

def Pre_InDwIIKernel (m : (ℓ : Loc Cert.InDwIIKernel.nD Cert.InDwIIKernel.τ Cert.InDwIIKernel.sig) → Buf (Elt Bits) ℓ) : Prop :=
  True

def Pre_InDwIIKernelIdeal (m : (ℓ : Loc Cert.InDwIIKernelIdeal.nD Cert.InDwIIKernelIdeal.τ Cert.InDwIIKernelIdeal.sig) → Buf (Elt Ideal) ℓ) : Prop :=
  True

def Pre_InDwIIReferenceIdeal (m : (ℓ : Loc Cert.InDwIIReferenceIdeal.nD Cert.InDwIIReferenceIdeal.τ Cert.InDwIIReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_UpDwKernel [hUpDwKernel : Cert.UpDwKernel.Facts] : Prop :=
  ∀ (m : (ℓ : Loc Cert.UpDwKernel.nD Cert.UpDwKernel.τ Cert.UpDwKernel.sig) → Buf (Elt Bits) ℓ) (g : Dev Cert.UpDwKernel.nD → PrngReg), Pre_UpDwKernel m →
    θ_run (Cert.UpDwKernel.defs (F := Bits)) (onTc (τ := Cert.UpDwKernel.τ) (Cert.UpDwKernel.main (F := Bits))) ⟨m, fun _ => 0, g⟩ (fun r => (∀ c : Dev Cert.UpDwKernel.nD,
      r.2.mem ((c.tc : Thread Cert.UpDwKernel.nD Cert.UpDwKernel.τ).loc Cert.UpDwKernel.main_arg0) = m ((c.tc : Thread Cert.UpDwKernel.nD Cert.UpDwKernel.τ).loc Cert.UpDwKernel.main_arg0)
      ∧ r.2.mem ((c.tc : Thread Cert.UpDwKernel.nD Cert.UpDwKernel.τ).loc Cert.UpDwKernel.main_arg1) = m ((c.tc : Thread Cert.UpDwKernel.nD Cert.UpDwKernel.τ).loc Cert.UpDwKernel.main_arg1)
      ∧ r.2.mem ((c.tc : Thread Cert.UpDwKernel.nD Cert.UpDwKernel.τ).loc Cert.UpDwKernel.main_arg2) = m ((c.tc : Thread Cert.UpDwKernel.nD Cert.UpDwKernel.τ).loc Cert.UpDwKernel.main_arg2))
      ∧ r.2.sem = fun _ => 0)

def quiescent_UpDwKernelIdeal [hUpDwKernelIdeal : Cert.UpDwKernelIdeal.Facts] : Prop :=
  ∀ (m : (ℓ : Loc Cert.UpDwKernelIdeal.nD Cert.UpDwKernelIdeal.τ Cert.UpDwKernelIdeal.sig) → Buf (Elt Ideal) ℓ) (g : Dev Cert.UpDwKernelIdeal.nD → PrngReg), Pre_UpDwKernelIdeal m →
    θ_run (Cert.UpDwKernelIdeal.defs (F := Ideal)) (onTc (τ := Cert.UpDwKernelIdeal.τ) (Cert.UpDwKernelIdeal.main (F := Ideal))) ⟨m, fun _ => 0, g⟩ (fun r => (∀ c : Dev Cert.UpDwKernelIdeal.nD,
      r.2.mem ((c.tc : Thread Cert.UpDwKernelIdeal.nD Cert.UpDwKernelIdeal.τ).loc Cert.UpDwKernelIdeal.main_arg0) = m ((c.tc : Thread Cert.UpDwKernelIdeal.nD Cert.UpDwKernelIdeal.τ).loc Cert.UpDwKernelIdeal.main_arg0)
      ∧ r.2.mem ((c.tc : Thread Cert.UpDwKernelIdeal.nD Cert.UpDwKernelIdeal.τ).loc Cert.UpDwKernelIdeal.main_arg1) = m ((c.tc : Thread Cert.UpDwKernelIdeal.nD Cert.UpDwKernelIdeal.τ).loc Cert.UpDwKernelIdeal.main_arg1)
      ∧ r.2.mem ((c.tc : Thread Cert.UpDwKernelIdeal.nD Cert.UpDwKernelIdeal.τ).loc Cert.UpDwKernelIdeal.main_arg2) = m ((c.tc : Thread Cert.UpDwKernelIdeal.nD Cert.UpDwKernelIdeal.τ).loc Cert.UpDwKernelIdeal.main_arg2))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1)
      ∧ r.2.mem ((c.tc : Thread Cert.UpDwReferenceIdeal.nD Cert.UpDwReferenceIdeal.τ).loc Cert.UpDwReferenceIdeal.main_arg2) = m ((c.tc : Thread Cert.UpDwReferenceIdeal.nD Cert.UpDwReferenceIdeal.τ).loc Cert.UpDwReferenceIdeal.main_arg2))
      ∧ r.2.sem = fun _ => 0)

def quiescent_DownDxKernel [hDownDxKernel : Cert.DownDxKernel.Facts] : Prop :=
  ∀ (m : (ℓ : Loc Cert.DownDxKernel.nD Cert.DownDxKernel.τ Cert.DownDxKernel.sig) → Buf (Elt Bits) ℓ) (g : Dev Cert.DownDxKernel.nD → PrngReg), Pre_DownDxKernel m →
    θ_run (Cert.DownDxKernel.defs (F := Bits)) (onTc (τ := Cert.DownDxKernel.τ) (Cert.DownDxKernel.main (F := Bits))) ⟨m, fun _ => 0, g⟩ (fun r => (∀ c : Dev Cert.DownDxKernel.nD,
      r.2.mem ((c.tc : Thread Cert.DownDxKernel.nD Cert.DownDxKernel.τ).loc Cert.DownDxKernel.main_arg0) = m ((c.tc : Thread Cert.DownDxKernel.nD Cert.DownDxKernel.τ).loc Cert.DownDxKernel.main_arg0)
      ∧ r.2.mem ((c.tc : Thread Cert.DownDxKernel.nD Cert.DownDxKernel.τ).loc Cert.DownDxKernel.main_arg1) = m ((c.tc : Thread Cert.DownDxKernel.nD Cert.DownDxKernel.τ).loc Cert.DownDxKernel.main_arg1)
      ∧ r.2.mem ((c.tc : Thread Cert.DownDxKernel.nD Cert.DownDxKernel.τ).loc Cert.DownDxKernel.main_arg2) = m ((c.tc : Thread Cert.DownDxKernel.nD Cert.DownDxKernel.τ).loc Cert.DownDxKernel.main_arg2))
      ∧ r.2.sem = fun _ => 0)

def quiescent_DownDxKernelIdeal [hDownDxKernelIdeal : Cert.DownDxKernelIdeal.Facts] : Prop :=
  ∀ (m : (ℓ : Loc Cert.DownDxKernelIdeal.nD Cert.DownDxKernelIdeal.τ Cert.DownDxKernelIdeal.sig) → Buf (Elt Ideal) ℓ) (g : Dev Cert.DownDxKernelIdeal.nD → PrngReg), Pre_DownDxKernelIdeal m →
    θ_run (Cert.DownDxKernelIdeal.defs (F := Ideal)) (onTc (τ := Cert.DownDxKernelIdeal.τ) (Cert.DownDxKernelIdeal.main (F := Ideal))) ⟨m, fun _ => 0, g⟩ (fun r => (∀ c : Dev Cert.DownDxKernelIdeal.nD,
      r.2.mem ((c.tc : Thread Cert.DownDxKernelIdeal.nD Cert.DownDxKernelIdeal.τ).loc Cert.DownDxKernelIdeal.main_arg0) = m ((c.tc : Thread Cert.DownDxKernelIdeal.nD Cert.DownDxKernelIdeal.τ).loc Cert.DownDxKernelIdeal.main_arg0)
      ∧ r.2.mem ((c.tc : Thread Cert.DownDxKernelIdeal.nD Cert.DownDxKernelIdeal.τ).loc Cert.DownDxKernelIdeal.main_arg1) = m ((c.tc : Thread Cert.DownDxKernelIdeal.nD Cert.DownDxKernelIdeal.τ).loc Cert.DownDxKernelIdeal.main_arg1)
      ∧ r.2.mem ((c.tc : Thread Cert.DownDxKernelIdeal.nD Cert.DownDxKernelIdeal.τ).loc Cert.DownDxKernelIdeal.main_arg2) = m ((c.tc : Thread Cert.DownDxKernelIdeal.nD Cert.DownDxKernelIdeal.τ).loc Cert.DownDxKernelIdeal.main_arg2))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1)
      ∧ r.2.mem ((c.tc : Thread Cert.DownDxReferenceIdeal.nD Cert.DownDxReferenceIdeal.τ).loc Cert.DownDxReferenceIdeal.main_arg2) = m ((c.tc : Thread Cert.DownDxReferenceIdeal.nD Cert.DownDxReferenceIdeal.τ).loc Cert.DownDxReferenceIdeal.main_arg2))
      ∧ r.2.sem = fun _ => 0)

def quiescent_DownDwKernel [hDownDwKernel : Cert.DownDwKernel.Facts] : Prop :=
  ∀ (m : (ℓ : Loc Cert.DownDwKernel.nD Cert.DownDwKernel.τ Cert.DownDwKernel.sig) → Buf (Elt Bits) ℓ) (g : Dev Cert.DownDwKernel.nD → PrngReg), Pre_DownDwKernel m →
    θ_run (Cert.DownDwKernel.defs (F := Bits)) (onTc (τ := Cert.DownDwKernel.τ) (Cert.DownDwKernel.main (F := Bits))) ⟨m, fun _ => 0, g⟩ (fun r => (∀ c : Dev Cert.DownDwKernel.nD,
      r.2.mem ((c.tc : Thread Cert.DownDwKernel.nD Cert.DownDwKernel.τ).loc Cert.DownDwKernel.main_arg0) = m ((c.tc : Thread Cert.DownDwKernel.nD Cert.DownDwKernel.τ).loc Cert.DownDwKernel.main_arg0)
      ∧ r.2.mem ((c.tc : Thread Cert.DownDwKernel.nD Cert.DownDwKernel.τ).loc Cert.DownDwKernel.main_arg1) = m ((c.tc : Thread Cert.DownDwKernel.nD Cert.DownDwKernel.τ).loc Cert.DownDwKernel.main_arg1)
      ∧ r.2.mem ((c.tc : Thread Cert.DownDwKernel.nD Cert.DownDwKernel.τ).loc Cert.DownDwKernel.main_arg2) = m ((c.tc : Thread Cert.DownDwKernel.nD Cert.DownDwKernel.τ).loc Cert.DownDwKernel.main_arg2))
      ∧ r.2.sem = fun _ => 0)

def quiescent_DownDwKernelIdeal [hDownDwKernelIdeal : Cert.DownDwKernelIdeal.Facts] : Prop :=
  ∀ (m : (ℓ : Loc Cert.DownDwKernelIdeal.nD Cert.DownDwKernelIdeal.τ Cert.DownDwKernelIdeal.sig) → Buf (Elt Ideal) ℓ) (g : Dev Cert.DownDwKernelIdeal.nD → PrngReg), Pre_DownDwKernelIdeal m →
    θ_run (Cert.DownDwKernelIdeal.defs (F := Ideal)) (onTc (τ := Cert.DownDwKernelIdeal.τ) (Cert.DownDwKernelIdeal.main (F := Ideal))) ⟨m, fun _ => 0, g⟩ (fun r => (∀ c : Dev Cert.DownDwKernelIdeal.nD,
      r.2.mem ((c.tc : Thread Cert.DownDwKernelIdeal.nD Cert.DownDwKernelIdeal.τ).loc Cert.DownDwKernelIdeal.main_arg0) = m ((c.tc : Thread Cert.DownDwKernelIdeal.nD Cert.DownDwKernelIdeal.τ).loc Cert.DownDwKernelIdeal.main_arg0)
      ∧ r.2.mem ((c.tc : Thread Cert.DownDwKernelIdeal.nD Cert.DownDwKernelIdeal.τ).loc Cert.DownDwKernelIdeal.main_arg1) = m ((c.tc : Thread Cert.DownDwKernelIdeal.nD Cert.DownDwKernelIdeal.τ).loc Cert.DownDwKernelIdeal.main_arg1)
      ∧ r.2.mem ((c.tc : Thread Cert.DownDwKernelIdeal.nD Cert.DownDwKernelIdeal.τ).loc Cert.DownDwKernelIdeal.main_arg2) = m ((c.tc : Thread Cert.DownDwKernelIdeal.nD Cert.DownDwKernelIdeal.τ).loc Cert.DownDwKernelIdeal.main_arg2))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1)
      ∧ r.2.mem ((c.tc : Thread Cert.DownDwReferenceIdeal.nD Cert.DownDwReferenceIdeal.τ).loc Cert.DownDwReferenceIdeal.main_arg2) = m ((c.tc : Thread Cert.DownDwReferenceIdeal.nD Cert.DownDwReferenceIdeal.τ).loc Cert.DownDwReferenceIdeal.main_arg2))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_NormIKernel [hNormIKernel : Cert.NormIKernel.Facts] : Prop :=
  ∀ (m : (ℓ : Loc Cert.NormIKernel.nD Cert.NormIKernel.τ Cert.NormIKernel.sig) → Buf (Elt Bits) ℓ) (g : Dev Cert.NormIKernel.nD → PrngReg), Pre_NormIKernel m →
    θ_run (Cert.NormIKernel.defs (F := Bits)) (onTc (τ := Cert.NormIKernel.τ) (Cert.NormIKernel.main (F := Bits))) ⟨m, fun _ => 0, g⟩ (fun r => (∀ c : Dev Cert.NormIKernel.nD,
      r.2.mem ((c.tc : Thread Cert.NormIKernel.nD Cert.NormIKernel.τ).loc Cert.NormIKernel.main_arg0) = m ((c.tc : Thread Cert.NormIKernel.nD Cert.NormIKernel.τ).loc Cert.NormIKernel.main_arg0)
      ∧ r.2.mem ((c.tc : Thread Cert.NormIKernel.nD Cert.NormIKernel.τ).loc Cert.NormIKernel.main_arg1) = m ((c.tc : Thread Cert.NormIKernel.nD Cert.NormIKernel.τ).loc Cert.NormIKernel.main_arg1)
      ∧ r.2.mem ((c.tc : Thread Cert.NormIKernel.nD Cert.NormIKernel.τ).loc Cert.NormIKernel.main_arg2) = m ((c.tc : Thread Cert.NormIKernel.nD Cert.NormIKernel.τ).loc Cert.NormIKernel.main_arg2)
      ∧ r.2.mem ((c.tc : Thread Cert.NormIKernel.nD Cert.NormIKernel.τ).loc Cert.NormIKernel.main_arg3) = m ((c.tc : Thread Cert.NormIKernel.nD Cert.NormIKernel.τ).loc Cert.NormIKernel.main_arg3)
      ∧ r.2.mem ((c.tc : Thread Cert.NormIKernel.nD Cert.NormIKernel.τ).loc Cert.NormIKernel.main_arg4) = m ((c.tc : Thread Cert.NormIKernel.nD Cert.NormIKernel.τ).loc Cert.NormIKernel.main_arg4)
      ∧ r.2.mem ((c.tc : Thread Cert.NormIKernel.nD Cert.NormIKernel.τ).loc Cert.NormIKernel.main_arg5) = m ((c.tc : Thread Cert.NormIKernel.nD Cert.NormIKernel.τ).loc Cert.NormIKernel.main_arg5)
      ∧ r.2.mem ((c.tc : Thread Cert.NormIKernel.nD Cert.NormIKernel.τ).loc Cert.NormIKernel.main_arg6) = m ((c.tc : Thread Cert.NormIKernel.nD Cert.NormIKernel.τ).loc Cert.NormIKernel.main_arg6)
      ∧ r.2.mem ((c.tc : Thread Cert.NormIKernel.nD Cert.NormIKernel.τ).loc Cert.NormIKernel.main_arg7) = m ((c.tc : Thread Cert.NormIKernel.nD Cert.NormIKernel.τ).loc Cert.NormIKernel.main_arg7)
      ∧ r.2.mem ((c.tc : Thread Cert.NormIKernel.nD Cert.NormIKernel.τ).loc Cert.NormIKernel.main_arg8) = m ((c.tc : Thread Cert.NormIKernel.nD Cert.NormIKernel.τ).loc Cert.NormIKernel.main_arg8))
      ∧ r.2.sem = fun _ => 0)

def quiescent_NormIKernelIdeal [hNormIKernelIdeal : Cert.NormIKernelIdeal.Facts] : Prop :=
  ∀ (m : (ℓ : Loc Cert.NormIKernelIdeal.nD Cert.NormIKernelIdeal.τ Cert.NormIKernelIdeal.sig) → Buf (Elt Ideal) ℓ) (g : Dev Cert.NormIKernelIdeal.nD → PrngReg), Pre_NormIKernelIdeal m →
    θ_run (Cert.NormIKernelIdeal.defs (F := Ideal)) (onTc (τ := Cert.NormIKernelIdeal.τ) (Cert.NormIKernelIdeal.main (F := Ideal))) ⟨m, fun _ => 0, g⟩ (fun r => (∀ c : Dev Cert.NormIKernelIdeal.nD,
      r.2.mem ((c.tc : Thread Cert.NormIKernelIdeal.nD Cert.NormIKernelIdeal.τ).loc Cert.NormIKernelIdeal.main_arg0) = m ((c.tc : Thread Cert.NormIKernelIdeal.nD Cert.NormIKernelIdeal.τ).loc Cert.NormIKernelIdeal.main_arg0)
      ∧ r.2.mem ((c.tc : Thread Cert.NormIKernelIdeal.nD Cert.NormIKernelIdeal.τ).loc Cert.NormIKernelIdeal.main_arg1) = m ((c.tc : Thread Cert.NormIKernelIdeal.nD Cert.NormIKernelIdeal.τ).loc Cert.NormIKernelIdeal.main_arg1)
      ∧ r.2.mem ((c.tc : Thread Cert.NormIKernelIdeal.nD Cert.NormIKernelIdeal.τ).loc Cert.NormIKernelIdeal.main_arg2) = m ((c.tc : Thread Cert.NormIKernelIdeal.nD Cert.NormIKernelIdeal.τ).loc Cert.NormIKernelIdeal.main_arg2)
      ∧ r.2.mem ((c.tc : Thread Cert.NormIKernelIdeal.nD Cert.NormIKernelIdeal.τ).loc Cert.NormIKernelIdeal.main_arg3) = m ((c.tc : Thread Cert.NormIKernelIdeal.nD Cert.NormIKernelIdeal.τ).loc Cert.NormIKernelIdeal.main_arg3)
      ∧ r.2.mem ((c.tc : Thread Cert.NormIKernelIdeal.nD Cert.NormIKernelIdeal.τ).loc Cert.NormIKernelIdeal.main_arg4) = m ((c.tc : Thread Cert.NormIKernelIdeal.nD Cert.NormIKernelIdeal.τ).loc Cert.NormIKernelIdeal.main_arg4)
      ∧ r.2.mem ((c.tc : Thread Cert.NormIKernelIdeal.nD Cert.NormIKernelIdeal.τ).loc Cert.NormIKernelIdeal.main_arg5) = m ((c.tc : Thread Cert.NormIKernelIdeal.nD Cert.NormIKernelIdeal.τ).loc Cert.NormIKernelIdeal.main_arg5)
      ∧ r.2.mem ((c.tc : Thread Cert.NormIKernelIdeal.nD Cert.NormIKernelIdeal.τ).loc Cert.NormIKernelIdeal.main_arg6) = m ((c.tc : Thread Cert.NormIKernelIdeal.nD Cert.NormIKernelIdeal.τ).loc Cert.NormIKernelIdeal.main_arg6)
      ∧ r.2.mem ((c.tc : Thread Cert.NormIKernelIdeal.nD Cert.NormIKernelIdeal.τ).loc Cert.NormIKernelIdeal.main_arg7) = m ((c.tc : Thread Cert.NormIKernelIdeal.nD Cert.NormIKernelIdeal.τ).loc Cert.NormIKernelIdeal.main_arg7)
      ∧ r.2.mem ((c.tc : Thread Cert.NormIKernelIdeal.nD Cert.NormIKernelIdeal.τ).loc Cert.NormIKernelIdeal.main_arg8) = m ((c.tc : Thread Cert.NormIKernelIdeal.nD Cert.NormIKernelIdeal.τ).loc Cert.NormIKernelIdeal.main_arg8))
      ∧ r.2.sem = fun _ => 0)

def quiescent_NormIKernelIdeal_pre_finite_norm1 [hNormIKernelIdeal : Cert.NormIKernelIdeal.Facts] [hPre_finite_norm1 : Cert.Pre_finite_norm1.Facts] : Prop :=
  ∀ (m : (ℓ : Loc Cert.NormIKernelIdeal.nD Cert.NormIKernelIdeal.τ Cert.NormIKernelIdeal.sig) → Buf (Elt Ideal) ℓ) (g : Dev Cert.NormIKernelIdeal.nD → PrngReg), Pre_NormIKernelIdeal_finite_norm1 m →
    θ_run (Cert.NormIKernelIdeal.defs (F := Ideal)) (onTc (τ := Cert.NormIKernelIdeal.τ) (Cert.NormIKernelIdeal.main (F := Ideal))) ⟨m, fun _ => 0, g⟩ (fun r => (∀ c : Dev Cert.NormIKernelIdeal.nD,
      r.2.mem ((c.tc : Thread Cert.NormIKernelIdeal.nD Cert.NormIKernelIdeal.τ).loc Cert.NormIKernelIdeal.main_arg0) = m ((c.tc : Thread Cert.NormIKernelIdeal.nD Cert.NormIKernelIdeal.τ).loc Cert.NormIKernelIdeal.main_arg0)
      ∧ r.2.mem ((c.tc : Thread Cert.NormIKernelIdeal.nD Cert.NormIKernelIdeal.τ).loc Cert.NormIKernelIdeal.main_arg1) = m ((c.tc : Thread Cert.NormIKernelIdeal.nD Cert.NormIKernelIdeal.τ).loc Cert.NormIKernelIdeal.main_arg1)
      ∧ r.2.mem ((c.tc : Thread Cert.NormIKernelIdeal.nD Cert.NormIKernelIdeal.τ).loc Cert.NormIKernelIdeal.main_arg2) = m ((c.tc : Thread Cert.NormIKernelIdeal.nD Cert.NormIKernelIdeal.τ).loc Cert.NormIKernelIdeal.main_arg2)
      ∧ r.2.mem ((c.tc : Thread Cert.NormIKernelIdeal.nD Cert.NormIKernelIdeal.τ).loc Cert.NormIKernelIdeal.main_arg3) = m ((c.tc : Thread Cert.NormIKernelIdeal.nD Cert.NormIKernelIdeal.τ).loc Cert.NormIKernelIdeal.main_arg3)
      ∧ r.2.mem ((c.tc : Thread Cert.NormIKernelIdeal.nD Cert.NormIKernelIdeal.τ).loc Cert.NormIKernelIdeal.main_arg4) = m ((c.tc : Thread Cert.NormIKernelIdeal.nD Cert.NormIKernelIdeal.τ).loc Cert.NormIKernelIdeal.main_arg4)
      ∧ r.2.mem ((c.tc : Thread Cert.NormIKernelIdeal.nD Cert.NormIKernelIdeal.τ).loc Cert.NormIKernelIdeal.main_arg5) = m ((c.tc : Thread Cert.NormIKernelIdeal.nD Cert.NormIKernelIdeal.τ).loc Cert.NormIKernelIdeal.main_arg5)
      ∧ r.2.mem ((c.tc : Thread Cert.NormIKernelIdeal.nD Cert.NormIKernelIdeal.τ).loc Cert.NormIKernelIdeal.main_arg6) = m ((c.tc : Thread Cert.NormIKernelIdeal.nD Cert.NormIKernelIdeal.τ).loc Cert.NormIKernelIdeal.main_arg6)
      ∧ r.2.mem ((c.tc : Thread Cert.NormIKernelIdeal.nD Cert.NormIKernelIdeal.τ).loc Cert.NormIKernelIdeal.main_arg7) = m ((c.tc : Thread Cert.NormIKernelIdeal.nD Cert.NormIKernelIdeal.τ).loc Cert.NormIKernelIdeal.main_arg7)
      ∧ r.2.mem ((c.tc : Thread Cert.NormIKernelIdeal.nD Cert.NormIKernelIdeal.τ).loc Cert.NormIKernelIdeal.main_arg8) = m ((c.tc : Thread Cert.NormIKernelIdeal.nD Cert.NormIKernelIdeal.τ).loc Cert.NormIKernelIdeal.main_arg8))
      ∧ r.2.sem = fun _ => 0)

def quiescent_NormIReferenceIdeal [hNormIReferenceIdeal : Cert.NormIReferenceIdeal.Facts] : Prop :=
  ∀ (m : (ℓ : Loc Cert.NormIReferenceIdeal.nD Cert.NormIReferenceIdeal.τ Cert.NormIReferenceIdeal.sig) → Buf (Elt Ideal) ℓ) (g : Dev Cert.NormIReferenceIdeal.nD → PrngReg), Pre_NormIReferenceIdeal m →
    θ_run (Cert.NormIReferenceIdeal.defs (F := Ideal)) (onTc (τ := Cert.NormIReferenceIdeal.τ) (Cert.NormIReferenceIdeal.main (F := Ideal))) ⟨m, fun _ => 0, g⟩ (fun r => (∀ c : Dev Cert.NormIReferenceIdeal.nD,
      r.2.mem ((c.tc : Thread Cert.NormIReferenceIdeal.nD Cert.NormIReferenceIdeal.τ).loc Cert.NormIReferenceIdeal.main_arg0) = m ((c.tc : Thread Cert.NormIReferenceIdeal.nD Cert.NormIReferenceIdeal.τ).loc Cert.NormIReferenceIdeal.main_arg0)
      ∧ r.2.mem ((c.tc : Thread Cert.NormIReferenceIdeal.nD Cert.NormIReferenceIdeal.τ).loc Cert.NormIReferenceIdeal.main_arg1) = m ((c.tc : Thread Cert.NormIReferenceIdeal.nD Cert.NormIReferenceIdeal.τ).loc Cert.NormIReferenceIdeal.main_arg1)
      ∧ r.2.mem ((c.tc : Thread Cert.NormIReferenceIdeal.nD Cert.NormIReferenceIdeal.τ).loc Cert.NormIReferenceIdeal.main_arg2) = m ((c.tc : Thread Cert.NormIReferenceIdeal.nD Cert.NormIReferenceIdeal.τ).loc Cert.NormIReferenceIdeal.main_arg2)
      ∧ r.2.mem ((c.tc : Thread Cert.NormIReferenceIdeal.nD Cert.NormIReferenceIdeal.τ).loc Cert.NormIReferenceIdeal.main_arg3) = m ((c.tc : Thread Cert.NormIReferenceIdeal.nD Cert.NormIReferenceIdeal.τ).loc Cert.NormIReferenceIdeal.main_arg3)
      ∧ r.2.mem ((c.tc : Thread Cert.NormIReferenceIdeal.nD Cert.NormIReferenceIdeal.τ).loc Cert.NormIReferenceIdeal.main_arg4) = m ((c.tc : Thread Cert.NormIReferenceIdeal.nD Cert.NormIReferenceIdeal.τ).loc Cert.NormIReferenceIdeal.main_arg4)
      ∧ r.2.mem ((c.tc : Thread Cert.NormIReferenceIdeal.nD Cert.NormIReferenceIdeal.τ).loc Cert.NormIReferenceIdeal.main_arg5) = m ((c.tc : Thread Cert.NormIReferenceIdeal.nD Cert.NormIReferenceIdeal.τ).loc Cert.NormIReferenceIdeal.main_arg5)
      ∧ r.2.mem ((c.tc : Thread Cert.NormIReferenceIdeal.nD Cert.NormIReferenceIdeal.τ).loc Cert.NormIReferenceIdeal.main_arg6) = m ((c.tc : Thread Cert.NormIReferenceIdeal.nD Cert.NormIReferenceIdeal.τ).loc Cert.NormIReferenceIdeal.main_arg6)
      ∧ r.2.mem ((c.tc : Thread Cert.NormIReferenceIdeal.nD Cert.NormIReferenceIdeal.τ).loc Cert.NormIReferenceIdeal.main_arg7) = m ((c.tc : Thread Cert.NormIReferenceIdeal.nD Cert.NormIReferenceIdeal.τ).loc Cert.NormIReferenceIdeal.main_arg7)
      ∧ r.2.mem ((c.tc : Thread Cert.NormIReferenceIdeal.nD Cert.NormIReferenceIdeal.τ).loc Cert.NormIReferenceIdeal.main_arg8) = m ((c.tc : Thread Cert.NormIReferenceIdeal.nD Cert.NormIReferenceIdeal.τ).loc Cert.NormIReferenceIdeal.main_arg8))
      ∧ r.2.sem = fun _ => 0)

def quiescent_NormIReferenceIdeal_pre_finite_norm1 [hNormIReferenceIdeal : Cert.NormIReferenceIdeal.Facts] [hPre_finite_norm1 : Cert.Pre_finite_norm1.Facts] : Prop :=
  ∀ (m : (ℓ : Loc Cert.NormIReferenceIdeal.nD Cert.NormIReferenceIdeal.τ Cert.NormIReferenceIdeal.sig) → Buf (Elt Ideal) ℓ) (g : Dev Cert.NormIReferenceIdeal.nD → PrngReg), Pre_NormIReferenceIdeal_finite_norm1 m →
    θ_run (Cert.NormIReferenceIdeal.defs (F := Ideal)) (onTc (τ := Cert.NormIReferenceIdeal.τ) (Cert.NormIReferenceIdeal.main (F := Ideal))) ⟨m, fun _ => 0, g⟩ (fun r => (∀ c : Dev Cert.NormIReferenceIdeal.nD,
      r.2.mem ((c.tc : Thread Cert.NormIReferenceIdeal.nD Cert.NormIReferenceIdeal.τ).loc Cert.NormIReferenceIdeal.main_arg0) = m ((c.tc : Thread Cert.NormIReferenceIdeal.nD Cert.NormIReferenceIdeal.τ).loc Cert.NormIReferenceIdeal.main_arg0)
      ∧ r.2.mem ((c.tc : Thread Cert.NormIReferenceIdeal.nD Cert.NormIReferenceIdeal.τ).loc Cert.NormIReferenceIdeal.main_arg1) = m ((c.tc : Thread Cert.NormIReferenceIdeal.nD Cert.NormIReferenceIdeal.τ).loc Cert.NormIReferenceIdeal.main_arg1)
      ∧ r.2.mem ((c.tc : Thread Cert.NormIReferenceIdeal.nD Cert.NormIReferenceIdeal.τ).loc Cert.NormIReferenceIdeal.main_arg2) = m ((c.tc : Thread Cert.NormIReferenceIdeal.nD Cert.NormIReferenceIdeal.τ).loc Cert.NormIReferenceIdeal.main_arg2)
      ∧ r.2.mem ((c.tc : Thread Cert.NormIReferenceIdeal.nD Cert.NormIReferenceIdeal.τ).loc Cert.NormIReferenceIdeal.main_arg3) = m ((c.tc : Thread Cert.NormIReferenceIdeal.nD Cert.NormIReferenceIdeal.τ).loc Cert.NormIReferenceIdeal.main_arg3)
      ∧ r.2.mem ((c.tc : Thread Cert.NormIReferenceIdeal.nD Cert.NormIReferenceIdeal.τ).loc Cert.NormIReferenceIdeal.main_arg4) = m ((c.tc : Thread Cert.NormIReferenceIdeal.nD Cert.NormIReferenceIdeal.τ).loc Cert.NormIReferenceIdeal.main_arg4)
      ∧ r.2.mem ((c.tc : Thread Cert.NormIReferenceIdeal.nD Cert.NormIReferenceIdeal.τ).loc Cert.NormIReferenceIdeal.main_arg5) = m ((c.tc : Thread Cert.NormIReferenceIdeal.nD Cert.NormIReferenceIdeal.τ).loc Cert.NormIReferenceIdeal.main_arg5)
      ∧ r.2.mem ((c.tc : Thread Cert.NormIReferenceIdeal.nD Cert.NormIReferenceIdeal.τ).loc Cert.NormIReferenceIdeal.main_arg6) = m ((c.tc : Thread Cert.NormIReferenceIdeal.nD Cert.NormIReferenceIdeal.τ).loc Cert.NormIReferenceIdeal.main_arg6)
      ∧ r.2.mem ((c.tc : Thread Cert.NormIReferenceIdeal.nD Cert.NormIReferenceIdeal.τ).loc Cert.NormIReferenceIdeal.main_arg7) = m ((c.tc : Thread Cert.NormIReferenceIdeal.nD Cert.NormIReferenceIdeal.τ).loc Cert.NormIReferenceIdeal.main_arg7)
      ∧ r.2.mem ((c.tc : Thread Cert.NormIReferenceIdeal.nD Cert.NormIReferenceIdeal.τ).loc Cert.NormIReferenceIdeal.main_arg8) = m ((c.tc : Thread Cert.NormIReferenceIdeal.nD Cert.NormIReferenceIdeal.τ).loc Cert.NormIReferenceIdeal.main_arg8))
      ∧ r.2.sem = fun _ => 0)

def quiescent_NormIIKernel [hNormIIKernel : Cert.NormIIKernel.Facts] : Prop :=
  ∀ (m : (ℓ : Loc Cert.NormIIKernel.nD Cert.NormIIKernel.τ Cert.NormIIKernel.sig) → Buf (Elt Bits) ℓ) (g : Dev Cert.NormIIKernel.nD → PrngReg), Pre_NormIIKernel m →
    θ_run (Cert.NormIIKernel.defs (F := Bits)) (onTc (τ := Cert.NormIIKernel.τ) (Cert.NormIIKernel.main (F := Bits))) ⟨m, fun _ => 0, g⟩ (fun r => (∀ c : Dev Cert.NormIIKernel.nD,
      r.2.mem ((c.tc : Thread Cert.NormIIKernel.nD Cert.NormIIKernel.τ).loc Cert.NormIIKernel.main_arg0) = m ((c.tc : Thread Cert.NormIIKernel.nD Cert.NormIIKernel.τ).loc Cert.NormIIKernel.main_arg0)
      ∧ r.2.mem ((c.tc : Thread Cert.NormIIKernel.nD Cert.NormIIKernel.τ).loc Cert.NormIIKernel.main_arg1) = m ((c.tc : Thread Cert.NormIIKernel.nD Cert.NormIIKernel.τ).loc Cert.NormIIKernel.main_arg1)
      ∧ r.2.mem ((c.tc : Thread Cert.NormIIKernel.nD Cert.NormIIKernel.τ).loc Cert.NormIIKernel.main_arg2) = m ((c.tc : Thread Cert.NormIIKernel.nD Cert.NormIIKernel.τ).loc Cert.NormIIKernel.main_arg2)
      ∧ r.2.mem ((c.tc : Thread Cert.NormIIKernel.nD Cert.NormIIKernel.τ).loc Cert.NormIIKernel.main_arg3) = m ((c.tc : Thread Cert.NormIIKernel.nD Cert.NormIIKernel.τ).loc Cert.NormIIKernel.main_arg3)
      ∧ r.2.mem ((c.tc : Thread Cert.NormIIKernel.nD Cert.NormIIKernel.τ).loc Cert.NormIIKernel.main_arg4) = m ((c.tc : Thread Cert.NormIIKernel.nD Cert.NormIIKernel.τ).loc Cert.NormIIKernel.main_arg4)
      ∧ r.2.mem ((c.tc : Thread Cert.NormIIKernel.nD Cert.NormIIKernel.τ).loc Cert.NormIIKernel.main_arg5) = m ((c.tc : Thread Cert.NormIIKernel.nD Cert.NormIIKernel.τ).loc Cert.NormIIKernel.main_arg5)
      ∧ r.2.mem ((c.tc : Thread Cert.NormIIKernel.nD Cert.NormIIKernel.τ).loc Cert.NormIIKernel.main_arg6) = m ((c.tc : Thread Cert.NormIIKernel.nD Cert.NormIIKernel.τ).loc Cert.NormIIKernel.main_arg6)
      ∧ r.2.mem ((c.tc : Thread Cert.NormIIKernel.nD Cert.NormIIKernel.τ).loc Cert.NormIIKernel.main_arg7) = m ((c.tc : Thread Cert.NormIIKernel.nD Cert.NormIIKernel.τ).loc Cert.NormIIKernel.main_arg7)
      ∧ r.2.mem ((c.tc : Thread Cert.NormIIKernel.nD Cert.NormIIKernel.τ).loc Cert.NormIIKernel.main_arg8) = m ((c.tc : Thread Cert.NormIIKernel.nD Cert.NormIIKernel.τ).loc Cert.NormIIKernel.main_arg8)
      ∧ r.2.mem ((c.tc : Thread Cert.NormIIKernel.nD Cert.NormIIKernel.τ).loc Cert.NormIIKernel.main_arg9) = m ((c.tc : Thread Cert.NormIIKernel.nD Cert.NormIIKernel.τ).loc Cert.NormIIKernel.main_arg9)
      ∧ r.2.mem ((c.tc : Thread Cert.NormIIKernel.nD Cert.NormIIKernel.τ).loc Cert.NormIIKernel.main_arg10) = m ((c.tc : Thread Cert.NormIIKernel.nD Cert.NormIIKernel.τ).loc Cert.NormIIKernel.main_arg10))
      ∧ r.2.sem = fun _ => 0)

def quiescent_NormIIKernelIdeal [hNormIIKernelIdeal : Cert.NormIIKernelIdeal.Facts] : Prop :=
  ∀ (m : (ℓ : Loc Cert.NormIIKernelIdeal.nD Cert.NormIIKernelIdeal.τ Cert.NormIIKernelIdeal.sig) → Buf (Elt Ideal) ℓ) (g : Dev Cert.NormIIKernelIdeal.nD → PrngReg), Pre_NormIIKernelIdeal m →
    θ_run (Cert.NormIIKernelIdeal.defs (F := Ideal)) (onTc (τ := Cert.NormIIKernelIdeal.τ) (Cert.NormIIKernelIdeal.main (F := Ideal))) ⟨m, fun _ => 0, g⟩ (fun r => (∀ c : Dev Cert.NormIIKernelIdeal.nD,
      r.2.mem ((c.tc : Thread Cert.NormIIKernelIdeal.nD Cert.NormIIKernelIdeal.τ).loc Cert.NormIIKernelIdeal.main_arg0) = m ((c.tc : Thread Cert.NormIIKernelIdeal.nD Cert.NormIIKernelIdeal.τ).loc Cert.NormIIKernelIdeal.main_arg0)
      ∧ r.2.mem ((c.tc : Thread Cert.NormIIKernelIdeal.nD Cert.NormIIKernelIdeal.τ).loc Cert.NormIIKernelIdeal.main_arg1) = m ((c.tc : Thread Cert.NormIIKernelIdeal.nD Cert.NormIIKernelIdeal.τ).loc Cert.NormIIKernelIdeal.main_arg1)
      ∧ r.2.mem ((c.tc : Thread Cert.NormIIKernelIdeal.nD Cert.NormIIKernelIdeal.τ).loc Cert.NormIIKernelIdeal.main_arg2) = m ((c.tc : Thread Cert.NormIIKernelIdeal.nD Cert.NormIIKernelIdeal.τ).loc Cert.NormIIKernelIdeal.main_arg2)
      ∧ r.2.mem ((c.tc : Thread Cert.NormIIKernelIdeal.nD Cert.NormIIKernelIdeal.τ).loc Cert.NormIIKernelIdeal.main_arg3) = m ((c.tc : Thread Cert.NormIIKernelIdeal.nD Cert.NormIIKernelIdeal.τ).loc Cert.NormIIKernelIdeal.main_arg3)
      ∧ r.2.mem ((c.tc : Thread Cert.NormIIKernelIdeal.nD Cert.NormIIKernelIdeal.τ).loc Cert.NormIIKernelIdeal.main_arg4) = m ((c.tc : Thread Cert.NormIIKernelIdeal.nD Cert.NormIIKernelIdeal.τ).loc Cert.NormIIKernelIdeal.main_arg4)
      ∧ r.2.mem ((c.tc : Thread Cert.NormIIKernelIdeal.nD Cert.NormIIKernelIdeal.τ).loc Cert.NormIIKernelIdeal.main_arg5) = m ((c.tc : Thread Cert.NormIIKernelIdeal.nD Cert.NormIIKernelIdeal.τ).loc Cert.NormIIKernelIdeal.main_arg5)
      ∧ r.2.mem ((c.tc : Thread Cert.NormIIKernelIdeal.nD Cert.NormIIKernelIdeal.τ).loc Cert.NormIIKernelIdeal.main_arg6) = m ((c.tc : Thread Cert.NormIIKernelIdeal.nD Cert.NormIIKernelIdeal.τ).loc Cert.NormIIKernelIdeal.main_arg6)
      ∧ r.2.mem ((c.tc : Thread Cert.NormIIKernelIdeal.nD Cert.NormIIKernelIdeal.τ).loc Cert.NormIIKernelIdeal.main_arg7) = m ((c.tc : Thread Cert.NormIIKernelIdeal.nD Cert.NormIIKernelIdeal.τ).loc Cert.NormIIKernelIdeal.main_arg7)
      ∧ r.2.mem ((c.tc : Thread Cert.NormIIKernelIdeal.nD Cert.NormIIKernelIdeal.τ).loc Cert.NormIIKernelIdeal.main_arg8) = m ((c.tc : Thread Cert.NormIIKernelIdeal.nD Cert.NormIIKernelIdeal.τ).loc Cert.NormIIKernelIdeal.main_arg8)
      ∧ r.2.mem ((c.tc : Thread Cert.NormIIKernelIdeal.nD Cert.NormIIKernelIdeal.τ).loc Cert.NormIIKernelIdeal.main_arg9) = m ((c.tc : Thread Cert.NormIIKernelIdeal.nD Cert.NormIIKernelIdeal.τ).loc Cert.NormIIKernelIdeal.main_arg9)
      ∧ r.2.mem ((c.tc : Thread Cert.NormIIKernelIdeal.nD Cert.NormIIKernelIdeal.τ).loc Cert.NormIIKernelIdeal.main_arg10) = m ((c.tc : Thread Cert.NormIIKernelIdeal.nD Cert.NormIIKernelIdeal.τ).loc Cert.NormIIKernelIdeal.main_arg10))
      ∧ r.2.sem = fun _ => 0)

def quiescent_NormIIKernelIdeal_pre_finite_norm2 [hNormIIKernelIdeal : Cert.NormIIKernelIdeal.Facts] [hPre_finite_norm2 : Cert.Pre_finite_norm2.Facts] : Prop :=
  ∀ (m : (ℓ : Loc Cert.NormIIKernelIdeal.nD Cert.NormIIKernelIdeal.τ Cert.NormIIKernelIdeal.sig) → Buf (Elt Ideal) ℓ) (g : Dev Cert.NormIIKernelIdeal.nD → PrngReg), Pre_NormIIKernelIdeal_finite_norm2 m →
    θ_run (Cert.NormIIKernelIdeal.defs (F := Ideal)) (onTc (τ := Cert.NormIIKernelIdeal.τ) (Cert.NormIIKernelIdeal.main (F := Ideal))) ⟨m, fun _ => 0, g⟩ (fun r => (∀ c : Dev Cert.NormIIKernelIdeal.nD,
      r.2.mem ((c.tc : Thread Cert.NormIIKernelIdeal.nD Cert.NormIIKernelIdeal.τ).loc Cert.NormIIKernelIdeal.main_arg0) = m ((c.tc : Thread Cert.NormIIKernelIdeal.nD Cert.NormIIKernelIdeal.τ).loc Cert.NormIIKernelIdeal.main_arg0)
      ∧ r.2.mem ((c.tc : Thread Cert.NormIIKernelIdeal.nD Cert.NormIIKernelIdeal.τ).loc Cert.NormIIKernelIdeal.main_arg1) = m ((c.tc : Thread Cert.NormIIKernelIdeal.nD Cert.NormIIKernelIdeal.τ).loc Cert.NormIIKernelIdeal.main_arg1)
      ∧ r.2.mem ((c.tc : Thread Cert.NormIIKernelIdeal.nD Cert.NormIIKernelIdeal.τ).loc Cert.NormIIKernelIdeal.main_arg2) = m ((c.tc : Thread Cert.NormIIKernelIdeal.nD Cert.NormIIKernelIdeal.τ).loc Cert.NormIIKernelIdeal.main_arg2)
      ∧ r.2.mem ((c.tc : Thread Cert.NormIIKernelIdeal.nD Cert.NormIIKernelIdeal.τ).loc Cert.NormIIKernelIdeal.main_arg3) = m ((c.tc : Thread Cert.NormIIKernelIdeal.nD Cert.NormIIKernelIdeal.τ).loc Cert.NormIIKernelIdeal.main_arg3)
      ∧ r.2.mem ((c.tc : Thread Cert.NormIIKernelIdeal.nD Cert.NormIIKernelIdeal.τ).loc Cert.NormIIKernelIdeal.main_arg4) = m ((c.tc : Thread Cert.NormIIKernelIdeal.nD Cert.NormIIKernelIdeal.τ).loc Cert.NormIIKernelIdeal.main_arg4)
      ∧ r.2.mem ((c.tc : Thread Cert.NormIIKernelIdeal.nD Cert.NormIIKernelIdeal.τ).loc Cert.NormIIKernelIdeal.main_arg5) = m ((c.tc : Thread Cert.NormIIKernelIdeal.nD Cert.NormIIKernelIdeal.τ).loc Cert.NormIIKernelIdeal.main_arg5)
      ∧ r.2.mem ((c.tc : Thread Cert.NormIIKernelIdeal.nD Cert.NormIIKernelIdeal.τ).loc Cert.NormIIKernelIdeal.main_arg6) = m ((c.tc : Thread Cert.NormIIKernelIdeal.nD Cert.NormIIKernelIdeal.τ).loc Cert.NormIIKernelIdeal.main_arg6)
      ∧ r.2.mem ((c.tc : Thread Cert.NormIIKernelIdeal.nD Cert.NormIIKernelIdeal.τ).loc Cert.NormIIKernelIdeal.main_arg7) = m ((c.tc : Thread Cert.NormIIKernelIdeal.nD Cert.NormIIKernelIdeal.τ).loc Cert.NormIIKernelIdeal.main_arg7)
      ∧ r.2.mem ((c.tc : Thread Cert.NormIIKernelIdeal.nD Cert.NormIIKernelIdeal.τ).loc Cert.NormIIKernelIdeal.main_arg8) = m ((c.tc : Thread Cert.NormIIKernelIdeal.nD Cert.NormIIKernelIdeal.τ).loc Cert.NormIIKernelIdeal.main_arg8)
      ∧ r.2.mem ((c.tc : Thread Cert.NormIIKernelIdeal.nD Cert.NormIIKernelIdeal.τ).loc Cert.NormIIKernelIdeal.main_arg9) = m ((c.tc : Thread Cert.NormIIKernelIdeal.nD Cert.NormIIKernelIdeal.τ).loc Cert.NormIIKernelIdeal.main_arg9)
      ∧ r.2.mem ((c.tc : Thread Cert.NormIIKernelIdeal.nD Cert.NormIIKernelIdeal.τ).loc Cert.NormIIKernelIdeal.main_arg10) = m ((c.tc : Thread Cert.NormIIKernelIdeal.nD Cert.NormIIKernelIdeal.τ).loc Cert.NormIIKernelIdeal.main_arg10))
      ∧ r.2.sem = fun _ => 0)

def quiescent_NormIIReferenceIdeal [hNormIIReferenceIdeal : Cert.NormIIReferenceIdeal.Facts] : Prop :=
  ∀ (m : (ℓ : Loc Cert.NormIIReferenceIdeal.nD Cert.NormIIReferenceIdeal.τ Cert.NormIIReferenceIdeal.sig) → Buf (Elt Ideal) ℓ) (g : Dev Cert.NormIIReferenceIdeal.nD → PrngReg), Pre_NormIIReferenceIdeal m →
    θ_run (Cert.NormIIReferenceIdeal.defs (F := Ideal)) (onTc (τ := Cert.NormIIReferenceIdeal.τ) (Cert.NormIIReferenceIdeal.main (F := Ideal))) ⟨m, fun _ => 0, g⟩ (fun r => (∀ c : Dev Cert.NormIIReferenceIdeal.nD,
      r.2.mem ((c.tc : Thread Cert.NormIIReferenceIdeal.nD Cert.NormIIReferenceIdeal.τ).loc Cert.NormIIReferenceIdeal.main_arg0) = m ((c.tc : Thread Cert.NormIIReferenceIdeal.nD Cert.NormIIReferenceIdeal.τ).loc Cert.NormIIReferenceIdeal.main_arg0)
      ∧ r.2.mem ((c.tc : Thread Cert.NormIIReferenceIdeal.nD Cert.NormIIReferenceIdeal.τ).loc Cert.NormIIReferenceIdeal.main_arg1) = m ((c.tc : Thread Cert.NormIIReferenceIdeal.nD Cert.NormIIReferenceIdeal.τ).loc Cert.NormIIReferenceIdeal.main_arg1)
      ∧ r.2.mem ((c.tc : Thread Cert.NormIIReferenceIdeal.nD Cert.NormIIReferenceIdeal.τ).loc Cert.NormIIReferenceIdeal.main_arg2) = m ((c.tc : Thread Cert.NormIIReferenceIdeal.nD Cert.NormIIReferenceIdeal.τ).loc Cert.NormIIReferenceIdeal.main_arg2)
      ∧ r.2.mem ((c.tc : Thread Cert.NormIIReferenceIdeal.nD Cert.NormIIReferenceIdeal.τ).loc Cert.NormIIReferenceIdeal.main_arg3) = m ((c.tc : Thread Cert.NormIIReferenceIdeal.nD Cert.NormIIReferenceIdeal.τ).loc Cert.NormIIReferenceIdeal.main_arg3)
      ∧ r.2.mem ((c.tc : Thread Cert.NormIIReferenceIdeal.nD Cert.NormIIReferenceIdeal.τ).loc Cert.NormIIReferenceIdeal.main_arg4) = m ((c.tc : Thread Cert.NormIIReferenceIdeal.nD Cert.NormIIReferenceIdeal.τ).loc Cert.NormIIReferenceIdeal.main_arg4)
      ∧ r.2.mem ((c.tc : Thread Cert.NormIIReferenceIdeal.nD Cert.NormIIReferenceIdeal.τ).loc Cert.NormIIReferenceIdeal.main_arg5) = m ((c.tc : Thread Cert.NormIIReferenceIdeal.nD Cert.NormIIReferenceIdeal.τ).loc Cert.NormIIReferenceIdeal.main_arg5)
      ∧ r.2.mem ((c.tc : Thread Cert.NormIIReferenceIdeal.nD Cert.NormIIReferenceIdeal.τ).loc Cert.NormIIReferenceIdeal.main_arg6) = m ((c.tc : Thread Cert.NormIIReferenceIdeal.nD Cert.NormIIReferenceIdeal.τ).loc Cert.NormIIReferenceIdeal.main_arg6)
      ∧ r.2.mem ((c.tc : Thread Cert.NormIIReferenceIdeal.nD Cert.NormIIReferenceIdeal.τ).loc Cert.NormIIReferenceIdeal.main_arg7) = m ((c.tc : Thread Cert.NormIIReferenceIdeal.nD Cert.NormIIReferenceIdeal.τ).loc Cert.NormIIReferenceIdeal.main_arg7)
      ∧ r.2.mem ((c.tc : Thread Cert.NormIIReferenceIdeal.nD Cert.NormIIReferenceIdeal.τ).loc Cert.NormIIReferenceIdeal.main_arg8) = m ((c.tc : Thread Cert.NormIIReferenceIdeal.nD Cert.NormIIReferenceIdeal.τ).loc Cert.NormIIReferenceIdeal.main_arg8)
      ∧ r.2.mem ((c.tc : Thread Cert.NormIIReferenceIdeal.nD Cert.NormIIReferenceIdeal.τ).loc Cert.NormIIReferenceIdeal.main_arg9) = m ((c.tc : Thread Cert.NormIIReferenceIdeal.nD Cert.NormIIReferenceIdeal.τ).loc Cert.NormIIReferenceIdeal.main_arg9)
      ∧ r.2.mem ((c.tc : Thread Cert.NormIIReferenceIdeal.nD Cert.NormIIReferenceIdeal.τ).loc Cert.NormIIReferenceIdeal.main_arg10) = m ((c.tc : Thread Cert.NormIIReferenceIdeal.nD Cert.NormIIReferenceIdeal.τ).loc Cert.NormIIReferenceIdeal.main_arg10))
      ∧ r.2.sem = fun _ => 0)

def quiescent_NormIIReferenceIdeal_pre_finite_norm2 [hNormIIReferenceIdeal : Cert.NormIIReferenceIdeal.Facts] [hPre_finite_norm2 : Cert.Pre_finite_norm2.Facts] : Prop :=
  ∀ (m : (ℓ : Loc Cert.NormIIReferenceIdeal.nD Cert.NormIIReferenceIdeal.τ Cert.NormIIReferenceIdeal.sig) → Buf (Elt Ideal) ℓ) (g : Dev Cert.NormIIReferenceIdeal.nD → PrngReg), Pre_NormIIReferenceIdeal_finite_norm2 m →
    θ_run (Cert.NormIIReferenceIdeal.defs (F := Ideal)) (onTc (τ := Cert.NormIIReferenceIdeal.τ) (Cert.NormIIReferenceIdeal.main (F := Ideal))) ⟨m, fun _ => 0, g⟩ (fun r => (∀ c : Dev Cert.NormIIReferenceIdeal.nD,
      r.2.mem ((c.tc : Thread Cert.NormIIReferenceIdeal.nD Cert.NormIIReferenceIdeal.τ).loc Cert.NormIIReferenceIdeal.main_arg0) = m ((c.tc : Thread Cert.NormIIReferenceIdeal.nD Cert.NormIIReferenceIdeal.τ).loc Cert.NormIIReferenceIdeal.main_arg0)
      ∧ r.2.mem ((c.tc : Thread Cert.NormIIReferenceIdeal.nD Cert.NormIIReferenceIdeal.τ).loc Cert.NormIIReferenceIdeal.main_arg1) = m ((c.tc : Thread Cert.NormIIReferenceIdeal.nD Cert.NormIIReferenceIdeal.τ).loc Cert.NormIIReferenceIdeal.main_arg1)
      ∧ r.2.mem ((c.tc : Thread Cert.NormIIReferenceIdeal.nD Cert.NormIIReferenceIdeal.τ).loc Cert.NormIIReferenceIdeal.main_arg2) = m ((c.tc : Thread Cert.NormIIReferenceIdeal.nD Cert.NormIIReferenceIdeal.τ).loc Cert.NormIIReferenceIdeal.main_arg2)
      ∧ r.2.mem ((c.tc : Thread Cert.NormIIReferenceIdeal.nD Cert.NormIIReferenceIdeal.τ).loc Cert.NormIIReferenceIdeal.main_arg3) = m ((c.tc : Thread Cert.NormIIReferenceIdeal.nD Cert.NormIIReferenceIdeal.τ).loc Cert.NormIIReferenceIdeal.main_arg3)
      ∧ r.2.mem ((c.tc : Thread Cert.NormIIReferenceIdeal.nD Cert.NormIIReferenceIdeal.τ).loc Cert.NormIIReferenceIdeal.main_arg4) = m ((c.tc : Thread Cert.NormIIReferenceIdeal.nD Cert.NormIIReferenceIdeal.τ).loc Cert.NormIIReferenceIdeal.main_arg4)
      ∧ r.2.mem ((c.tc : Thread Cert.NormIIReferenceIdeal.nD Cert.NormIIReferenceIdeal.τ).loc Cert.NormIIReferenceIdeal.main_arg5) = m ((c.tc : Thread Cert.NormIIReferenceIdeal.nD Cert.NormIIReferenceIdeal.τ).loc Cert.NormIIReferenceIdeal.main_arg5)
      ∧ r.2.mem ((c.tc : Thread Cert.NormIIReferenceIdeal.nD Cert.NormIIReferenceIdeal.τ).loc Cert.NormIIReferenceIdeal.main_arg6) = m ((c.tc : Thread Cert.NormIIReferenceIdeal.nD Cert.NormIIReferenceIdeal.τ).loc Cert.NormIIReferenceIdeal.main_arg6)
      ∧ r.2.mem ((c.tc : Thread Cert.NormIIReferenceIdeal.nD Cert.NormIIReferenceIdeal.τ).loc Cert.NormIIReferenceIdeal.main_arg7) = m ((c.tc : Thread Cert.NormIIReferenceIdeal.nD Cert.NormIIReferenceIdeal.τ).loc Cert.NormIIReferenceIdeal.main_arg7)
      ∧ r.2.mem ((c.tc : Thread Cert.NormIIReferenceIdeal.nD Cert.NormIIReferenceIdeal.τ).loc Cert.NormIIReferenceIdeal.main_arg8) = m ((c.tc : Thread Cert.NormIIReferenceIdeal.nD Cert.NormIIReferenceIdeal.τ).loc Cert.NormIIReferenceIdeal.main_arg8)
      ∧ r.2.mem ((c.tc : Thread Cert.NormIIReferenceIdeal.nD Cert.NormIIReferenceIdeal.τ).loc Cert.NormIIReferenceIdeal.main_arg9) = m ((c.tc : Thread Cert.NormIIReferenceIdeal.nD Cert.NormIIReferenceIdeal.τ).loc Cert.NormIIReferenceIdeal.main_arg9)
      ∧ r.2.mem ((c.tc : Thread Cert.NormIIReferenceIdeal.nD Cert.NormIIReferenceIdeal.τ).loc Cert.NormIIReferenceIdeal.main_arg10) = m ((c.tc : Thread Cert.NormIIReferenceIdeal.nD Cert.NormIIReferenceIdeal.τ).loc Cert.NormIIReferenceIdeal.main_arg10))
      ∧ r.2.sem = fun _ => 0)

def quiescent_InDwIKernel [hInDwIKernel : Cert.InDwIKernel.Facts] : Prop :=
  ∀ (m : (ℓ : Loc Cert.InDwIKernel.nD Cert.InDwIKernel.τ Cert.InDwIKernel.sig) → Buf (Elt Bits) ℓ) (g : Dev Cert.InDwIKernel.nD → PrngReg), Pre_InDwIKernel m →
    θ_run (Cert.InDwIKernel.defs (F := Bits)) (onTc (τ := Cert.InDwIKernel.τ) (Cert.InDwIKernel.main (F := Bits))) ⟨m, fun _ => 0, g⟩ (fun r => (∀ c : Dev Cert.InDwIKernel.nD,
      r.2.mem ((c.tc : Thread Cert.InDwIKernel.nD Cert.InDwIKernel.τ).loc Cert.InDwIKernel.main_arg0) = m ((c.tc : Thread Cert.InDwIKernel.nD Cert.InDwIKernel.τ).loc Cert.InDwIKernel.main_arg0)
      ∧ r.2.mem ((c.tc : Thread Cert.InDwIKernel.nD Cert.InDwIKernel.τ).loc Cert.InDwIKernel.main_arg1) = m ((c.tc : Thread Cert.InDwIKernel.nD Cert.InDwIKernel.τ).loc Cert.InDwIKernel.main_arg1)
      ∧ r.2.mem ((c.tc : Thread Cert.InDwIKernel.nD Cert.InDwIKernel.τ).loc Cert.InDwIKernel.main_arg2) = m ((c.tc : Thread Cert.InDwIKernel.nD Cert.InDwIKernel.τ).loc Cert.InDwIKernel.main_arg2))
      ∧ r.2.sem = fun _ => 0)

def quiescent_InDwIKernelIdeal [hInDwIKernelIdeal : Cert.InDwIKernelIdeal.Facts] : Prop :=
  ∀ (m : (ℓ : Loc Cert.InDwIKernelIdeal.nD Cert.InDwIKernelIdeal.τ Cert.InDwIKernelIdeal.sig) → Buf (Elt Ideal) ℓ) (g : Dev Cert.InDwIKernelIdeal.nD → PrngReg), Pre_InDwIKernelIdeal m →
    θ_run (Cert.InDwIKernelIdeal.defs (F := Ideal)) (onTc (τ := Cert.InDwIKernelIdeal.τ) (Cert.InDwIKernelIdeal.main (F := Ideal))) ⟨m, fun _ => 0, g⟩ (fun r => (∀ c : Dev Cert.InDwIKernelIdeal.nD,
      r.2.mem ((c.tc : Thread Cert.InDwIKernelIdeal.nD Cert.InDwIKernelIdeal.τ).loc Cert.InDwIKernelIdeal.main_arg0) = m ((c.tc : Thread Cert.InDwIKernelIdeal.nD Cert.InDwIKernelIdeal.τ).loc Cert.InDwIKernelIdeal.main_arg0)
      ∧ r.2.mem ((c.tc : Thread Cert.InDwIKernelIdeal.nD Cert.InDwIKernelIdeal.τ).loc Cert.InDwIKernelIdeal.main_arg1) = m ((c.tc : Thread Cert.InDwIKernelIdeal.nD Cert.InDwIKernelIdeal.τ).loc Cert.InDwIKernelIdeal.main_arg1)
      ∧ r.2.mem ((c.tc : Thread Cert.InDwIKernelIdeal.nD Cert.InDwIKernelIdeal.τ).loc Cert.InDwIKernelIdeal.main_arg2) = m ((c.tc : Thread Cert.InDwIKernelIdeal.nD Cert.InDwIKernelIdeal.τ).loc Cert.InDwIKernelIdeal.main_arg2))
      ∧ r.2.sem = fun _ => 0)

def quiescent_InDwIReferenceIdeal [hInDwIReferenceIdeal : Cert.InDwIReferenceIdeal.Facts] : Prop :=
  ∀ (m : (ℓ : Loc Cert.InDwIReferenceIdeal.nD Cert.InDwIReferenceIdeal.τ Cert.InDwIReferenceIdeal.sig) → Buf (Elt Ideal) ℓ) (g : Dev Cert.InDwIReferenceIdeal.nD → PrngReg), Pre_InDwIReferenceIdeal m →
    θ_run (Cert.InDwIReferenceIdeal.defs (F := Ideal)) (onTc (τ := Cert.InDwIReferenceIdeal.τ) (Cert.InDwIReferenceIdeal.main (F := Ideal))) ⟨m, fun _ => 0, g⟩ (fun r => (∀ c : Dev Cert.InDwIReferenceIdeal.nD,
      r.2.mem ((c.tc : Thread Cert.InDwIReferenceIdeal.nD Cert.InDwIReferenceIdeal.τ).loc Cert.InDwIReferenceIdeal.main_arg0) = m ((c.tc : Thread Cert.InDwIReferenceIdeal.nD Cert.InDwIReferenceIdeal.τ).loc Cert.InDwIReferenceIdeal.main_arg0)
      ∧ r.2.mem ((c.tc : Thread Cert.InDwIReferenceIdeal.nD Cert.InDwIReferenceIdeal.τ).loc Cert.InDwIReferenceIdeal.main_arg1) = m ((c.tc : Thread Cert.InDwIReferenceIdeal.nD Cert.InDwIReferenceIdeal.τ).loc Cert.InDwIReferenceIdeal.main_arg1)
      ∧ r.2.mem ((c.tc : Thread Cert.InDwIReferenceIdeal.nD Cert.InDwIReferenceIdeal.τ).loc Cert.InDwIReferenceIdeal.main_arg2) = m ((c.tc : Thread Cert.InDwIReferenceIdeal.nD Cert.InDwIReferenceIdeal.τ).loc Cert.InDwIReferenceIdeal.main_arg2))
      ∧ r.2.sem = fun _ => 0)

def quiescent_InDwIIKernel [hInDwIIKernel : Cert.InDwIIKernel.Facts] : Prop :=
  ∀ (m : (ℓ : Loc Cert.InDwIIKernel.nD Cert.InDwIIKernel.τ Cert.InDwIIKernel.sig) → Buf (Elt Bits) ℓ) (g : Dev Cert.InDwIIKernel.nD → PrngReg), Pre_InDwIIKernel m →
    θ_run (Cert.InDwIIKernel.defs (F := Bits)) (onTc (τ := Cert.InDwIIKernel.τ) (Cert.InDwIIKernel.main (F := Bits))) ⟨m, fun _ => 0, g⟩ (fun r => (∀ c : Dev Cert.InDwIIKernel.nD,
      r.2.mem ((c.tc : Thread Cert.InDwIIKernel.nD Cert.InDwIIKernel.τ).loc Cert.InDwIIKernel.main_arg0) = m ((c.tc : Thread Cert.InDwIIKernel.nD Cert.InDwIIKernel.τ).loc Cert.InDwIIKernel.main_arg0)
      ∧ r.2.mem ((c.tc : Thread Cert.InDwIIKernel.nD Cert.InDwIIKernel.τ).loc Cert.InDwIIKernel.main_arg1) = m ((c.tc : Thread Cert.InDwIIKernel.nD Cert.InDwIIKernel.τ).loc Cert.InDwIIKernel.main_arg1)
      ∧ r.2.mem ((c.tc : Thread Cert.InDwIIKernel.nD Cert.InDwIIKernel.τ).loc Cert.InDwIIKernel.main_arg2) = m ((c.tc : Thread Cert.InDwIIKernel.nD Cert.InDwIIKernel.τ).loc Cert.InDwIIKernel.main_arg2))
      ∧ r.2.sem = fun _ => 0)

def quiescent_InDwIIKernelIdeal [hInDwIIKernelIdeal : Cert.InDwIIKernelIdeal.Facts] : Prop :=
  ∀ (m : (ℓ : Loc Cert.InDwIIKernelIdeal.nD Cert.InDwIIKernelIdeal.τ Cert.InDwIIKernelIdeal.sig) → Buf (Elt Ideal) ℓ) (g : Dev Cert.InDwIIKernelIdeal.nD → PrngReg), Pre_InDwIIKernelIdeal m →
    θ_run (Cert.InDwIIKernelIdeal.defs (F := Ideal)) (onTc (τ := Cert.InDwIIKernelIdeal.τ) (Cert.InDwIIKernelIdeal.main (F := Ideal))) ⟨m, fun _ => 0, g⟩ (fun r => (∀ c : Dev Cert.InDwIIKernelIdeal.nD,
      r.2.mem ((c.tc : Thread Cert.InDwIIKernelIdeal.nD Cert.InDwIIKernelIdeal.τ).loc Cert.InDwIIKernelIdeal.main_arg0) = m ((c.tc : Thread Cert.InDwIIKernelIdeal.nD Cert.InDwIIKernelIdeal.τ).loc Cert.InDwIIKernelIdeal.main_arg0)
      ∧ r.2.mem ((c.tc : Thread Cert.InDwIIKernelIdeal.nD Cert.InDwIIKernelIdeal.τ).loc Cert.InDwIIKernelIdeal.main_arg1) = m ((c.tc : Thread Cert.InDwIIKernelIdeal.nD Cert.InDwIIKernelIdeal.τ).loc Cert.InDwIIKernelIdeal.main_arg1)
      ∧ r.2.mem ((c.tc : Thread Cert.InDwIIKernelIdeal.nD Cert.InDwIIKernelIdeal.τ).loc Cert.InDwIIKernelIdeal.main_arg2) = m ((c.tc : Thread Cert.InDwIIKernelIdeal.nD Cert.InDwIIKernelIdeal.τ).loc Cert.InDwIIKernelIdeal.main_arg2))
      ∧ r.2.sem = fun _ => 0)

def quiescent_InDwIIReferenceIdeal [hInDwIIReferenceIdeal : Cert.InDwIIReferenceIdeal.Facts] : Prop :=
  ∀ (m : (ℓ : Loc Cert.InDwIIReferenceIdeal.nD Cert.InDwIIReferenceIdeal.τ Cert.InDwIIReferenceIdeal.sig) → Buf (Elt Ideal) ℓ) (g : Dev Cert.InDwIIReferenceIdeal.nD → PrngReg), Pre_InDwIIReferenceIdeal m →
    θ_run (Cert.InDwIIReferenceIdeal.defs (F := Ideal)) (onTc (τ := Cert.InDwIIReferenceIdeal.τ) (Cert.InDwIIReferenceIdeal.main (F := Ideal))) ⟨m, fun _ => 0, g⟩ (fun r => (∀ c : Dev Cert.InDwIIReferenceIdeal.nD,
      r.2.mem ((c.tc : Thread Cert.InDwIIReferenceIdeal.nD Cert.InDwIIReferenceIdeal.τ).loc Cert.InDwIIReferenceIdeal.main_arg0) = m ((c.tc : Thread Cert.InDwIIReferenceIdeal.nD Cert.InDwIIReferenceIdeal.τ).loc Cert.InDwIIReferenceIdeal.main_arg0)
      ∧ r.2.mem ((c.tc : Thread Cert.InDwIIReferenceIdeal.nD Cert.InDwIIReferenceIdeal.τ).loc Cert.InDwIIReferenceIdeal.main_arg1) = m ((c.tc : Thread Cert.InDwIIReferenceIdeal.nD Cert.InDwIIReferenceIdeal.τ).loc Cert.InDwIIReferenceIdeal.main_arg1)
      ∧ r.2.mem ((c.tc : Thread Cert.InDwIIReferenceIdeal.nD Cert.InDwIIReferenceIdeal.τ).loc Cert.InDwIIReferenceIdeal.main_arg2) = m ((c.tc : Thread Cert.InDwIIReferenceIdeal.nD Cert.InDwIIReferenceIdeal.τ).loc Cert.InDwIIReferenceIdeal.main_arg2))
      ∧ r.2.sem = fun _ => 0)

def preserves_Kernel_KernelIdeal : Prop :=
  IdealRules.named_const.Statement Cert.KernelIdeal.κ "scale_log2e" .f32 0x3E16C740#32 (((Real.sqrt 96)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "scale" .f32 0x3DD105EC#32 (((Real.sqrt 96)⁻¹ : ℝ) : EReal)

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v15_0)) (v2 : (c : Dev Cert.KernelIdeal.nD) → Buf (Elt Ideal) ((c.tc : Thread Cert.KernelIdeal.nD Cert.KernelIdeal.τ).loc Cert.KernelIdeal.main_v15_1)) (v3 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v15_0) = v1 c
          ∧ r.2.mem ((c.tc : Thread Cert.KernelIdeal.nD Cert.KernelIdeal.τ).loc Cert.KernelIdeal.main_v15_1) = v2 c
          ∧ r.2.mem ((c.tc : Thread Cert.KernelIdeal.nD Cert.KernelIdeal.τ).loc Cert.KernelIdeal.main_v15_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v3)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v3) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v5) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_UpDwKernel_UpDwKernelIdeal : Prop :=
  True

def algebraic_UpDwKernelIdeal_UpDwReferenceIdeal [hUpDwKernelIdeal : Cert.UpDwKernelIdeal.Facts] [hUpDwReferenceIdeal : Cert.UpDwReferenceIdeal.Facts] : Prop :=
  ∀ (m : (ℓ : Loc Cert.UpDwKernelIdeal.nD Cert.UpDwKernelIdeal.τ Cert.UpDwKernelIdeal.sig) → Buf (Elt Ideal) ℓ) (g : Dev Cert.UpDwKernelIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwKernelIdeal m →
    (∀ c : Dev Cert.UpDwKernelIdeal.nD,
      m' ((c.tc : Thread Cert.UpDwReferenceIdeal.nD Cert.UpDwReferenceIdeal.τ).loc Cert.UpDwReferenceIdeal.main_arg0) = m ((c.tc : Thread Cert.UpDwKernelIdeal.nD Cert.UpDwKernelIdeal.τ).loc Cert.UpDwKernelIdeal.main_arg0)
      ∧ m' ((c.tc : Thread Cert.UpDwReferenceIdeal.nD Cert.UpDwReferenceIdeal.τ).loc Cert.UpDwReferenceIdeal.main_arg1) = m ((c.tc : Thread Cert.UpDwKernelIdeal.nD Cert.UpDwKernelIdeal.τ).loc Cert.UpDwKernelIdeal.main_arg1)
      ∧ m' ((c.tc : Thread Cert.UpDwReferenceIdeal.nD Cert.UpDwReferenceIdeal.τ).loc Cert.UpDwReferenceIdeal.main_arg2) = m ((c.tc : Thread Cert.UpDwKernelIdeal.nD Cert.UpDwKernelIdeal.τ).loc Cert.UpDwKernelIdeal.main_arg2)) →
    ∃ (v0 : (c : Dev Cert.UpDwKernelIdeal.nD) → Buf (Elt Ideal) ((c.tc : Thread Cert.UpDwKernelIdeal.nD Cert.UpDwKernelIdeal.τ).loc Cert.UpDwKernelIdeal.main_v2)),
      θ_run (Cert.UpDwKernelIdeal.defs (F := Ideal)) (onTc (τ := Cert.UpDwKernelIdeal.τ) (Cert.UpDwKernelIdeal.main (F := Ideal))) ⟨m, fun _ => 0, g⟩ (fun r => ∀ c : Dev Cert.UpDwKernelIdeal.nD,
          r.2.mem ((c.tc : Thread Cert.UpDwKernelIdeal.nD Cert.UpDwKernelIdeal.τ).loc Cert.UpDwKernelIdeal.main_v2) = v0 c
          ∧ r.2.mem ((c.tc : Thread Cert.UpDwKernelIdeal.nD Cert.UpDwKernelIdeal.τ).loc Cert.UpDwKernelIdeal.main_arg0) = m ((c.tc : Thread Cert.UpDwKernelIdeal.nD Cert.UpDwKernelIdeal.τ).loc Cert.UpDwKernelIdeal.main_arg0)
          ∧ r.2.mem ((c.tc : Thread Cert.UpDwKernelIdeal.nD Cert.UpDwKernelIdeal.τ).loc Cert.UpDwKernelIdeal.main_arg1) = m ((c.tc : Thread Cert.UpDwKernelIdeal.nD Cert.UpDwKernelIdeal.τ).loc Cert.UpDwKernelIdeal.main_arg1)
          ∧ r.2.mem ((c.tc : Thread Cert.UpDwKernelIdeal.nD Cert.UpDwKernelIdeal.τ).loc Cert.UpDwKernelIdeal.main_arg2) = m ((c.tc : Thread Cert.UpDwKernelIdeal.nD Cert.UpDwKernelIdeal.τ).loc Cert.UpDwKernelIdeal.main_arg2))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v15) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1)
          ∧ r.2.mem ((c.tc : Thread Cert.UpDwReferenceIdeal.nD Cert.UpDwReferenceIdeal.τ).loc Cert.UpDwReferenceIdeal.main_arg2) = m' ((c.tc : Thread Cert.UpDwReferenceIdeal.nD Cert.UpDwReferenceIdeal.τ).loc Cert.UpDwReferenceIdeal.main_arg2))

def preserves_DownDxKernel_DownDxKernelIdeal : Prop :=
  True

def algebraic_DownDxKernelIdeal_DownDxReferenceIdeal [hDownDxKernelIdeal : Cert.DownDxKernelIdeal.Facts] [hDownDxReferenceIdeal : Cert.DownDxReferenceIdeal.Facts] : Prop :=
  ∀ (m : (ℓ : Loc Cert.DownDxKernelIdeal.nD Cert.DownDxKernelIdeal.τ Cert.DownDxKernelIdeal.sig) → Buf (Elt Ideal) ℓ) (g : Dev Cert.DownDxKernelIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxKernelIdeal m →
    (∀ c : Dev Cert.DownDxKernelIdeal.nD,
      m' ((c.tc : Thread Cert.DownDxReferenceIdeal.nD Cert.DownDxReferenceIdeal.τ).loc Cert.DownDxReferenceIdeal.main_arg0) = m ((c.tc : Thread Cert.DownDxKernelIdeal.nD Cert.DownDxKernelIdeal.τ).loc Cert.DownDxKernelIdeal.main_arg0)
      ∧ m' ((c.tc : Thread Cert.DownDxReferenceIdeal.nD Cert.DownDxReferenceIdeal.τ).loc Cert.DownDxReferenceIdeal.main_arg1) = m ((c.tc : Thread Cert.DownDxKernelIdeal.nD Cert.DownDxKernelIdeal.τ).loc Cert.DownDxKernelIdeal.main_arg1)
      ∧ m' ((c.tc : Thread Cert.DownDxReferenceIdeal.nD Cert.DownDxReferenceIdeal.τ).loc Cert.DownDxReferenceIdeal.main_arg2) = m ((c.tc : Thread Cert.DownDxKernelIdeal.nD Cert.DownDxKernelIdeal.τ).loc Cert.DownDxKernelIdeal.main_arg2)) →
    ∃ (v0 : (c : Dev Cert.DownDxKernelIdeal.nD) → Buf (Elt Ideal) ((c.tc : Thread Cert.DownDxKernelIdeal.nD Cert.DownDxKernelIdeal.τ).loc Cert.DownDxKernelIdeal.main_v2)),
      θ_run (Cert.DownDxKernelIdeal.defs (F := Ideal)) (onTc (τ := Cert.DownDxKernelIdeal.τ) (Cert.DownDxKernelIdeal.main (F := Ideal))) ⟨m, fun _ => 0, g⟩ (fun r => ∀ c : Dev Cert.DownDxKernelIdeal.nD,
          r.2.mem ((c.tc : Thread Cert.DownDxKernelIdeal.nD Cert.DownDxKernelIdeal.τ).loc Cert.DownDxKernelIdeal.main_v2) = v0 c
          ∧ r.2.mem ((c.tc : Thread Cert.DownDxKernelIdeal.nD Cert.DownDxKernelIdeal.τ).loc Cert.DownDxKernelIdeal.main_arg0) = m ((c.tc : Thread Cert.DownDxKernelIdeal.nD Cert.DownDxKernelIdeal.τ).loc Cert.DownDxKernelIdeal.main_arg0)
          ∧ r.2.mem ((c.tc : Thread Cert.DownDxKernelIdeal.nD Cert.DownDxKernelIdeal.τ).loc Cert.DownDxKernelIdeal.main_arg1) = m ((c.tc : Thread Cert.DownDxKernelIdeal.nD Cert.DownDxKernelIdeal.τ).loc Cert.DownDxKernelIdeal.main_arg1)
          ∧ r.2.mem ((c.tc : Thread Cert.DownDxKernelIdeal.nD Cert.DownDxKernelIdeal.τ).loc Cert.DownDxKernelIdeal.main_arg2) = m ((c.tc : Thread Cert.DownDxKernelIdeal.nD Cert.DownDxKernelIdeal.τ).loc Cert.DownDxKernelIdeal.main_arg2))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v3) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1)
          ∧ r.2.mem ((c.tc : Thread Cert.DownDxReferenceIdeal.nD Cert.DownDxReferenceIdeal.τ).loc Cert.DownDxReferenceIdeal.main_arg2) = m' ((c.tc : Thread Cert.DownDxReferenceIdeal.nD Cert.DownDxReferenceIdeal.τ).loc Cert.DownDxReferenceIdeal.main_arg2))

def preserves_DownDwKernel_DownDwKernelIdeal : Prop :=
  True

def algebraic_DownDwKernelIdeal_DownDwReferenceIdeal [hDownDwKernelIdeal : Cert.DownDwKernelIdeal.Facts] [hDownDwReferenceIdeal : Cert.DownDwReferenceIdeal.Facts] : Prop :=
  ∀ (m : (ℓ : Loc Cert.DownDwKernelIdeal.nD Cert.DownDwKernelIdeal.τ Cert.DownDwKernelIdeal.sig) → Buf (Elt Ideal) ℓ) (g : Dev Cert.DownDwKernelIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwKernelIdeal m →
    (∀ c : Dev Cert.DownDwKernelIdeal.nD,
      m' ((c.tc : Thread Cert.DownDwReferenceIdeal.nD Cert.DownDwReferenceIdeal.τ).loc Cert.DownDwReferenceIdeal.main_arg0) = m ((c.tc : Thread Cert.DownDwKernelIdeal.nD Cert.DownDwKernelIdeal.τ).loc Cert.DownDwKernelIdeal.main_arg0)
      ∧ m' ((c.tc : Thread Cert.DownDwReferenceIdeal.nD Cert.DownDwReferenceIdeal.τ).loc Cert.DownDwReferenceIdeal.main_arg1) = m ((c.tc : Thread Cert.DownDwKernelIdeal.nD Cert.DownDwKernelIdeal.τ).loc Cert.DownDwKernelIdeal.main_arg1)
      ∧ m' ((c.tc : Thread Cert.DownDwReferenceIdeal.nD Cert.DownDwReferenceIdeal.τ).loc Cert.DownDwReferenceIdeal.main_arg2) = m ((c.tc : Thread Cert.DownDwKernelIdeal.nD Cert.DownDwKernelIdeal.τ).loc Cert.DownDwKernelIdeal.main_arg2)) →
    ∃ (v0 : (c : Dev Cert.DownDwKernelIdeal.nD) → Buf (Elt Ideal) ((c.tc : Thread Cert.DownDwKernelIdeal.nD Cert.DownDwKernelIdeal.τ).loc Cert.DownDwKernelIdeal.main_v2)),
      θ_run (Cert.DownDwKernelIdeal.defs (F := Ideal)) (onTc (τ := Cert.DownDwKernelIdeal.τ) (Cert.DownDwKernelIdeal.main (F := Ideal))) ⟨m, fun _ => 0, g⟩ (fun r => ∀ c : Dev Cert.DownDwKernelIdeal.nD,
          r.2.mem ((c.tc : Thread Cert.DownDwKernelIdeal.nD Cert.DownDwKernelIdeal.τ).loc Cert.DownDwKernelIdeal.main_v2) = v0 c
          ∧ r.2.mem ((c.tc : Thread Cert.DownDwKernelIdeal.nD Cert.DownDwKernelIdeal.τ).loc Cert.DownDwKernelIdeal.main_arg0) = m ((c.tc : Thread Cert.DownDwKernelIdeal.nD Cert.DownDwKernelIdeal.τ).loc Cert.DownDwKernelIdeal.main_arg0)
          ∧ r.2.mem ((c.tc : Thread Cert.DownDwKernelIdeal.nD Cert.DownDwKernelIdeal.τ).loc Cert.DownDwKernelIdeal.main_arg1) = m ((c.tc : Thread Cert.DownDwKernelIdeal.nD Cert.DownDwKernelIdeal.τ).loc Cert.DownDwKernelIdeal.main_arg1)
          ∧ r.2.mem ((c.tc : Thread Cert.DownDwKernelIdeal.nD Cert.DownDwKernelIdeal.τ).loc Cert.DownDwKernelIdeal.main_arg2) = m ((c.tc : Thread Cert.DownDwKernelIdeal.nD Cert.DownDwKernelIdeal.τ).loc Cert.DownDwKernelIdeal.main_arg2))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v4) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1)
          ∧ r.2.mem ((c.tc : Thread Cert.DownDwReferenceIdeal.nD Cert.DownDwReferenceIdeal.τ).loc Cert.DownDwReferenceIdeal.main_arg2) = m' ((c.tc : Thread Cert.DownDwReferenceIdeal.nD Cert.DownDwReferenceIdeal.τ).loc Cert.DownDwReferenceIdeal.main_arg2))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)) →
    ∃ (v0 : (c : Dev Cert.InKernelIdeal.nD) → Buf (Elt Ideal) ((c.tc : Thread Cert.InKernelIdeal.nD Cert.InKernelIdeal.τ).loc Cert.InKernelIdeal.main_v2)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v2) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v1) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_NormIKernel_NormIKernelIdeal : Prop :=
  True

def algebraic_NormIKernelIdeal_NormIReferenceIdeal_pre_finite_norm1 [hNormIKernelIdeal : Cert.NormIKernelIdeal.Facts] [hNormIReferenceIdeal : Cert.NormIReferenceIdeal.Facts] [hPre_finite_norm1 : Cert.Pre_finite_norm1.Facts] : Prop :=
  ∀ (m : (ℓ : Loc Cert.NormIKernelIdeal.nD Cert.NormIKernelIdeal.τ Cert.NormIKernelIdeal.sig) → Buf (Elt Ideal) ℓ) (g : Dev Cert.NormIKernelIdeal.nD → PrngReg)
    (m' : (ℓ : Loc Cert.NormIReferenceIdeal.nD Cert.NormIReferenceIdeal.τ Cert.NormIReferenceIdeal.sig) → Buf (Elt Ideal) ℓ) (g' : Dev Cert.NormIReferenceIdeal.nD → PrngReg), Pre_NormIKernelIdeal_finite_norm1 m →
    (∀ c : Dev Cert.NormIKernelIdeal.nD,
      m' ((c.tc : Thread Cert.NormIReferenceIdeal.nD Cert.NormIReferenceIdeal.τ).loc Cert.NormIReferenceIdeal.main_arg0) = m ((c.tc : Thread Cert.NormIKernelIdeal.nD Cert.NormIKernelIdeal.τ).loc Cert.NormIKernelIdeal.main_arg0)
      ∧ m' ((c.tc : Thread Cert.NormIReferenceIdeal.nD Cert.NormIReferenceIdeal.τ).loc Cert.NormIReferenceIdeal.main_arg1) = m ((c.tc : Thread Cert.NormIKernelIdeal.nD Cert.NormIKernelIdeal.τ).loc Cert.NormIKernelIdeal.main_arg1)
      ∧ m' ((c.tc : Thread Cert.NormIReferenceIdeal.nD Cert.NormIReferenceIdeal.τ).loc Cert.NormIReferenceIdeal.main_arg2) = m ((c.tc : Thread Cert.NormIKernelIdeal.nD Cert.NormIKernelIdeal.τ).loc Cert.NormIKernelIdeal.main_arg2)
      ∧ m' ((c.tc : Thread Cert.NormIReferenceIdeal.nD Cert.NormIReferenceIdeal.τ).loc Cert.NormIReferenceIdeal.main_arg3) = m ((c.tc : Thread Cert.NormIKernelIdeal.nD Cert.NormIKernelIdeal.τ).loc Cert.NormIKernelIdeal.main_arg3)
      ∧ m' ((c.tc : Thread Cert.NormIReferenceIdeal.nD Cert.NormIReferenceIdeal.τ).loc Cert.NormIReferenceIdeal.main_arg4) = m ((c.tc : Thread Cert.NormIKernelIdeal.nD Cert.NormIKernelIdeal.τ).loc Cert.NormIKernelIdeal.main_arg4)
      ∧ m' ((c.tc : Thread Cert.NormIReferenceIdeal.nD Cert.NormIReferenceIdeal.τ).loc Cert.NormIReferenceIdeal.main_arg5) = m ((c.tc : Thread Cert.NormIKernelIdeal.nD Cert.NormIKernelIdeal.τ).loc Cert.NormIKernelIdeal.main_arg5)
      ∧ m' ((c.tc : Thread Cert.NormIReferenceIdeal.nD Cert.NormIReferenceIdeal.τ).loc Cert.NormIReferenceIdeal.main_arg6) = m ((c.tc : Thread Cert.NormIKernelIdeal.nD Cert.NormIKernelIdeal.τ).loc Cert.NormIKernelIdeal.main_arg6)
      ∧ m' ((c.tc : Thread Cert.NormIReferenceIdeal.nD Cert.NormIReferenceIdeal.τ).loc Cert.NormIReferenceIdeal.main_arg7) = m ((c.tc : Thread Cert.NormIKernelIdeal.nD Cert.NormIKernelIdeal.τ).loc Cert.NormIKernelIdeal.main_arg7)
      ∧ m' ((c.tc : Thread Cert.NormIReferenceIdeal.nD Cert.NormIReferenceIdeal.τ).loc Cert.NormIReferenceIdeal.main_arg8) = m ((c.tc : Thread Cert.NormIKernelIdeal.nD Cert.NormIKernelIdeal.τ).loc Cert.NormIKernelIdeal.main_arg8)) →
    ∃ (v0 : (c : Dev Cert.NormIKernelIdeal.nD) → Buf (Elt Ideal) ((c.tc : Thread Cert.NormIKernelIdeal.nD Cert.NormIKernelIdeal.τ).loc Cert.NormIKernelIdeal.main_v5_0)) (v1 : (c : Dev Cert.NormIKernelIdeal.nD) → Buf (Elt Ideal) ((c.tc : Thread Cert.NormIKernelIdeal.nD Cert.NormIKernelIdeal.τ).loc Cert.NormIKernelIdeal.main_v5_2)),
      θ_run (Cert.NormIKernelIdeal.defs (F := Ideal)) (onTc (τ := Cert.NormIKernelIdeal.τ) (Cert.NormIKernelIdeal.main (F := Ideal))) ⟨m, fun _ => 0, g⟩ (fun r => ∀ c : Dev Cert.NormIKernelIdeal.nD,
          r.2.mem ((c.tc : Thread Cert.NormIKernelIdeal.nD Cert.NormIKernelIdeal.τ).loc Cert.NormIKernelIdeal.main_v5_0) = v0 c
          ∧ r.2.mem ((c.tc : Thread Cert.NormIKernelIdeal.nD Cert.NormIKernelIdeal.τ).loc Cert.NormIKernelIdeal.main_v5_2) = v1 c
          ∧ r.2.mem ((c.tc : Thread Cert.NormIKernelIdeal.nD Cert.NormIKernelIdeal.τ).loc Cert.NormIKernelIdeal.main_arg0) = m ((c.tc : Thread Cert.NormIKernelIdeal.nD Cert.NormIKernelIdeal.τ).loc Cert.NormIKernelIdeal.main_arg0)
          ∧ r.2.mem ((c.tc : Thread Cert.NormIKernelIdeal.nD Cert.NormIKernelIdeal.τ).loc Cert.NormIKernelIdeal.main_arg1) = m ((c.tc : Thread Cert.NormIKernelIdeal.nD Cert.NormIKernelIdeal.τ).loc Cert.NormIKernelIdeal.main_arg1)
          ∧ r.2.mem ((c.tc : Thread Cert.NormIKernelIdeal.nD Cert.NormIKernelIdeal.τ).loc Cert.NormIKernelIdeal.main_arg2) = m ((c.tc : Thread Cert.NormIKernelIdeal.nD Cert.NormIKernelIdeal.τ).loc Cert.NormIKernelIdeal.main_arg2)
          ∧ r.2.mem ((c.tc : Thread Cert.NormIKernelIdeal.nD Cert.NormIKernelIdeal.τ).loc Cert.NormIKernelIdeal.main_arg3) = m ((c.tc : Thread Cert.NormIKernelIdeal.nD Cert.NormIKernelIdeal.τ).loc Cert.NormIKernelIdeal.main_arg3)
          ∧ r.2.mem ((c.tc : Thread Cert.NormIKernelIdeal.nD Cert.NormIKernelIdeal.τ).loc Cert.NormIKernelIdeal.main_arg4) = m ((c.tc : Thread Cert.NormIKernelIdeal.nD Cert.NormIKernelIdeal.τ).loc Cert.NormIKernelIdeal.main_arg4)
          ∧ r.2.mem ((c.tc : Thread Cert.NormIKernelIdeal.nD Cert.NormIKernelIdeal.τ).loc Cert.NormIKernelIdeal.main_arg5) = m ((c.tc : Thread Cert.NormIKernelIdeal.nD Cert.NormIKernelIdeal.τ).loc Cert.NormIKernelIdeal.main_arg5)
          ∧ r.2.mem ((c.tc : Thread Cert.NormIKernelIdeal.nD Cert.NormIKernelIdeal.τ).loc Cert.NormIKernelIdeal.main_arg6) = m ((c.tc : Thread Cert.NormIKernelIdeal.nD Cert.NormIKernelIdeal.τ).loc Cert.NormIKernelIdeal.main_arg6)
          ∧ r.2.mem ((c.tc : Thread Cert.NormIKernelIdeal.nD Cert.NormIKernelIdeal.τ).loc Cert.NormIKernelIdeal.main_arg7) = m ((c.tc : Thread Cert.NormIKernelIdeal.nD Cert.NormIKernelIdeal.τ).loc Cert.NormIKernelIdeal.main_arg7)
          ∧ r.2.mem ((c.tc : Thread Cert.NormIKernelIdeal.nD Cert.NormIKernelIdeal.τ).loc Cert.NormIKernelIdeal.main_arg8) = m ((c.tc : Thread Cert.NormIKernelIdeal.nD Cert.NormIKernelIdeal.τ).loc Cert.NormIKernelIdeal.main_arg8))
      ∧ θ_run (Cert.NormIReferenceIdeal.defs (F := Ideal)) (onTc (τ := Cert.NormIReferenceIdeal.τ) (Cert.NormIReferenceIdeal.main (F := Ideal))) ⟨m', fun _ => 0, g'⟩ (fun r => ∀ c : Dev Cert.NormIReferenceIdeal.nD,
          r.2.mem ((c.tc : Thread Cert.NormIReferenceIdeal.nD Cert.NormIReferenceIdeal.τ).loc Cert.NormIReferenceIdeal.main_v68) = v0 c
          ∧ r.2.mem ((c.tc : Thread Cert.NormIReferenceIdeal.nD Cert.NormIReferenceIdeal.τ).loc Cert.NormIReferenceIdeal.main_v73) = v1 c
          ∧ r.2.mem ((c.tc : Thread Cert.NormIReferenceIdeal.nD Cert.NormIReferenceIdeal.τ).loc Cert.NormIReferenceIdeal.main_arg0) = m' ((c.tc : Thread Cert.NormIReferenceIdeal.nD Cert.NormIReferenceIdeal.τ).loc Cert.NormIReferenceIdeal.main_arg0)
          ∧ r.2.mem ((c.tc : Thread Cert.NormIReferenceIdeal.nD Cert.NormIReferenceIdeal.τ).loc Cert.NormIReferenceIdeal.main_arg1) = m' ((c.tc : Thread Cert.NormIReferenceIdeal.nD Cert.NormIReferenceIdeal.τ).loc Cert.NormIReferenceIdeal.main_arg1)
          ∧ r.2.mem ((c.tc : Thread Cert.NormIReferenceIdeal.nD Cert.NormIReferenceIdeal.τ).loc Cert.NormIReferenceIdeal.main_arg2) = m' ((c.tc : Thread Cert.NormIReferenceIdeal.nD Cert.NormIReferenceIdeal.τ).loc Cert.NormIReferenceIdeal.main_arg2)
          ∧ r.2.mem ((c.tc : Thread Cert.NormIReferenceIdeal.nD Cert.NormIReferenceIdeal.τ).loc Cert.NormIReferenceIdeal.main_arg3) = m' ((c.tc : Thread Cert.NormIReferenceIdeal.nD Cert.NormIReferenceIdeal.τ).loc Cert.NormIReferenceIdeal.main_arg3)
          ∧ r.2.mem ((c.tc : Thread Cert.NormIReferenceIdeal.nD Cert.NormIReferenceIdeal.τ).loc Cert.NormIReferenceIdeal.main_arg4) = m' ((c.tc : Thread Cert.NormIReferenceIdeal.nD Cert.NormIReferenceIdeal.τ).loc Cert.NormIReferenceIdeal.main_arg4)
          ∧ r.2.mem ((c.tc : Thread Cert.NormIReferenceIdeal.nD Cert.NormIReferenceIdeal.τ).loc Cert.NormIReferenceIdeal.main_arg5) = m' ((c.tc : Thread Cert.NormIReferenceIdeal.nD Cert.NormIReferenceIdeal.τ).loc Cert.NormIReferenceIdeal.main_arg5)
          ∧ r.2.mem ((c.tc : Thread Cert.NormIReferenceIdeal.nD Cert.NormIReferenceIdeal.τ).loc Cert.NormIReferenceIdeal.main_arg6) = m' ((c.tc : Thread Cert.NormIReferenceIdeal.nD Cert.NormIReferenceIdeal.τ).loc Cert.NormIReferenceIdeal.main_arg6)
          ∧ r.2.mem ((c.tc : Thread Cert.NormIReferenceIdeal.nD Cert.NormIReferenceIdeal.τ).loc Cert.NormIReferenceIdeal.main_arg7) = m' ((c.tc : Thread Cert.NormIReferenceIdeal.nD Cert.NormIReferenceIdeal.τ).loc Cert.NormIReferenceIdeal.main_arg7)
          ∧ r.2.mem ((c.tc : Thread Cert.NormIReferenceIdeal.nD Cert.NormIReferenceIdeal.τ).loc Cert.NormIReferenceIdeal.main_arg8) = m' ((c.tc : Thread Cert.NormIReferenceIdeal.nD Cert.NormIReferenceIdeal.τ).loc Cert.NormIReferenceIdeal.main_arg8))

def preserves_NormIIKernel_NormIIKernelIdeal : Prop :=
  True

def algebraic_NormIIKernelIdeal_NormIIReferenceIdeal_pre_finite_norm2 [hNormIIKernelIdeal : Cert.NormIIKernelIdeal.Facts] [hNormIIReferenceIdeal : Cert.NormIIReferenceIdeal.Facts] [hPre_finite_norm2 : Cert.Pre_finite_norm2.Facts] : Prop :=
  ∀ (m : (ℓ : Loc Cert.NormIIKernelIdeal.nD Cert.NormIIKernelIdeal.τ Cert.NormIIKernelIdeal.sig) → Buf (Elt Ideal) ℓ) (g : Dev Cert.NormIIKernelIdeal.nD → PrngReg)
    (m' : (ℓ : Loc Cert.NormIIReferenceIdeal.nD Cert.NormIIReferenceIdeal.τ Cert.NormIIReferenceIdeal.sig) → Buf (Elt Ideal) ℓ) (g' : Dev Cert.NormIIReferenceIdeal.nD → PrngReg), Pre_NormIIKernelIdeal_finite_norm2 m →
    (∀ c : Dev Cert.NormIIKernelIdeal.nD,
      m' ((c.tc : Thread Cert.NormIIReferenceIdeal.nD Cert.NormIIReferenceIdeal.τ).loc Cert.NormIIReferenceIdeal.main_arg0) = m ((c.tc : Thread Cert.NormIIKernelIdeal.nD Cert.NormIIKernelIdeal.τ).loc Cert.NormIIKernelIdeal.main_arg0)
      ∧ m' ((c.tc : Thread Cert.NormIIReferenceIdeal.nD Cert.NormIIReferenceIdeal.τ).loc Cert.NormIIReferenceIdeal.main_arg1) = m ((c.tc : Thread Cert.NormIIKernelIdeal.nD Cert.NormIIKernelIdeal.τ).loc Cert.NormIIKernelIdeal.main_arg1)
      ∧ m' ((c.tc : Thread Cert.NormIIReferenceIdeal.nD Cert.NormIIReferenceIdeal.τ).loc Cert.NormIIReferenceIdeal.main_arg2) = m ((c.tc : Thread Cert.NormIIKernelIdeal.nD Cert.NormIIKernelIdeal.τ).loc Cert.NormIIKernelIdeal.main_arg2)
      ∧ m' ((c.tc : Thread Cert.NormIIReferenceIdeal.nD Cert.NormIIReferenceIdeal.τ).loc Cert.NormIIReferenceIdeal.main_arg3) = m ((c.tc : Thread Cert.NormIIKernelIdeal.nD Cert.NormIIKernelIdeal.τ).loc Cert.NormIIKernelIdeal.main_arg3)
      ∧ m' ((c.tc : Thread Cert.NormIIReferenceIdeal.nD Cert.NormIIReferenceIdeal.τ).loc Cert.NormIIReferenceIdeal.main_arg4) = m ((c.tc : Thread Cert.NormIIKernelIdeal.nD Cert.NormIIKernelIdeal.τ).loc Cert.NormIIKernelIdeal.main_arg4)
      ∧ m' ((c.tc : Thread Cert.NormIIReferenceIdeal.nD Cert.NormIIReferenceIdeal.τ).loc Cert.NormIIReferenceIdeal.main_arg5) = m ((c.tc : Thread Cert.NormIIKernelIdeal.nD Cert.NormIIKernelIdeal.τ).loc Cert.NormIIKernelIdeal.main_arg5)
      ∧ m' ((c.tc : Thread Cert.NormIIReferenceIdeal.nD Cert.NormIIReferenceIdeal.τ).loc Cert.NormIIReferenceIdeal.main_arg6) = m ((c.tc : Thread Cert.NormIIKernelIdeal.nD Cert.NormIIKernelIdeal.τ).loc Cert.NormIIKernelIdeal.main_arg6)
      ∧ m' ((c.tc : Thread Cert.NormIIReferenceIdeal.nD Cert.NormIIReferenceIdeal.τ).loc Cert.NormIIReferenceIdeal.main_arg7) = m ((c.tc : Thread Cert.NormIIKernelIdeal.nD Cert.NormIIKernelIdeal.τ).loc Cert.NormIIKernelIdeal.main_arg7)
      ∧ m' ((c.tc : Thread Cert.NormIIReferenceIdeal.nD Cert.NormIIReferenceIdeal.τ).loc Cert.NormIIReferenceIdeal.main_arg8) = m ((c.tc : Thread Cert.NormIIKernelIdeal.nD Cert.NormIIKernelIdeal.τ).loc Cert.NormIIKernelIdeal.main_arg8)
      ∧ m' ((c.tc : Thread Cert.NormIIReferenceIdeal.nD Cert.NormIIReferenceIdeal.τ).loc Cert.NormIIReferenceIdeal.main_arg9) = m ((c.tc : Thread Cert.NormIIKernelIdeal.nD Cert.NormIIKernelIdeal.τ).loc Cert.NormIIKernelIdeal.main_arg9)
      ∧ m' ((c.tc : Thread Cert.NormIIReferenceIdeal.nD Cert.NormIIReferenceIdeal.τ).loc Cert.NormIIReferenceIdeal.main_arg10) = m ((c.tc : Thread Cert.NormIIKernelIdeal.nD Cert.NormIIKernelIdeal.τ).loc Cert.NormIIKernelIdeal.main_arg10)) →
    ∃ (v0 : (c : Dev Cert.NormIIKernelIdeal.nD) → Buf (Elt Ideal) ((c.tc : Thread Cert.NormIIKernelIdeal.nD Cert.NormIIKernelIdeal.τ).loc Cert.NormIIKernelIdeal.main_v10_0)) (v1 : (c : Dev Cert.NormIIKernelIdeal.nD) → Buf (Elt Ideal) ((c.tc : Thread Cert.NormIIKernelIdeal.nD Cert.NormIIKernelIdeal.τ).loc Cert.NormIIKernelIdeal.main_v10_1)) (v2 : (c : Dev Cert.NormIIKernelIdeal.nD) → Buf (Elt Ideal) ((c.tc : Thread Cert.NormIIKernelIdeal.nD Cert.NormIIKernelIdeal.τ).loc Cert.NormIIKernelIdeal.main_v10_2)),
      θ_run (Cert.NormIIKernelIdeal.defs (F := Ideal)) (onTc (τ := Cert.NormIIKernelIdeal.τ) (Cert.NormIIKernelIdeal.main (F := Ideal))) ⟨m, fun _ => 0, g⟩ (fun r => ∀ c : Dev Cert.NormIIKernelIdeal.nD,
          r.2.mem ((c.tc : Thread Cert.NormIIKernelIdeal.nD Cert.NormIIKernelIdeal.τ).loc Cert.NormIIKernelIdeal.main_v10_0) = v0 c
          ∧ r.2.mem ((c.tc : Thread Cert.NormIIKernelIdeal.nD Cert.NormIIKernelIdeal.τ).loc Cert.NormIIKernelIdeal.main_v10_1) = v1 c
          ∧ r.2.mem ((c.tc : Thread Cert.NormIIKernelIdeal.nD Cert.NormIIKernelIdeal.τ).loc Cert.NormIIKernelIdeal.main_v10_2) = v2 c
          ∧ r.2.mem ((c.tc : Thread Cert.NormIIKernelIdeal.nD Cert.NormIIKernelIdeal.τ).loc Cert.NormIIKernelIdeal.main_arg0) = m ((c.tc : Thread Cert.NormIIKernelIdeal.nD Cert.NormIIKernelIdeal.τ).loc Cert.NormIIKernelIdeal.main_arg0)
          ∧ r.2.mem ((c.tc : Thread Cert.NormIIKernelIdeal.nD Cert.NormIIKernelIdeal.τ).loc Cert.NormIIKernelIdeal.main_arg1) = m ((c.tc : Thread Cert.NormIIKernelIdeal.nD Cert.NormIIKernelIdeal.τ).loc Cert.NormIIKernelIdeal.main_arg1)
          ∧ r.2.mem ((c.tc : Thread Cert.NormIIKernelIdeal.nD Cert.NormIIKernelIdeal.τ).loc Cert.NormIIKernelIdeal.main_arg2) = m ((c.tc : Thread Cert.NormIIKernelIdeal.nD Cert.NormIIKernelIdeal.τ).loc Cert.NormIIKernelIdeal.main_arg2)
          ∧ r.2.mem ((c.tc : Thread Cert.NormIIKernelIdeal.nD Cert.NormIIKernelIdeal.τ).loc Cert.NormIIKernelIdeal.main_arg3) = m ((c.tc : Thread Cert.NormIIKernelIdeal.nD Cert.NormIIKernelIdeal.τ).loc Cert.NormIIKernelIdeal.main_arg3)
          ∧ r.2.mem ((c.tc : Thread Cert.NormIIKernelIdeal.nD Cert.NormIIKernelIdeal.τ).loc Cert.NormIIKernelIdeal.main_arg4) = m ((c.tc : Thread Cert.NormIIKernelIdeal.nD Cert.NormIIKernelIdeal.τ).loc Cert.NormIIKernelIdeal.main_arg4)
          ∧ r.2.mem ((c.tc : Thread Cert.NormIIKernelIdeal.nD Cert.NormIIKernelIdeal.τ).loc Cert.NormIIKernelIdeal.main_arg5) = m ((c.tc : Thread Cert.NormIIKernelIdeal.nD Cert.NormIIKernelIdeal.τ).loc Cert.NormIIKernelIdeal.main_arg5)
          ∧ r.2.mem ((c.tc : Thread Cert.NormIIKernelIdeal.nD Cert.NormIIKernelIdeal.τ).loc Cert.NormIIKernelIdeal.main_arg6) = m ((c.tc : Thread Cert.NormIIKernelIdeal.nD Cert.NormIIKernelIdeal.τ).loc Cert.NormIIKernelIdeal.main_arg6)
          ∧ r.2.mem ((c.tc : Thread Cert.NormIIKernelIdeal.nD Cert.NormIIKernelIdeal.τ).loc Cert.NormIIKernelIdeal.main_arg7) = m ((c.tc : Thread Cert.NormIIKernelIdeal.nD Cert.NormIIKernelIdeal.τ).loc Cert.NormIIKernelIdeal.main_arg7)
          ∧ r.2.mem ((c.tc : Thread Cert.NormIIKernelIdeal.nD Cert.NormIIKernelIdeal.τ).loc Cert.NormIIKernelIdeal.main_arg8) = m ((c.tc : Thread Cert.NormIIKernelIdeal.nD Cert.NormIIKernelIdeal.τ).loc Cert.NormIIKernelIdeal.main_arg8)
          ∧ r.2.mem ((c.tc : Thread Cert.NormIIKernelIdeal.nD Cert.NormIIKernelIdeal.τ).loc Cert.NormIIKernelIdeal.main_arg9) = m ((c.tc : Thread Cert.NormIIKernelIdeal.nD Cert.NormIIKernelIdeal.τ).loc Cert.NormIIKernelIdeal.main_arg9)
          ∧ r.2.mem ((c.tc : Thread Cert.NormIIKernelIdeal.nD Cert.NormIIKernelIdeal.τ).loc Cert.NormIIKernelIdeal.main_arg10) = m ((c.tc : Thread Cert.NormIIKernelIdeal.nD Cert.NormIIKernelIdeal.τ).loc Cert.NormIIKernelIdeal.main_arg10))
      ∧ θ_run (Cert.NormIIReferenceIdeal.defs (F := Ideal)) (onTc (τ := Cert.NormIIReferenceIdeal.τ) (Cert.NormIIReferenceIdeal.main (F := Ideal))) ⟨m', fun _ => 0, g'⟩ (fun r => ∀ c : Dev Cert.NormIIReferenceIdeal.nD,
          r.2.mem ((c.tc : Thread Cert.NormIIReferenceIdeal.nD Cert.NormIIReferenceIdeal.τ).loc Cert.NormIIReferenceIdeal.main_v83) = v0 c
          ∧ r.2.mem ((c.tc : Thread Cert.NormIIReferenceIdeal.nD Cert.NormIIReferenceIdeal.τ).loc Cert.NormIIReferenceIdeal.main_v90) = v1 c
          ∧ r.2.mem ((c.tc : Thread Cert.NormIIReferenceIdeal.nD Cert.NormIIReferenceIdeal.τ).loc Cert.NormIIReferenceIdeal.main_v95) = v2 c
          ∧ r.2.mem ((c.tc : Thread Cert.NormIIReferenceIdeal.nD Cert.NormIIReferenceIdeal.τ).loc Cert.NormIIReferenceIdeal.main_arg0) = m' ((c.tc : Thread Cert.NormIIReferenceIdeal.nD Cert.NormIIReferenceIdeal.τ).loc Cert.NormIIReferenceIdeal.main_arg0)
          ∧ r.2.mem ((c.tc : Thread Cert.NormIIReferenceIdeal.nD Cert.NormIIReferenceIdeal.τ).loc Cert.NormIIReferenceIdeal.main_arg1) = m' ((c.tc : Thread Cert.NormIIReferenceIdeal.nD Cert.NormIIReferenceIdeal.τ).loc Cert.NormIIReferenceIdeal.main_arg1)
          ∧ r.2.mem ((c.tc : Thread Cert.NormIIReferenceIdeal.nD Cert.NormIIReferenceIdeal.τ).loc Cert.NormIIReferenceIdeal.main_arg2) = m' ((c.tc : Thread Cert.NormIIReferenceIdeal.nD Cert.NormIIReferenceIdeal.τ).loc Cert.NormIIReferenceIdeal.main_arg2)
          ∧ r.2.mem ((c.tc : Thread Cert.NormIIReferenceIdeal.nD Cert.NormIIReferenceIdeal.τ).loc Cert.NormIIReferenceIdeal.main_arg3) = m' ((c.tc : Thread Cert.NormIIReferenceIdeal.nD Cert.NormIIReferenceIdeal.τ).loc Cert.NormIIReferenceIdeal.main_arg3)
          ∧ r.2.mem ((c.tc : Thread Cert.NormIIReferenceIdeal.nD Cert.NormIIReferenceIdeal.τ).loc Cert.NormIIReferenceIdeal.main_arg4) = m' ((c.tc : Thread Cert.NormIIReferenceIdeal.nD Cert.NormIIReferenceIdeal.τ).loc Cert.NormIIReferenceIdeal.main_arg4)
          ∧ r.2.mem ((c.tc : Thread Cert.NormIIReferenceIdeal.nD Cert.NormIIReferenceIdeal.τ).loc Cert.NormIIReferenceIdeal.main_arg5) = m' ((c.tc : Thread Cert.NormIIReferenceIdeal.nD Cert.NormIIReferenceIdeal.τ).loc Cert.NormIIReferenceIdeal.main_arg5)
          ∧ r.2.mem ((c.tc : Thread Cert.NormIIReferenceIdeal.nD Cert.NormIIReferenceIdeal.τ).loc Cert.NormIIReferenceIdeal.main_arg6) = m' ((c.tc : Thread Cert.NormIIReferenceIdeal.nD Cert.NormIIReferenceIdeal.τ).loc Cert.NormIIReferenceIdeal.main_arg6)
          ∧ r.2.mem ((c.tc : Thread Cert.NormIIReferenceIdeal.nD Cert.NormIIReferenceIdeal.τ).loc Cert.NormIIReferenceIdeal.main_arg7) = m' ((c.tc : Thread Cert.NormIIReferenceIdeal.nD Cert.NormIIReferenceIdeal.τ).loc Cert.NormIIReferenceIdeal.main_arg7)
          ∧ r.2.mem ((c.tc : Thread Cert.NormIIReferenceIdeal.nD Cert.NormIIReferenceIdeal.τ).loc Cert.NormIIReferenceIdeal.main_arg8) = m' ((c.tc : Thread Cert.NormIIReferenceIdeal.nD Cert.NormIIReferenceIdeal.τ).loc Cert.NormIIReferenceIdeal.main_arg8)
          ∧ r.2.mem ((c.tc : Thread Cert.NormIIReferenceIdeal.nD Cert.NormIIReferenceIdeal.τ).loc Cert.NormIIReferenceIdeal.main_arg9) = m' ((c.tc : Thread Cert.NormIIReferenceIdeal.nD Cert.NormIIReferenceIdeal.τ).loc Cert.NormIIReferenceIdeal.main_arg9)
          ∧ r.2.mem ((c.tc : Thread Cert.NormIIReferenceIdeal.nD Cert.NormIIReferenceIdeal.τ).loc Cert.NormIIReferenceIdeal.main_arg10) = m' ((c.tc : Thread Cert.NormIIReferenceIdeal.nD Cert.NormIIReferenceIdeal.τ).loc Cert.NormIIReferenceIdeal.main_arg10))

def preserves_InDwIKernel_InDwIKernelIdeal : Prop :=
  True

def algebraic_InDwIKernelIdeal_InDwIReferenceIdeal [hInDwIKernelIdeal : Cert.InDwIKernelIdeal.Facts] [hInDwIReferenceIdeal : Cert.InDwIReferenceIdeal.Facts] : Prop :=
  ∀ (m : (ℓ : Loc Cert.InDwIKernelIdeal.nD Cert.InDwIKernelIdeal.τ Cert.InDwIKernelIdeal.sig) → Buf (Elt Ideal) ℓ) (g : Dev Cert.InDwIKernelIdeal.nD → PrngReg)
    (m' : (ℓ : Loc Cert.InDwIReferenceIdeal.nD Cert.InDwIReferenceIdeal.τ Cert.InDwIReferenceIdeal.sig) → Buf (Elt Ideal) ℓ) (g' : Dev Cert.InDwIReferenceIdeal.nD → PrngReg), Pre_InDwIKernelIdeal m →
    (∀ c : Dev Cert.InDwIKernelIdeal.nD,
      m' ((c.tc : Thread Cert.InDwIReferenceIdeal.nD Cert.InDwIReferenceIdeal.τ).loc Cert.InDwIReferenceIdeal.main_arg0) = m ((c.tc : Thread Cert.InDwIKernelIdeal.nD Cert.InDwIKernelIdeal.τ).loc Cert.InDwIKernelIdeal.main_arg0)
      ∧ m' ((c.tc : Thread Cert.InDwIReferenceIdeal.nD Cert.InDwIReferenceIdeal.τ).loc Cert.InDwIReferenceIdeal.main_arg1) = m ((c.tc : Thread Cert.InDwIKernelIdeal.nD Cert.InDwIKernelIdeal.τ).loc Cert.InDwIKernelIdeal.main_arg1)
      ∧ m' ((c.tc : Thread Cert.InDwIReferenceIdeal.nD Cert.InDwIReferenceIdeal.τ).loc Cert.InDwIReferenceIdeal.main_arg2) = m ((c.tc : Thread Cert.InDwIKernelIdeal.nD Cert.InDwIKernelIdeal.τ).loc Cert.InDwIKernelIdeal.main_arg2)) →
    ∃ (v0 : (c : Dev Cert.InDwIKernelIdeal.nD) → Buf (Elt Ideal) ((c.tc : Thread Cert.InDwIKernelIdeal.nD Cert.InDwIKernelIdeal.τ).loc Cert.InDwIKernelIdeal.main_v2)),
      θ_run (Cert.InDwIKernelIdeal.defs (F := Ideal)) (onTc (τ := Cert.InDwIKernelIdeal.τ) (Cert.InDwIKernelIdeal.main (F := Ideal))) ⟨m, fun _ => 0, g⟩ (fun r => ∀ c : Dev Cert.InDwIKernelIdeal.nD,
          r.2.mem ((c.tc : Thread Cert.InDwIKernelIdeal.nD Cert.InDwIKernelIdeal.τ).loc Cert.InDwIKernelIdeal.main_v2) = v0 c
          ∧ r.2.mem ((c.tc : Thread Cert.InDwIKernelIdeal.nD Cert.InDwIKernelIdeal.τ).loc Cert.InDwIKernelIdeal.main_arg0) = m ((c.tc : Thread Cert.InDwIKernelIdeal.nD Cert.InDwIKernelIdeal.τ).loc Cert.InDwIKernelIdeal.main_arg0)
          ∧ r.2.mem ((c.tc : Thread Cert.InDwIKernelIdeal.nD Cert.InDwIKernelIdeal.τ).loc Cert.InDwIKernelIdeal.main_arg1) = m ((c.tc : Thread Cert.InDwIKernelIdeal.nD Cert.InDwIKernelIdeal.τ).loc Cert.InDwIKernelIdeal.main_arg1)
          ∧ r.2.mem ((c.tc : Thread Cert.InDwIKernelIdeal.nD Cert.InDwIKernelIdeal.τ).loc Cert.InDwIKernelIdeal.main_arg2) = m ((c.tc : Thread Cert.InDwIKernelIdeal.nD Cert.InDwIKernelIdeal.τ).loc Cert.InDwIKernelIdeal.main_arg2))
      ∧ θ_run (Cert.InDwIReferenceIdeal.defs (F := Ideal)) (onTc (τ := Cert.InDwIReferenceIdeal.τ) (Cert.InDwIReferenceIdeal.main (F := Ideal))) ⟨m', fun _ => 0, g'⟩ (fun r => ∀ c : Dev Cert.InDwIReferenceIdeal.nD,
          r.2.mem ((c.tc : Thread Cert.InDwIReferenceIdeal.nD Cert.InDwIReferenceIdeal.τ).loc Cert.InDwIReferenceIdeal.main_v7) = v0 c
          ∧ r.2.mem ((c.tc : Thread Cert.InDwIReferenceIdeal.nD Cert.InDwIReferenceIdeal.τ).loc Cert.InDwIReferenceIdeal.main_arg0) = m' ((c.tc : Thread Cert.InDwIReferenceIdeal.nD Cert.InDwIReferenceIdeal.τ).loc Cert.InDwIReferenceIdeal.main_arg0)
          ∧ r.2.mem ((c.tc : Thread Cert.InDwIReferenceIdeal.nD Cert.InDwIReferenceIdeal.τ).loc Cert.InDwIReferenceIdeal.main_arg1) = m' ((c.tc : Thread Cert.InDwIReferenceIdeal.nD Cert.InDwIReferenceIdeal.τ).loc Cert.InDwIReferenceIdeal.main_arg1)
          ∧ r.2.mem ((c.tc : Thread Cert.InDwIReferenceIdeal.nD Cert.InDwIReferenceIdeal.τ).loc Cert.InDwIReferenceIdeal.main_arg2) = m' ((c.tc : Thread Cert.InDwIReferenceIdeal.nD Cert.InDwIReferenceIdeal.τ).loc Cert.InDwIReferenceIdeal.main_arg2))

def preserves_InDwIIKernel_InDwIIKernelIdeal : Prop :=
  True

def algebraic_InDwIIKernelIdeal_InDwIIReferenceIdeal [hInDwIIKernelIdeal : Cert.InDwIIKernelIdeal.Facts] [hInDwIIReferenceIdeal : Cert.InDwIIReferenceIdeal.Facts] : Prop :=
  ∀ (m : (ℓ : Loc Cert.InDwIIKernelIdeal.nD Cert.InDwIIKernelIdeal.τ Cert.InDwIIKernelIdeal.sig) → Buf (Elt Ideal) ℓ) (g : Dev Cert.InDwIIKernelIdeal.nD → PrngReg)
    (m' : (ℓ : Loc Cert.InDwIIReferenceIdeal.nD Cert.InDwIIReferenceIdeal.τ Cert.InDwIIReferenceIdeal.sig) → Buf (Elt Ideal) ℓ) (g' : Dev Cert.InDwIIReferenceIdeal.nD → PrngReg), Pre_InDwIIKernelIdeal m →
    (∀ c : Dev Cert.InDwIIKernelIdeal.nD,
      m' ((c.tc : Thread Cert.InDwIIReferenceIdeal.nD Cert.InDwIIReferenceIdeal.τ).loc Cert.InDwIIReferenceIdeal.main_arg0) = m ((c.tc : Thread Cert.InDwIIKernelIdeal.nD Cert.InDwIIKernelIdeal.τ).loc Cert.InDwIIKernelIdeal.main_arg0)
      ∧ m' ((c.tc : Thread Cert.InDwIIReferenceIdeal.nD Cert.InDwIIReferenceIdeal.τ).loc Cert.InDwIIReferenceIdeal.main_arg1) = m ((c.tc : Thread Cert.InDwIIKernelIdeal.nD Cert.InDwIIKernelIdeal.τ).loc Cert.InDwIIKernelIdeal.main_arg1)
      ∧ m' ((c.tc : Thread Cert.InDwIIReferenceIdeal.nD Cert.InDwIIReferenceIdeal.τ).loc Cert.InDwIIReferenceIdeal.main_arg2) = m ((c.tc : Thread Cert.InDwIIKernelIdeal.nD Cert.InDwIIKernelIdeal.τ).loc Cert.InDwIIKernelIdeal.main_arg2)) →
    ∃ (v0 : (c : Dev Cert.InDwIIKernelIdeal.nD) → Buf (Elt Ideal) ((c.tc : Thread Cert.InDwIIKernelIdeal.nD Cert.InDwIIKernelIdeal.τ).loc Cert.InDwIIKernelIdeal.main_v2)),
      θ_run (Cert.InDwIIKernelIdeal.defs (F := Ideal)) (onTc (τ := Cert.InDwIIKernelIdeal.τ) (Cert.InDwIIKernelIdeal.main (F := Ideal))) ⟨m, fun _ => 0, g⟩ (fun r => ∀ c : Dev Cert.InDwIIKernelIdeal.nD,
          r.2.mem ((c.tc : Thread Cert.InDwIIKernelIdeal.nD Cert.InDwIIKernelIdeal.τ).loc Cert.InDwIIKernelIdeal.main_v2) = v0 c
          ∧ r.2.mem ((c.tc : Thread Cert.InDwIIKernelIdeal.nD Cert.InDwIIKernelIdeal.τ).loc Cert.InDwIIKernelIdeal.main_arg0) = m ((c.tc : Thread Cert.InDwIIKernelIdeal.nD Cert.InDwIIKernelIdeal.τ).loc Cert.InDwIIKernelIdeal.main_arg0)
          ∧ r.2.mem ((c.tc : Thread Cert.InDwIIKernelIdeal.nD Cert.InDwIIKernelIdeal.τ).loc Cert.InDwIIKernelIdeal.main_arg1) = m ((c.tc : Thread Cert.InDwIIKernelIdeal.nD Cert.InDwIIKernelIdeal.τ).loc Cert.InDwIIKernelIdeal.main_arg1)
          ∧ r.2.mem ((c.tc : Thread Cert.InDwIIKernelIdeal.nD Cert.InDwIIKernelIdeal.τ).loc Cert.InDwIIKernelIdeal.main_arg2) = m ((c.tc : Thread Cert.InDwIIKernelIdeal.nD Cert.InDwIIKernelIdeal.τ).loc Cert.InDwIIKernelIdeal.main_arg2))
      ∧ θ_run (Cert.InDwIIReferenceIdeal.defs (F := Ideal)) (onTc (τ := Cert.InDwIIReferenceIdeal.τ) (Cert.InDwIIReferenceIdeal.main (F := Ideal))) ⟨m', fun _ => 0, g'⟩ (fun r => ∀ c : Dev Cert.InDwIIReferenceIdeal.nD,
          r.2.mem ((c.tc : Thread Cert.InDwIIReferenceIdeal.nD Cert.InDwIIReferenceIdeal.τ).loc Cert.InDwIIReferenceIdeal.main_v7) = v0 c
          ∧ r.2.mem ((c.tc : Thread Cert.InDwIIReferenceIdeal.nD Cert.InDwIIReferenceIdeal.τ).loc Cert.InDwIIReferenceIdeal.main_arg0) = m' ((c.tc : Thread Cert.InDwIIReferenceIdeal.nD Cert.InDwIIReferenceIdeal.τ).loc Cert.InDwIIReferenceIdeal.main_arg0)
          ∧ r.2.mem ((c.tc : Thread Cert.InDwIIReferenceIdeal.nD Cert.InDwIIReferenceIdeal.τ).loc Cert.InDwIIReferenceIdeal.main_arg1) = m' ((c.tc : Thread Cert.InDwIIReferenceIdeal.nD Cert.InDwIIReferenceIdeal.τ).loc Cert.InDwIIReferenceIdeal.main_arg1)
          ∧ r.2.mem ((c.tc : Thread Cert.InDwIIReferenceIdeal.nD Cert.InDwIIReferenceIdeal.τ).loc Cert.InDwIIReferenceIdeal.main_arg2) = m' ((c.tc : Thread Cert.InDwIIReferenceIdeal.nD Cert.InDwIIReferenceIdeal.τ).loc Cert.InDwIIReferenceIdeal.main_arg2))

def Claim : Prop :=
  ∃ (hKernel : Cert.Kernel.Facts) (hKernelIdeal : Cert.KernelIdeal.Facts) (hReferenceIdeal : Cert.ReferenceIdeal.Facts) (hUpKernel : Cert.UpKernel.Facts) (hUpKernelIdeal : Cert.UpKernelIdeal.Facts) (hUpReferenceIdeal : Cert.UpReferenceIdeal.Facts) (hUpDwKernel : Cert.UpDwKernel.Facts) (hUpDwKernelIdeal : Cert.UpDwKernelIdeal.Facts) (hUpDwReferenceIdeal : Cert.UpDwReferenceIdeal.Facts) (hDownDxKernel : Cert.DownDxKernel.Facts) (hDownDxKernelIdeal : Cert.DownDxKernelIdeal.Facts) (hDownDxReferenceIdeal : Cert.DownDxReferenceIdeal.Facts) (hDownDwKernel : Cert.DownDwKernel.Facts) (hDownDwKernelIdeal : Cert.DownDwKernelIdeal.Facts) (hDownDwReferenceIdeal : Cert.DownDwReferenceIdeal.Facts) (hInKernel : Cert.InKernel.Facts) (hInKernelIdeal : Cert.InKernelIdeal.Facts) (hInReferenceIdeal : Cert.InReferenceIdeal.Facts) (hNormIKernel : Cert.NormIKernel.Facts) (hNormIKernelIdeal : Cert.NormIKernelIdeal.Facts) (hNormIReferenceIdeal : Cert.NormIReferenceIdeal.Facts) (hNormIIKernel : Cert.NormIIKernel.Facts) (hNormIIKernelIdeal : Cert.NormIIKernelIdeal.Facts) (hNormIIReferenceIdeal : Cert.NormIIReferenceIdeal.Facts) (hInDwIKernel : Cert.InDwIKernel.Facts) (hInDwIKernelIdeal : Cert.InDwIKernelIdeal.Facts) (hInDwIReferenceIdeal : Cert.InDwIReferenceIdeal.Facts) (hInDwIIKernel : Cert.InDwIIKernel.Facts) (hInDwIIKernelIdeal : Cert.InDwIIKernelIdeal.Facts) (hInDwIIReferenceIdeal : Cert.InDwIIReferenceIdeal.Facts) (hPre_finite_arguments : Cert.Pre_finite_arguments.Facts) (hPre_finite_norm1 : Cert.Pre_finite_norm1.Facts) (hPre_finite_norm2 : Cert.Pre_finite_norm2.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_UpDwKernel (hUpDwKernel := hUpDwKernel)
    ∧ quiescent_UpDwKernelIdeal (hUpDwKernelIdeal := hUpDwKernelIdeal)
    ∧ quiescent_UpDwReferenceIdeal (hUpDwReferenceIdeal := hUpDwReferenceIdeal)
    ∧ quiescent_DownDxKernel (hDownDxKernel := hDownDxKernel)
    ∧ quiescent_DownDxKernelIdeal (hDownDxKernelIdeal := hDownDxKernelIdeal)
    ∧ quiescent_DownDxReferenceIdeal (hDownDxReferenceIdeal := hDownDxReferenceIdeal)
    ∧ quiescent_DownDwKernel (hDownDwKernel := hDownDwKernel)
    ∧ quiescent_DownDwKernelIdeal (hDownDwKernelIdeal := hDownDwKernelIdeal)
    ∧ quiescent_DownDwReferenceIdeal (hDownDwReferenceIdeal := hDownDwReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_NormIKernel (hNormIKernel := hNormIKernel)
    ∧ quiescent_NormIKernelIdeal (hNormIKernelIdeal := hNormIKernelIdeal)
    ∧ quiescent_NormIKernelIdeal_pre_finite_norm1 (hNormIKernelIdeal := hNormIKernelIdeal) (hPre_finite_norm1 := hPre_finite_norm1)
    ∧ quiescent_NormIReferenceIdeal (hNormIReferenceIdeal := hNormIReferenceIdeal)
    ∧ quiescent_NormIReferenceIdeal_pre_finite_norm1 (hNormIReferenceIdeal := hNormIReferenceIdeal) (hPre_finite_norm1 := hPre_finite_norm1)
    ∧ quiescent_NormIIKernel (hNormIIKernel := hNormIIKernel)
    ∧ quiescent_NormIIKernelIdeal (hNormIIKernelIdeal := hNormIIKernelIdeal)
    ∧ quiescent_NormIIKernelIdeal_pre_finite_norm2 (hNormIIKernelIdeal := hNormIIKernelIdeal) (hPre_finite_norm2 := hPre_finite_norm2)
    ∧ quiescent_NormIIReferenceIdeal (hNormIIReferenceIdeal := hNormIIReferenceIdeal)
    ∧ quiescent_NormIIReferenceIdeal_pre_finite_norm2 (hNormIIReferenceIdeal := hNormIIReferenceIdeal) (hPre_finite_norm2 := hPre_finite_norm2)
    ∧ quiescent_InDwIKernel (hInDwIKernel := hInDwIKernel)
    ∧ quiescent_InDwIKernelIdeal (hInDwIKernelIdeal := hInDwIKernelIdeal)
    ∧ quiescent_InDwIReferenceIdeal (hInDwIReferenceIdeal := hInDwIReferenceIdeal)
    ∧ quiescent_InDwIIKernel (hInDwIIKernel := hInDwIIKernel)
    ∧ quiescent_InDwIIKernelIdeal (hInDwIIKernelIdeal := hInDwIIKernelIdeal)
    ∧ quiescent_InDwIIReferenceIdeal (hInDwIIReferenceIdeal := hInDwIIReferenceIdeal)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_UpKernel_UpKernelIdeal
    ∧ algebraic_UpKernelIdeal_UpReferenceIdeal (hUpKernelIdeal := hUpKernelIdeal) (hUpReferenceIdeal := hUpReferenceIdeal)
    ∧ preserves_UpDwKernel_UpDwKernelIdeal
    ∧ algebraic_UpDwKernelIdeal_UpDwReferenceIdeal (hUpDwKernelIdeal := hUpDwKernelIdeal) (hUpDwReferenceIdeal := hUpDwReferenceIdeal)
    ∧ preserves_DownDxKernel_DownDxKernelIdeal
    ∧ algebraic_DownDxKernelIdeal_DownDxReferenceIdeal (hDownDxKernelIdeal := hDownDxKernelIdeal) (hDownDxReferenceIdeal := hDownDxReferenceIdeal)
    ∧ preserves_DownDwKernel_DownDwKernelIdeal
    ∧ algebraic_DownDwKernelIdeal_DownDwReferenceIdeal (hDownDwKernelIdeal := hDownDwKernelIdeal) (hDownDwReferenceIdeal := hDownDwReferenceIdeal)
    ∧ preserves_InKernel_InKernelIdeal
    ∧ algebraic_InKernelIdeal_InReferenceIdeal (hInKernelIdeal := hInKernelIdeal) (hInReferenceIdeal := hInReferenceIdeal)
    ∧ preserves_NormIKernel_NormIKernelIdeal
    ∧ algebraic_NormIKernelIdeal_NormIReferenceIdeal_pre_finite_norm1 (hNormIKernelIdeal := hNormIKernelIdeal) (hNormIReferenceIdeal := hNormIReferenceIdeal) (hPre_finite_norm1 := hPre_finite_norm1)
    ∧ preserves_NormIIKernel_NormIIKernelIdeal
    ∧ algebraic_NormIIKernelIdeal_NormIIReferenceIdeal_pre_finite_norm2 (hNormIIKernelIdeal := hNormIIKernelIdeal) (hNormIIReferenceIdeal := hNormIIReferenceIdeal) (hPre_finite_norm2 := hPre_finite_norm2)
    ∧ preserves_InDwIKernel_InDwIKernelIdeal
    ∧ algebraic_InDwIKernelIdeal_InDwIReferenceIdeal (hInDwIKernelIdeal := hInDwIKernelIdeal) (hInDwIReferenceIdeal := hInDwIReferenceIdeal)
    ∧ preserves_InDwIIKernel_InDwIIKernelIdeal
    ∧ algebraic_InDwIIKernelIdeal_InDwIIReferenceIdeal (hInDwIIKernelIdeal := hInDwIIKernelIdeal) (hInDwIIReferenceIdeal := hInDwIIReferenceIdeal)
-- ==== Pre_finite_arguments.lean ====
abbrev S2048x8x64 : Shape := ⟨3, ![2048, 8, 64]⟩
abbrev S2048x8x32 : Shape := ⟨3, ![2048, 8, 32]⟩
abbrev S2304x8x64 : Shape := ⟨3, ![2304, 8, 64]⟩
abbrev S2304x32 : Shape := ⟨2, ![2304, 32]⟩
abbrev S_ : Shape := ⟨0, ![]⟩

class Facts : Prop where
  bcast_S_S2048x8x64 : S_.BroadcastsInDim S2048x8x64 (![] : Fin 0 → Fin S2048x8x64.rank)
  reducesTo_S2048x8x64_S_d0_1_2 : S2048x8x64.ReducesTo [0, 1, 2] S_
  h_S_ : 0 < S_.numel
  bcast_S_S2048x8x32 : S_.BroadcastsInDim S2048x8x32 (![] : Fin 0 → Fin S2048x8x32.rank)
  reducesTo_S2048x8x32_S_d0_1_2 : S2048x8x32.ReducesTo [0, 1, 2] S_
  bcast_S_S2304x8x64 : S_.BroadcastsInDim S2304x8x64 (![] : Fin 0 → Fin S2304x8x64.rank)
  reducesTo_S2304x8x64_S_d0_1_2 : S2304x8x64.ReducesTo [0, 1, 2] S_
  bcast_S_S2304x32 : S_.BroadcastsInDim S2304x32 (![] : Fin 0 → Fin S2304x32.rank)
  reducesTo_S2304x32_S_d0_1 : S2304x32.ReducesTo [0, 1] S_

variable [Facts]

def fn_part1 {F : FTy → Type} [FloatOps F] (main_arg4 : FVec F S2304x8x64 .f32) (main_arg5 : FVec F S2048x8x64 .f32) (main_v13 : IVec S_ 1) (main_v16 : IVec S2304x32 1) : IVec S_ 1 :=
  let main_c_5 : IVec S_ 1 := constantI S_ 1 1#1
  let main_v17 : IVec S_ 1 := (fun x v => Host.reduce IntOp.andi x v reducesTo_S2304x32_S_d0_1 h_S_) main_v16 main_c_5
  let main_v18 : IVec S_ 1 := andi main_v13 main_v17
  let main_v19 : FVec F S2304x8x64 .f32 := Host.absf main_arg4
  let main_cst_6 : FVec F S_ .f32 := constant S_ .f32 0x7F800000#32
  let main_v20 : FVec F S2304x8x64 .f32 := broadcastInDim S2304x8x64 ![] bcast_S_S2304x8x64 main_cst_6
  let main_v21 : IVec S2304x8x64 1 := cmpf .olt main_v19 main_v20
  let main_c_7 : IVec S_ 1 := constantI S_ 1 1#1
  let main_v22 : IVec S_ 1 := (fun x v => Host.reduce IntOp.andi x v reducesTo_S2304x8x64_S_d0_1_2 h_S_) main_v21 main_c_7
  let main_v23 : IVec S_ 1 := andi main_v18 main_v22
  let main_v24 : FVec F S2048x8x64 .f32 := Host.absf main_arg5
  let main_cst_8 : FVec F S_ .f32 := constant S_ .f32 0x7F800000#32
  let main_v25 : FVec F S2048x8x64 .f32 := broadcastInDim S2048x8x64 ![] bcast_S_S2048x8x64 main_cst_8
  let main_v26 : IVec S2048x8x64 1 := cmpf .olt main_v24 main_v25
  let main_c_9 : IVec S_ 1 := constantI S_ 1 1#1
  let main_v27 : IVec S_ 1 := (fun x v => Host.reduce IntOp.andi x v reducesTo_S2048x8x64_S_d0_1_2 h_S_) main_v26 main_c_9
  let main_v28 : IVec S_ 1 := andi main_v23 main_v27
  main_v28

def fn {F : FTy → Type} [FloatOps F] (main_arg0 : FVec F S2048x8x64 .f32) (main_arg1 : FVec F S2048x8x32 .f32) (main_arg2 : FVec F S2304x8x64 .f32) (main_arg3 : FVec F S2304x32 .f32) (main_arg4 : FVec F S2304x8x64 .f32) (main_arg5 : FVec F S2048x8x64 .f32) : IVec S_ 1 :=
  let main_v0 : FVec F S2048x8x64 .f32 := Host.absf main_arg0
  let main_cst : FVec F S_ .f32 := constant S_ .f32 0x7F800000#32
  let main_v1 : FVec F S2048x8x64 .f32 := broadcastInDim S2048x8x64 ![] bcast_S_S2048x8x64 main_cst
  let main_v2 : IVec S2048x8x64 1 := cmpf .olt main_v0 main_v1
  let main_c : IVec S_ 1 := constantI S_ 1 1#1
  let main_v3 : IVec S_ 1 := (fun x v => Host.reduce IntOp.andi x v reducesTo_S2048x8x64_S_d0_1_2 h_S_) main_v2 main_c
  let main_v4 : FVec F S2048x8x32 .f32 := Host.absf main_arg1
  let main_cst_0 : FVec F S_ .f32 := constant S_ .f32 0x7F800000#32
  let main_v5 : FVec F S2048x8x32 .f32 := broadcastInDim S2048x8x32 ![] bcast_S_S2048x8x32 main_cst_0
  let main_v6 : IVec S2048x8x32 1 := cmpf .olt main_v4 main_v5
  let main_c_1 : IVec S_ 1 := constantI S_ 1 1#1
  let main_v7 : IVec S_ 1 := (fun x v => Host.reduce IntOp.andi x v reducesTo_S2048x8x32_S_d0_1_2 h_S_) main_v6 main_c_1
  let main_v8 : IVec S_ 1 := andi main_v3 main_v7
  let main_v9 : FVec F S2304x8x64 .f32 := Host.absf main_arg2
  let main_cst_2 : FVec F S_ .f32 := constant S_ .f32 0x7F800000#32
  let main_v10 : FVec F S2304x8x64 .f32 := broadcastInDim S2304x8x64 ![] bcast_S_S2304x8x64 main_cst_2
  let main_v11 : IVec S2304x8x64 1 := cmpf .olt main_v9 main_v10
  let main_c_3 : IVec S_ 1 := constantI S_ 1 1#1
  let main_v12 : IVec S_ 1 := (fun x v => Host.reduce IntOp.andi x v reducesTo_S2304x8x64_S_d0_1_2 h_S_) main_v11 main_c_3
  let main_v13 : IVec S_ 1 := andi main_v8 main_v12
  let main_v14 : FVec F S2304x32 .f32 := Host.absf main_arg3
  let main_cst_4 : FVec F S_ .f32 := constant S_ .f32 0x7F800000#32
  let main_v15 : FVec F S2304x32 .f32 := broadcastInDim S2304x32 ![] bcast_S_S2304x32 main_cst_4
  let main_v16 : IVec S2304x32 1 := cmpf .olt main_v14 main_v15
  fn_part1 (F := F) main_arg4 main_arg5 main_v13 main_v16
-- ==== Pre_finite_norm1.lean ====
abbrev S2048x1024 : Shape := ⟨2, ![2048, 1024]⟩
abbrev S1024 : Shape := ⟨1, ![1024]⟩
abbrev S1024x4608 : Shape := ⟨2, ![1024, 4608]⟩
abbrev S2048x4608 : Shape := ⟨2, ![2048, 4608]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4608 : S_.BroadcastsInDim S1024x4608 (![] : Fin 0 → Fin S1024x4608.rank)
  reducesTo_S1024x4608_S_d0_1 : S1024x4608.ReducesTo [0, 1] S_
  bcast_S_S2048x4608 : S_.BroadcastsInDim S2048x4608 (![] : Fin 0 → Fin S2048x4608.rank)
  reducesTo_S2048x4608_S_d0_1 : S2048x4608.ReducesTo [0, 1] S_

variable [Facts]

def fn_part2 {F : FTy → Type} [FloatOps F] (main_arg7 : FVec F S2048x4608 .f32) (main_arg8 : FVec F S2048x1024 .f32) (main_v33 : IVec S_ 1) : IVec S_ 1 :=
  let main_v34 : FVec F S2048x4608 .f32 := Host.absf main_arg7
  let main_cst_12 : FVec F S_ .f32 := constant S_ .f32 0x7F800000#32
  let main_v35 : FVec F S2048x4608 .f32 := broadcastInDim S2048x4608 ![] bcast_S_S2048x4608 main_cst_12
  let main_v36 : IVec S2048x4608 1 := cmpf .olt main_v34 main_v35
  let main_c_13 : IVec S_ 1 := constantI S_ 1 1#1
  let main_v37 : IVec S_ 1 := (fun x v => Host.reduce IntOp.andi x v reducesTo_S2048x4608_S_d0_1 h_S_) main_v36 main_c_13
  let main_v38 : IVec S_ 1 := andi main_v33 main_v37
  let main_v39 : FVec F S2048x1024 .f32 := Host.absf main_arg8
  let main_cst_14 : FVec F S_ .f32 := constant S_ .f32 0x7F800000#32
  let main_v40 : FVec F S2048x1024 .f32 := broadcastInDim S2048x1024 ![] bcast_S_S2048x1024 main_cst_14
  let main_v41 : IVec S2048x1024 1 := cmpf .olt main_v39 main_v40
  let main_c_15 : IVec S_ 1 := constantI S_ 1 1#1
  let main_v42 : IVec S_ 1 := (fun x v => Host.reduce IntOp.andi x v reducesTo_S2048x1024_S_d0_1 h_S_) main_v41 main_c_15
  let main_v43 : IVec S_ 1 := andi main_v38 main_v42
  main_v43

def fn_part1 {F : FTy → Type} [FloatOps F] (main_arg4 : FVec F S1024x4608 .f32) (main_arg5 : FVec F S1024 .f32) (main_arg6 : FVec F S2048x1024 .f32) (main_arg7 : FVec F S2048x4608 .f32) (main_arg8 : FVec F S2048x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x4608 .f32 := Host.absf main_arg4
  let main_cst_6 : FVec F S_ .f32 := constant S_ .f32 0x7F800000#32
  let main_v20 : FVec F S1024x4608 .f32 := broadcastInDim S1024x4608 ![] bcast_S_S1024x4608 main_cst_6
  let main_v21 : IVec S1024x4608 1 := cmpf .olt main_v19 main_v20
  let main_c_7 : IVec S_ 1 := constantI S_ 1 1#1
  let main_v22 : IVec S_ 1 := (fun x v => Host.reduce IntOp.andi x v reducesTo_S1024x4608_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_v33

def fn {F : FTy → Type} [FloatOps F] (main_arg0 : FVec F S2048x1024 .f32) (main_arg1 : FVec F S1024 .f32) (main_arg2 : FVec F S1024 .f32) (main_arg3 : FVec F S1024 .f32) (main_arg4 : FVec F S1024x4608 .f32) (main_arg5 : FVec F S1024 .f32) (main_arg6 : FVec F S2048x1024 .f32) (main_arg7 : FVec F S2048x4608 .f32) (main_arg8 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_v13 main_v16
-- ==== Pre_finite_norm2.lean ====
abbrev S2048x1024 : Shape := ⟨2, ![2048, 1024]⟩
abbrev S1024 : Shape := ⟨1, ![1024]⟩
abbrev S1024x5632 : Shape := ⟨2, ![1024, 5632]⟩
abbrev S2x2048x2816 : Shape := ⟨3, ![2, 2048, 2816]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2x2048x2816 : S_.BroadcastsInDim S2x2048x2816 (![] : Fin 0 → Fin S2x2048x2816.rank)
  reducesTo_S2x2048x2816_S_d0_1_2 : S2x2048x2816.ReducesTo [0, 1, 2] S_

variable [Facts]

def fn_part3 {F : FTy → Type} [FloatOps F] (main_v48 : IVec S_ 1) (main_v49 : FVec F S2048x1024 .f32) (main_v50 : FVec F S2048x1024 .f32) : IVec S_ 1 :=
  let main_v51 : IVec S2048x1024 1 := cmpf .olt main_v49 main_v50
  let main_c_19 : IVec S_ 1 := constantI S_ 1 1#1
  let main_v52 : IVec S_ 1 := (fun x v => Host.reduce IntOp.andi x v reducesTo_S2048x1024_S_d0_1 h_S_) main_v51 main_c_19
  let main_v53 : IVec S_ 1 := andi main_v48 main_v52
  main_v53

def fn_part2 {F : FTy → Type} [FloatOps F] (main_arg7 : FVec F S1024 .f32) (main_arg8 : FVec F S2048x1024 .f32) (main_arg9 : FVec F S2x2048x2816 .f32) (main_arg10 : FVec F S2048x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S2048x1024 .f32 := Host.absf main_arg8
  let main_cst_14 : FVec F S_ .f32 := constant S_ .f32 0x7F800000#32
  let main_v40 : FVec F S2048x1024 .f32 := broadcastInDim S2048x1024 ![] bcast_S_S2048x1024 main_cst_14
  let main_v41 : IVec S2048x1024 1 := cmpf .olt main_v39 main_v40
  let main_c_15 : IVec S_ 1 := constantI S_ 1 1#1
  let main_v42 : IVec S_ 1 := (fun x v => Host.reduce IntOp.andi x v reducesTo_S2048x1024_S_d0_1 h_S_) main_v41 main_c_15
  let main_v43 : IVec S_ 1 := andi main_v38 main_v42
  let main_v44 : FVec F S2x2048x2816 .f32 := Host.absf main_arg9
  let main_cst_16 : FVec F S_ .f32 := constant S_ .f32 0x7F800000#32
  let main_v45 : FVec F S2x2048x2816 .f32 := broadcastInDim S2x2048x2816 ![] bcast_S_S2x2048x2816 main_cst_16
  let main_v46 : IVec S2x2048x2816 1 := cmpf .olt main_v44 main_v45
  let main_c_17 : IVec S_ 1 := constantI S_ 1 1#1
  let main_v47 : IVec S_ 1 := (fun x v => Host.reduce IntOp.andi x v reducesTo_S2x2048x2816_S_d0_1_2 h_S_) main_v46 main_c_17
  let main_v48 : IVec S_ 1 := andi main_v43 main_v47
  let main_v49 : FVec F S2048x1024 .f32 := Host.absf main_arg10
  let main_cst_18 : FVec F S_ .f32 := constant S_ .f32 0x7F800000#32
  let main_v50 : FVec F S2048x1024 .f32 := broadcastInDim S2048x1024 ![] bcast_S_S2048x1024 main_cst_18
  fn_part3 (F := F) main_v48 main_v49 main_v50

def fn_part1 {F : FTy → Type} [FloatOps F] (main_arg4 : FVec F S1024 .f32) (main_arg5 : FVec F S1024 .f32) (main_arg6 : FVec F S1024x5632 .f32) (main_arg7 : FVec F S1024 .f32) (main_arg8 : FVec F S2048x1024 .f32) (main_arg9 : FVec F S2x2048x2816 .f32) (main_arg10 : FVec F S2048x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x5632 .f32 := Host.absf main_arg6
  let main_cst_10 : FVec F S_ .f32 := constant S_ .f32 0x7F800000#32
  let main_v30 : FVec F S1024x5632 .f32 := broadcastInDim S1024x5632 ![] bcast_S_S1024x5632 main_cst_10
  let main_v31 : IVec S1024x5632 1 := cmpf .olt main_v29 main_v30
  let main_c_11 : IVec S_ 1 := constantI S_ 1 1#1
  let main_v32 : IVec S_ 1 := (fun x v => Host.reduce IntOp.andi x v reducesTo_S1024x5632_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S2048x1024 .f32) (main_arg1 : FVec F S2048x1024 .f32) (main_arg2 : FVec F S1024 .f32) (main_arg3 : FVec F S1024 .f32) (main_arg4 : FVec F S1024 .f32) (main_arg5 : FVec F S1024 .f32) (main_arg6 : FVec F S1024x5632 .f32) (main_arg7 : FVec F S1024 .f32) (main_arg8 : FVec F S2048x1024 .f32) (main_arg9 : FVec F S2x2048x2816 .f32) (main_arg10 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_v13 main_v16
-- ==== Kernel.lean ====
abbrev S2048x8x64 : Shape := ⟨3, ![2048, 8, 64]⟩
abbrev S2048x8x32 : Shape := ⟨3, ![2048, 8, 32]⟩
abbrev S2304x8x64 : Shape := ⟨3, ![2304, 8, 64]⟩
abbrev S2304x32 : Shape := ⟨2, ![2304, 32]⟩
abbrev S2048x8x96 : Shape := ⟨3, ![2048, 8, 96]⟩
abbrev S_ : Shape := ⟨0, ![]⟩
abbrev S2048x8x128 : Shape := ⟨3, ![2048, 8, 128]⟩
abbrev S2048x1024 : Shape := ⟨2, ![2048, 1024]⟩
abbrev S2304x1x32 : Shape := ⟨3, ![2304, 1, 32]⟩
abbrev S2304x8x32 : Shape := ⟨3, ![2304, 8, 32]⟩
abbrev S2304x8x96 : Shape := ⟨3, ![2304, 8, 96]⟩
abbrev S2304x8x128 : Shape := ⟨3, ![2304, 8, 128]⟩
abbrev S2304x1024 : Shape := ⟨2, ![2304, 1024]⟩
abbrev S2304x512 : Shape := ⟨2, ![2304, 512]⟩
abbrev S2048x512 : Shape := ⟨2, ![2048, 512]⟩
abbrev S1024x128 : Shape := ⟨2, ![1024, 128]⟩
abbrev S2304x128 : Shape := ⟨2, ![2304, 128]⟩
abbrev S768x128 : Shape := ⟨2, ![768, 128]⟩
abbrev S1024x768 : Shape := ⟨2, ![1024, 768]⟩
abbrev S1024 : Shape := ⟨1, ![1024]⟩
abbrev S1024x1 : Shape := ⟨2, ![1024, 1]⟩
abbrev S1x128 : Shape := ⟨2, ![1, 128]⟩

abbrev nBuf : Space → Nat
  | .hbm => 29
  | .vmem => 28
  | .smem => 0
  | _ => 0

abbrev bufTy : (tb : Table) → Fin (tcTables nBuf tb) → BufTy
  | .hbm, ⟨0, _⟩ => ⟨S2048x8x64, .f32⟩
  | .hbm, ⟨1, _⟩ => ⟨S2048x8x32, .f32⟩
  | .hbm, ⟨2, _⟩ => ⟨S2304x8x64, .f32⟩
  | .hbm, ⟨3, _⟩ => ⟨S2304x32, .f32⟩
  | .hbm, ⟨4, _⟩ => ⟨S2304x8x64, .f32⟩
  | .hbm, ⟨5, _⟩ => ⟨S2048x8x64, .f32⟩
  | .hbm, ⟨6, _⟩ => ⟨S2048x8x96, .f32⟩
  | .hbm, ⟨7, _⟩ => ⟨S_, .i32⟩
  | .hbm, ⟨8, _⟩ => ⟨S_, .f32⟩
  | .hbm, ⟨9, _⟩ => ⟨S2048x8x128, .f32⟩
  | .hbm, ⟨10, _⟩ => ⟨S2048x1024, .f32⟩
  | .hbm, ⟨11, _⟩ => ⟨S2048x1024, .bf16⟩
  | .hbm, ⟨12, _⟩ => ⟨S2304x1x32, .f32⟩
  | .hbm, ⟨13, _⟩ => ⟨S2304x8x32, .f32⟩
  | .hbm, ⟨14, _⟩ => ⟨S2304x8x96, .f32⟩
  | .hbm, ⟨15, _⟩ => ⟨S_, .i32⟩
  | .hbm, ⟨16, _⟩ => ⟨S_, .f32⟩
  | .hbm, ⟨17, _⟩ => ⟨S2304x8x128, .f32⟩
  | .hbm, ⟨18, _⟩ => ⟨S2304x1024, .f32⟩
  | .hbm, ⟨19, _⟩ => ⟨S2304x1024, .bf16⟩
  | .hbm, ⟨20, _⟩ => ⟨S2304x512, .f32⟩
  | .hbm, ⟨21, _⟩ => ⟨S2304x512, .bf16⟩
  | .hbm, ⟨22, _⟩ => ⟨S2048x512, .f32⟩
  | .hbm, ⟨23, _⟩ => ⟨S2048x512, .bf16⟩
  | .hbm, ⟨24, _⟩ => ⟨S2048x512, .bf16⟩
  | .hbm, ⟨25, _⟩ => ⟨S2048x1024, .f32⟩
  | .hbm, ⟨26, _⟩ => ⟨S2048x1024, .f32⟩
  | .hbm, ⟨27, _⟩ => ⟨S2304x1024, .f32⟩
  | .hbm, ⟨28, _⟩ => ⟨S2304x512, .f32⟩
  | .local _ .vmem, ⟨0, _⟩ => ⟨S1024x128, .bf16⟩
  | .local _ .vmem, ⟨1, _⟩ => ⟨S1024x128, .bf16⟩
  | .local _ .vmem, ⟨2, _⟩ => ⟨S2304x128, .bf16⟩
  | .local _ .vmem, ⟨3, _⟩ => ⟨S2304x128, .bf16⟩
  | .local _ .vmem, ⟨4, _⟩ => ⟨S2304x128, .bf16⟩
  | .local _ .vmem, ⟨5, _⟩ => ⟨S2304x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S2304x128, .bf16⟩
  | .local _ .vmem, ⟨13, _⟩ => ⟨S2304x128, .bf16⟩
  | .local _ .vmem, ⟨14, _⟩ => ⟨S2304x128, .bf16⟩
  | .local _ .vmem, ⟨15, _⟩ => ⟨S2304x128, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S2304x128, .f32⟩
  | .local _ .vmem, ⟨25, _⟩ => ⟨S2304x128, .f32⟩
  | .local _ .vmem, ⟨26, _⟩ => ⟨S2304x128, .f32⟩
  | .local _ .vmem, ⟨27, _⟩ => ⟨S2304x128, .f32⟩
  | _, _ => ⟨S2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c2_i32_39 : BitVec 32 := 2#32
  let c0_i32_40 : BitVec 32 := 0#32
  let v119 : BitVec 1 := Scalar.cmpi .eq c2_i32_39 c0_i32_40
  let c1_i32_41 : BitVec 32 := 1#32
  let v120 : BitVec 32 := Scalar.select v119 c1_i32_41 c2_i32_39
  let v121 : BitVec 32 := Scalar.remsi arg1 v120
  let c0_i32_43 : BitVec 32 := 0#32
  let v123 : BitVec 1 := Scalar.cmpi .slt v121 c0_i32_43
  let c0_i32_44 : BitVec 32 := 0#32
  let v124 : BitVec 1 := Scalar.cmpi .slt v120 c0_i32_44
  let v125 : BitVec 1 := Scalar.xori v123 v124
  let c0_i32_42 : BitVec 32 := 0#32
  let v122 : BitVec 1 := Scalar.cmpi .ne v121 c0_i32_42
  let v126 : BitVec 1 := Scalar.andi v125 v122
  let v127 : BitVec 32 := Scalar.addi v121 v120
  let v128 : BitVec 32 := Scalar.select v126 v127 v121
  let c0_i32_45 : BitVec 32 := 0#32
  let v129 : BitVec 1 := Scalar.cmpi .eq v128 c0_i32_45
  let v130 : BitVec 32 := Scalar.extui v129
  let c0_i32_46 : BitVec 32 := 0#32
  let v131 : BitVec 1 := Scalar.cmpi .ne v130 c0_i32_46
  v131

def k0_cond2 (i : grid0.Coords) : BitVec 1 :=
  let arg1 : BitVec 32 := BitVec.ofNat 32 (i 1).val
  let c2_i32_47 : BitVec 32 := 2#32
  let c0_i32_48 : BitVec 32 := 0#32
  let v132 : BitVec 1 := Scalar.cmpi .eq c2_i32_47 c0_i32_48
  let c1_i32_49 : BitVec 32 := 1#32
  let v133 : BitVec 32 := Scalar.select v132 c1_i32_49 c2_i32_47
  let v134 : BitVec 32 := Scalar.remsi arg1 v133
  let c0_i32_51 : BitVec 32 := 0#32
  let v136 : BitVec 1 := Scalar.cmpi .slt v134 c0_i32_51
  let c0_i32_52 : BitVec 32 := 0#32
  let v137 : BitVec 1 := Scalar.cmpi .slt v133 c0_i32_52
  let v138 : BitVec 1 := Scalar.xori v136 v137
  let c0_i32_50 : BitVec 32 := 0#32
  let v135 : BitVec 1 := Scalar.cmpi .ne v134 c0_i32_50
  let v139 : BitVec 1 := Scalar.andi v138 v135
  let v140 : BitVec 32 := Scalar.addi v134 v133
  let v141 : BitVec 32 := Scalar.select v139 v140 v134
  let c1_i32_53 : BitVec 32 := 1#32
  let v142 : BitVec 1 := Scalar.cmpi .eq v141 c1_i32_53
  let v143 : BitVec 32 := Scalar.extui v142
  let c0_i32_54 : BitVec 32 := 0#32
  let v144 : BitVec 1 := Scalar.cmpi .ne v143 c0_i32_54
  v144

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc1_transform_3 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg1.toNat, v16.toNat]

def cc1_transform_4 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg1.toNat, v16.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2304x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2304x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2304x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S2304x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== KernelIdeal.lean ====
variable {F : FTy → Type} [FloatOps F] [Named F]
def κ : String → Option EReal := fun
  | "log2e" => some (((Real.log 2)⁻¹ : ℝ) : EReal)
  | "scale" => some (((Real.sqrt 96)⁻¹ : ℝ) : EReal)
  | "scale_log2e" => some (((Real.sqrt 96)⁻¹ * (Real.log 2)⁻¹ : ℝ) : EReal)
  | _ => none
-- ==== ReferenceIdeal.lean ====
abbrev S2048x8x64 : Shape := ⟨3, ![2048, 8, 64]⟩
abbrev S2048x8x32 : Shape := ⟨3, ![2048, 8, 32]⟩
abbrev S2304x8x64 : Shape := ⟨3, ![2304, 8, 64]⟩
abbrev S2304x32 : Shape := ⟨2, ![2304, 32]⟩
abbrev S2304x1x32 : Shape := ⟨3, ![2304, 1, 32]⟩
abbrev S2304x8x32 : Shape := ⟨3, ![2304, 8, 32]⟩
abbrev S_ : Shape := ⟨0, ![]⟩
abbrev S8x2048x2304 : Shape := ⟨3, ![8, 2048, 2304]⟩
abbrev S8x2048 : Shape := ⟨2, ![8, 2048]⟩
abbrev S8x2048x1 : Shape := ⟨3, ![8, 2048, 1]⟩
abbrev S8x64x2048 : Shape := ⟨3, ![8, 64, 2048]⟩
abbrev S8x64x2304 : Shape := ⟨3, ![8, 64, 2304]⟩
abbrev S8x2304x32 : Shape := ⟨3, ![8, 2304, 32]⟩
abbrev S8x2048x32 : Shape := ⟨3, ![8, 2048, 32]⟩
abbrev S8x2304x64 : Shape := ⟨3, ![8, 2304, 64]⟩
abbrev S8x2048x64 : Shape := ⟨3, ![8, 2048, 64]⟩
abbrev S2048x8x128 : Shape := ⟨3, ![2048, 8, 128]⟩
abbrev S2048x1024 : Shape := ⟨2, ![2048, 1024]⟩
abbrev S2304x8x128 : Shape := ⟨3, ![2304, 8, 128]⟩
abbrev S2304x1024 : Shape := ⟨2, ![2304, 1024]⟩
abbrev S2048x512 : Shape := ⟨2, ![2048, 512]⟩
abbrev S2304x512 : Shape := ⟨2, ![2304, 512]⟩

abbrev nBuf : Space → Nat
  | .hbm => 96
  | .vmem => 0
  | .smem => 0
  | _ => 0

abbrev bufTy : (tb : Table) → Fin (tcTables nBuf tb) → BufTy
  | .hbm, ⟨0, _⟩ => ⟨S2048x8x64, .f32⟩
  | .hbm, ⟨1, _⟩ => ⟨S2048x8x32, .f32⟩
  | .hbm, ⟨2, _⟩ => ⟨S2304x8x64, .f32⟩
  | .hbm, ⟨3, _⟩ => ⟨S2304x32, .f32⟩
  | .hbm, ⟨4, _⟩ => ⟨S2304x8x64, .f32⟩
  | .hbm, ⟨5, _⟩ => ⟨S2048x8x64, .f32⟩
  | .hbm, ⟨6, _⟩ => ⟨S2304x1x32, .f32⟩
  | .hbm, ⟨7, _⟩ => ⟨S2304x8x32, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x2048x2304, .f32⟩
  | .hbm, ⟨13, _⟩ => ⟨S8x2048x2304, .f32⟩
  | .hbm, ⟨14, _⟩ => ⟨S8x2048x2304, .f32⟩
  | .hbm, ⟨15, _⟩ => ⟨S8x2048x2304, .f32⟩
  | .hbm, ⟨16, _⟩ => ⟨S8x2048x2304, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S8x2048x2304, .f32⟩
  | .hbm, ⟨21, _⟩ => ⟨S8x2048x2304, .i1⟩
  | .hbm, ⟨22, _⟩ => ⟨S8x2048x2304, .f32⟩
  | .hbm, ⟨23, _⟩ => ⟨S_, .f32⟩
  | .hbm, ⟨24, _⟩ => ⟨S8x2048, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .i1⟩
  | .hbm, ⟨31, _⟩ => ⟨S_, .f32⟩
  | .hbm, ⟨32, _⟩ => ⟨S8x2048, .f32⟩
  | .hbm, ⟨33, _⟩ => ⟨S8x2048, .i1⟩
  | .hbm, ⟨34, _⟩ => ⟨S_, .f32⟩
  | .hbm, ⟨35, _⟩ => ⟨S8x2048, .f32⟩
  | .hbm, ⟨36, _⟩ => ⟨S_, .f32⟩
  | .hbm, ⟨37, _⟩ => ⟨S8x2048, .f32⟩
  | .hbm, ⟨38, _⟩ => ⟨S_, .f32⟩
  | .hbm, ⟨39, _⟩ => ⟨S8x2048, .f32⟩
  | .hbm, ⟨40, _⟩ => ⟨S8x2048, .f32⟩
  | .hbm, ⟨41, _⟩ => ⟨S8x2048, .f32⟩
  | .hbm, ⟨42, _⟩ => ⟨S8x2048x1, .f32⟩
  | .hbm, ⟨43, _⟩ => ⟨S8x2048x2304, .f32⟩
  | .hbm, ⟨44, _⟩ => ⟨S8x2048x2304, .f32⟩
  | .hbm, ⟨45, _⟩ => ⟨S8x2048x2304, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S8x2048x2304, .f32⟩
  | .hbm, ⟨50, _⟩ => ⟨S8x2048x2304, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x64x2048, .f32⟩
  | .hbm, ⟨56, _⟩ => ⟨S2048x8x64, .f32⟩
  | .hbm, ⟨57, _⟩ => ⟨S8x64x2048, .f32⟩
  | .hbm, ⟨58, _⟩ => ⟨S8x2048x2304, .f32⟩
  | .hbm, ⟨59, _⟩ => ⟨S8x64x2304, .f32⟩
  | .hbm, ⟨60, _⟩ => ⟨S2304x8x64, .f32⟩
  | .hbm, ⟨61, _⟩ => ⟨S8x2048x2304, .f32⟩
  | .hbm, ⟨62, _⟩ => ⟨S8x2048x2304, .f32⟩
  | .hbm, ⟨63, _⟩ => ⟨S8x2048x2304, .f32⟩
  | .hbm, ⟨64, _⟩ => ⟨S_, .f32⟩
  | .hbm, ⟨65, _⟩ => ⟨S8x2048, .f32⟩
  | .hbm, ⟨66, _⟩ => ⟨S8x2048x1, .f32⟩
  | .hbm, ⟨67, _⟩ => ⟨S8x2048x1, .f32⟩
  | .hbm, ⟨68, _⟩ => ⟨S8x2048x2304, .f32⟩
  | .hbm, ⟨69, _⟩ => ⟨S8x2048x2304, .f32⟩
  | .hbm, ⟨70, _⟩ => ⟨S_, .f32⟩
  | .hbm, ⟨71, _⟩ => ⟨S8x2048, .f32⟩
  | .hbm, ⟨72, _⟩ => ⟨S8x2048x2304, .f32⟩
  | .hbm, ⟨73, _⟩ => ⟨S8x2048x2304, .f32⟩
  | .hbm, ⟨74, _⟩ => ⟨S8x2048x2304, .f32⟩
  | .hbm, ⟨75, _⟩ => ⟨S8x2048x2304, .f32⟩
  | .hbm, ⟨76, _⟩ => ⟨S8x2048x2304, .f32⟩
  | .hbm, ⟨77, _⟩ => ⟨S8x2304x32, .f32⟩
  | .hbm, ⟨78, _⟩ => ⟨S2304x8x32, .f32⟩
  | .hbm, ⟨79, _⟩ => ⟨S8x2048x32, .f32⟩
  | .hbm, ⟨80, _⟩ => ⟨S2048x8x32, .f32⟩
  | .hbm, ⟨81, _⟩ => ⟨S8x2304x64, .f32⟩
  | .hbm, ⟨82, _⟩ => ⟨S2304x8x64, .f32⟩
  | .hbm, ⟨83, _⟩ => ⟨S8x2048x64, .f32⟩
  | .hbm, ⟨84, _⟩ => ⟨S2048x8x64, .f32⟩
  | .hbm, ⟨85, _⟩ => ⟨S_, .f32⟩
  | .hbm, ⟨86, _⟩ => ⟨S2048x8x32, .f32⟩
  | .hbm, ⟨87, _⟩ => ⟨S2048x8x128, .f32⟩
  | .hbm, ⟨88, _⟩ => ⟨S2048x1024, .f32⟩
  | .hbm, ⟨89, _⟩ => ⟨S_, .f32⟩
  | .hbm, ⟨90, _⟩ => ⟨S2304x8x32, .f32⟩
  | .hbm, ⟨91, _⟩ => ⟨S2304x8x128, .f32⟩
  | .hbm, ⟨92, _⟩ => ⟨S2304x1024, .f32⟩
  | .hbm, ⟨93, _⟩ => ⟨S2048x512, .f32⟩
  | .hbm, ⟨94, _⟩ => ⟨S2048x512, .bf16⟩
  | .hbm, ⟨95, _⟩ => ⟨S2304x512, .f32⟩
  | _, _ => ⟨S2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== UpKernel.lean ====
abbrev S2048x1024 : Shape := ⟨2, ![2048, 1024]⟩
abbrev S1024x5632 : Shape := ⟨2, ![1024, 5632]⟩
abbrev S5632x1024 : Shape := ⟨2, ![5632, 1024]⟩
abbrev S2x2048x2816 : Shape := ⟨3, ![2, 2048, 2816]⟩
abbrev S1024x1024 : Shape := ⟨2, ![1024, 1024]⟩
abbrev S1408x1024 : Shape := ⟨2, ![1408, 1024]⟩
abbrev S1x1024x1408 : Shape := ⟨3, ![1, 1024, 1408]⟩
abbrev S8x128 : Shape := ⟨2, ![8, 128]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x1024, .bf16⟩
  | .hbm, ⟨3, _⟩ => ⟨S5632x1024, .f32⟩
  | .hbm, ⟨4, _⟩ => ⟨S5632x1024, .bf16⟩
  | .hbm, ⟨5, _⟩ => ⟨S2x2048x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1x1024x1408, .f32⟩
  | .local _ .vmem, ⟨5, _⟩ => ⟨S1x1024x1408, .f32⟩
  | .local _ .vmem, ⟨6, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c2_i32 : BitVec 32 := 2#32
  let v1 : BitVec 32 := Scalar.divsi v0 c2_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32 c0_i32_2
  let v8 : BitVec 32 := Scalar.extui v7
  let c0_i32_3 : BitVec 32 := 0#32
  let v9 : BitVec 1 := Scalar.cmpi .slt c2_i32 c0_i32_3
  let v10 : BitVec 32 := Scalar.extui v9
  let v11 : BitVec 32 := Scalar.subi v8 v10
  let v12 : BitVec 1 := Scalar.cmpi .ne v6 v11
  let v13 : BitVec 32 := Scalar.remsi v0 c2_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi arg0 c0_i32_5
  let c0_i32_6 : BitVec 32 := 0#32
  let v19 : BitVec 32 := Scalar.addi arg1 c0_i32_6
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v19 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  ![v17.toNat, v18.toNat, v29.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S1x2048x2816 : Shape := ⟨3, ![1, 2048, 2816]⟩
abbrev S2x2048x2816 : Shape := ⟨3, ![2, 2048, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S2048x2816, .f32⟩
  | .hbm, ⟨4, _⟩ => ⟨S2048x2816, .f32⟩
  | .hbm, ⟨5, _⟩ => ⟨S1x2048x2816, .f32⟩
  | .hbm, ⟨6, _⟩ => ⟨S1x2048x2816, .f32⟩
  | .hbm, ⟨7, _⟩ => ⟨S2x2048x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== UpDwKernel.lean ====
abbrev S2048x1024 : Shape := ⟨2, ![2048, 1024]⟩
abbrev S1024x5632 : Shape := ⟨2, ![1024, 5632]⟩
abbrev S2x2048x2816 : Shape := ⟨3, ![2, 2048, 2816]⟩
abbrev S5632x1024 : Shape := ⟨2, ![5632, 1024]⟩
abbrev S1x2048x1408 : Shape := ⟨3, ![1, 2048, 1408]⟩
abbrev S1408x1024 : Shape := ⟨2, ![1408, 1024]⟩
abbrev S8x128 : Shape := ⟨2, ![8, 128]⟩
abbrev S2048x1408 : Shape := ⟨2, ![2048, 1408]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2x2048x2816, .f32⟩
  | .hbm, ⟨3, _⟩ => ⟨S2x2048x2816, .bf16⟩
  | .hbm, ⟨4, _⟩ => ⟨S2048x1024, .bf16⟩
  | .hbm, ⟨5, _⟩ => ⟨S5632x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | .local _ .vmem, ⟨5, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c2_i32 : BitVec 32 := 2#32
  let v1 : BitVec 32 := Scalar.divsi v0 c2_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32 c0_i32_2
  let v8 : BitVec 32 := Scalar.extui v7
  let c0_i32_3 : BitVec 32 := 0#32
  let v9 : BitVec 1 := Scalar.cmpi .slt c2_i32 c0_i32_3
  let v10 : BitVec 32 := Scalar.extui v9
  let v11 : BitVec 32 := Scalar.subi v8 v10
  let v12 : BitVec 1 := Scalar.cmpi .ne v6 v11
  let v13 : BitVec 32 := Scalar.remsi v0 c2_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi arg2 c0_i32_5
  let c0_i32_6 : BitVec 32 := 0#32
  let v19 : BitVec 32 := Scalar.addi arg0 c0_i32_6
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v19 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  ![v17.toNat, v18.toNat, v29.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S2048x1024 : Shape := ⟨2, ![2048, 1024]⟩
abbrev S1024x5632 : Shape := ⟨2, ![1024, 5632]⟩
abbrev S2x2048x2816 : Shape := ⟨3, ![2, 2048, 2816]⟩
abbrev S2048x5632 : Shape := ⟨2, ![2048, 5632]⟩
abbrev S2048x2816 : Shape := ⟨2, ![2048, 2816]⟩
abbrev S1x2048x2816 : Shape := ⟨3, ![1, 2048, 2816]⟩
abbrev S5632x1024 : Shape := ⟨2, ![5632, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2x2048x2816, .f32⟩
  | .hbm, ⟨3, _⟩ => ⟨S2048x5632, .f32⟩
  | .hbm, ⟨4, _⟩ => ⟨S2048x2816, .f32⟩
  | .hbm, ⟨5, _⟩ => ⟨S2048x2816, .f32⟩
  | .hbm, ⟨6, _⟩ => ⟨S1x2048x2816, .f32⟩
  | .hbm, ⟨7, _⟩ => ⟨S1x2048x2816, .f32⟩
  | .hbm, ⟨8, _⟩ => ⟨S2x2048x2816, .f32⟩
  | .hbm, ⟨9, _⟩ => ⟨S1x2048x2816, .f32⟩
  | .hbm, ⟨10, _⟩ => ⟨S2048x2816, .f32⟩
  | .hbm, ⟨11, _⟩ => ⟨S1x2048x2816, .f32⟩
  | .hbm, ⟨12, _⟩ => ⟨S2048x2816, .f32⟩
  | .hbm, ⟨13, _⟩ => ⟨S2048x5632, .f32⟩
  | .hbm, ⟨14, _⟩ => ⟨S5632x1024, .f32⟩
  | .hbm, ⟨15, _⟩ => ⟨S1024x5632, .f32⟩
  | .hbm, ⟨16, _⟩ => ⟨S2048x1024, .f32⟩
  | .hbm, ⟨17, _⟩ => ⟨S5632x1024, .f32⟩
  | .hbm, ⟨18, _⟩ => ⟨S5632x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== DownDxKernel.lean ====
abbrev S2048x2816 : Shape := ⟨2, ![2048, 2816]⟩
abbrev S2816x1024 : Shape := ⟨2, ![2816, 1024]⟩
abbrev S2048x1024 : Shape := ⟨2, ![2048, 1024]⟩
abbrev S1024x1024 : Shape := ⟨2, ![1024, 1024]⟩
abbrev S1408x1024 : Shape := ⟨2, ![1408, 1024]⟩
abbrev S1024x1408 : Shape := ⟨2, ![1024, 1408]⟩
abbrev S8x128 : Shape := ⟨2, ![8, 128]⟩

abbrev nBuf : Space → Nat
  | .hbm => 6
  | .vmem => 7
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x1024, .bf16⟩
  | .hbm, ⟨4, _⟩ => ⟨S2816x1024, .bf16⟩
  | .hbm, ⟨5, _⟩ => ⟨S2048x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S8x128, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxReferenceIdeal.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1024x2816, .f32⟩
  | .hbm, ⟨5, _⟩ => ⟨S2816x1024, .f32⟩
  | .hbm, ⟨6, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDwKernel.lean ====
abbrev S2048x2816 : Shape := ⟨2, ![2048, 2816]⟩
abbrev S2816x1024 : Shape := ⟨2, ![2816, 1024]⟩
abbrev S2048x1024 : Shape := ⟨2, ![2048, 1024]⟩
abbrev S2048x1408 : Shape := ⟨2, ![2048, 1408]⟩
abbrev S1408x1024 : Shape := ⟨2, ![1408, 1024]⟩
abbrev S8x128 : Shape := ⟨2, ![8, 128]⟩

abbrev nBuf : Space → Nat
  | .hbm => 6
  | .vmem => 6
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x2816, .bf16⟩
  | .hbm, ⟨4, _⟩ => ⟨S2048x1024, .bf16⟩
  | .hbm, ⟨5, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | .local _ .vmem, ⟨5, _⟩ => ⟨S8x128, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1024x2816, .f32⟩
  | .hbm, ⟨5, _⟩ => ⟨S2816x1024, .f32⟩
  | .hbm, ⟨6, _⟩ => ⟨S2048x2816, .f32⟩
  | .hbm, ⟨7, _⟩ => ⟨S2816x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InKernel.lean ====
abbrev S2304x1024 : Shape := ⟨2, ![2304, 1024]⟩
abbrev S1024x4608 : Shape := ⟨2, ![1024, 4608]⟩
abbrev S2048x4608 : Shape := ⟨2, ![2048, 4608]⟩
abbrev S1024x1024 : Shape := ⟨2, ![1024, 1024]⟩
abbrev S1024x768 : Shape := ⟨2, ![1024, 768]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S2304x1024, .f32⟩
  | .hbm, ⟨1, _⟩ => ⟨S1024x4608, .f32⟩
  | .hbm, ⟨2, _⟩ => ⟨S2304x1024, .bf16⟩
  | .hbm, ⟨3, _⟩ => ⟨S1024x4608, .bf16⟩
  | .hbm, ⟨4, _⟩ => ⟨S2048x4608, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | .local _ .vmem, ⟨6, _⟩ => ⟨S8x128, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S2304x1024 : Shape := ⟨2, ![2304, 1024]⟩
abbrev S1024x4608 : Shape := ⟨2, ![1024, 4608]⟩
abbrev S2048x1024 : Shape := ⟨2, ![2048, 1024]⟩
abbrev S2048x4608 : Shape := ⟨2, ![2048, 4608]⟩

abbrev nBuf : Space → Nat
  | .hbm => 4
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S1024x4608, .f32⟩
  | .hbm, ⟨2, _⟩ => ⟨S2048x1024, .f32⟩
  | .hbm, ⟨3, _⟩ => ⟨S2048x4608, .f32⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== NormIKernel.lean ====
abbrev S2048x1024 : Shape := ⟨2, ![2048, 1024]⟩
abbrev S1024 : Shape := ⟨1, ![1024]⟩
abbrev S1024x4608 : Shape := ⟨2, ![1024, 4608]⟩
abbrev S2048x4608 : Shape := ⟨2, ![2048, 4608]⟩
abbrev S1x1024 : Shape := ⟨2, ![1, 1024]⟩
abbrev S4x1024 : Shape := ⟨2, ![4, 1024]⟩
abbrev S512x1024 : Shape := ⟨2, ![512, 1024]⟩
abbrev S512x4608 : Shape := ⟨2, ![512, 4608]⟩
abbrev S8x128 : Shape := ⟨2, ![8, 128]⟩
abbrev S512 : Shape := ⟨1, ![512]⟩
abbrev S512x1 : Shape := ⟨2, ![512, 1]⟩

abbrev nBuf : Space → Nat
  | .hbm => 17
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x4608, .f32⟩
  | .hbm, ⟨5, _⟩ => ⟨S1024, .f32⟩
  | .hbm, ⟨6, _⟩ => ⟨S2048x1024, .f32⟩
  | .hbm, ⟨7, _⟩ => ⟨S2048x4608, .f32⟩
  | .hbm, ⟨8, _⟩ => ⟨S2048x1024, .f32⟩
  | .hbm, ⟨9, _⟩ => ⟨S2048x4608, .bf16⟩
  | .hbm, ⟨10, _⟩ => ⟨S1024x4608, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S2048x1024, .f32⟩
  | .hbm, ⟨15, _⟩ => ⟨S2048x1024, .bf16⟩
  | .hbm, ⟨16, _⟩ => ⟨S4x1024, .f32⟩
  | .local _ .vmem, ⟨0, _⟩ => ⟨S512x1024, .f32⟩
  | .local _ .vmem, ⟨1, _⟩ => ⟨S512x1024, .f32⟩
  | .local _ .vmem, ⟨2, _⟩ => ⟨S512x4608, .bf16⟩
  | .local _ .vmem, ⟨3, _⟩ => ⟨S512x4608, .bf16⟩
  | .local _ .vmem, ⟨4, _⟩ => ⟨S1024x4608, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S4x1024, .f32⟩
  | .local _ .vmem, ⟨17, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v61 : BitVec 1 := Scalar.cmpi .eq arg0 c0_i32
  let v62 : BitVec 32 := Scalar.extui v61
  let c0_i32_31 : BitVec 32 := 0#32
  let v63 : BitVec 1 := Scalar.cmpi .ne v62 c0_i32_31
  v63

def k0_cond2 (i : grid0.Coords) : BitVec 1 :=
  let arg0 : BitVec 32 := BitVec.ofNat 32 (i 0).val
  let c0_i32_32 : BitVec 32 := 0#32
  let v64 : BitVec 1 := Scalar.cmpi .sgt arg0 c0_i32_32
  let v65 : BitVec 32 := Scalar.extui v64
  let c0_i32_33 : BitVec 32 := 0#32
  let v66 : BitVec 1 := Scalar.cmpi .ne v65 c0_i32_33
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S4x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== NormIReferenceIdeal.lean ====
abbrev S2048x1024 : Shape := ⟨2, ![2048, 1024]⟩
abbrev S1024 : Shape := ⟨1, ![1024]⟩
abbrev S1024x4608 : Shape := ⟨2, ![1024, 4608]⟩
abbrev S2048x4608 : Shape := ⟨2, ![2048, 4608]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S4608x1024 : Shape := ⟨2, ![4608, 1024]⟩
abbrev S4x1024 : Shape := ⟨2, ![4, 1024]⟩

abbrev nBuf : Space → Nat
  | .hbm => 99
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x4608, .f32⟩
  | .hbm, ⟨5, _⟩ => ⟨S1024, .f32⟩
  | .hbm, ⟨6, _⟩ => ⟨S2048x1024, .f32⟩
  | .hbm, ⟨7, _⟩ => ⟨S2048x4608, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S2048x4608, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S1024, .f32⟩
  | .hbm, ⟨52, _⟩ => ⟨S4608x1024, .f32⟩
  | .hbm, ⟨53, _⟩ => ⟨S1024x4608, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S1024, .f32⟩
  | .hbm, ⟨68, _⟩ => ⟨S2048x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S2048x1024, .f32⟩
  | .hbm, ⟨73, _⟩ => ⟨S2048x1024, .f32⟩
  | .hbm, ⟨74, _⟩ => ⟨S_, .f32⟩
  | .hbm, ⟨75, _⟩ => ⟨S1024, .f32⟩
  | .hbm, ⟨76, _⟩ => ⟨S2048x1024, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1, .f32⟩
  | .hbm, ⟨84, _⟩ => ⟨S_, .f32⟩
  | .hbm, ⟨85, _⟩ => ⟨S2048x1, .f32⟩
  | .hbm, ⟨86, _⟩ => ⟨S2048x1, .f32⟩
  | .hbm, ⟨87, _⟩ => ⟨S_, .f32⟩
  | .hbm, ⟨88, _⟩ => ⟨S2048, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S2048x1024, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S1x1024, .f32⟩
  | .hbm, ⟨98, _⟩ => ⟨S4x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== NormIIKernel.lean ====
abbrev S2048x1024 : Shape := ⟨2, ![2048, 1024]⟩
abbrev S1024 : Shape := ⟨1, ![1024]⟩
abbrev S1024x5632 : Shape := ⟨2, ![1024, 5632]⟩
abbrev S2x2048x2816 : Shape := ⟨3, ![2, 2048, 2816]⟩
abbrev S1x1024 : Shape := ⟨2, ![1, 1024]⟩
abbrev S5632x1024 : Shape := ⟨2, ![5632, 1024]⟩
abbrev S4x1024 : Shape := ⟨2, ![4, 1024]⟩
abbrev S512x1024 : Shape := ⟨2, ![512, 1024]⟩
abbrev S1x512x2816 : Shape := ⟨3, ![1, 512, 2816]⟩
abbrev S2816x1024 : Shape := ⟨2, ![2816, 1024]⟩
abbrev S512x2816 : Shape := ⟨2, ![512, 2816]⟩
abbrev S512 : Shape := ⟨1, ![512]⟩
abbrev S512x1 : Shape := ⟨2, ![512, 1]⟩

abbrev nBuf : Space → Nat
  | .hbm => 24
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S1024, .f32⟩
  | .hbm, ⟨8, _⟩ => ⟨S2048x1024, .f32⟩
  | .hbm, ⟨9, _⟩ => ⟨S2x2048x2816, .f32⟩
  | .hbm, ⟨10, _⟩ => ⟨S2048x1024, .f32⟩
  | .hbm, ⟨11, _⟩ => ⟨S1x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2x2048x2816, .bf16⟩
  | .hbm, ⟨16, _⟩ => ⟨S5632x1024, .f32⟩
  | .hbm, ⟨17, _⟩ => ⟨S5632x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S2048x1024, .f32⟩
  | .hbm, ⟨22, _⟩ => ⟨S2048x1024, .bf16⟩
  | .hbm, ⟨23, _⟩ => ⟨S4x1024, .f32⟩
  | .local _ .vmem, ⟨0, _⟩ => ⟨S512x1024, .f32⟩
  | .local _ .vmem, ⟨1, _⟩ => ⟨S512x1024, .f32⟩
  | .local _ .vmem, ⟨2, _⟩ => ⟨S1x512x2816, .bf16⟩
  | .local _ .vmem, ⟨3, _⟩ => ⟨S1x512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S4x1024, .f32⟩
  | .local _ .vmem, ⟨18, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def k0_cond4 (i : grid0.Coords) : BitVec 1 :=
  let arg0 : BitVec 32 := BitVec.ofNat 32 (i 0).val
  let c0_i32_38 : BitVec 32 := 0#32
  let v72 : BitVec 1 := Scalar.cmpi .eq arg0 c0_i32_38
  let v73 : BitVec 32 := Scalar.extui v72
  let c0_i32_39 : BitVec 32 := 0#32
  let v74 : BitVec 1 := Scalar.cmpi .ne v73 c0_i32_39
  v74

def k0_cond5 (i : grid0.Coords) : BitVec 1 :=
  let arg0 : BitVec 32 := BitVec.ofNat 32 (i 0).val
  let c0_i32_40 : BitVec 32 := 0#32
  let v75 : BitVec 1 := Scalar.cmpi .sgt arg0 c0_i32_40
  let v76 : BitVec 32 := Scalar.extui v75
  let c0_i32_41 : BitVec 32 := 0#32
  let v77 : BitVec 1 := Scalar.cmpi .ne v76 c0_i32_41
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S4x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== NormIIReferenceIdeal.lean ====
abbrev S2048x1024 : Shape := ⟨2, ![2048, 1024]⟩
abbrev S1024 : Shape := ⟨1, ![1024]⟩
abbrev S1024x5632 : Shape := ⟨2, ![1024, 5632]⟩
abbrev S2x2048x2816 : Shape := ⟨3, ![2, 2048, 2816]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩
abbrev S1x2048x2816 : Shape := ⟨3, ![1, 2048, 2816]⟩
abbrev S5632x1024 : Shape := ⟨2, ![5632, 1024]⟩
abbrev S4x1024 : Shape := ⟨2, ![4, 1024]⟩

abbrev nBuf : Space → Nat
  | .hbm => 125
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S1024, .f32⟩
  | .hbm, ⟨8, _⟩ => ⟨S2048x1024, .f32⟩
  | .hbm, ⟨9, _⟩ => ⟨S2x2048x2816, .f32⟩
  | .hbm, ⟨10, _⟩ => ⟨S2048x1024, .f32⟩
  | .hbm, ⟨11, _⟩ => ⟨S1x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S2048x5632, .f32⟩
  | .hbm, ⟨45, _⟩ => ⟨S2048x2816, .f32⟩
  | .hbm, ⟨46, _⟩ => ⟨S2048x2816, .f32⟩
  | .hbm, ⟨47, _⟩ => ⟨S1x2048x2816, .f32⟩
  | .hbm, ⟨48, _⟩ => ⟨S1x2048x2816, .f32⟩
  | .hbm, ⟨49, _⟩ => ⟨S2x2048x2816, .f32⟩
  | .hbm, ⟨50, _⟩ => ⟨S1x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S1024, .f32⟩
  | .hbm, ⟨64, _⟩ => ⟨S1x2048x2816, .f32⟩
  | .hbm, ⟨65, _⟩ => ⟨S2048x2816, .f32⟩
  | .hbm, ⟨66, _⟩ => ⟨S1x2048x2816, .f32⟩
  | .hbm, ⟨67, _⟩ => ⟨S2048x2816, .f32⟩
  | .hbm, ⟨68, _⟩ => ⟨S2048x5632, .f32⟩
  | .hbm, ⟨69, _⟩ => ⟨S5632x1024, .f32⟩
  | .hbm, ⟨70, _⟩ => ⟨S1024x5632, .f32⟩
  | .hbm, ⟨71, _⟩ => ⟨S2048x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S_, .f32⟩
  | .hbm, ⟨76, _⟩ => ⟨S1024, .f32⟩
  | .hbm, ⟨77, _⟩ => ⟨S2048x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S2048x1024, .f32⟩
  | .hbm, ⟨82, _⟩ => ⟨S2048x1024, .f32⟩
  | .hbm, ⟨83, _⟩ => ⟨S_, .f32⟩
  | .hbm, ⟨84, _⟩ => ⟨S1024, .f32⟩
  | .hbm, ⟨85, _⟩ => ⟨S2048x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S2048x1024, .f32⟩
  | .hbm, ⟨90, _⟩ => ⟨S2048x1024, .f32⟩
  | .hbm, ⟨91, _⟩ => ⟨S_, .f32⟩
  | .hbm, ⟨92, _⟩ => ⟨S1024, .f32⟩
  | .hbm, ⟨93, _⟩ => ⟨S2048x1024, .f32⟩
  | .hbm, ⟨94, _⟩ => ⟨S_, .f32⟩
  | .hbm, ⟨95, _⟩ => ⟨S2048, .f32⟩
  | .hbm, ⟨96, _⟩ => ⟨S2048x1, .f32⟩
  | .hbm, ⟨97, _⟩ => ⟨S2048x1024, .f32⟩
  | .hbm, ⟨98, _⟩ => ⟨S2048x1024, .f32⟩
  | .hbm, ⟨99, _⟩ => ⟨S2048x1024, .f32⟩
  | .hbm, ⟨100, _⟩ => ⟨S2048x1, .f32⟩
  | .hbm, ⟨101, _⟩ => ⟨S_, .f32⟩
  | .hbm, ⟨102, _⟩ => ⟨S2048x1, .f32⟩
  | .hbm, ⟨103, _⟩ => ⟨S2048x1, .f32⟩
  | .hbm, ⟨104, _⟩ => ⟨S_, .f32⟩
  | .hbm, ⟨105, _⟩ => ⟨S2048, .f32⟩
  | .hbm, ⟨106, _⟩ => ⟨S2048x1024, .f32⟩
  | .hbm, ⟨107, _⟩ => ⟨S2048x1024, .f32⟩
  | .hbm, ⟨108, _⟩ => ⟨S2048x1024, .f32⟩
  | .hbm, ⟨109, _⟩ => ⟨S2048x1024, .f32⟩
  | .hbm, ⟨110, _⟩ => ⟨S2048x1024, .f32⟩
  | .hbm, ⟨111, _⟩ => ⟨S2048x1024, .f32⟩
  | .hbm, ⟨112, _⟩ => ⟨S2048x1024, .f32⟩
  | .hbm, ⟨113, _⟩ => ⟨S2048x1024, .f32⟩
  | .hbm, ⟨114, _⟩ => ⟨S_, .f32⟩
  | .hbm, ⟨115, _⟩ => ⟨S1024, .f32⟩
  | .hbm, ⟨116, _⟩ => ⟨S1x1024, .f32⟩
  | .hbm, ⟨117, _⟩ => ⟨S_, .f32⟩
  | .hbm, ⟨118, _⟩ => ⟨S1024, .f32⟩
  | .hbm, ⟨119, _⟩ => ⟨S2048x1024, .bf16⟩
  | .hbm, ⟨120, _⟩ => ⟨S1x1024, .f32⟩
  | .hbm, ⟨121, _⟩ => ⟨S1x1024, .f32⟩
  | .hbm, ⟨122, _⟩ => ⟨S1x1024, .f32⟩
  | .hbm, ⟨123, _⟩ => ⟨S1x1024, .f32⟩
  | .hbm, ⟨124, _⟩ => ⟨S4x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_6 : Ref sig .tc := ⟨.hbm, 72, rfl⟩
abbrev main_v54 : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_9 : Ref sig .tc := ⟨.hbm, 83, rfl⟩
abbrev main_v62 : Ref sig .tc := ⟨.hbm, 84, rfl⟩
abbrev main_v63 : Ref sig .tc := ⟨.hbm, 85, rfl⟩
abbrev main_cst_10 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_v69 : Ref sig .tc := ⟨.hbm, 93, rfl⟩
abbrev main_cst_12 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_13 : Ref sig .tc := ⟨.hbm, 101, rfl⟩
abbrev main_v76 : Ref sig .tc := ⟨.hbm, 102, rfl⟩
abbrev main_v77 : Ref sig .tc := ⟨.hbm, 103, rfl⟩
abbrev main_cst_14 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_15 : Ref sig .tc := ⟨.hbm, 114, rfl⟩
abbrev main_v87 : Ref sig .tc := ⟨.hbm, 115, rfl⟩
abbrev main_v88 : Ref sig .tc := ⟨.hbm, 116, rfl⟩
abbrev main_cst_16 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩

abbrev nD : Nat := 1
abbrev τ : Topo := Topo.v7x

variable {F : FTy → Type} [FloatOps F]
-- ==== InDwIKernel.lean ====
abbrev S2304x1024 : Shape := ⟨2, ![2304, 1024]⟩
abbrev S1024x4608 : Shape := ⟨2, ![1024, 4608]⟩
abbrev S2048x4608 : Shape := ⟨2, ![2048, 4608]⟩
abbrev S4608x512 : Shape := ⟨2, ![4608, 512]⟩
abbrev S2048x1536 : Shape := ⟨2, ![2048, 1536]⟩
abbrev S2048x512 : Shape := ⟨2, ![2048, 512]⟩
abbrev S1536x512 : Shape := ⟨2, ![1536, 512]⟩
abbrev S8x128 : Shape := ⟨2, ![8, 128]⟩

abbrev nBuf : Space → Nat
  | .hbm => 6
  | .vmem => 6
  | .smem => 0
  | _ => 0

abbrev bufTy : (tb : Table) → Fin (tcTables nBuf tb) → BufTy
  | .hbm, ⟨0, _⟩ => ⟨S2304x1024, .f32⟩
  | .hbm, ⟨1, _⟩ => ⟨S1024x4608, .f32⟩
  | .hbm, ⟨2, _⟩ => ⟨S2048x4608, .f32⟩
  | .hbm, ⟨3, _⟩ => ⟨S2048x4608, .bf16⟩
  | .hbm, ⟨4, _⟩ => ⟨S2304x1024, .bf16⟩
  | .hbm, ⟨5, _⟩ => ⟨S4608x512, .f32⟩
  | .local _ .vmem, ⟨0, _⟩ => ⟨S2048x1536, .bf16⟩
  | .local _ .vmem, ⟨1, _⟩ => ⟨S2048x1536, .bf16⟩
  | .local _ .vmem, ⟨2, _⟩ => ⟨S2048x512, .bf16⟩
  | .local _ .vmem, ⟨3, _⟩ => ⟨S1536x512, .f32⟩
  | .local _ .vmem, ⟨4, _⟩ => ⟨S1536x512, .f32⟩
  | .local _ .vmem, ⟨5, _⟩ => ⟨S8x128, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwIReferenceIdeal.lean ====
abbrev S2304x1024 : Shape := ⟨2, ![2304, 1024]⟩
abbrev S1024x4608 : Shape := ⟨2, ![1024, 4608]⟩
abbrev S2048x4608 : Shape := ⟨2, ![2048, 4608]⟩
abbrev S2048x1024 : Shape := ⟨2, ![2048, 1024]⟩
abbrev S4608x1024 : Shape := ⟨2, ![4608, 1024]⟩
abbrev S_ : Shape := ⟨0, ![]⟩
abbrev S4608x512 : Shape := ⟨2, ![4608, 512]⟩

abbrev nBuf : Space → Nat
  | .hbm => 12
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S1024x4608, .f32⟩
  | .hbm, ⟨2, _⟩ => ⟨S2048x4608, .f32⟩
  | .hbm, ⟨3, _⟩ => ⟨S2048x1024, .f32⟩
  | .hbm, ⟨4, _⟩ => ⟨S2048x4608, .f32⟩
  | .hbm, ⟨5, _⟩ => ⟨S4608x1024, .f32⟩
  | .hbm, ⟨6, _⟩ => ⟨S1024x4608, .f32⟩
  | .hbm, ⟨7, _⟩ => ⟨S2048x1024, .f32⟩
  | .hbm, ⟨8, _⟩ => ⟨S_, .f32⟩
  | .hbm, ⟨9, _⟩ => ⟨S2304x1024, .f32⟩
  | .hbm, ⟨10, _⟩ => ⟨S4608x1024, .f32⟩
  | .hbm, ⟨11, _⟩ => ⟨S4608x512, .f32⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== InDwIIKernel.lean ====
abbrev S2304x1024 : Shape := ⟨2, ![2304, 1024]⟩
abbrev S1024x4608 : Shape := ⟨2, ![1024, 4608]⟩
abbrev S2048x4608 : Shape := ⟨2, ![2048, 4608]⟩
abbrev S4608x512 : Shape := ⟨2, ![4608, 512]⟩
abbrev S2048x1536 : Shape := ⟨2, ![2048, 1536]⟩
abbrev S2048x512 : Shape := ⟨2, ![2048, 512]⟩
abbrev S1536x512 : Shape := ⟨2, ![1536, 512]⟩
abbrev S8x128 : Shape := ⟨2, ![8, 128]⟩

abbrev nBuf : Space → Nat
  | .hbm => 6
  | .vmem => 6
  | .smem => 0
  | _ => 0

abbrev bufTy : (tb : Table) → Fin (tcTables nBuf tb) → BufTy
  | .hbm, ⟨0, _⟩ => ⟨S2304x1024, .f32⟩
  | .hbm, ⟨1, _⟩ => ⟨S1024x4608, .f32⟩
  | .hbm, ⟨2, _⟩ => ⟨S2048x4608, .f32⟩
  | .hbm, ⟨3, _⟩ => ⟨S2048x4608, .bf16⟩
  | .hbm, ⟨4, _⟩ => ⟨S2304x1024, .bf16⟩
  | .hbm, ⟨5, _⟩ => ⟨S4608x512, .f32⟩
  | .local _ .vmem, ⟨0, _⟩ => ⟨S2048x1536, .bf16⟩
  | .local _ .vmem, ⟨1, _⟩ => ⟨S2048x1536, .bf16⟩
  | .local _ .vmem, ⟨2, _⟩ => ⟨S2048x512, .bf16⟩
  | .local _ .vmem, ⟨3, _⟩ => ⟨S1536x512, .f32⟩
  | .local _ .vmem, ⟨4, _⟩ => ⟨S1536x512, .f32⟩
  | .local _ .vmem, ⟨5, _⟩ => ⟨S8x128, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c1_i32 : BitVec 32 := 1#32
  let v1 : BitVec 32 := Scalar.addi arg1 c1_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwIIReferenceIdeal.lean ====
abbrev S2304x1024 : Shape := ⟨2, ![2304, 1024]⟩
abbrev S1024x4608 : Shape := ⟨2, ![1024, 4608]⟩
abbrev S2048x4608 : Shape := ⟨2, ![2048, 4608]⟩
abbrev S2048x1024 : Shape := ⟨2, ![2048, 1024]⟩
abbrev S4608x1024 : Shape := ⟨2, ![4608, 1024]⟩
abbrev S_ : Shape := ⟨0, ![]⟩
abbrev S4608x512 : Shape := ⟨2, ![4608, 512]⟩

abbrev nBuf : Space → Nat
  | .hbm => 12
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S1024x4608, .f32⟩
  | .hbm, ⟨2, _⟩ => ⟨S2048x4608, .f32⟩
  | .hbm, ⟨3, _⟩ => ⟨S2048x1024, .f32⟩
  | .hbm, ⟨4, _⟩ => ⟨S2048x4608, .f32⟩
  | .hbm, ⟨5, _⟩ => ⟨S4608x1024, .f32⟩
  | .hbm, ⟨6, _⟩ => ⟨S1024x4608, .f32⟩
  | .hbm, ⟨7, _⟩ => ⟨S2048x1024, .f32⟩
  | .hbm, ⟨8, _⟩ => ⟨S_, .f32⟩
  | .hbm, ⟨9, _⟩ => ⟨S2304x1024, .f32⟩
  | .hbm, ⟨10, _⟩ => ⟨S4608x1024, .f32⟩
  | .hbm, ⟨11, _⟩ => ⟨S4608x512, .f32⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Fwd.Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))
/-- Core `c`'s TensorCore buffers when the region is entered. -/
abbrev V (c : Dev nD) (b : Ref sig .tc) : Buf (Elt F) ((c : Thread nD τ).loc b) := W c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V W c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V W c (Pipeline.arrRef spec0 0))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V W c (Pipeline.arrRef spec0 1))
    (hafter : ∀ t, dat.after 1 t = iblk W c 1 t) (t : Fin cfg0.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V W c (Pipeline.arrRef spec0 2))
    (hafter : ∀ t, dat.after 2 t = iblk W c 2 t) (t : Fin cfg0.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 2) — decided over the grid. -/
theorem hcond0_0 : ∀ t : Fin cfg0.N, cond0_0 (grid0.coords t) ↔ t.val % 2 = 0 :=
  (by decide +kernel : ∀ t : Fin grid0.N, cond0_0 (grid0.coords t) ↔ t.val % 2 = 0)

/-- The condition of the body's `scf.if` 1 (`k0_h2`), from the grid coordinates (the skeleton's scalar
    chain substituted). -/
abbrev cond0_1 (i : grid0.Coords) : Prop := k0_cond2 i = 1#1
/-- It holds at the points ≡ 1 (mod 2) — decided over the grid. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 4 is never idle (an output stored at every point, under no condition). -/
theorem liveAt0_4 : ∀ t : Fin cfg0.N, cfg0.idle 4 (grid0.coords t) = false := fun _ => rfl
/-- Whether output 3's buffer is FRESH at each position `1 ‥ N` — holds nothing the body stored since the region's entry or the
    last write-back (written back at the point before, or idle there and fresh before it) —, as a bitmask the classifier
    computed, bit `n` for position `n + 1`; position 0 is fresh. `freshTab0_3_step` checks it against the configuration's own
    step point by point and Lib/Pipeline/TableIdle.lean `Cfg.fresh_tab` makes it `Cfg.fresh` (`fresh0_3_eq`). -/
def freshTab0_3 : ℕ → Bool
  | 0 => true
  | n + 1 => (0xaaaa : ℕ).testBit n
theorem freshTab0_3_step : ∀ t : Fin cfg0.N,
    freshTab0_3 (t.val + 1) = ((cfg0.win 3).flush t || (cfg0.idle 3 (cfg0.grid.coords t) && freshTab0_3 t.val)) := by decide +kernel
theorem fresh0_3_eq (t : Fin cfg0.N) : cfg0.fresh 3 t.val = freshTab0_3 t.val :=
  Pipeline.Cfg.fresh_tab cfg0 3 freshTab0_3 rfl freshTab0_3_step t.val (Nat.le_of_lt t.isLt)
/-- At the points of case A the printed configuration (`Cfg.idle`) calls output 3 live: the case stores into it. -/
theorem liveAt0_3_A : ∀ t : Fin cfg0.N, cond0_0 (grid0.coords t) → ¬cond0_1 (grid0.coords t) → cfg0.idle 3 (grid0.coords t) = false := by decide +kernel
/-- At the points of case B the printed configuration (`Cfg.idle`) calls output 3 live: the case stores into it. -/
theorem liveAt0_3_B : ∀ t : Fin cfg0.N, ¬cond0_0 (grid0.coords t) → cond0_1 (grid0.coords t) → cfg0.idle 3 (grid0.coords t) = false := by decide +kernel
/-- At the points of case B, which keeps output 3's prior contents (reads it before covering, or covers it in part), the
    window's buffer is not FRESH: something was stored into it since the region's entry or its last write-back, idle points
    between or not (Lib/Pipeline/TableIdle.lean `Cfg.fresh`, by the table `freshTab0_3`). -/
theorem notFresh0_3_B : ∀ t : Fin cfg0.N, ¬cond0_0 (grid0.coords t) → cond0_1 (grid0.coords t) → cfg0.fresh 3 t.val = false := by
  intro t; rw [fresh0_3_eq t]; revert t; decide +kernel

/-! ## The kernel body on any staging memrefs: a subtype the run finds -/

/-- One staging buffer of output window 3, through which its contents are stated (`View.read_writes_of_cover`: the
    choice does not matter). -/
abbrev VO0_3 : View sig .tc .vmem S1024x128 .bf16 := (Memref.whole cc0_stg3_0 : Memref sig .tc .vmem S1024x128 .bf16).view
/-- One staging buffer of output window 4, through which its contents are stated (`View.read_writes_of_cover`: the
    choice does not matter). -/
abbrev VO0_4 : View sig .tc .vmem S1024x128 .f32 := (Memref.whole cc0_stg4_0 : Memref sig .tc .vmem S1024x128 .f32).view
/-- Each window's current staging memref at point `t`, spelled as the pipeline passes it (`bodyAt0`), and its wholeness. -/
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2304x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2304x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)

end Cert.KernelIdeal.Fwd

end
-- ==== Proof.Fwd.RunA.lean ====
module

public import proofs.«01_k».proof.Proof.Fwd.Runs

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 2, … 14: 8 of 16), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .f32) (harg6 : arg6.IsWhole) (hc0 : cond0_0 i) (hc1 : ¬cond0_1 i)
    (x0 : Vec F S1024x128 .bf16) (x1 : Vec F S2304x128 .bf16) (x2 : Vec F S2304x128 .bf16) :
    Σ' (L3 : List (View.Piece (Elt F) S1024x128 .bf16)), { L4 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0_attn_fwd i arg2 harg2 arg3 harg3 arg4 harg4 arg5 harg5 arg6 harg6) K } := by
  refine ⟨?_, ?_, fun E K => ?run⟩
  case run =>
    simp only [cc0_attn_fwd_eq_skeleton]; unfold cc0_attn_fwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Fwd

end
-- ==== Proof.Fwd.RunB.lean ====
module

public import proofs.«01_k».proof.Proof.Fwd.RunA

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 3, … 15: 8 of 16), WITH the
    proof that on whole staging memrefs — the inputs' at their contents, the outputs it reads before covering (3) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .f32) (harg6 : arg6.IsWhole) (hc0 : ¬cond0_0 i) (hc1 : cond0_1 i)
    (x0 : Vec F S1024x128 .bf16) (x1 : Vec F S2304x128 .bf16) (x2 : Vec F S2304x128 .bf16) (xo3 : Vec F S1024x128 .bf16) :
    Σ' (L3 : List (View.Piece (Elt F) S1024x128 .bf16)), { L4 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0_attn_fwd i arg2 harg2 arg3 harg3 arg4 harg4 arg5 harg5 arg6 harg6) K } := by
  refine ⟨?_, ?_, fun E K => ?run⟩
  case run =>
    simp only [cc0_attn_fwd_eq_skeleton]; unfold cc0_attn_fwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Fwd

end
-- ==== Proof.Fwd.Frame.lean ====
module

public import proofs.«01_k».proof.Proof.Fwd.RunB
public import Idealize.ShloMosaic.Lib.Claim

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))
/-- Case A's pieces for output 3 tile its block (1 store of `S1024x128`, checked by the kernel's evaluation: Lib/Ring.lean `Piece.tiledL`, linear in the pieces, through a loop's `@[irreducible]` trip theorem too), so they cover it. -/
theorem cover0_A_3 (c : Dev nD) (i : grid0.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .f32) (harg6 : arg6.IsWhole) (hc0 : cond0_0 i) (hc1 : ¬cond0_1 i)
    (x0 : Vec F S1024x128 .bf16) (x1 : Vec F S2304x128 .bf16) (x2 : Vec F S2304x128 .bf16) (y : S1024x128.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S1024x128.size (by sl_kernel_rfl) y

/-- What case A leaves in output 3's staging buffer: its pieces read back over junk. -/
def out0_A_3 (c : Dev nD) (i : grid0.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .f32) (harg6 : arg6.IsWhole) (hc0 : cond0_0 i) (hc1 : ¬cond0_1 i)
    (x0 : Vec F S1024x128 .bf16) (x1 : Vec F S2304x128 .bf16) (x2 : Vec F S2304x128 .bf16) : Vec F S1024x128 .bf16 :=
  VO0_3.read (Elt F) (VO0_3.writes (Elt F) VO0_3.junk (kernelRun0_A c i arg2 harg2 arg3 harg3 arg4 harg4 arg5 harg5 arg6 harg6 hc0 hc1 x0 x1 x2).1)

/-- Case A's pieces for output 4 tile its block (1 store of `S1024x128`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .f32) (harg6 : arg6.IsWhole) (hc0 : cond0_0 i) (hc1 : ¬cond0_1 i)
    (x0 : Vec F S1024x128 .bf16) (x1 : Vec F S2304x128 .bf16) (x2 : Vec F S2304x128 .bf16) (y : S1024x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x128.size (by sl_kernel_rfl) y

/-- What case A leaves in output 4's staging buffer: its pieces read back over junk. -/
def out0_A_4 (c : Dev nD) (i : grid0.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .f32) (harg6 : arg6.IsWhole) (hc0 : cond0_0 i) (hc1 : ¬cond0_1 i)
    (x0 : Vec F S1024x128 .bf16) (x1 : Vec F S2304x128 .bf16) (x2 : Vec F S2304x128 .bf16) : Vec F S1024x128 .f32 :=
  VO0_4.read (Elt F) (VO0_4.writes (Elt F) VO0_4.junk (kernelRun0_A c i arg2 harg2 arg3 harg3 arg4 harg4 arg5 harg5 arg6 harg6 hc0 hc1 x0 x1 x2).2.1)

/-- Case B's pieces for output 3 tile its block (1 store of `S1024x128`, checked by the kernel's evaluation: Lib/Ring.lean `Piece.tiledL`, linear in the pieces, through a loop's `@[irreducible]` trip theorem too), so they cover it. -/
theorem cover0_B_3 (c : Dev nD) (i : grid0.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .f32) (harg6 : arg6.IsWhole) (hc0 : ¬cond0_0 i) (hc1 : cond0_1 i)
    (x0 : Vec F S1024x128 .bf16) (x1 : Vec F S2304x128 .bf16) (x2 : Vec F S2304x128 .bf16) (xo3 : Vec F S1024x128 .bf16) (y : S1024x128.Idx) :
    ∃ pc ∈ (kernelRun0_B c i arg2 harg2 arg3 harg3 arg4 harg4 arg5 harg5 arg6 harg6 hc0 hc1 x0 x1 x2 xo3).1, y ∈ pc.1.set :=
  View.cover_of_tiledL (kernelRun0_B c i arg2 harg2 arg3 harg3 arg4 harg4 arg5 harg5 arg6 harg6 hc0 hc1 x0 x1 x2 xo3).1 S1024x128.size (by sl_kernel_rfl) y

/-- What case B leaves in output 3's staging buffer: its pieces read back over junk. -/
def out0_B_3 (c : Dev nD) (i : grid0.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .f32) (harg6 : arg6.IsWhole) (hc0 : ¬cond0_0 i) (hc1 : cond0_1 i)
    (x0 : Vec F S1024x128 .bf16) (x1 : Vec F S2304x128 .bf16) (x2 : Vec F S2304x128 .bf16) (xo3 : Vec F S1024x128 .bf16) : Vec F S1024x128 .bf16 :=
  VO0_3.read (Elt F) (VO0_3.writes (Elt F) VO0_3.junk (kernelRun0_B c i arg2 harg2 arg3 harg3 arg4 harg4 arg5 harg5 arg6 harg6 hc0 hc1 x0 x1 x2 xo3).1)

/-- Case B's pieces for output 4 tile its block (1 store of `S1024x128`, checked by the kernel's evaluation: Lib/Ring.lean `Piece.tiledL`, linear in the pieces, through a loop's `@[irreducible]` trip theorem too), so they cover it. -/
theorem cover0_B_4 (c : Dev nD) (i : grid0.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .f32) (harg6 : arg6.IsWhole) (hc0 : ¬cond0_0 i) (hc1 : cond0_1 i)
    (x0 : Vec F S1024x128 .bf16) (x1 : Vec F S2304x128 .bf16) (x2 : Vec F S2304x128 .bf16) (xo3 : Vec F S1024x128 .bf16) (y : S1024x128.Idx) :
    ∃ pc ∈ (kernelRun0_B c i arg2 harg2 arg3 harg3 arg4 harg4 arg5 harg5 arg6 harg6 hc0 hc1 x0 x1 x2 xo3).2.1, y ∈ pc.1.set :=
  View.cover_of_tiledL (kernelRun0_B c i arg2 harg2 arg3 harg3 arg4 harg4 arg5 harg5 arg6 harg6 hc0 hc1 x0 x1 x2 xo3).2.1 S1024x128.size (by sl_kernel_rfl) y

/-- What case B leaves in output 4's staging buffer: its pieces read back over junk. -/
def out0_B_4 (c : Dev nD) (i : grid0.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .f32) (harg6 : arg6.IsWhole) (hc0 : ¬cond0_0 i) (hc1 : cond0_1 i)
    (x0 : Vec F S1024x128 .bf16) (x1 : Vec F S2304x128 .bf16) (x2 : Vec F S2304x128 .bf16) (xo3 : Vec F S1024x128 .bf16) : Vec F S1024x128 .f32 :=
  VO0_4.read (Elt F) (VO0_4.writes (Elt F) VO0_4.junk (kernelRun0_B c i arg2 harg2 arg3 harg3 arg4 harg4 arg5 harg5 arg6 harg6 hc0 hc1 x0 x1 x2 xo3).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1024x128 .bf16 × Vec F S1024x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk W c 0 ⟨0, hn⟩) (iblk W c 1 ⟨0, hn⟩) (iblk W c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk W c 0 ⟨0, hn⟩) (iblk W c 1 ⟨0, hn⟩) (iblk W c 2 ⟨0, hn⟩))
  | n + 1, hn =>
    if h0 : (n + 1) % 2 = 0 then
      if h1 : (n + 1) % 2 = 1 then
        False.elim (by have hN : n + 1 < 16 := lt_of_lt_of_eq hn (show cfg0.N = 16 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk W c 0 ⟨n + 1, hn⟩) (iblk W c 1 ⟨n + 1, hn⟩) (iblk W c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk W c 0 ⟨n + 1, hn⟩) (iblk W c 1 ⟨n + 1, hn⟩) (iblk W c 2 ⟨n + 1, hn⟩))
    else
      if h1 : (n + 1) % 2 = 1 then
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk W c 0 ⟨n + 1, hn⟩) (iblk W c 1 ⟨n + 1, hn⟩) (iblk W c 2 ⟨n + 1, hn⟩) (outsAt0 c n (Nat.lt_of_succ_lt hn)).1, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk W c 0 ⟨n + 1, hn⟩) (iblk W c 1 ⟨n + 1, hn⟩) (iblk W c 2 ⟨n + 1, hn⟩) (outsAt0 c n (Nat.lt_of_succ_lt hn)).1)
      else
        False.elim (by have hN : n + 1 < 16 := lt_of_lt_of_eq hn (show cfg0.N = 16 from N_0); omega)

/-- `outsAt0` at a point of case A: that case's contents. -/
theorem outsAt0_A (c : Dev nD) (t : Fin cfg0.N) (h0 : t.val % 2 = 0) (h1 : ¬t.val % 2 = 1) :
    outsAt0 W c t.val t.isLt = (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk W c 0 t) (iblk W c 1 t) (iblk W c 2 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk W c 0 t) (iblk W c 1 t) (iblk W c 2 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 2 = 0) (h1 : t.val % 2 = 1) :
    outsAt0 W c t.val t.isLt = (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk W c 0 t) (iblk W c 1 t) (iblk W c 2 t) (outsAt0 W c (t.val - 1) (Nat.lt_of_le_of_lt (Nat.sub_le _ _) t.isLt)).1, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk W c 0 t) (iblk W c 1 t) (iblk W c 2 t) (outsAt0 W c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (c : Dev nD) : Dat τ (Elt F) Unit ℕ (UR sig nD τ) ℕ cfg0 c where
  A w := V W c (Pipeline.arrRef spec0 w)
  after w t := match w with
    | ⟨0, _⟩ => iblk W c 0 t
    | ⟨1, _⟩ => iblk W c 1 t
    | ⟨2, _⟩ => iblk W c 2 t
    | ⟨3, _⟩ => (outsAt0 W c t.val t.isLt).1
    | ⟨4, _⟩ => (outsAt0 W c t.val t.isLt).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats W c).A w = V W c (Pipeline.arrRef spec0 w) := by
  dsimp only [dats]

/-- What the body leaves, window by window (the proof data's `match` reduced by `dsimp`). -/
theorem after0_0 (c : Dev nD) (t : Fin cfg0.N) : (dats W c).after 0 t = iblk W c 0 t := by dsimp only [dats]
theorem after0_1 (c : Dev nD) (t : Fin cfg0.N) : (dats W c).after 1 t = iblk W c 1 t := by dsimp only [dats]
theorem after0_2 (c : Dev nD) (t : Fin cfg0.N) : (dats W c).after 2 t = iblk W c 2 t := by dsimp only [dats]
theorem after0_3 (c : Dev nD) (t : Fin cfg0.N) : (dats W c).after 3 t = (outsAt0 W c t.val t.isLt).1 := by dsimp only [dats]
theorem after0_4 (c : Dev nD) (t : Fin cfg0.N) : (dats W c).after 4 t = (outsAt0 W c t.val t.isLt).2 := by dsimp only [dats]

/-- Each input's current staging buffer holds its block at every point, fetched there or not (`beforeK_W_of`). -/
theorem before0_0 (c : Dev nD) (t : Fin cfg0.N) (d) : (dats W c).before 0 t d = iblk W c 0 t :=
  before0_0_of W (dats W c) (A_eq W c 0) (after0_0 W c) t d
theorem before0_1 (c : Dev nD) (t : Fin cfg0.N) (d) : (dats W c).before 1 t d = iblk W c 1 t :=
  before0_1_of W (dats W c) (A_eq W c 1) (after0_1 W c) t d
theorem before0_2 (c : Dev nD) (t : Fin cfg0.N) (d) : (dats W c).before 2 t d = iblk W c 2 t :=
  before0_2_of W (dats W c) (A_eq W c 2) (after0_2 W c) t d

/-- Output 3's contents CARRY through the points that leave it idle: at such a point, its buffer not fresh, the proof data's
    `after` is the point before's (the case there stores nothing into the window and its term says so; a case that stores
    into it is not idle there by `liveAt0_3_κ`) — the hypothesis of Lib/Pipeline/TableIdle.lean `Dat.before_out_traj`. -/
theorem hcarry0_3 (c : Dev nD) : ∀ (t : Fin cfg0.N) (_ : t.val ≠ 0), cfg0.idle 3 (grid0.coords t) = true → cfg0.fresh 3 t.val = false →
    (dats W c).after 3 t = (dats W c).after 3 ⟨t.val - 1, by omega⟩ := by
  intro t _ hi _
  have hN : t.val < 16 := lt_of_lt_of_eq t.isLt (show cfg0.N = 16 from N_0)
  rw [after0_3, after0_3]
  by_cases h0 : t.val % 2 = 0
  · by_cases h1 : t.val % 2 = 1
    · exfalso; omega
    · rw [liveAt0_3_A t ((hcond0_0 t).mpr h0) (fun h => h1 ((hcond0_1 t).mp h))] at hi
      exact absurd hi Bool.false_ne_true
  · by_cases h1 : t.val % 2 = 1
    · rw [liveAt0_3_B t (fun h => h0 ((hcond0_0 t).mp h)) ((hcond0_1 t).mpr h1)] at hi
      exact absurd hi Bool.false_ne_true
    · exfalso; omega
/-- At a point of case B output 3's current staging buffer holds what the point before left: the buffer is not fresh
    there (`notFresh0_3_B`: stored into since the region's entry or the last write-back, carried through the points that
    leave it idle by `hcarry0_3`; Lib/Pipeline/TableIdle.lean `Dat.before_out_traj`). -/
theorem before0_3_B (c : Dev nD) (t : Fin cfg0.N) (h0 : ¬t.val % 2 = 0) (h1 : t.val % 2 = 1) (d) :
    (dats W c).before 3 t d = (outsAt0 W c (t.val - 1) (Nat.lt_of_le_of_lt (Nat.sub_le _ _) t.isLt)).1 := by
  rw [Dat.before_out_traj _ 3 rfl (fun _ _ => rfl) (hcarry0_3 W c) t.val t rfl d,
    if_neg (by rw [notFresh0_3_B t (fun h => h0 ((hcond0_0 t).mp h)) ((hcond0_1 t).mpr h1)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats W c).Φ t.castSucc ∗ (dats W c).owesAt () t.castSucc
    ∗ (∃ d, owns (c : Thread nD τ) (ms0_0 t) fullShare ((dats W c).before 0 t d))
    ∗ (∃ d, owns (c : Thread nD τ) (ms0_1 t) fullShare ((dats W c).before 1 t d))
    ∗ (∃ d, owns (c : Thread nD τ) (ms0_2 t) fullShare ((dats W c).before 2 t d))
    ∗ (∃ d, owns (c : Thread nD τ) (ms0_3 t) fullShare ((dats W c).before 3 t d))
    ∗ (∃ d, owns (c : Thread nD τ) (ms0_4 t) fullShare ((dats W c).before 4 t d)))

/-- and what it returns. -/
def bodyPost (c : Dev nD) (t : Fin cfg0.N) : sProp 𝕄 :=
  iprop((dats W c).Φ t.succ ∗ (dats W c).owesAt () t.succ
    ∗ (dats W c).leavesExact 0 t
    ∗ (dats W c).leavesExact 1 t
    ∗ (dats W c).leavesExact 2 t
    ∗ (dats W c).leavesExact 3 t
    ∗ (dats W c).leavesExact 4 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0_0, before0_1, before0_2]
  rw [show (dats W c).Φ t.succ = (dats W c).Φ t.castSucc from rfl,
    show (dats W c).owesAt () t.succ = (dats W c).owesAt () t.castSucc from rfl]
  have hN : t.val < 16 := lt_of_lt_of_eq t.isLt (show cfg0.N = 16 from N_0)
  by_cases h0 : t.val % 2 = 0
  · by_cases h1 : t.val % 2 = 1
    · exfalso; omega
    · rw [show (dats W c).leavesExact 0 t = owns (c : Thread nD τ) (ms0_0 t) fullShare ((dats W c).after 0 t) from by
      unfold Dat.leavesExact; rw [liveAt0_0 t], after0_0]
      rw [show (dats W c).leavesExact 1 t = owns (c : Thread nD τ) (ms0_1 t) fullShare ((dats W c).after 1 t) from by
      unfold Dat.leavesExact; rw [liveAt0_1 t], after0_1]
      rw [show (dats W c).leavesExact 2 t = owns (c : Thread nD τ) (ms0_2 t) fullShare ((dats W c).after 2 t) from by
      unfold Dat.leavesExact; rw [liveAt0_2 t], after0_2]
      rw [show (dats W c).leavesExact 3 t = owns (c : Thread nD τ) (ms0_3 t) fullShare ((dats W c).after 3 t) from by
      unfold Dat.leavesExact; rw [liveAt0_3_A t ((hcond0_0 t).mpr h0) (fun h => h1 ((hcond0_1 t).mp h))], after0_3]
      rw [show (dats W c).leavesExact 4 t = owns (c : Thread nD τ) (ms0_4 t) fullShare ((dats W c).after 4 t) from by
      unfold Dat.leavesExact; rw [liveAt0_4 t], after0_4]
      rw [outsAt0_A W c t h0 h1]
      unfold out0_A_3 out0_A_4; (try dsimp only)
      iintro ⟨HΦ, Ho, ⟨%d0, H0⟩, ⟨%d1, H1⟩, ⟨%d2, H2⟩, ⟨%d3, H3⟩, ⟨%d4, H4⟩⟩
      iapply ((kernelRun0_A c (grid0.coords t) _ _ _ _ _ _ _ _ _ _ ((hcond0_0 t).mpr h0) (fun h => h1 ((hcond0_1 t).mp h)) (iblk W c 0 t) (iblk W c 1 t) (iblk W c 2 t)).2.2 Set.univ _)
      isplitl [H0]; · iexact H0
      isplitl [H1]; · iexact H1
      isplitl [H2]; · iexact H2
      isplitl [H3]; · iexists _; iexact H3
      isplitl [H4]; · iexists _; iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _)
      unfold owns; iexists _; isplitr
      swap; · iexact H4
      ipureintro; exact View.read_writes_of_cover _ _ _ _ _ (cover0_A_4 c _ _ _ _ _ _ _ _ _ _ _ _ _ _ _ _)
  · by_cases h1 : t.val % 2 = 1
    · rw [show (dats W c).leavesExact 0 t = owns (c : Thread nD τ) (ms0_0 t) fullShare ((dats W c).after 0 t) from by
      unfold Dat.leavesExact; rw [liveAt0_0 t], after0_0]
      rw [show (dats W c).leavesExact 1 t = owns (c : Thread nD τ) (ms0_1 t) fullShare ((dats W c).after 1 t) from by
      unfold Dat.leavesExact; rw [liveAt0_1 t], after0_1]
      rw [show (dats W c).leavesExact 2 t = owns (c : Thread nD τ) (ms0_2 t) fullShare ((dats W c).after 2 t) from by
      unfold Dat.leavesExact; rw [liveAt0_2 t], after0_2]
      rw [show (dats W c).leavesExact 3 t = owns (c : Thread nD τ) (ms0_3 t) fullShare ((dats W c).after 3 t) from by
      unfold Dat.leavesExact; rw [liveAt0_3_B t (fun h => h0 ((hcond0_0 t).mp h)) ((hcond0_1 t).mpr h1)], after0_3]
      rw [show (dats W c).leavesExact 4 t = owns (c : Thread nD τ) (ms0_4 t) fullShare ((dats W c).after 4 t) from by
      unfold Dat.leavesExact; rw [liveAt0_4 t], after0_4]
      rw [outsAt0_B W c t h0 h1]
      simp only [before0_3_B W c t h0 h1]
      unfold out0_B_3 out0_B_4; (try dsimp only)
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ (fun h => h0 ((hcond0_0 t).mp h)) ((hcond0_1 t).mpr h1) (iblk W c 0 t) (iblk W c 1 t) (iblk W c 2 t) _).2.2 Set.univ _)
      isplitl [H0]; · iexact H0
      isplitl [H1]; · iexact H1
      isplitl [H2]; · iexact H2
      isplitl [H3]; · iexact H3
      isplitl [H4]; · iexists _; iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _)
      unfold owns; iexists _; isplitr
      swap; · iexact H4
      ipureintro; exact View.read_writes_of_cover _ _ _ _ _ (cover0_B_4 c _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) W c) (defs₀ (F := F)) Variants.none () Set.univ := fun t => by
  rw [bigSep_W0, bigSep_W0, defs₀_row]
  exact triple_restated (sound_body W c t) rfl .rfl fun _ => .rfl

end Cert.KernelIdeal.Fwd

end
-- ==== Proof.Bwd.Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))
/-- Core `c`'s TensorCore buffers when the region is entered. -/
abbrev V (c : Dev nD) (b : Ref sig .tc) : Buf (Elt F) ((c : Thread nD τ).loc b) := W c (Proc.devRef .tc b)

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V W c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V W c (Pipeline.arrRef spec1 0))
    (hafter : ∀ t, dat.after 0 t = iblk W c 0 t) (t : Fin cfg1.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V W c (Pipeline.arrRef spec1 1))
    (hafter : ∀ t, dat.after 1 t = iblk W c 1 t) (t : Fin cfg1.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V W c (Pipeline.arrRef spec1 2))
    (hafter : ∀ t, dat.after 2 t = iblk W c 2 t) (t : Fin cfg1.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V W c (Pipeline.arrRef spec1 3))
    (hafter : ∀ t, dat.after 3 t = iblk W c 3 t) (t : Fin cfg1.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V W c (Pipeline.arrRef spec1 4))
    (hafter : ∀ t, dat.after 4 t = iblk W c 4 t) (t : Fin cfg1.N) (d) : dat.before 4 t d = iblk W c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V W c (Pipeline.arrRef spec1 5))
    (hafter : ∀ t, dat.after 5 t = iblk W c 5 t) (t : Fin cfg1.N) (d) : dat.before 5 t d = iblk W c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 2) — by arithmetic of the point. -/
theorem hcond1_0 : ∀ t : Fin cfg1.N, cond1_0 (grid1.coords t) ↔ t.val % 2 = 0 :=
  (fun t => by
    have ht : t.val < 16 := Nat.lt_of_lt_of_eq t.isLt N_1
    have e0 : (grid1.coords t 0).val = t.val / 2 % 8 := Pipeline.Grid.coords_val t 0 (by decide) rfl
    have e1 : (grid1.coords t 1).val = t.val / 1 % 2 := Pipeline.Grid.coords_val t 1 (by decide) rfl
    simp only [cond1_0, e0, e1]
    word_cmp
   : ∀ t : Fin grid1.N, cond1_0 (grid1.coords t) ↔ t.val % 2 = 0)

/-- The condition of the body's `scf.if` 1 (`k0_h2`), from the grid coordinates (the skeleton's scalar
    chain substituted). -/
abbrev cond1_1 (i : grid1.Coords) : Prop := (Scalar.cmpi .ne (Scalar.extui (Scalar.andi (Scalar.cmpi .eq (BitVec.ofNat 32 (i 1).val) 0#32) (Scalar.cmpi .eq (Scalar.select (Scalar.andi (Scalar.xori (Scalar.cmpi .slt (Scalar.remsi (BitVec.ofNat 32 (i 0).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 0).val) (Scalar.select (Scalar.cmpi .eq 2#32 0#32) 1#32 2#32)) 0#32)) (Scalar.addi (Scalar.remsi (BitVec.ofNat 32 (i 0).val) (Scalar.select (Scalar.cmpi .eq 2#32 0#32) 1#32 2#32)) (Scalar.select (Scalar.cmpi .eq 2#32 0#32) 1#32 2#32)) (Scalar.remsi (BitVec.ofNat 32 (i 0).val) (Scalar.select (Scalar.cmpi .eq 2#32 0#32) 1#32 2#32))) 0#32))) 0#32) = 1#1
/-- It holds at the points ≡ 0 (mod 4) — decided over the grid. -/
theorem hcond1_1 : ∀ t : Fin cfg1.N, cond1_1 (grid1.coords t) ↔ t.val % 4 = 0 :=
  (by decide +kernel : ∀ t : Fin grid1.N, cond1_1 (grid1.coords t) ↔ t.val % 4 = 0)

/-! ## The kernel body on any staging memrefs: a subtype the run finds -/

/-- One staging buffer of output window 6, through which its contents are stated (`View.read_writes_of_cover`: the
    choice does not matter). -/
abbrev VO1_6 : View sig .tc .vmem S1024x128 .f32 := (Memref.whole cc1_stg6_0 : Memref sig .tc .vmem S1024x128 .f32).view
/-- One staging buffer of output window 7, through which its contents are stated (`View.read_writes_of_cover`: the
    choice does not matter). -/
abbrev VO1_7 : View sig .tc .vmem S2304x128 .f32 := (Memref.whole cc1_stg7_0 : Memref sig .tc .vmem S2304x128 .f32).view
/-- One staging buffer of output window 8, through which its contents are stated (`View.read_writes_of_cover`: the
    choice does not matter). -/
abbrev VO1_8 : View sig .tc .vmem S2304x128 .f32 := (Memref.whole cc1_stg8_0 : Memref sig .tc .vmem S2304x128 .f32).view
/-- Each window's current staging memref at point `t`, spelled as the pipeline passes it (`bodyAt0`), and its wholeness. -/
abbrev ms1_0 (t : Fin cfg1.N) : Memref sig .tc .vmem S1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2304x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2304x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2304x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2304x128 .f32 := win1_8.stage (cfg1.slots t 8)
abbrev hs1_8 (t : Fin cfg1.N) : (ms1_8 t).IsWhole := hstage1_8 ((cfg1.slots t 8).cast nbuf1_8)

end Cert.KernelIdeal.Bwd

end
-- ==== Proof.Bwd.RunA.lean ====
module

public import proofs.«01_k».proof.Proof.Bwd.Runs

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

-- (the run's proof term is large: the definition's epilogue — `abstractNestedProofs` — walks it past the default budget)
set_option maxHeartbeats 1000000 in
/-- What the body's stores leave in each output's staging memref, as pieces (last first) IN CASE A (`scf.if` 0 taken, `scf.if` 1 taken: points 0, 4, 8, 12), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2304x128 .f32) (harg9 : arg9.IsWhole) (arg10 : Memref sig .tc .vmem S2304x128 .f32) (harg10 : arg10.IsWhole) (hc0 : cond1_0 i) (hc1 : cond1_1 i)
    (x0 : Vec F S1024x128 .bf16) (x1 : Vec F S2304x128 .bf16) (x2 : Vec F S2304x128 .bf16) (x3 : Vec F S1024x128 .bf16) (x4 : Vec F S1024x128 .bf16) (x5 : Vec F S1024x128 .f32) :
    Σ' (L6 : List (View.Piece (Elt F) S1024x128 .f32)), Σ' (L7 : List (View.Piece (Elt F) S2304x128 .f32)), { L8 : List (View.Piece (Elt F) S2304x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc1_attn_bwd i arg2 harg2 arg3 harg3 arg4 harg4 arg5 harg5 arg6 harg6 arg7 harg7 arg8 harg8 arg9 harg9 arg10 harg10) K } := by
  refine ⟨?_, ?_, ?_, fun E K => ?run⟩
  case run =>
    simp only [cc1_attn_bwd_eq_skeleton]; unfold cc1_attn_bwd_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact H8

end Cert.KernelIdeal.Bwd

end
-- ==== Proof.Bwd.RunB.lean ====
module

public import proofs.«01_k».proof.Proof.Bwd.RunA

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 3, … 15: 8 of 16), WITH the
    proof that on whole staging memrefs — the inputs' at their contents, the outputs it reads before covering (7, 8) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2304x128 .f32) (harg9 : arg9.IsWhole) (arg10 : Memref sig .tc .vmem S2304x128 .f32) (harg10 : arg10.IsWhole) (hc0 : ¬cond1_0 i) (hc1 : ¬cond1_1 i)
    (x0 : Vec F S1024x128 .bf16) (x1 : Vec F S2304x128 .bf16) (x2 : Vec F S2304x128 .bf16) (x3 : Vec F S1024x128 .bf16) (x4 : Vec F S1024x128 .bf16) (x5 : Vec F S1024x128 .f32) (xo7 : Vec F S2304x128 .f32) (xo8 : Vec F S2304x128 .f32) :
    Σ' (L6 : List (View.Piece (Elt F) S1024x128 .f32)), Σ' (L7 : List (View.Piece (Elt F) S2304x128 .f32)), { L8 : List (View.Piece (Elt F) S2304x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7 ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc1_attn_bwd i arg2 harg2 arg3 harg3 arg4 harg4 arg5 harg5 arg6 harg6 arg7 harg7 arg8 harg8 arg9 harg9 arg10 harg10) K } := by
  refine ⟨?_, ?_, ?_, fun E K => ?run⟩
  case run =>
    simp only [cc1_attn_bwd_eq_skeleton]; unfold cc1_attn_bwd_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact H8

end Cert.KernelIdeal.Bwd

end
-- ==== Proof.Bwd.RunC.lean ====
module

public import proofs.«01_k».proof.Proof.Bwd.RunB

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

-- (the run's proof term is large: the definition's epilogue — `abstractNestedProofs` — walks it past the default budget)
set_option maxHeartbeats 1000000 in
/-- What the body's stores leave in each output's staging memref, as pieces (last first) IN CASE C (`scf.if` 0 taken, `scf.if` 1 not taken: points 2, 6, 10, 14), WITH the
    proof that on whole staging memrefs — the inputs' at their contents, the outputs it reads before covering (8) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2304x128 .f32) (harg9 : arg9.IsWhole) (arg10 : Memref sig .tc .vmem S2304x128 .f32) (harg10 : arg10.IsWhole) (hc0 : cond1_0 i) (hc1 : ¬cond1_1 i)
    (x0 : Vec F S1024x128 .bf16) (x1 : Vec F S2304x128 .bf16) (x2 : Vec F S2304x128 .bf16) (x3 : Vec F S1024x128 .bf16) (x4 : Vec F S1024x128 .bf16) (x5 : Vec F S1024x128 .f32) (xo8 : Vec F S2304x128 .f32) :
    Σ' (L6 : List (View.Piece (Elt F) S1024x128 .f32)), Σ' (L7 : List (View.Piece (Elt F) S2304x128 .f32)), { L8 : List (View.Piece (Elt F) S2304x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc1_attn_bwd i arg2 harg2 arg3 harg3 arg4 harg4 arg5 harg5 arg6 harg6 arg7 harg7 arg8 harg8 arg9 harg9 arg10 harg10) K } := by
  refine ⟨?_, ?_, ?_, fun E K => ?run⟩
  case run =>
    simp only [cc1_attn_bwd_eq_skeleton]; unfold cc1_attn_bwd_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact H8

end Cert.KernelIdeal.Bwd

end
-- ==== Proof.Bwd.Frame.lean ====
module

public import proofs.«01_k».proof.Proof.Bwd.RunC
public import Idealize.ShloMosaic.Lib.Claim

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))
/-- Case A's pieces for output 6 tile its block (1 store of `S1024x128`, checked by the kernel's evaluation: Lib/Ring.lean `Piece.tiledL`, linear in the pieces, through a loop's `@[irreducible]` trip theorem too), so they cover it. -/
theorem cover1_A_6 (c : Dev nD) (i : grid1.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2304x128 .f32) (harg9 : arg9.IsWhole) (arg10 : Memref sig .tc .vmem S2304x128 .f32) (harg10 : arg10.IsWhole) (hc0 : cond1_0 i) (hc1 : cond1_1 i)
    (x0 : Vec F S1024x128 .bf16) (x1 : Vec F S2304x128 .bf16) (x2 : Vec F S2304x128 .bf16) (x3 : Vec F S1024x128 .bf16) (x4 : Vec F S1024x128 .bf16) (x5 : Vec F S1024x128 .f32) (y : S1024x128.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5).1 S1024x128.size (by sl_kernel_rfl) y

/-- What case A leaves in output 6's staging buffer: its pieces read back over junk. -/
def out1_A_6 (c : Dev nD) (i : grid1.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2304x128 .f32) (harg9 : arg9.IsWhole) (arg10 : Memref sig .tc .vmem S2304x128 .f32) (harg10 : arg10.IsWhole) (hc0 : cond1_0 i) (hc1 : cond1_1 i)
    (x0 : Vec F S1024x128 .bf16) (x1 : Vec F S2304x128 .bf16) (x2 : Vec F S2304x128 .bf16) (x3 : Vec F S1024x128 .bf16) (x4 : Vec F S1024x128 .bf16) (x5 : Vec F S1024x128 .f32) : Vec F S1024x128 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 hc0 hc1 x0 x1 x2 x3 x4 x5).1)

/-- Case A's pieces for output 7 are of SEVERAL sizes (4 stores of `S2304x128`, `S768x128`): cut into blocks of `![768, 128]` they tile its block (checked by the kernel's evaluation: Lib/Ring.lean `Piece.tiledBy`), so they cover it. -/
theorem cover1_A_7 (c : Dev nD) (i : grid1.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2304x128 .f32) (harg9 : arg9.IsWhole) (arg10 : Memref sig .tc .vmem S2304x128 .f32) (harg10 : arg10.IsWhole) (hc0 : cond1_0 i) (hc1 : cond1_1 i)
    (x0 : Vec F S1024x128 .bf16) (x1 : Vec F S2304x128 .bf16) (x2 : Vec F S2304x128 .bf16) (x3 : Vec F S1024x128 .bf16) (x4 : Vec F S1024x128 .bf16) (x5 : Vec F S1024x128 .f32) (y : S2304x128.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledBy (kernelRun1_A c i arg2 harg2 arg3 harg3 arg4 harg4 arg5 harg5 arg6 harg6 arg7 harg7 arg8 harg8 arg9 harg9 arg10 harg10 hc0 hc1 x0 x1 x2 x3 x4 x5).2.1 ![768, 128] (by sl_kernel_rfl) y

/-- What case A leaves in output 7's staging buffer: its pieces read back over junk. -/
def out1_A_7 (c : Dev nD) (i : grid1.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2304x128 .f32) (harg9 : arg9.IsWhole) (arg10 : Memref sig .tc .vmem S2304x128 .f32) (harg10 : arg10.IsWhole) (hc0 : cond1_0 i) (hc1 : cond1_1 i)
    (x0 : Vec F S1024x128 .bf16) (x1 : Vec F S2304x128 .bf16) (x2 : Vec F S2304x128 .bf16) (x3 : Vec F S1024x128 .bf16) (x4 : Vec F S1024x128 .bf16) (x5 : Vec F S1024x128 .f32) : Vec F S2304x128 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 hc0 hc1 x0 x1 x2 x3 x4 x5).2.1)

/-- Case A's pieces for output 8 are of SEVERAL sizes (4 stores of `S2304x128`, `S768x128`): cut into blocks of `![768, 128]` they tile its block (checked by the kernel's evaluation: Lib/Ring.lean `Piece.tiledBy`), so they cover it. -/
theorem cover1_A_8 (c : Dev nD) (i : grid1.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2304x128 .f32) (harg9 : arg9.IsWhole) (arg10 : Memref sig .tc .vmem S2304x128 .f32) (harg10 : arg10.IsWhole) (hc0 : cond1_0 i) (hc1 : cond1_1 i)
    (x0 : Vec F S1024x128 .bf16) (x1 : Vec F S2304x128 .bf16) (x2 : Vec F S2304x128 .bf16) (x3 : Vec F S1024x128 .bf16) (x4 : Vec F S1024x128 .bf16) (x5 : Vec F S1024x128 .f32) (y : S2304x128.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledBy (kernelRun1_A c i arg2 harg2 arg3 harg3 arg4 harg4 arg5 harg5 arg6 harg6 arg7 harg7 arg8 harg8 arg9 harg9 arg10 harg10 hc0 hc1 x0 x1 x2 x3 x4 x5).2.2.1 ![768, 128] (by sl_kernel_rfl) y

/-- What case A leaves in output 8's staging buffer: its pieces read back over junk. -/
def out1_A_8 (c : Dev nD) (i : grid1.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2304x128 .f32) (harg9 : arg9.IsWhole) (arg10 : Memref sig .tc .vmem S2304x128 .f32) (harg10 : arg10.IsWhole) (hc0 : cond1_0 i) (hc1 : cond1_1 i)
    (x0 : Vec F S1024x128 .bf16) (x1 : Vec F S2304x128 .bf16) (x2 : Vec F S2304x128 .bf16) (x3 : Vec F S1024x128 .bf16) (x4 : Vec F S1024x128 .bf16) (x5 : Vec F S1024x128 .f32) : Vec F S2304x128 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 hc0 hc1 x0 x1 x2 x3 x4 x5).2.2.1)

/-- Case B's pieces for output 6 tile its block (1 store of `S1024x128`, checked by the kernel's evaluation: Lib/Ring.lean `Piece.tiledL`, linear in the pieces, through a loop's `@[irreducible]` trip theorem too), so they cover it. -/
theorem cover1_B_6 (c : Dev nD) (i : grid1.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2304x128 .f32) (harg9 : arg9.IsWhole) (arg10 : Memref sig .tc .vmem S2304x128 .f32) (harg10 : arg10.IsWhole) (hc0 : ¬cond1_0 i) (hc1 : ¬cond1_1 i)
    (x0 : Vec F S1024x128 .bf16) (x1 : Vec F S2304x128 .bf16) (x2 : Vec F S2304x128 .bf16) (x3 : Vec F S1024x128 .bf16) (x4 : Vec F S1024x128 .bf16) (x5 : Vec F S1024x128 .f32) (xo7 : Vec F S2304x128 .f32) (xo8 : Vec F S2304x128 .f32) (y : S1024x128.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 xo7 xo8).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 xo7 xo8).1 S1024x128.size (by sl_kernel_rfl) y

/-- What case B leaves in output 6's staging buffer: its pieces read back over junk. -/
def out1_B_6 (c : Dev nD) (i : grid1.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2304x128 .f32) (harg9 : arg9.IsWhole) (arg10 : Memref sig .tc .vmem S2304x128 .f32) (harg10 : arg10.IsWhole) (hc0 : ¬cond1_0 i) (hc1 : ¬cond1_1 i)
    (x0 : Vec F S1024x128 .bf16) (x1 : Vec F S2304x128 .bf16) (x2 : Vec F S2304x128 .bf16) (x3 : Vec F S1024x128 .bf16) (x4 : Vec F S1024x128 .bf16) (x5 : Vec F S1024x128 .f32) (xo7 : Vec F S2304x128 .f32) (xo8 : Vec F S2304x128 .f32) : Vec F S1024x128 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 hc0 hc1 x0 x1 x2 x3 x4 x5 xo7 xo8).1)

/-- Case B's pieces for output 7 tile its block (3 stores of `S768x128`, checked by the kernel's evaluation: Lib/Ring.lean `Piece.tiledL`, linear in the pieces, through a loop's `@[irreducible]` trip theorem too), so they cover it. -/
theorem cover1_B_7 (c : Dev nD) (i : grid1.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2304x128 .f32) (harg9 : arg9.IsWhole) (arg10 : Memref sig .tc .vmem S2304x128 .f32) (harg10 : arg10.IsWhole) (hc0 : ¬cond1_0 i) (hc1 : ¬cond1_1 i)
    (x0 : Vec F S1024x128 .bf16) (x1 : Vec F S2304x128 .bf16) (x2 : Vec F S2304x128 .bf16) (x3 : Vec F S1024x128 .bf16) (x4 : Vec F S1024x128 .bf16) (x5 : Vec F S1024x128 .f32) (xo7 : Vec F S2304x128 .f32) (xo8 : Vec F S2304x128 .f32) (y : S2304x128.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 xo7 xo8).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 xo7 xo8).2.1 S768x128.size (by sl_kernel_rfl) y

/-- What case B leaves in output 7's staging buffer: its pieces read back over junk. -/
def out1_B_7 (c : Dev nD) (i : grid1.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2304x128 .f32) (harg9 : arg9.IsWhole) (arg10 : Memref sig .tc .vmem S2304x128 .f32) (harg10 : arg10.IsWhole) (hc0 : ¬cond1_0 i) (hc1 : ¬cond1_1 i)
    (x0 : Vec F S1024x128 .bf16) (x1 : Vec F S2304x128 .bf16) (x2 : Vec F S2304x128 .bf16) (x3 : Vec F S1024x128 .bf16) (x4 : Vec F S1024x128 .bf16) (x5 : Vec F S1024x128 .f32) (xo7 : Vec F S2304x128 .f32) (xo8 : Vec F S2304x128 .f32) : Vec F S2304x128 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 hc0 hc1 x0 x1 x2 x3 x4 x5 xo7 xo8).2.1)

/-- Case B's pieces for output 8 tile its block (3 stores of `S768x128`, checked by the kernel's evaluation: Lib/Ring.lean `Piece.tiledL`, linear in the pieces, through a loop's `@[irreducible]` trip theorem too), so they cover it. -/
theorem cover1_B_8 (c : Dev nD) (i : grid1.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2304x128 .f32) (harg9 : arg9.IsWhole) (arg10 : Memref sig .tc .vmem S2304x128 .f32) (harg10 : arg10.IsWhole) (hc0 : ¬cond1_0 i) (hc1 : ¬cond1_1 i)
    (x0 : Vec F S1024x128 .bf16) (x1 : Vec F S2304x128 .bf16) (x2 : Vec F S2304x128 .bf16) (x3 : Vec F S1024x128 .bf16) (x4 : Vec F S1024x128 .bf16) (x5 : Vec F S1024x128 .f32) (xo7 : Vec F S2304x128 .f32) (xo8 : Vec F S2304x128 .f32) (y : S2304x128.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 xo7 xo8).2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 xo7 xo8).2.2.1 S768x128.size (by sl_kernel_rfl) y

/-- What case B leaves in output 8's staging buffer: its pieces read back over junk. -/
def out1_B_8 (c : Dev nD) (i : grid1.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2304x128 .f32) (harg9 : arg9.IsWhole) (arg10 : Memref sig .tc .vmem S2304x128 .f32) (harg10 : arg10.IsWhole) (hc0 : ¬cond1_0 i) (hc1 : ¬cond1_1 i)
    (x0 : Vec F S1024x128 .bf16) (x1 : Vec F S2304x128 .bf16) (x2 : Vec F S2304x128 .bf16) (x3 : Vec F S1024x128 .bf16) (x4 : Vec F S1024x128 .bf16) (x5 : Vec F S1024x128 .f32) (xo7 : Vec F S2304x128 .f32) (xo8 : Vec F S2304x128 .f32) : Vec F S2304x128 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 hc0 hc1 x0 x1 x2 x3 x4 x5 xo7 xo8).2.2.1)

/-- Case C's pieces for output 6 tile its block (1 store of `S1024x128`, checked by the kernel's evaluation: Lib/Ring.lean `Piece.tiledL`, linear in the pieces, through a loop's `@[irreducible]` trip theorem too), so they cover it. -/
theorem cover1_C_6 (c : Dev nD) (i : grid1.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2304x128 .f32) (harg9 : arg9.IsWhole) (arg10 : Memref sig .tc .vmem S2304x128 .f32) (harg10 : arg10.IsWhole) (hc0 : cond1_0 i) (hc1 : ¬cond1_1 i)
    (x0 : Vec F S1024x128 .bf16) (x1 : Vec F S2304x128 .bf16) (x2 : Vec F S2304x128 .bf16) (x3 : Vec F S1024x128 .bf16) (x4 : Vec F S1024x128 .bf16) (x5 : Vec F S1024x128 .f32) (xo8 : Vec F S2304x128 .f32) (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xo8).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xo8).1 S1024x128.size (by sl_kernel_rfl) y

/-- What case C leaves in output 6's staging buffer: its pieces read back over junk. -/
def out1_C_6 (c : Dev nD) (i : grid1.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2304x128 .f32) (harg9 : arg9.IsWhole) (arg10 : Memref sig .tc .vmem S2304x128 .f32) (harg10 : arg10.IsWhole) (hc0 : cond1_0 i) (hc1 : ¬cond1_1 i)
    (x0 : Vec F S1024x128 .bf16) (x1 : Vec F S2304x128 .bf16) (x2 : Vec F S2304x128 .bf16) (x3 : Vec F S1024x128 .bf16) (x4 : Vec F S1024x128 .bf16) (x5 : Vec F S1024x128 .f32) (xo8 : Vec F S2304x128 .f32) : Vec F S1024x128 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 x0 x1 x2 x3 x4 x5 xo8).1)

/-- Case C's pieces for output 7 are of SEVERAL sizes (4 stores of `S2304x128`, `S768x128`): cut into blocks of `![768, 128]` they tile its block (checked by the kernel's evaluation: Lib/Ring.lean `Piece.tiledBy`), so they cover it. -/
theorem cover1_C_7 (c : Dev nD) (i : grid1.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2304x128 .f32) (harg9 : arg9.IsWhole) (arg10 : Memref sig .tc .vmem S2304x128 .f32) (harg10 : arg10.IsWhole) (hc0 : cond1_0 i) (hc1 : ¬cond1_1 i)
    (x0 : Vec F S1024x128 .bf16) (x1 : Vec F S2304x128 .bf16) (x2 : Vec F S2304x128 .bf16) (x3 : Vec F S1024x128 .bf16) (x4 : Vec F S1024x128 .bf16) (x5 : Vec F S1024x128 .f32) (xo8 : Vec F S2304x128 .f32) (y : S2304x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xo8).2.1, y ∈ pc.1.set :=
  View.cover_of_tiledBy (kernelRun1_C c i arg2 harg2 arg3 harg3 arg4 harg4 arg5 harg5 arg6 harg6 arg7 harg7 arg8 harg8 arg9 harg9 arg10 harg10 hc0 hc1 x0 x1 x2 x3 x4 x5 xo8).2.1 ![768, 128] (by sl_kernel_rfl) y

/-- What case C leaves in output 7's staging buffer: its pieces read back over junk. -/
def out1_C_7 (c : Dev nD) (i : grid1.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2304x128 .f32) (harg9 : arg9.IsWhole) (arg10 : Memref sig .tc .vmem S2304x128 .f32) (harg10 : arg10.IsWhole) (hc0 : cond1_0 i) (hc1 : ¬cond1_1 i)
    (x0 : Vec F S1024x128 .bf16) (x1 : Vec F S2304x128 .bf16) (x2 : Vec F S2304x128 .bf16) (x3 : Vec F S1024x128 .bf16) (x4 : Vec F S1024x128 .bf16) (x5 : Vec F S1024x128 .f32) (xo8 : Vec F S2304x128 .f32) : Vec F S2304x128 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 hc0 hc1 x0 x1 x2 x3 x4 x5 xo8).2.1)

/-- Case C's pieces for output 8 tile its block (3 stores of `S768x128`, checked by the kernel's evaluation: Lib/Ring.lean `Piece.tiledL`, linear in the pieces, through a loop's `@[irreducible]` trip theorem too), so they cover it. -/
theorem cover1_C_8 (c : Dev nD) (i : grid1.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2304x128 .f32) (harg9 : arg9.IsWhole) (arg10 : Memref sig .tc .vmem S2304x128 .f32) (harg10 : arg10.IsWhole) (hc0 : cond1_0 i) (hc1 : ¬cond1_1 i)
    (x0 : Vec F S1024x128 .bf16) (x1 : Vec F S2304x128 .bf16) (x2 : Vec F S2304x128 .bf16) (x3 : Vec F S1024x128 .bf16) (x4 : Vec F S1024x128 .bf16) (x5 : Vec F S1024x128 .f32) (xo8 : Vec F S2304x128 .f32) (y : S2304x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xo8).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xo8).2.2.1 S768x128.size (by sl_kernel_rfl) y

/-- What case C leaves in output 8's staging buffer: its pieces read back over junk. -/
def out1_C_8 (c : Dev nD) (i : grid1.Coords) (arg2 : Memref sig .tc .vmem S1024x128 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2304x128 .f32) (harg9 : arg9.IsWhole) (arg10 : Memref sig .tc .vmem S2304x128 .f32) (harg10 : arg10.IsWhole) (hc0 : cond1_0 i) (hc1 : ¬cond1_1 i)
    (x0 : Vec F S1024x128 .bf16) (x1 : Vec F S2304x128 .bf16) (x2 : Vec F S2304x128 .bf16) (x3 : Vec F S1024x128 .bf16) (x4 : Vec F S1024x128 .bf16) (x5 : Vec F S1024x128 .f32) (xo8 : Vec F S2304x128 .f32) : Vec F S2304x128 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 hc0 hc1 x0 x1 x2 x3 x4 x5 xo8).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt1 (c : Dev nD) : (n : ℕ) → n < cfg1.N → Vec F S1024x128 .f32 × Vec F S2304x128 .f32 × Vec F S2304x128 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) ((hcond1_0 ⟨0, hn⟩).mpr (Nat.zero_mod _)) ((hcond1_1 ⟨0, hn⟩).mpr (Nat.zero_mod _)) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) ((hcond1_0 ⟨0, hn⟩).mpr (Nat.zero_mod _)) ((hcond1_1 ⟨0, hn⟩).mpr (Nat.zero_mod _)) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩), out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) ((hcond1_0 ⟨0, hn⟩).mpr (Nat.zero_mod _)) ((hcond1_1 ⟨0, hn⟩).mpr (Nat.zero_mod _)) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩))
  | n + 1, hn =>
    if h0 : (n + 1) % 2 = 0 then
      if h1 : (n + 1) % 4 = 0 then
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) ((hcond1_0 ⟨n + 1, hn⟩).mpr h0) ((hcond1_1 ⟨n + 1, hn⟩).mpr h1) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) ((hcond1_0 ⟨n + 1, hn⟩).mpr h0) ((hcond1_1 ⟨n + 1, hn⟩).mpr h1) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩), out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) ((hcond1_0 ⟨n + 1, hn⟩).mpr h0) ((hcond1_1 ⟨n + 1, hn⟩).mpr h1) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩))
      else
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) ((hcond1_0 ⟨n + 1, hn⟩).mpr h0) (fun h => h1 ((hcond1_1 ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt1 c n (Nat.lt_of_succ_lt hn)).2.2, out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) ((hcond1_0 ⟨n + 1, hn⟩).mpr h0) (fun h => h1 ((hcond1_1 ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt1 c n (Nat.lt_of_succ_lt hn)).2.2, out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) ((hcond1_0 ⟨n + 1, hn⟩).mpr h0) (fun h => h1 ((hcond1_1 ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt1 c n (Nat.lt_of_succ_lt hn)).2.2)
    else
      if h1 : (n + 1) % 4 = 0 then
        False.elim (by have hN : n + 1 < 16 := lt_of_lt_of_eq hn (show cfg1.N = 16 from N_1); omega)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (fun h => h0 ((hcond1_0 ⟨n + 1, hn⟩).mp h)) (fun h => h1 ((hcond1_1 ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt1 c n (Nat.lt_of_succ_lt hn)).2.1 (outsAt1 c n (Nat.lt_of_succ_lt hn)).2.2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (fun h => h0 ((hcond1_0 ⟨n + 1, hn⟩).mp h)) (fun h => h1 ((hcond1_1 ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt1 c n (Nat.lt_of_succ_lt hn)).2.1 (outsAt1 c n (Nat.lt_of_succ_lt hn)).2.2, out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (fun h => h0 ((hcond1_0 ⟨n + 1, hn⟩).mp h)) (fun h => h1 ((hcond1_1 ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt1 c n (Nat.lt_of_succ_lt hn)).2.1 (outsAt1 c n (Nat.lt_of_succ_lt hn)).2.2)

/-- `outsAt0` at a point of case A: that case's contents. -/
theorem outsAt1_A (c : Dev nD) (t : Fin cfg1.N) (h0 : t.val % 2 = 0) (h1 : t.val % 4 = 0) :
    outsAt1 W c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) ((hcond1_1 t).mpr h1) (iblk W c 0 t) (iblk W c 1 t) (iblk W c 2 t) (iblk W c 3 t) (iblk W c 4 t) (iblk W c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) ((hcond1_1 t).mpr h1) (iblk W c 0 t) (iblk W c 1 t) (iblk W c 2 t) (iblk W c 3 t) (iblk W c 4 t) (iblk W c 5 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) ((hcond1_1 t).mpr h1) (iblk W c 0 t) (iblk W c 1 t) (iblk W c 2 t) (iblk W c 3 t) (iblk W c 4 t) (iblk W c 5 t)) := by
  obtain ⟨n, hn⟩ := t
  cases n with
  | zero => exact rfl
  | succ n => exact (dif_pos h0).trans ((dif_pos h1).trans rfl)

/-- `outsAt0` at a point of case B: that case's contents, over what the point before left. -/
theorem outsAt1_B (c : Dev nD) (t : Fin cfg1.N) (h0 : ¬t.val % 2 = 0) (h1 : ¬t.val % 4 = 0) :
    outsAt1 W c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (fun h => h1 ((hcond1_1 t).mp h)) (iblk W c 0 t) (iblk W c 1 t) (iblk W c 2 t) (iblk W c 3 t) (iblk W c 4 t) (iblk W c 5 t) (outsAt1 W c (t.val - 1) (Nat.lt_of_le_of_lt (Nat.sub_le _ _) t.isLt)).2.1 (outsAt1 W c (t.val - 1) (Nat.lt_of_le_of_lt (Nat.sub_le _ _) t.isLt)).2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (fun h => h1 ((hcond1_1 t).mp h)) (iblk W c 0 t) (iblk W c 1 t) (iblk W c 2 t) (iblk W c 3 t) (iblk W c 4 t) (iblk W c 5 t) (outsAt1 W c (t.val - 1) (Nat.lt_of_le_of_lt (Nat.sub_le _ _) t.isLt)).2.1 (outsAt1 W c (t.val - 1) (Nat.lt_of_le_of_lt (Nat.sub_le _ _) t.isLt)).2.2, out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (fun h => h1 ((hcond1_1 t).mp h)) (iblk W c 0 t) (iblk W c 1 t) (iblk W c 2 t) (iblk W c 3 t) (iblk W c 4 t) (iblk W c 5 t) (outsAt1 W c (t.val - 1) (Nat.lt_of_le_of_lt (Nat.sub_le _ _) t.isLt)).2.1 (outsAt1 W c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt1_C (c : Dev nD) (t : Fin cfg1.N) (h0 : t.val % 2 = 0) (h1 : ¬t.val % 4 = 0) :
    outsAt1 W c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (fun h => h1 ((hcond1_1 t).mp h)) (iblk W c 0 t) (iblk W c 1 t) (iblk W c 2 t) (iblk W c 3 t) (iblk W c 4 t) (iblk W c 5 t) (outsAt1 W c (t.val - 1) (Nat.lt_of_le_of_lt (Nat.sub_le _ _) t.isLt)).2.2, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (fun h => h1 ((hcond1_1 t).mp h)) (iblk W c 0 t) (iblk W c 1 t) (iblk W c 2 t) (iblk W c 3 t) (iblk W c 4 t) (iblk W c 5 t) (outsAt1 W c (t.val - 1) (Nat.lt_of_le_of_lt (Nat.sub_le _ _) t.isLt)).2.2, out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (fun h => h1 ((hcond1_1 t).mp h)) (iblk W c 0 t) (iblk W c 1 t) (iblk W c 2 t) (iblk W c 3 t) (iblk W c 4 t) (iblk W c 5 t) (outsAt1 W c (t.val - 1) (Nat.lt_of_le_of_lt (Nat.sub_le _ _) t.isLt)).2.2) := by
  obtain ⟨n, hn⟩ := t
  cases n with
  | zero => exact (by exfalso; (try dsimp only at h1); exact absurd (Nat.zero_mod _) h1)
  | succ n => exact (dif_pos h0).trans ((dif_neg h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (c : Dev nD) : Dat τ (Elt F) Unit ℕ (UR sig nD τ) ℕ cfg1 c where
  A w := V W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => (outsAt1 W c t.val t.isLt).1
    | ⟨7, _⟩ => (outsAt1 W c t.val t.isLt).2.1
    | ⟨8, _⟩ => (outsAt1 W c t.val t.isLt).2.2
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dats W c).A w = V W c (Pipeline.arrRef spec1 w) := by
  dsimp only [dats]

/-- What the body leaves, window by window (the proof data's `match` reduced by `dsimp`). -/
theorem after1_0 (c : Dev nD) (t : Fin cfg1.N) : (dats W c).after 0 t = iblk W c 0 t := by dsimp only [dats]
theorem after1_1 (c : Dev nD) (t : Fin cfg1.N) : (dats W c).after 1 t = iblk W c 1 t := by dsimp only [dats]
theorem after1_2 (c : Dev nD) (t : Fin cfg1.N) : (dats W c).after 2 t = iblk W c 2 t := by dsimp only [dats]
theorem after1_3 (c : Dev nD) (t : Fin cfg1.N) : (dats W c).after 3 t = iblk W c 3 t := by dsimp only [dats]
theorem after1_4 (c : Dev nD) (t : Fin cfg1.N) : (dats W c).after 4 t = iblk W c 4 t := by dsimp only [dats]
theorem after1_5 (c : Dev nD) (t : Fin cfg1.N) : (dats W c).after 5 t = iblk W c 5 t := by dsimp only [dats]
theorem after1_6 (c : Dev nD) (t : Fin cfg1.N) : (dats W c).after 6 t = (outsAt1 W c t.val t.isLt).1 := by dsimp only [dats]
theorem after1_7 (c : Dev nD) (t : Fin cfg1.N) : (dats W c).after 7 t = (outsAt1 W c t.val t.isLt).2.1 := by dsimp only [dats]
theorem after1_8 (c : Dev nD) (t : Fin cfg1.N) : (dats W c).after 8 t = (outsAt1 W c t.val t.isLt).2.2 := by dsimp only [dats]

/-- Each input's current staging buffer holds its block at every point, fetched there or not (`beforeK_W_of`). -/
theorem before1_0 (c : Dev nD) (t : Fin cfg1.N) (d) : (dats W c).before 0 t d = iblk W c 0 t :=
  before1_0_of W (dats W c) (A_eq W c 0) (after1_0 W c) t d
theorem before1_1 (c : Dev nD) (t : Fin cfg1.N) (d) : (dats W c).before 1 t d = iblk W c 1 t :=
  before1_1_of W (dats W c) (A_eq W c 1) (after1_1 W c) t d
theorem before1_2 (c : Dev nD) (t : Fin cfg1.N) (d) : (dats W c).before 2 t d = iblk W c 2 t :=
  before1_2_of W (dats W c) (A_eq W c 2) (after1_2 W c) t d
theorem before1_3 (c : Dev nD) (t : Fin cfg1.N) (d) : (dats W c).before 3 t d = iblk W c 3 t :=
  before1_3_of W (dats W c) (A_eq W c 3) (after1_3 W c) t d
theorem before1_4 (c : Dev nD) (t : Fin cfg1.N) (d) : (dats W c).before 4 t d = iblk W c 4 t :=
  before1_4_of W (dats W c) (A_eq W c 4) (after1_4 W c) t d
theorem before1_5 (c : Dev nD) (t : Fin cfg1.N) (d) : (dats W c).before 5 t d = iblk W c 5 t :=
  before1_5_of W (dats W c) (A_eq W c 5) (after1_5 W c) t d
/-- At a point of case B output 7's current staging buffer holds what the body left at the point before: the point is
    not the first, the buffer was not written back between (`flush0_7`), the window is live and uncut (Lib/Pipeline/Frame.lean
    `Dat.before_out_kept`). -/
theorem before1_7_B (c : Dev nD) (t : Fin cfg1.N) (h0 : ¬t.val % 2 = 0) (h1 : ¬t.val % 4 = 0) (d) :
    (dats W c).before 7 t d = (outsAt1 W c (t.val - 1) (Nat.lt_of_le_of_lt (Nat.sub_le _ _) t.isLt)).2.1 := by
  have hN : t.val < 16 := lt_of_lt_of_eq t.isLt (show cfg1.N = 16 from N_1)
  rw [Dat.before_out_kept _ 7 rfl t (by omega) (Bool.eq_false_iff.mpr fun h => by have := (flush1_7 _).mp h; dsimp only at this; omega)
    (fun _ => rfl) (fun _ _ => rfl)]
  dsimp only [dats]
/-- At a point of case B output 8's current staging buffer holds what the body left at the point before: the point is
    not the first, the buffer was not written back between (`flush0_8`), the window is live and uncut (Lib/Pipeline/Frame.lean
    `Dat.before_out_kept`). -/
theorem before1_8_B (c : Dev nD) (t : Fin cfg1.N) (h0 : ¬t.val % 2 = 0) (h1 : ¬t.val % 4 = 0) (d) :
    (dats W c).before 8 t d = (outsAt1 W c (t.val - 1) (Nat.lt_of_le_of_lt (Nat.sub_le _ _) t.isLt)).2.2 := by
  have hN : t.val < 16 := lt_of_lt_of_eq t.isLt (show cfg1.N = 16 from N_1)
  rw [Dat.before_out_kept _ 8 rfl t (by omega) (Bool.eq_false_iff.mpr fun h => by have := (flush1_8 _).mp h; dsimp only at this; omega)
    (fun _ => rfl) (fun _ _ => rfl)]
  dsimp only [dats]
/-- At a point of case C output 8's current staging buffer holds what the body left at the point before: the point is
    not the first, the buffer was not written back between (`flush0_8`), the window is live and uncut (Lib/Pipeline/Frame.lean
    `Dat.before_out_kept`). -/
theorem before1_8_C (c : Dev nD) (t : Fin cfg1.N) (h0 : t.val % 2 = 0) (h1 : ¬t.val % 4 = 0) (d) :
    (dats W c).before 8 t d = (outsAt1 W c (t.val - 1) (Nat.lt_of_le_of_lt (Nat.sub_le _ _) t.isLt)).2.2 := by
  have hN : t.val < 16 := lt_of_lt_of_eq t.isLt (show cfg1.N = 16 from N_1)
  rw [Dat.before_out_kept _ 8 rfl t (by omega) (Bool.eq_false_iff.mpr fun h => by have := (flush1_8 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg1.N) : sProp 𝕄 :=
  iprop((dats W c).Φ t.castSucc ∗ (dats W c).owesAt () t.castSucc
    ∗ (∃ d, owns (c : Thread nD τ) (ms1_0 t) fullShare ((dats W c).before 0 t d))
    ∗ (∃ d, owns (c : Thread nD τ) (ms1_1 t) fullShare ((dats W c).before 1 t d))
    ∗ (∃ d, owns (c : Thread nD τ) (ms1_2 t) fullShare ((dats W c).before 2 t d))
    ∗ (∃ d, owns (c : Thread nD τ) (ms1_3 t) fullShare ((dats W c).before 3 t d))
    ∗ (∃ d, owns (c : Thread nD τ) (ms1_4 t) fullShare ((dats W c).before 4 t d))
    ∗ (∃ d, owns (c : Thread nD τ) (ms1_5 t) fullShare ((dats W c).before 5 t d))
    ∗ (∃ d, owns (c : Thread nD τ) (ms1_6 t) fullShare ((dats W c).before 6 t d))
    ∗ (∃ d, owns (c : Thread nD τ) (ms1_7 t) fullShare ((dats W c).before 7 t d))
    ∗ (∃ d, owns (c : Thread nD τ) (ms1_8 t) fullShare ((dats W c).before 8 t d)))

/-- and what it returns. -/
def bodyPost (c : Dev nD) (t : Fin cfg1.N) : sProp 𝕄 :=
  iprop((dats W c).Φ t.succ ∗ (dats W c).owesAt () t.succ
    ∗ owns (c : Thread nD τ) (ms1_0 t) fullShare ((dats W c).after 0 t)
    ∗ owns (c : Thread nD τ) (ms1_1 t) fullShare ((dats W c).after 1 t)
    ∗ owns (c : Thread nD τ) (ms1_2 t) fullShare ((dats W c).after 2 t)
    ∗ owns (c : Thread nD τ) (ms1_3 t) fullShare ((dats W c).after 3 t)
    ∗ owns (c : Thread nD τ) (ms1_4 t) fullShare ((dats W c).after 4 t)
    ∗ owns (c : Thread nD τ) (ms1_5 t) fullShare ((dats W c).after 5 t)
    ∗ owns (c : Thread nD τ) (ms1_6 t) fullShare ((dats W c).after 6 t)
    ∗ owns (c : Thread nD τ) (ms1_7 t) fullShare ((dats W c).after 7 t)
    ∗ owns (c : Thread nD τ) (ms1_8 t) fullShare ((dats W c).after 8 t))

set_option maxHeartbeats 2400000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before1_0, before1_1, before1_2, before1_3, before1_4, before1_5]
  rw [show (dats W c).Φ t.succ = (dats W c).Φ t.castSucc from rfl,
    show (dats W c).owesAt () t.succ = (dats W c).owesAt () t.castSucc from rfl,
    after1_0, after1_1, after1_2, after1_3, after1_4, after1_5, after1_6, after1_7, after1_8]
  have hN : t.val < 16 := lt_of_lt_of_eq t.isLt (show cfg1.N = 16 from N_1)
  by_cases h0 : t.val % 2 = 0
  · by_cases h1 : t.val % 4 = 0
    · rw [outsAt1_A W c t h0 h1]
      unfold out1_A_6 out1_A_7 out1_A_8; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ ((hcond1_0 t).mpr h0) ((hcond1_1 t).mpr h1) (iblk W c 0 t) (iblk W c 1 t) (iblk W c 2 t) (iblk W c 3 t) (iblk W c 4 t) (iblk W c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      iintro ⟨H0, H1, H2, H3, H4, H5, ⟨%e6, H6⟩, ⟨%e7, H7⟩, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover1_A_7 c _ _ _ _ _ _ _ _ _ _ _ _ _ _ _ _ _ _ _ _ _ _ _ _ _ _ _)
      unfold owns; iexists _; isplitr
      swap; · iexact H8
      ipureintro; exact View.read_writes_of_cover _ _ _ _ _ (cover1_A_8 c _ _ _ _ _ _ _ _ _ _ _ _ _ _ _ _ _ _ _ _ _ _ _ _ _ _ _)
    · rw [outsAt1_C W c t h0 h1]
      simp only [before1_8_C W c t h0 h1]
      unfold out1_C_6 out1_C_7 out1_C_8; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ ((hcond1_0 t).mpr h0) (fun h => h1 ((hcond1_1 t).mp h)) (iblk W c 0 t) (iblk W c 1 t) (iblk W c 2 t) (iblk W c 3 t) (iblk W c 4 t) (iblk W c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      iintro ⟨H0, H1, H2, H3, H4, H5, ⟨%e6, H6⟩, ⟨%e7, H7⟩, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover1_C_7 c _ _ _ _ _ _ _ _ _ _ _ _ _ _ _ _ _ _ _ _ _ _ _ _ _ _ _ _)
      unfold owns; iexists _; isplitr
      swap; · iexact H8
      ipureintro; exact View.read_writes_of_cover _ _ _ _ _ (cover1_C_8 c _ _ _ _ _ _ _ _ _ _ _ _ _ _ _ _ _ _ _ _ _ _ _ _ _ _ _ _)
  · by_cases h1 : t.val % 4 = 0
    · exfalso; omega
    · rw [outsAt1_B W c t h0 h1]
      simp only [before1_7_B W c t h0 h1, before1_8_B W c t h0 h1]
      unfold out1_B_6 out1_B_7 out1_B_8; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ (fun h => h0 ((hcond1_0 t).mp h)) (fun h => h1 ((hcond1_1 t).mp h)) (iblk W c 0 t) (iblk W c 1 t) (iblk W c 2 t) (iblk W c 3 t) (iblk W c 4 t) (iblk W c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      iintro ⟨H0, H1, H2, H3, H4, H5, ⟨%e6, H6⟩, ⟨%e7, H7⟩, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover1_B_7 c _ _ _ _ _ _ _ _ _ _ _ _ _ _ _ _ _ _ _ _ _ _ _ _ _ _ _ _ _)
      unfold owns; iexists _; isplitr
      swap; · iexact H8
      ipureintro; exact View.read_writes_of_cover _ _ _ _ _ (cover1_B_8 c _ _ _ _ _ _ _ _ _ _ _ _ _ _ _ _ _ _ _ _ _ _ _ _ _ _ _ _ _)

/-- The body table's row at point `t`'s slots is the body as `bodyAt0` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dats (F := F) W c) (defs₀ (F := F)) Variants.none () Set.univ := fun t => by
  rw [bigSep_W1, bigSep_W1, defs₀_row]
  exact triple_restated (sound_body W c t) rfl .rfl fun _ => .rfl

end Cert.KernelIdeal.Bwd

end
-- ==== Proof.Run.lean ====
module

public import proofs.«01_k».proof.Proof.Gen.KernelIdeal.Regions
public import proofs.«01_k».proof.Proof.Fwd.Frame
public import proofs.«01_k».proof.Proof.Bwd.Frame
public import Idealize.ShloMosaic.Lib.Pipeline.RegionArraysS

@[expose] public section

set_option maxRecDepth 16384

noncomputable section

/-! The run of the two pallas_calls one after the other: the forward call entered with what the host left, the backward
    call with what the forward call left. -/

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the buffers hold when the backward call is entered. -/
def WB (c : Dev nD) : Valuation τ sig (Elt F) := Pipeline.afterRegion (Fwd.dats (V5 m) c) (V5 m c)

/-- What the buffers hold at the end. -/
def WE (c : Dev nD) : Valuation τ sig (Elt F) := Pipeline.afterRegion (Bwd.dats (WB m) c) (WB m c)

/-- Both calls' proof data. -/
def pdats : (p : Fin 2) → (c : Dev nD) → Dat τ (Elt F) Unit ℕ (UR sig nD τ) ℕ (cfgs p) c
  | 0 => Fwd.dats (V5 m)
  | 1 => Bwd.dats (WB m)

/-- A TensorCore's semaphores carry the one index, the others none. -/
abbrev L : GSem nD τ sig → Finset Unit := fun g => if g.1.2 = .tc then {()} else ∅
abbrev lv : GSem nD τ sig → Unit → ℕ := fun _ _ => 0

/-- What rides along: nothing owed, and the generator register. -/
abbrev E (_ : Fin 3) (c : Dev nD) : sProp 𝕄 :=
  iprop((∃ Wd, owes (c : Thread nD τ) (0 : CellTallies nD τ sig Unit) Wd) ∗ (∃ r, prngReg c r) ∗ emp)

theorem cut (p : Fin 2) : Pipeline.LevelCut (pcfgs (F := F)) adm () L lv p (fun _ : Dev nD => (0 : CellTallies nD τ sig Unit)) (fun _ => 0) where
  hι _ _ _ := Finset.mem_singleton_self _
  hιb _ _ _ := le_rfl
  hD _ _ _ h := absurd h (lt_irrefl _)

/-- The forward call's record. -/
def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (Fwd.body_obligation (V5 m) c).loose) (fun _ _ => rfl) (fun _ => rfl) (fun c => (pdats m 0 c).share_full fun _ => rfl)
    (fun _ => .rfl) (fun _ => .rfl) (fun _ => 0) (cut 0) (fun _ => iprop(emp)) (V5 m) (fun _ _ => rfl)

/-- The backward call's record. -/
def R1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) launch1.toP rfl
    (fun c => (Bwd.body_obligation (WB m) c).loose) (fun _ _ => rfl) (fun _ => rfl) (fun c => (pdats m 1 c).share_full fun _ => rfl)
    (fun _ => .rfl) (fun _ => .rfl) (fun _ => 0) (cut 1) (fun _ => iprop(emp)) (WB m) (fun _ _ => rfl)

theorem sub0 : Pipeline.arrRefs (pcfgs (F := F) 0).spec ⊆ Pipeline.ucRefs τ sig :=
  (by decide : Pipeline.arrRefs spec0 ⊆ Pipeline.ucRefs τ sig)
theorem sub1 : Pipeline.arrRefs (pcfgs (F := F) 1).spec ⊆ Pipeline.ucRefs τ sig :=
  (by decide : Pipeline.arrRefs spec1 ⊆ Pipeline.ucRefs τ sig)

theorem pre0 (c : Dev nD) : iprop(StableHlo.held (c : Thread nD τ) (Pipeline.ucRefs τ sig) (V5 m c) ∗ E 0 c) ⊢ (R0 m).pre c := by
  unfold R0
  exact RegionSeg.ofHeldIn_pre (X := fun c => iprop(∃ r, prngReg c r)) (R := fun _ => iprop(emp)) (D := fun _ => 0) (W := V5 m) sub0 c
theorem post0 (c : Dev nD) : (R0 m).post c ⊢ iprop(StableHlo.held (c : Thread nD τ) (Pipeline.ucRefs τ sig) (WB m c) ∗ E 1 c) := by
  unfold R0
  exact RegionSeg.ofHeldIn_post sub0 c

theorem pre1 (c : Dev nD) : iprop(StableHlo.held (c : Thread nD τ) (Pipeline.ucRefs τ sig) (WB m c) ∗ E 1 c) ⊢ (R1 m).pre c := by
  unfold R1
  exact RegionSeg.ofHeldIn_pre (X := fun c => iprop(∃ r, prngReg c r)) (R := fun _ => iprop(emp)) (D := fun _ => 0) (W := WB m) sub1 c
theorem post1 (c : Dev nD) : (R1 m).post c ⊢ iprop(StableHlo.held (c : Thread nD τ) (Pipeline.ucRefs τ sig) (WE m c) ∗ E 2 c) := by
  unfold R1
  exact RegionSeg.ofHeldIn_post sub1 c

set_option backward.isDefEq.respectTransparency.types false in
/-- Every buffer of the TensorCore ends at `WE`, every counter at zero. -/
theorem run : θ_run defs (onTc (τ := τ) (main (F := F))) ⟨m, fun _ => 0, ρ⟩ (fun r =>
    (∀ c : Dev nD, ∀ b ∈ Pipeline.ucRefs τ sig, r.2.mem (c, b) = WE m c b) ∧ r.2.sem = fun _ => 0) := by
  refine Pipeline.θ_run_regions_kit_dev_sems (pcfgs (F := F)) adm (pdats m) () cellOf_inj emb₁ defs₀ Variants.none L lv m ρ main
    (segs m Variants.none L lv E () (pdats m) (R0 m) (R1 m))
    (fun c Q => by
      rewrite [main_chain c, Seg.run_eq_chain,
        show (segs m Variants.none L lv E () (pdats m) (R0 m) (R1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) 0
    (fun g hg => if_neg hg) (fun _ => iprop(emp))
    (initOf (Pipeline.cells cfgs cellOf_inj) (Pipeline.launchToks cfgs cellOf_inj)) ?hu
    (T₀ := fun c => iprop(StableHlo.held (c : Thread nD τ) (Pipeline.ucRefs τ sig) (V0 m c) ∗ E 0 c))
    (Tₙ := fun c => StableHlo.held (c : Thread nD τ) (Pipeline.ucRefs τ sig) (WE m c))
    (hch := fun c => ⟨.rfl, .rfl, .rfl, .rfl, .rfl,
      pre0 m c, (post0 m c).trans (pre1 m c), (post1 m c).trans (sep_mono .rfl (by iintro ⟨H, -⟩; iexact H))⟩)
    (hinit := ?hi) (QY := fun c s => ∀ b ∈ Pipeline.ucRefs τ sig, s.mem (c, b) = WE m c b)
    (hfin := fun c s' => ?_) (hQ := fun _ h hz => ⟨h, funext fun g => hz g (.inr (regions_no_unscoped g.2))⟩)
  case hu =>
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hi =>
    refine Pipeline.initEach L lv fun c => ?_
    rw [show unscopedBufs c (fun b => m ((c.tc : Thread nD τ).loc b)) = StableHlo.held (c : Thread nD τ) (Pipeline.ucRefs τ sig) (V0 m c)
      from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (WE m c) s') $$ [Hh HSI]
    · isplitl [Hh] <;> iassumption
    icases Hr with ⟨%h, HSI⟩
    imodintro
    isplitr
    · ipureintro; exact h
    · iexact HSI

/-- A buffer that the host does not write and that is no window's array ends as launched. -/
theorem WE_kept (c : Dev nD) (r : Ref sig .tc)
    (hh : r ∉ hostOps0_W ∧ r ∉ hostOps0_1_W ∧ r ∉ hostOps0_2_W ∧ r ∉ hostOps0_3_W ∧ r ∉ hostOps0_4_W)
    (h0 : ∀ w, r ≠ Pipeline.arrRef spec0 w) (h1 : ∀ w, r ≠ Pipeline.arrRef spec1 w) :
    WE m c (Proc.devRef .tc r) = m ((c : Thread nD τ).loc r) :=
  (Pipeline.afterRegion_of_not_arr _ _ h1).trans <| (Pipeline.afterRegion_of_not_arr _ _ h0).trans <|
    (V5_of m c r hh.2.2.2.2).trans <| (V4_of m c r hh.2.2.2.1).trans <| (V3_of m c r hh.2.2.1).trans <|
    (V2_of m c r hh.2.1).trans <| (V1_of m c r hh.1).trans rfl

/-- An unscoped buffer of the TensorCore is among those the run speaks of. -/
theorem mem_uc (r : Ref sig .tc) (h : r.isScoped = false) : Proc.devRef .tc r ∈ Pipeline.ucRefs τ sig :=
  Finset.mem_filter.mpr ⟨StableHlo.devRef_mem_tcRefs r, by simpa using h⟩

/-- The arguments end as launched. -/
theorem args_kept (s : MemSt nD τ sig (Elt F)) (c : Dev nD) (h : ∀ b ∈ Pipeline.ucRefs τ sig, s.mem (c, b) = WE m c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5) :=
  ⟨(h _ (mem_uc main_arg0 (by decide))).trans (WE_kept m c main_arg0 (by decide) (by decide) (by decide)),
    (h _ (mem_uc main_arg1 (by decide))).trans (WE_kept m c main_arg1 (by decide) (by decide) (by decide)),
    (h _ (mem_uc main_arg2 (by decide))).trans (WE_kept m c main_arg2 (by decide) (by decide) (by decide)),
    (h _ (mem_uc main_arg3 (by decide))).trans (WE_kept m c main_arg3 (by decide) (by decide) (by decide)),
    (h _ (mem_uc main_arg4 (by decide))).trans (WE_kept m c main_arg4 (by decide) (by decide) (by decide)),
    (h _ (mem_uc main_arg5 (by decide))).trans (WE_kept m c main_arg5 (by decide) (by decide) (by decide))⟩

/-- The frame: the run terminates, the arguments end as launched, every counter ends at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => args_kept m r.2 c (h.1 c), h.2⟩) (run m ρ)

end Cert.KernelIdeal.Attn

end
-- ==== Proof.Twin.lean ====
module

public import proofs.«01_k».proof.Defs
public import proofs.«01_k».proof.Proof.Gen.Kernel
public import proofs.«01_k».proof.Proof.Gen.KernelIdeal
public import proofs.«01_k».proof.Proof.Run

@[expose] public section

noncomputable section

/-! The frame of the bit-level program from the frame of the idealized one. The two differ only in the three named
    constants, and at the bit formats a named constant may be read as the bits it stands in for. -/

namespace Cert.Twin

open Idealize.ShloMosaic Idealize.ShloMosaic.Tactic Idealize.SL.Sem

/-- At the bit formats a named constant is the bits written in the program. -/
local instance namedBits : Named Bits := ⟨fun _ _ {φ} b => FloatOps.ofBits φ b⟩

theorem main_eq : Cert.KernelIdeal.main (F := Bits) = Cert.Kernel.main (F := Bits) := by sl_kernel_rfl
theorem defs_eq : Cert.KernelIdeal.defs (F := Bits) = Cert.Kernel.defs (F := Bits) := by sl_kernel_rfl

theorem frame : Cert.quiescent_Kernel := fun m ρ _ => by
  have h := Cert.KernelIdeal.Attn.frame (F := Bits) m ρ
  rw [main_eq, defs_eq] at h
  exact h

end Cert.Twin

end
-- ==== Proof.Consts.lean ====
module

public import proofs.«01_k».proof.Proof.Gen.KernelIdeal.Skeleton
public import Idealize.ShloMosaic.Lib.Pointwise

/-! The named constants and the few facts about finite extended reals that every module below uses. -/

@[expose] public section

noncomputable section

open Idealize.ShloMosaic

namespace Cert.Attn

/-- What the attention's scores are scaled by: one over the root of the head's 96 numbers. -/
def sc : ℝ := (Real.sqrt 96)⁻¹

theorem scaleLog2e_eq : (Named.named (F := Ideal) Cert.KernelIdeal.κ "scale_log2e" (φ := .f32) 0x3E16C740#32 : EReal)
    = ((sc * (Real.log 2)⁻¹ : ℝ) : EReal) :=
  IdealRules.named_const.ideal_named_scalar _ _ _ _ rfl

theorem log2e_eq : (Named.named (F := Ideal) Cert.KernelIdeal.κ "log2e" (φ := .f32) 0x3FB8AA3B#32 : EReal)
    = (((Real.log 2)⁻¹ : ℝ) : EReal) :=
  IdealRules.named_const.ideal_named_scalar _ _ _ _ rfl

theorem scale_eq : (Named.named (F := Ideal) Cert.KernelIdeal.κ "scale" (φ := .f32) 0x3DD105EC#32 : EReal)
    = ((sc : ℝ) : EReal) :=
  IdealRules.named_const.ideal_named_scalar _ _ _ _ rfl

theorem negInf_eq : (Ideal.ofBits .f32 0xFF800000#32 : EReal) = ⊥ := by
  simp [Ideal.ofBits, Ideal.ieee]

/-- A sum of finite numbers is the finite sum. -/
theorem sum_real {ι : Type*} (s : Finset ι) (F : ι → EReal) (f : ι → ℝ) (h : ∀ k, F k = ((f k : ℝ) : EReal)) :
    ∑ k ∈ s, F k = ((∑ k ∈ s, f k : ℝ) : EReal) := by
  classical
  induction s using Finset.induction_on with
  | empty => simp
  | insert a s ha ih => rw [Finset.sum_insert ha, Finset.sum_insert ha, ih, h, EReal.coe_add]

theorem max_real (x y : ℝ) : max (x : EReal) (y : EReal) = ((max x y : ℝ) : EReal) :=
  (EReal.coe_strictMono.monotone.map_max).symm

/-- The greatest of finitely many finite numbers (at least one of them) is finite. -/
theorem fold_max_real {n : ℕ} [NeZero n] (F : Fin n → EReal) (h : ∀ k, ∃ x : ℝ, F k = (x : EReal)) :
    ∃ x : ℝ, Finset.fold max (⊥ : EReal) F Finset.univ = (x : EReal) := by
  have key : ∀ s : Finset (Fin n), s = ∅ ∨ ∃ x : ℝ, Finset.fold max (⊥ : EReal) F s = (x : EReal) := by
    intro s
    induction s using Finset.induction_on with
    | empty => exact .inl rfl
    | insert a s ha ih =>
      right
      obtain ⟨y, hy⟩ := h a
      rw [Finset.fold_insert ha, hy]
      rcases ih with rfl | ⟨x, hx⟩
      · exact ⟨y, by simp⟩
      · exact ⟨max y x, by rw [hx, max_real]⟩
  rcases key Finset.univ with h0 | h1
  · exact absurd h0 (Finset.univ_nonempty).ne_empty
  · exact h1

theorem exp2_real (x : ℝ) : Ideal.exp2 (x : EReal) = ((Real.exp (Real.log 2 * x) : ℝ) : EReal) := by
  rw [Ideal.exp2_coe]
  exact congrArg _ (Real.rpow_def_of_pos (by norm_num) x)

theorem log_real {x : ℝ} (h : 0 < x) : Ideal.log (x : EReal) = ((Real.log x : ℝ) : EReal) := by
  rw [Ideal.log_coe, if_neg (not_le.2 h)]

theorem one_div_real {x : ℝ} (h : x ≠ 0) : Ideal.div 1 (x : EReal) = ((1 / x : ℝ) : EReal) := by
  rw [Ideal.div_coe h, one_mul]

theorem log2_ne : Real.log 2 ≠ 0 := (Real.log_pos (by norm_num)).ne'

theorem sc_pos : 0 < sc := by unfold sc; positivity

end Cert.Attn
-- ==== Proof.FwdBlock.lean ====
module

public import proofs.«01_k».proof.Proof.Consts

/-!
What one step of the forward attention computes from finite blocks: a query block of 1024 rows against three blocks of
768 keys, by the running maximum. Whatever the maximum is, it drops out: the output is the softmax average and the saved
statistic the logarithm (to base 2) of the softmax's denominator.
-/

@[expose] public section

noncomputable section

open Idealize.ShloMosaic Cert.KernelIdeal Cert.KernelIdeal.Gen

namespace Cert.Attn

/-- The softmax's numerator of one query against one key. -/
def E (q k : Fin 128 → ℝ) : ℝ := Real.exp ((∑ l, q l * k l) * sc)

theorem E_pos (q k : Fin 128 → ℝ) : 0 < E q k := Real.exp_pos _

/-- What a running maximum `m` divides every numerator by. -/
def D (m : ℝ) : ℝ := Real.exp (-(Real.log 2 * m))

theorem D_pos (m : ℝ) : 0 < D m := Real.exp_pos _

theorem weight_eq (q k : Fin 128 → ℝ) (m : ℝ) :
    Real.exp (Real.log 2 * ((∑ l, q l * k l) * (sc * (Real.log 2)⁻¹) - m)) = E q k * D m := by
  unfold E D
  rw [← Real.exp_add]
  congr 1
  have := log2_ne
  field_simp
  ring

theorem D_rescale (m m' : ℝ) : D m * Real.exp (Real.log 2 * (m - m')) = D m' := by
  unfold D
  rw [← Real.exp_add]
  congr 1
  ring

/-- The scores of the query rows against one block of keys. -/
theorem scores_real (x : FVec Ideal S1024x128 .bf16) (y : FVec Ideal S768x128 .bf16) (q : Fin 1024 → Fin 128 → ℝ)
    (k : Fin 768 → Fin 128 → ℝ) (hx : ∀ r l, x (ix2 r l) = ((q r l : ℝ) : EReal))
    (hy : ∀ j l, y (ix2 j l) = ((k j l : ℝ) : EReal)) (r : Fin 1024) (j : Fin 768) :
    (∑ l, (x (ix2 r l) : EReal) * (y (ix2 j l) : EReal)) * Named.named (F := Ideal) κ "scale_log2e" (φ := .f32) 0x3E16C740#32
      = (((∑ l, q r l * k j l) * (sc * (Real.log 2)⁻¹) : ℝ) : EReal) := by
  rw [scaleLog2e_eq, sum_real _ _ (fun l => q r l * k j l) (fun l => by rw [hx, hy, EReal.coe_mul]), ← EReal.coe_mul]

/-- One chunk of weights: from real scores and a real maximum. -/
theorem weight_real (s m : EReal) (q k : Fin 128 → ℝ) (M : ℝ)
    (hs : s = (((∑ l, q l * k l) * (sc * (Real.log 2)⁻¹) : ℝ) : EReal)) (hm : m = (M : EReal)) :
    Ideal.exp2 (s - m) = ((E q k * D M : ℝ) : EReal) := by
  rw [hs, hm, ← EReal.coe_sub, exp2_real, weight_eq]

theorem max_read (a b : FVec Ideal S1024x1 .f32) (j : S1024x1.Idx) : maximumf a b j = (max (a j : EReal) (b j) : EReal) := rfl

/-- The greatest score of a row is finite when the row's scores are. -/
theorem rowMax_real (s : FVec Ideal S1024x768 .f32) (r : Fin 1024) (h : ∀ j, ∃ x : ℝ, s (ix2 r j) = (x : EReal)) :
    ∃ x : ℝ, shapeCast S1024x1 (multiReduction .maximumf [1] S1024 s 0xFF800000#32 reduces_S1024x768_S1024 (.inl rfl) rfl)
      shapeCasts_S1024_S1024x1 (ix2 r 0) = (x : EReal) := by
  pointwise []
  rw [negInf_eq]
  exact fold_max_real _ h

/-- The sum of a row of finite numbers. -/
theorem rowSum_real (s : FVec Ideal S1024x768 .f32) (r : Fin 1024) (f : Fin 768 → ℝ)
    (h : ∀ j, s (ix2 r j) = ((f j : ℝ) : EReal)) :
    shapeCast S1024x1 (multiReduction .add [1] S1024 s 0x00000000#32 reduces_S1024x768_S1024 (.inl rfl) rfl)
      shapeCasts_S1024_S1024x1 (ix2 r 0) = ((∑ j, f j : ℝ) : EReal) := by
  pointwise []
  exact sum_real _ _ _ h

/-- A running total rescaled and added to, at an index. -/
theorem axpy_read (a b c : FVec Ideal S1024x1 .f32) (j : S1024x1.Idx) :
    addf (mulf a b) c j = ((a j : EReal) * (b j : EReal) + (c j : EReal) : EReal) := rfl

/-- What a total is rescaled by when the maximum goes from `a` to `b`. -/
theorem rescale_real (a b : FVec Ideal S1024x1 .f32) (j : S1024x1.Idx) (x y : ℝ) (ha : a j = (x : EReal))
    (hb : b j = (y : EReal)) : exp2 (subf a b) j = ((Real.exp (Real.log 2 * (x - y)) : ℝ) : EReal) := by
  have h : exp2 (subf a b) j = Ideal.exp2 ((a j : EReal) - (b j : EReal)) := rfl
  rw [h, ha, hb, ← EReal.coe_sub, exp2_real]

section

variable (v0 : FVec Ideal S1024x128 .bf16) (q : Fin 1024 → Fin 128 → ℝ)
  (hq : ∀ r l, v0 (ix2 r l) = ((q r l : ℝ) : EReal))

include hq

theorem pay3_real (v2 : FVec Ideal S768x128 .bf16) (k : Fin 768 → Fin 128 → ℝ)
    (hk : ∀ j l, v2 (ix2 j l) = ((k j l : ℝ) : EReal)) (r : Fin 1024) (j : Fin 768) :
    k0_pay3 (F := Ideal) v0 v2 (ix2 r j) = (((∑ l, q r l * k j l) * (sc * (Real.log 2)⁻¹) : ℝ) : EReal) := by
  pointwise [k0_pay3, k0_pay2]
  exact scores_real v0 v2 q k hq hk r j

theorem pay13_real (v2 : FVec Ideal S768x128 .bf16) (k : Fin 768 → Fin 128 → ℝ)
    (hk : ∀ j l, v2 (ix2 j l) = ((k j l : ℝ) : EReal)) (r : Fin 1024) (j : Fin 768) :
    k0_pay13 (F := Ideal) v0 v2 (ix2 r j) = (((∑ l, q r l * k j l) * (sc * (Real.log 2)⁻¹) : ℝ) : EReal) := by
  pointwise [k0_pay13]
  exact scores_real v0 v2 q k hq hk r j

theorem pay6_real (v2 : FVec Ideal S768x128 .bf16) (k : Fin 768 → Fin 128 → ℝ)
    (hk : ∀ j l, v2 (ix2 j l) = ((k j l : ℝ) : EReal)) (r : Fin 1024) (j : Fin 768) :
    k0_pay6 (F := Ideal) v0 v2 (ix2 r j) = (((∑ l, q r l * k j l) * (sc * (Real.log 2)⁻¹) : ℝ) : EReal) := by
  pointwise [k0_pay6, k0_pay2]
  exact scores_real v0 v2 q k hq hk r j

/-- The whole step: three blocks of keys and values. -/
theorem fwd_real (a : BitVec 32) (y1 y2 y3 z1 z2 z3 : FVec Ideal S768x128 .bf16) (k : Fin 3 → Fin 768 → Fin 128 → ℝ)
    (v : Fin 3 → Fin 768 → Fin 128 → ℝ)
    (hk1 : ∀ j l, y1 (ix2 j l) = ((k 0 j l : ℝ) : EReal)) (hk2 : ∀ j l, y2 (ix2 j l) = ((k 1 j l : ℝ) : EReal))
    (hk3 : ∀ j l, y3 (ix2 j l) = ((k 2 j l : ℝ) : EReal))
    (hv1 : ∀ j l, z1 (ix2 j l) = ((v 0 j l : ℝ) : EReal)) (hv2 : ∀ j l, z2 (ix2 j l) = ((v 1 j l : ℝ) : EReal))
    (hv3 : ∀ j l, z3 (ix2 j l) = ((v 2 j l : ℝ) : EReal)) :
    ∃ M : Fin 1024 → ℝ,
      (∀ r, k0_pay14 (F := Ideal) (k0_pay2 (F := Ideal) v0) (k0_pay7 (F := Ideal) v0 y1 y2) y3 (ix2 r 0) = ((M r : ℝ) : EReal))
      ∧ (∀ r, k0_pay17 (F := Ideal) (k0_pay2 (F := Ideal) v0) (k0_pay7 (F := Ideal) v0 y1 y2) (k0_pay10 (F := Ideal) v0 y1 y2) y3 (ix2 r 0)
          = (((∑ c, ∑ j, E (q r) (k c j)) * D (M r) : ℝ) : EReal))
      ∧ (∀ r l, k0_pay18 (F := Ideal) (k0_pay2 (F := Ideal) v0) (k0_pay7 (F := Ideal) v0 y1 y2) (k0_pay11 (F := Ideal) v0 y1 z1 y2) (k0_pay12 (F := Ideal) v0 y1 y2) z2 y3 z3 (ix2 r l)
          = (((∑ c, ∑ j, E (q r) (k c j) * v c j l) * D (M r) : ℝ) : EReal)) := by
  have h1 : ∀ r, ∃ m : ℝ, k0_pay4 (F := Ideal) v0 y1 (ix2 r 0) = (m : EReal) := fun r => by
    unfold k0_pay4
    exact rowMax_real _ r fun j => ⟨_, pay3_real v0 q hq y1 (k 0) hk1 r j⟩
  choose m1 hm1 using h1
  have h2 : ∀ r, ∃ m : ℝ, k0_pay7 (F := Ideal) v0 y1 y2 (ix2 r 0) = (m : EReal) := fun r => by
    unfold k0_pay7
    dsimp only
    obtain ⟨x, hx⟩ := rowMax_real _ r fun j => ⟨_, pay6_real v0 q hq y2 (k 1) hk2 r j⟩
    exact ⟨max (m1 r) x, by rw [max_read, hx, hm1, max_real]⟩
  choose m2 hm2 using h2
  have hv1' : ∀ r l, k0_pay2 (F := Ideal) v0 (ix2 r l) = ((q r l : ℝ) : EReal) := fun r l => by
    pointwise [k0_pay2]
    exact hq r l
  have h3 : ∀ r, ∃ m : ℝ, k0_pay14 (F := Ideal) (k0_pay2 (F := Ideal) v0) (k0_pay7 (F := Ideal) v0 y1 y2) y3 (ix2 r 0) = (m : EReal) := fun r => by
    unfold k0_pay14
    dsimp only
    obtain ⟨x, hx⟩ := rowMax_real _ r fun j => ⟨_, pay13_real _ q hv1' y3 (k 2) hk3 r j⟩
    exact ⟨max (m2 r) x, by rw [max_read, hx, hm2, max_real]⟩
  choose m3 hm3 using h3
  have e1 : ∀ r j, k0_pay5 (F := Ideal) v0 y1 (ix2 r j) = ((E (q r) (k 0 j) * D (m1 r) : ℝ) : EReal) := fun r j => by
    pointwise [k0_pay5]
    exact weight_real _ _ _ _ _ (pay3_real v0 q hq y1 (k 0) hk1 r j) (hm1 r)
  have e2 : ∀ r j, k0_pay9 (F := Ideal) v0 y1 y2 (ix2 r j) = ((E (q r) (k 1 j) * D (m2 r) : ℝ) : EReal) := fun r j => by
    pointwise [k0_pay9]
    exact weight_real _ _ _ _ _ (pay6_real v0 q hq y2 (k 1) hk2 r j) (hm2 r)
  have e3 : ∀ r j, k0_pay16 (F := Ideal) (k0_pay2 (F := Ideal) v0) (k0_pay7 (F := Ideal) v0 y1 y2) y3 (ix2 r j)
      = ((E (q r) (k 2 j) * D (m3 r) : ℝ) : EReal) := fun r j => by
    pointwise [k0_pay16]
    exact weight_real _ _ _ _ _ (pay13_real _ q hv1' y3 (k 2) hk3 r j) (hm3 r)
  have r8 : ∀ r, k0_pay8 (F := Ideal) v0 y1 y2 (ix2 r 0) = ((Real.exp (Real.log 2 * (m1 r - m2 r)) : ℝ) : EReal) := fun r => by
    unfold k0_pay8
    exact rescale_real _ _ _ _ _ (hm1 r) (hm2 r)
  have r15 : ∀ r, k0_pay15 (F := Ideal) (k0_pay2 (F := Ideal) v0) (k0_pay7 (F := Ideal) v0 y1 y2) y3 (ix2 r 0)
      = ((Real.exp (Real.log 2 * (m2 r - m3 r)) : ℝ) : EReal) := fun r => by
    unfold k0_pay15
    exact rescale_real _ _ _ _ _ (hm2 r) (hm3 r)
  have l2 : ∀ r, k0_pay10 (F := Ideal) v0 y1 y2 (ix2 r 0)
      = (((∑ j, E (q r) (k 0 j) + ∑ j, E (q r) (k 1 j)) * D (m2 r) : ℝ) : EReal) := fun r => by
    unfold k0_pay10
    dsimp only
    rw [axpy_read, rowSum_real _ r _ (e1 r), rowSum_real _ r _ (e2 r), r8, ← EReal.coe_mul, ← EReal.coe_add, ← Finset.sum_mul,
      ← Finset.sum_mul, mul_assoc, D_rescale, add_mul]
  refine ⟨m3, hm3, fun r => ?_, fun r l => ?_⟩
  · unfold k0_pay17
    dsimp only
    rw [axpy_read, l2, r15, rowSum_real _ r _ (e3 r), ← EReal.coe_mul, ← EReal.coe_add, ← Finset.sum_mul, mul_assoc, D_rescale,
      ← add_mul, Fin.sum_univ_three]
  · have a1 : k0_pay11 (F := Ideal) v0 y1 z1 y2 (ix2 r l) = (((∑ j, E (q r) (k 0 j) * v 0 j l) * D (m2 r) : ℝ) : EReal) := by
      pointwise [k0_pay11]
      rw [sum_real _ _ (fun j => E (q r) (k 0 j) * v 0 j l * D (m1 r))
        (fun j => by rw [e1, hv1, ← EReal.coe_mul]; congr 1; ring), r8, ← EReal.coe_mul, ← Finset.sum_mul, mul_assoc,
        D_rescale]
    have a2 : ∀ j, k0_pay12 (F := Ideal) v0 y1 y2 (ix2 r j) = ((E (q r) (k 1 j) * D (m2 r) : ℝ) : EReal) := fun j => by
      pointwise [k0_pay12]
      exact e2 r j
    pointwise [k0_pay18]
    rw [a1, r15, sum_real _ _ (fun j => E (q r) (k 1 j) * v 1 j l * D (m2 r))
        (fun j => by rw [a2, hv2, ← EReal.coe_mul]; congr 1; ring),
      sum_real _ _ (fun j => E (q r) (k 2 j) * v 2 j l * D (m3 r))
        (fun j => by rw [e3, hv3, ← EReal.coe_mul]; congr 1; ring),
      ← EReal.coe_add, ← EReal.coe_mul, ← EReal.coe_add, ← Finset.sum_mul, ← Finset.sum_mul, ← add_mul, mul_assoc,
      D_rescale, ← add_mul, Fin.sum_univ_three]

end

/-- Which lanes of a pair of heads the head `h` owns: the comparison of the lane's half with the head's parity. -/
theorem mask_eq (h : Fin 8) (l : Fin 128) :
    (Scalar.select
        (IntOp.andi
          (IntOp.cmpi CmpIPredicate.ne
            (IntOp.subi (BitVec.setWidth 32 (IntOp.cmpi CmpIPredicate.sgt (BitVec.ofNat 32 l.val) 0#32))
              (BitVec.setWidth 32 (IntOp.cmpi CmpIPredicate.slt (BitVec.ofNat 32 l.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 l.val) 64#32) 0#32))
        (IntOp.subi (IntOp.divsi ArithUnit.vector (BitVec.ofNat 32 l.val) 64#32) 1#32)
        (IntOp.divsi ArithUnit.vector (BitVec.ofNat 32 l.val) 64#32) : BitVec 32) = BitVec.ofNat 32 (l.val / 64) := by
  revert l; decide +kernel

theorem parity_eq (h : Fin 8) :
    (Scalar.select
        (Scalar.andi
          (Scalar.xori
            (Scalar.cmpi CmpIPredicate.slt
              (Scalar.remsi (BitVec.ofNat 32 h.val) (Scalar.select (Scalar.cmpi CmpIPredicate.eq 2#32 0#32) 1#32 2#32)) 0#32)
            (Scalar.cmpi CmpIPredicate.slt (Scalar.select (Scalar.cmpi CmpIPredicate.eq 2#32 0#32) 1#32 2#32) 0#32))
          (Scalar.cmpi CmpIPredicate.ne
            (Scalar.remsi (BitVec.ofNat 32 h.val) (Scalar.select (Scalar.cmpi CmpIPredicate.eq 2#32 0#32) 1#32 2#32)) 0#32))
        (Scalar.addi (Scalar.remsi (BitVec.ofNat 32 h.val) (Scalar.select (Scalar.cmpi CmpIPredicate.eq 2#32 0#32) 1#32 2#32))
          (Scalar.select (Scalar.cmpi CmpIPredicate.eq 2#32 0#32) 1#32 2#32))
        (Scalar.remsi (BitVec.ofNat 32 h.val) (Scalar.select (Scalar.cmpi CmpIPredicate.eq 2#32 0#32) 1#32 2#32)) : BitVec 32)
      = BitVec.ofNat 32 (h.val % 2) := by
  revert h; decide +kernel

/-- Selecting by "the lane's half is the head's parity". -/
theorem select_half (h : Fin 8) (l : Fin 128) (x : EReal) :
    (Scalar.select (IntOp.cmpi CmpIPredicate.eq (BitVec.ofNat 32 (l.val / 64)) (BitVec.ofNat 32 (h.val % 2))) x 0 : EReal)
      = if l.val / 64 = h.val % 2 then x else 0 := by
  have key : ∀ (h : Fin 8) (l : Fin 128),
      (IntOp.cmpi CmpIPredicate.eq (BitVec.ofNat 32 (l.val / 64)) (BitVec.ofNat 32 (h.val % 2)) = 1#1)
        ↔ l.val / 64 = h.val % 2 := by decide +kernel
  unfold Scalar.select
  by_cases hc : l.val / 64 = h.val % 2
  · rw [if_pos hc, (key h l).2 hc]; rfl
  · rw [if_neg hc]
    have := (key h l).not.2 hc
    simp [this]

/-- The head's output: its rows divided by their denominators in its own lanes, zero in the other head's. -/
theorem pay22_real (h : Fin 8) (x : FVec Ideal S1024x1 .f32) (acc : FVec Ideal S1024x128 .f32) (L : Fin 1024 → ℝ)
    (N : Fin 1024 → Fin 128 → ℝ) (M : Fin 1024 → ℝ) (hL : ∀ r, 0 < L r)
    (hx : ∀ r, x (ix2 r 0) = ((L r * D (M r) : ℝ) : EReal))
    (ha : ∀ r l, acc (ix2 r l) = ((N r l * D (M r) : ℝ) : EReal)) (r : Fin 1024) (l : Fin 128) :
    k0_pay22 (F := Ideal) (BitVec.ofNat 32 h.val) x acc (iota .tc S1x128 32 [1] iota_S1x128_d1_w32) k0_pay19 k0_pay20
        k0_pay21 (ix2 r l)
      = ((if l.val / 64 = h.val % 2 then N r l / L r else 0 : ℝ) : EReal) := by
  pointwise [k0_pay22, k0_pay19, k0_pay20, k0_pay21]
  rw [mask_eq h l, parity_eq h, select_half h l, ha, hx, one_div_real (mul_pos (hL r) (D_pos _)).ne', ← EReal.coe_mul]
  have := (D_pos (M r)).ne'
  have := (hL r).ne'
  split_ifs
  · congr 1; field_simp
  · rfl

/-- The saved statistic: the denominator's logarithm to base 2, the same in every lane. -/
theorem pay23_real (x m : FVec Ideal S1024x1 .f32) (L : Fin 1024 → ℝ) (M : Fin 1024 → ℝ) (hL : ∀ r, 0 < L r)
    (hx : ∀ r, x (ix2 r 0) = ((L r * D (M r) : ℝ) : EReal)) (hm : ∀ r, m (ix2 r 0) = ((M r : ℝ) : EReal))
    (r : Fin 1024) (l : Fin 128) :
    k0_pay23 (F := Ideal) m x (ix2 r l) = ((Real.log (L r) * (Real.log 2)⁻¹ : ℝ) : EReal) := by
  pointwise [k0_pay23]
  rw [hm, hx, log_real (mul_pos (hL r) (D_pos _)), log2e_eq, ← EReal.coe_mul, ← EReal.coe_add,
    Real.log_mul (hL r).ne' (D_pos _).ne']
  congr 1
  unfold D
  rw [Real.log_exp]
  have := log2_ne
  field_simp
  ring

end Cert.Attn
-- ==== Proof.BwdBlock.lean ====
module

public import proofs.«01_k».proof.Proof.FwdBlock

/-!
What one step of the backward attention computes from finite blocks: a query block of 1024 rows of one head against three
blocks of 768 keys. The saved statistic turns the recomputed numerators into the softmax's probabilities.
-/

@[expose] public section

noncomputable section

open Idealize.ShloMosaic Cert.KernelIdeal Cert.KernelIdeal.Gen

namespace Cert.Attn

/-- What the saved statistic divides by: the denominator itself. -/
theorem D_log (L : ℝ) (hL : 0 < L) : D (Real.log L * (Real.log 2)⁻¹) = L⁻¹ := by
  unfold D
  have : -(Real.log 2 * (Real.log L * (Real.log 2)⁻¹)) = -Real.log L := by
    have := log2_ne
    field_simp
  rw [this, Real.exp_neg, Real.exp_log hL]

/-- The scores before scaling. -/
theorem dot_real (x : FVec Ideal S1024x128 .bf16) (y : FVec Ideal S768x128 .bf16) (q : Fin 1024 → Fin 128 → ℝ)
    (k : Fin 768 → Fin 128 → ℝ) (hx : ∀ r l, x (ix2 r l) = ((q r l : ℝ) : EReal))
    (hy : ∀ j l, y (ix2 j l) = ((k j l : ℝ) : EReal)) (r : Fin 1024) (j : Fin 768) :
    (∑ l, (x (ix2 r l) : EReal) * (y (ix2 j l) : EReal)) = ((∑ l, q r l * k j l : ℝ) : EReal) :=
  sum_real _ _ (fun l => q r l * k j l) (fun l => by rw [hx, hy, EReal.coe_mul])

/-- The head's half of the cotangent's lanes. -/
def half (h : ℕ) (g : Fin 1024 → Fin 128 → ℝ) (r : Fin 1024) (l : Fin 128) : ℝ := if l.val / 64 = h % 2 then g r l else 0

theorem masked_real (h : Fin 8) (x : FVec Ideal S1024x128 .bf16) (g : Fin 1024 → Fin 128 → ℝ)
    (hx : ∀ r l, x (ix2 r l) = ((g r l : ℝ) : EReal)) (r : Fin 1024) (l : Fin 128) :
    k1_pay11 (F := Ideal) (BitVec.ofNat 32 h.val) (iota .tc S1x128 32 [1] iota_S1x128_d1_w32) k1_pay8 k1_pay9 k1_pay10 x (ix2 r l)
      = ((half h.val g r l : ℝ) : EReal) := by
  pointwise [k1_pay11, k1_pay8, k1_pay9, k1_pay10]
  rw [mask_eq h l, parity_eq h, select_half h l, hx]
  unfold half
  split_ifs <;> rfl

/-- The row sums of the cotangent against the output. -/
theorem delta_real (h : Fin 8) (x o : FVec Ideal S1024x128 .bf16) (g p : Fin 1024 → Fin 128 → ℝ)
    (hx : ∀ r l, x (ix2 r l) = ((g r l : ℝ) : EReal)) (ho : ∀ r l, o (ix2 r l) = ((p r l : ℝ) : EReal)) (r : Fin 1024) :
    k1_pay12 (F := Ideal) (BitVec.ofNat 32 h.val) (iota .tc S1x128 32 [1] iota_S1x128_d1_w32) k1_pay8 k1_pay9 k1_pay10 x o (ix2 r 0)
      = ((∑ l, half h.val g r l * p r l : ℝ) : EReal) := by
  pointwise [k1_pay12]
  exact sum_real _ _ _ fun l => by rw [masked_real h x g hx, ho, ← EReal.coe_mul]

/-- One recomputed probability. -/
theorem prob_real (s m : EReal) (q k : Fin 128 → ℝ) (L : ℝ) (hL : 0 < L)
    (hs : s = (((∑ l, q l * k l) * (sc * (Real.log 2)⁻¹) : ℝ) : EReal)) (hm : m = ((Real.log L * (Real.log 2)⁻¹ : ℝ) : EReal)) :
    Ideal.exp2 (s - m) = ((E q k / L : ℝ) : EReal) := by
  rw [weight_real s m q k _ hs hm, D_log L hL, div_eq_mul_inv]

/-- One derivative of a score. -/
theorem slope_real (p d e : EReal) (P X Y : ℝ) (hp : p = (P : EReal)) (hd : d = (X : EReal)) (he : e = (Y : EReal)) :
    p * (d - e) * Named.named (F := Ideal) κ "scale" (φ := .f32) 0x3DD105EC#32 = ((P * (X - Y) * sc : ℝ) : EReal) := by
  rw [hp, hd, he, scale_eq, ← EReal.coe_sub, ← EReal.coe_mul, ← EReal.coe_mul]

/-- A total and a sum added to it. -/
theorem total_real {n : ℕ} (a : EReal) (F : Fin n → EReal) (A : ℝ) (f : Fin n → ℝ) (ha : a = (A : EReal))
    (h : ∀ i, F i = ((f i : ℝ) : EReal)) : a + ∑ i, F i = ((A + ∑ i, f i : ℝ) : EReal) := by
  rw [ha, sum_real _ _ f h, ← EReal.coe_add]

section

variable (v19 w : FVec Ideal S1024x128 .bf16) (q g : Fin 1024 → Fin 128 → ℝ)
  (hq : ∀ r l, v19 (ix2 r l) = ((q r l : ℝ) : EReal)) (hw : ∀ r l, w (ix2 r l) = ((g r l : ℝ) : EReal))
  (dl : FVec Ideal S1024x1 .f32) (δ : Fin 1024 → ℝ) (hδ : ∀ r, dl (ix2 r 0) = ((δ r : ℝ) : EReal))
  (ls : FVec Ideal S1024x1 .f32) (L : Fin 1024 → ℝ) (hL : ∀ r, 0 < L r)
  (hls : ∀ r, ls (ix2 r 0) = ((Real.log (L r) * (Real.log 2)⁻¹ : ℝ) : EReal))
  (y z : FVec Ideal S768x128 .bf16) (k v : Fin 768 → Fin 128 → ℝ)
  (hk : ∀ j l, y (ix2 j l) = ((k j l : ℝ) : EReal)) (hv : ∀ j l, z (ix2 j l) = ((v j l : ℝ) : EReal))

/-- The derivative of the loss in one score. -/
def slope (q g : Fin 128 → ℝ) (δ L : ℝ) (k v : Fin 128 → ℝ) : ℝ := E q k / L * ((∑ l, g l * v l) - δ) * sc

include hq hL hls hk

theorem p17_real (r : Fin 1024) (j : Fin 768) :
    k1_pay17 (F := Ideal) ls (k1_pay15 (F := Ideal) v19 y) (k1_pay16 (F := Ideal)) (ix2 r j) = ((E (q r) (k j) / L r : ℝ) : EReal) := by
  pointwise [k1_pay17, k1_pay15, k1_pay16]
  exact prob_real _ _ _ _ _ (hL r) (scores_real v19 y q k hq hk r j) (hls r)

theorem p22_real (r : Fin 1024) (j : Fin 768) :
    k1_pay22 (F := Ideal) v19 ls y (ix2 r j) = ((E (q r) (k j) / L r : ℝ) : EReal) := by
  pointwise [k1_pay22]
  exact prob_real _ _ _ _ _ (hL r) (scores_real v19 y q k hq hk r j) (hls r)

theorem p27_real (r : Fin 1024) (j : Fin 768) :
    k1_pay27 (F := Ideal) v19 ls y (ix2 r j) = ((E (q r) (k j) / L r : ℝ) : EReal) := by
  pointwise [k1_pay27]
  exact prob_real _ _ _ _ _ (hL r) (scores_real v19 y q k hq hk r j) (hls r)

include hw hδ hv

theorem p18_real (r : Fin 1024) (j : Fin 768) :
    k1_pay18 (F := Ideal) w dl ls (k1_pay15 (F := Ideal) v19 y) (k1_pay16 (F := Ideal)) z (ix2 r j)
      = ((slope (q r) (g r) (δ r) (L r) (k j) (v j) : ℝ) : EReal) := by
  pointwise [k1_pay18]
  exact slope_real _ _ _ _ _ _ (p17_real v19 q hq ls L hL hls y k hk r j) (dot_real w z g v hw hv r j) (hδ r)

theorem p23_real (r : Fin 1024) (j : Fin 768) :
    k1_pay23 (F := Ideal) w dl (k1_pay22 (F := Ideal) v19 ls y) z (ix2 r j)
      = ((slope (q r) (g r) (δ r) (L r) (k j) (v j) : ℝ) : EReal) := by
  pointwise [k1_pay23]
  exact slope_real _ _ _ _ _ _ (p22_real v19 q hq ls L hL hls y k hk r j) (dot_real w z g v hw hv r j) (hδ r)

theorem p1_real (r : Fin 1024) (j : Fin 768) :
    k1_pay1 (F := Ideal) dl (k1_pay27 (F := Ideal) v19 ls y) (k1_pay28 (F := Ideal) w z) (ix2 r j)
      = ((slope (q r) (g r) (δ r) (L r) (k j) (v j) : ℝ) : EReal) := by
  pointwise [k1_pay1, k1_pay28]
  exact slope_real _ _ _ _ _ _ (p27_real v19 q hq ls L hL hls y k hk r j) (dot_real w z g v hw hv r j) (hδ r)

/-- The key gradient's blocks of 768 rows: what was there and this step's sum over the query rows. -/
theorem p20_real (b : FVec Ideal S768x128 .f32) (β : Fin 768 → Fin 128 → ℝ) (hb : ∀ j l, b (ix2 j l) = ((β j l : ℝ) : EReal))
    (j : Fin 768) (l : Fin 128) :
    k1_pay20 (F := Ideal) v19 w dl ls (k1_pay15 (F := Ideal) v19 y) (k1_pay16 (F := Ideal)) z b (ix2 j l)
      = ((β j l + ∑ r, slope (q r) (g r) (δ r) (L r) (k j) (v j) * q r l : ℝ) : EReal) := by
  pointwise [k1_pay20]
  exact total_real _ _ _ _ (hb j l) fun r => by
    rw [p18_real v19 w q g hq hw dl δ hδ ls L hL hls y z k v hk hv, hq, ← EReal.coe_mul]

theorem p25_real (b : FVec Ideal S768x128 .f32) (β : Fin 768 → Fin 128 → ℝ) (hb : ∀ j l, b (ix2 j l) = ((β j l : ℝ) : EReal))
    (j : Fin 768) (l : Fin 128) :
    k1_pay25 (F := Ideal) v19 w dl (k1_pay22 (F := Ideal) v19 ls y) z b (ix2 j l)
      = ((β j l + ∑ r, slope (q r) (g r) (δ r) (L r) (k j) (v j) * q r l : ℝ) : EReal) := by
  pointwise [k1_pay25]
  exact total_real _ _ _ _ (hb j l) fun r => by
    rw [p23_real v19 w q g hq hw dl δ hδ ls L hL hls y z k v hk hv, hq, ← EReal.coe_mul]

theorem p3_real (b : FVec Ideal S768x128 .f32) (β : Fin 768 → Fin 128 → ℝ) (hb : ∀ j l, b (ix2 j l) = ((β j l : ℝ) : EReal))
    (j : Fin 768) (l : Fin 128) :
    k1_pay3 (F := Ideal) v19 dl (k1_pay27 (F := Ideal) v19 ls y) (k1_pay28 (F := Ideal) w z) b (ix2 j l)
      = ((β j l + ∑ r, slope (q r) (g r) (δ r) (L r) (k j) (v j) * q r l : ℝ) : EReal) := by
  pointwise [k1_pay3]
  exact total_real _ _ _ _ (hb j l) fun r => by
    rw [p1_real v19 w q g hq hw dl δ hδ ls L hL hls y z k v hk hv, hq, ← EReal.coe_mul]

omit hδ hv

/-- The value gradient's blocks of 768 rows. -/
theorem p21_real (b : FVec Ideal S768x128 .f32) (β : Fin 768 → Fin 128 → ℝ) (hb : ∀ j l, b (ix2 j l) = ((β j l : ℝ) : EReal))
    (j : Fin 768) (l : Fin 128) :
    k1_pay21 (F := Ideal) w ls (k1_pay15 (F := Ideal) v19 y) (k1_pay16 (F := Ideal)) b (ix2 j l)
      = ((β j l + ∑ r, E (q r) (k j) / L r * g r l : ℝ) : EReal) := by
  pointwise [k1_pay21]
  exact total_real _ _ _ _ (hb j l) fun r => by rw [p17_real v19 q hq ls L hL hls y k hk, hw, ← EReal.coe_mul]

theorem p26_real (b : FVec Ideal S768x128 .f32) (β : Fin 768 → Fin 128 → ℝ) (hb : ∀ j l, b (ix2 j l) = ((β j l : ℝ) : EReal))
    (j : Fin 768) (l : Fin 128) :
    k1_pay26 (F := Ideal) w (k1_pay22 (F := Ideal) v19 ls y) b (ix2 j l)
      = ((β j l + ∑ r, E (q r) (k j) / L r * g r l : ℝ) : EReal) := by
  pointwise [k1_pay26]
  exact total_real _ _ _ _ (hb j l) fun r => by rw [p22_real v19 q hq ls L hL hls y k hk, hw, ← EReal.coe_mul]

theorem p4_real (b : FVec Ideal S768x128 .f32) (β : Fin 768 → Fin 128 → ℝ) (hb : ∀ j l, b (ix2 j l) = ((β j l : ℝ) : EReal))
    (j : Fin 768) (l : Fin 128) :
    k1_pay4 (F := Ideal) w (k1_pay27 (F := Ideal) v19 ls y) b (ix2 j l)
      = ((β j l + ∑ r, E (q r) (k j) / L r * g r l : ℝ) : EReal) := by
  pointwise [k1_pay4]
  exact total_real _ _ _ _ (hb j l) fun r => by rw [p27_real v19 q hq ls L hL hls y k hk, hw, ← EReal.coe_mul]

end

/-- The query gradient of the step: over the three blocks of keys. -/
theorem dq_real (v19 w : FVec Ideal S1024x128 .bf16) (q g : Fin 1024 → Fin 128 → ℝ)
    (hq : ∀ r l, v19 (ix2 r l) = ((q r l : ℝ) : EReal)) (hw : ∀ r l, w (ix2 r l) = ((g r l : ℝ) : EReal))
    (dl : FVec Ideal S1024x1 .f32) (δ : Fin 1024 → ℝ) (hδ : ∀ r, dl (ix2 r 0) = ((δ r : ℝ) : EReal))
    (ls : FVec Ideal S1024x1 .f32) (L : Fin 1024 → ℝ) (hL : ∀ r, 0 < L r)
    (hls : ∀ r, ls (ix2 r 0) = ((Real.log (L r) * (Real.log 2)⁻¹ : ℝ) : EReal))
    (y1 y2 y3 z1 z2 z3 : FVec Ideal S768x128 .bf16) (k v : Fin 3 → Fin 768 → Fin 128 → ℝ)
    (hk1 : ∀ j l, y1 (ix2 j l) = ((k 0 j l : ℝ) : EReal)) (hk2 : ∀ j l, y2 (ix2 j l) = ((k 1 j l : ℝ) : EReal))
    (hk3 : ∀ j l, y3 (ix2 j l) = ((k 2 j l : ℝ) : EReal))
    (hv1 : ∀ j l, z1 (ix2 j l) = ((v 0 j l : ℝ) : EReal)) (hv2 : ∀ j l, z2 (ix2 j l) = ((v 1 j l : ℝ) : EReal))
    (hv3 : ∀ j l, z3 (ix2 j l) = ((v 2 j l : ℝ) : EReal)) (r : Fin 1024) (l : Fin 128) :
    k1_pay2 (F := Ideal) dl
        (k1_pay24 (F := Ideal) w dl
          (k1_pay19 (F := Ideal) w dl ls (k1_pay14 (F := Ideal)) (k1_pay15 (F := Ideal) v19 y1) (k1_pay16 (F := Ideal)) z1 y1)
          (k1_pay22 (F := Ideal) v19 ls y2) z2 y2)
        (k1_pay27 (F := Ideal) v19 ls y3) (k1_pay28 (F := Ideal) w z3) y3 (ix2 r l)
      = ((∑ c, ∑ j, slope (q r) (g r) (δ r) (L r) (k c j) (v c j) * k c j l : ℝ) : EReal) := by
  have h1 : k1_pay19 (F := Ideal) w dl ls (k1_pay14 (F := Ideal)) (k1_pay15 (F := Ideal) v19 y1) (k1_pay16 (F := Ideal)) z1 y1
      (ix2 r l) = ((∑ j, slope (q r) (g r) (δ r) (L r) (k 0 j) (v 0 j) * k 0 j l : ℝ) : EReal) := by
    pointwise [k1_pay19, k1_pay14]
    rw [sum_real _ _ (fun j => slope (q r) (g r) (δ r) (L r) (k 0 j) (v 0 j) * k 0 j l) fun j => by
      rw [p18_real v19 w q g hq hw dl δ hδ ls L hL hls y1 z1 (k 0) (v 0) hk1 hv1, hk1, ← EReal.coe_mul]]
  have h2 : k1_pay24 (F := Ideal) w dl
      (k1_pay19 (F := Ideal) w dl ls (k1_pay14 (F := Ideal)) (k1_pay15 (F := Ideal) v19 y1) (k1_pay16 (F := Ideal)) z1 y1)
      (k1_pay22 (F := Ideal) v19 ls y2) z2 y2 (ix2 r l)
      = (((∑ j, slope (q r) (g r) (δ r) (L r) (k 0 j) (v 0 j) * k 0 j l)
        + ∑ j, slope (q r) (g r) (δ r) (L r) (k 1 j) (v 1 j) * k 1 j l : ℝ) : EReal) := by
    pointwise [k1_pay24]
    exact total_real _ _ _ _ h1 fun j => by
      rw [p23_real v19 w q g hq hw dl δ hδ ls L hL hls y2 z2 (k 1) (v 1) hk2 hv2, hk2, ← EReal.coe_mul]
  have h3 := total_real (k1_pay24 (F := Ideal) w dl
      (k1_pay19 (F := Ideal) w dl ls (k1_pay14 (F := Ideal)) (k1_pay15 (F := Ideal) v19 y1) (k1_pay16 (F := Ideal)) z1 y1)
      (k1_pay22 (F := Ideal) v19 ls y2) z2 y2 (ix2 r l))
    (fun j => (k1_pay1 (F := Ideal) dl (k1_pay27 (F := Ideal) v19 ls y3) (k1_pay28 (F := Ideal) w z3) (ix2 r j) : EReal) * (y3 (ix2 j l) : EReal))
    _ (fun j => slope (q r) (g r) (δ r) (L r) (k 2 j) (v 2 j) * k 2 j l) h2 fun j => by
      rw [p1_real v19 w q g hq hw dl δ hδ ls L hL hls y3 z3 (k 2) (v 2) hk3 hv3, hk3, ← EReal.coe_mul]
  pointwise [k1_pay2]
  rw [h3, Fin.sum_univ_three]

end Cert.Attn
-- ==== Proof.FwdOut.lean ====
module

public import proofs.«01_k».proof.Proof.BwdBlock
public import proofs.«01_k».proof.Proof.Fwd.Frame
public import Idealize.ShloMosaic.Lib.Pipeline.Value
public import Idealize.ShloMosaic.Lib.Pipeline.ValueKit.Tiles
public import Idealize.ShloMosaic.Lib.Tactic

/-!
What the forward attention's body leaves in its two output blocks, on finite input blocks.
-/

@[expose] public section

noncomputable section

open Idealize.ShloMosaic Idealize.ShloMosaic.TcCoe Cert.KernelIdeal Cert.KernelIdeal.Gen

namespace Cert.Attn

theorem hz : (![0, 0] : Fin 2 → Nat) = fun _ => 0 := funext fun a => by fin_cases a <;> rfl

/-- Row `j` of the `c`-th block of 768 rows. -/
def row (c : Fin 3) (j : Fin 768) : Fin 2304 := ⟨768 * c.val + j.val, by omega⟩

theorem sum_row (f : Fin 2304 → ℝ) : ∑ c, ∑ j, f (row c j) = ∑ K, f K := by
  rw [← Fintype.sum_prod_type' (fun c j => f (row c j))]
  refine Fintype.sum_equiv (finProdFinEquiv (m := 3) (n := 768)) _ _ fun p => congrArg f (Fin.ext ?_)
  show 768 * p.1.val + p.2.val = p.2.val + 768 * p.1.val
  omega

/-- A block of 768 rows loaded from 2304. -/
theorem ld_row {e : EltTy} (x : Vec Ideal S2304x128 e) (c : Fin 3) (o : ℕ) (ho : o = 768 * c.val)
    (inb : ∀ a, (![o, 0] : Fin 2 → ℕ) a + S768x128.size a ≤ S2304x128.size a) (j : Fin 768) (l : Fin 128) :
    View.ld x (Rect.unit (s := S2304x128) ![o, 0] S768x128.size inb) (ix2 j l) = x (ix2 (row c j) l) := by
  subst ho
  refine View.ld_unit_apply_of x _ _ inb (ix2 j l) (ix2 (row c j) l) fun a => ?_
  fin_cases a
  · rfl
  · exact (Nat.zero_add _).symm

/-- The softmax's denominator of a query over all keys. -/
def den (q : Fin 128 → ℝ) (k : Fin 2304 → Fin 128 → ℝ) : ℝ := ∑ K, E q (k K)

theorem den_pos (q : Fin 128 → ℝ) (k : Fin 2304 → Fin 128 → ℝ) : 0 < den q k :=
  Finset.sum_pos (fun K _ => E_pos _ _) Finset.univ_nonempty

/-- The softmax average of the values. -/
def avg (q : Fin 128 → ℝ) (k v : Fin 2304 → Fin 128 → ℝ) (l : Fin 128) : ℝ := (∑ K, E q (k K) * v K l) / den q k

/-- The step on whole blocks of keys and values, its three loads of 768 rows read back. -/
theorem fwd_rows (x0 : Vec Ideal S1024x128 .bf16) (x1 x2 : Vec Ideal S2304x128 .bf16)
    (q : Fin 1024 → Fin 128 → ℝ) (k v : Fin 2304 → Fin 128 → ℝ)
    (hq : ∀ r l, x0 (ix2 r l) = ((q r l : ℝ) : EReal)) (hk : ∀ K l, x1 (ix2 K l) = ((k K l : ℝ) : EReal))
    (hv : ∀ K l, x2 (ix2 K l) = ((v K l : ℝ) : EReal)) :
    let ld (x : Vec Ideal S2304x128 .bf16) (o : ℕ) (inb : ∀ a, (![o, 0] : Fin 2 → ℕ) a + S768x128.size a ≤ S2304x128.size a) :
      Vec Ideal S768x128 .bf16 := View.ld x (Rect.unit (s := S2304x128) ![o, 0] S768x128.size inb)
    let y1 := ld x1 0 inb_S2304x128_S768x128_0_0
    let y2 := ld x1 768 inb_S2304x128_S768x128_768_0
    let y3 := ld x1 1536 inb_S2304x128_S768x128_1536_0
    let z1 := ld x2 0 inb_S2304x128_S768x128_0_0
    let z2 := ld x2 768 inb_S2304x128_S768x128_768_0
    let z3 := ld x2 1536 inb_S2304x128_S768x128_1536_0
    ∃ M : Fin 1024 → ℝ,
      (∀ r, k0_pay14 (F := Ideal) (k0_pay2 (F := Ideal) x0) (k0_pay7 (F := Ideal) x0 y1 y2) y3 (ix2 r 0) = ((M r : ℝ) : EReal))
      ∧ (∀ r, k0_pay17 (F := Ideal) (k0_pay2 (F := Ideal) x0) (k0_pay7 (F := Ideal) x0 y1 y2) (k0_pay10 (F := Ideal) x0 y1 y2) y3 (ix2 r 0)
          = ((den (q r) k * D (M r) : ℝ) : EReal))
      ∧ (∀ r l, k0_pay18 (F := Ideal) (k0_pay2 (F := Ideal) x0) (k0_pay7 (F := Ideal) x0 y1 y2) (k0_pay11 (F := Ideal) x0 y1 z1 y2) (k0_pay12 (F := Ideal) x0 y1 y2) z2 y3 z3 (ix2 r l)
          = (((∑ K, E (q r) (k K) * v K l) * D (M r) : ℝ) : EReal)) := by
  intro ld y1 y2 y3 z1 z2 z3
  obtain ⟨M, h14, h17, h18⟩ := fwd_real x0 q hq 0 y1 y2 y3 z1 z2 z3 (fun c j => k (row c j)) (fun c j => v (row c j))
    (fun j l => (ld_row x1 0 0 rfl inb_S2304x128_S768x128_0_0 j l).trans (hk _ _))
    (fun j l => (ld_row x1 1 768 rfl inb_S2304x128_S768x128_768_0 j l).trans (hk _ _))
    (fun j l => (ld_row x1 2 1536 rfl inb_S2304x128_S768x128_1536_0 j l).trans (hk _ _))
    (fun j l => (ld_row x2 0 0 rfl inb_S2304x128_S768x128_0_0 j l).trans (hv _ _))
    (fun j l => (ld_row x2 1 768 rfl inb_S2304x128_S768x128_768_0 j l).trans (hv _ _))
    (fun j l => (ld_row x2 2 1536 rfl inb_S2304x128_S768x128_1536_0 j l).trans (hv _ _))
  refine ⟨M, h14, fun r => (h17 r).trans ?_, fun r l => (h18 r l).trans ?_⟩
  · rw [sum_row fun K => E (q r) (k K)]
    rfl
  · rw [sum_row fun K => E (q r) (k K) * v K l]

theorem pay1_read (a b : FVec Ideal S1024x128 .bf16) (j : S1024x128.Idx) :
    k0_pay1 (F := Ideal) a b j = ((b j : EReal) + (a j : EReal) : EReal) := by
  unfold k0_pay1
  rw [shapeCast_self]
  rfl

section

variable (c : Dev nD) (i : grid0.Coords) (arg2 : Memref sig .tc .vmem S1024x128 .bf16) (harg2 : arg2.IsWhole)
  (arg3 : Memref sig .tc .vmem S2304x128 .bf16) (harg3 : arg3.IsWhole) (arg4 : Memref sig .tc .vmem S2304x128 .bf16)
  (harg4 : arg4.IsWhole) (arg5 : Memref sig .tc .vmem S1024x128 .bf16) (harg5 : arg5.IsWhole)
  (arg6 : Memref sig .tc .vmem S1024x128 .f32) (harg6 : arg6.IsWhole)
  (x0 : Vec Ideal S1024x128 .bf16) (x1 x2 : Vec Ideal S2304x128 .bf16)
  (q : Fin 1024 → Fin 128 → ℝ) (k v : Fin 2304 → Fin 128 → ℝ)
  (hq : ∀ r l, x0 (ix2 r l) = ((q r l : ℝ) : EReal)) (hk : ∀ K l, x1 (ix2 K l) = ((k K l : ℝ) : EReal))
  (hv : ∀ K l, x2 (ix2 K l) = ((v K l : ℝ) : EReal))

include hq hk hv

theorem outA3_real (hc0 : Fwd.cond0_0 i) (hc1 : ¬Fwd.cond0_1 i) (r : Fin 1024) (l : Fin 128) :
    Fwd.out0_A_3 (F := Ideal) c i arg2 harg2 arg3 harg3 arg4 harg4 arg5 harg5 arg6 harg6 hc0 hc1 x0 x1 x2 (ix2 r l)
      = ((if l.val / 64 = (i 1).val % 2 then avg (q r) k v l else 0 : ℝ) : EReal) := by
  unfold Fwd.out0_A_3
  rw [View.read_writes_eq_canon _ _ _ (Fwd.cover0_A_3 c i arg2 harg2 arg3 harg3 arg4 harg4 arg5 harg5 arg6 harg6 hc0 hc1 x0 x1 x2)]
  unfold Fwd.kernelRun0_A
  dsimp only
  sl_unfold_words
  rw [View.canon_unit_zero (S := S1024x128) hz]
  simp only [View.readAt_eq_ld, harg2.read_unread, harg3.read_unread, harg4.read_unread, View.ld_unit_zero (S := S1024x128) hz]
  obtain ⟨M, h14, h17, h18⟩ := fwd_rows x0 x1 x2 q k v hq hk hv
  exact pay22_real (i 1) _ _ (fun r => den (q r) k) (fun r l => ∑ K, E (q r) (k K) * v K l) M (fun r => den_pos _ _) h17 h18 r l

theorem outA4_real (hc0 : Fwd.cond0_0 i) (hc1 : ¬Fwd.cond0_1 i) (r : Fin 1024) (l : Fin 128) :
    Fwd.out0_A_4 (F := Ideal) c i arg2 harg2 arg3 harg3 arg4 harg4 arg5 harg5 arg6 harg6 hc0 hc1 x0 x1 x2 (ix2 r l)
      = ((Real.log (den (q r) k) * (Real.log 2)⁻¹ : ℝ) : EReal) := by
  unfold Fwd.out0_A_4
  rw [View.read_writes_eq_canon _ _ _ (Fwd.cover0_A_4 c i arg2 harg2 arg3 harg3 arg4 harg4 arg5 harg5 arg6 harg6 hc0 hc1 x0 x1 x2)]
  unfold Fwd.kernelRun0_A
  dsimp only
  sl_unfold_words
  rw [View.canon_unit_zero (S := S1024x128) hz]
  simp only [View.readAt_eq_ld, harg2.read_unread, harg3.read_unread, harg4.read_unread, View.ld_unit_zero (S := S1024x128) hz]
  obtain ⟨M, h14, h17, h18⟩ := fwd_rows x0 x1 x2 q k v hq hk hv
  exact pay23_real _ _ (fun r => den (q r) k) M (fun r => den_pos _ _) h17 h14 r l

theorem outB3_real (hc0 : ¬Fwd.cond0_0 i) (hc1 : Fwd.cond0_1 i) (xo : Vec Ideal S1024x128 .bf16) (w : Fin 1024 → Fin 128 → ℝ)
    (hw : ∀ r l, xo (ix2 r l) = ((w r l : ℝ) : EReal)) (r : Fin 1024) (l : Fin 128) :
    Fwd.out0_B_3 (F := Ideal) c i arg2 harg2 arg3 harg3 arg4 harg4 arg5 harg5 arg6 harg6 hc0 hc1 x0 x1 x2 xo (ix2 r l)
      = ((w r l + if l.val / 64 = (i 1).val % 2 then avg (q r) k v l else 0 : ℝ) : EReal) := by
  unfold Fwd.out0_B_3
  rw [View.read_writes_eq_canon _ _ _ (Fwd.cover0_B_3 c i arg2 harg2 arg3 harg3 arg4 harg4 arg5 harg5 arg6 harg6 hc0 hc1 x0 x1 x2 xo)]
  unfold Fwd.kernelRun0_B
  dsimp only
  sl_unfold_words
  rw [View.canon_unit_zero (S := S1024x128) hz]
  simp only [View.readAt_eq_ld, harg2.read_unread, harg3.read_unread, harg4.read_unread, harg5.read_unread,
    View.ld_unit_zero (S := S1024x128) hz]
  obtain ⟨M, h14, h17, h18⟩ := fwd_rows x0 x1 x2 q k v hq hk hv
  refine (pay1_read _ _ _).trans ?_
  rw [hw]
  refine (congrArg (fun x : EReal => ((w r l : ℝ) : EReal) + x) (pay22_real (i 1) _ _ (fun r => den (q r) k) (fun r l => ∑ K, E (q r) (k K) * v K l) M (fun r => den_pos _ _)
    h17 h18 r l)).trans (EReal.coe_add _ _).symm

theorem outB4_real (hc0 : ¬Fwd.cond0_0 i) (hc1 : Fwd.cond0_1 i) (xo : Vec Ideal S1024x128 .bf16) (r : Fin 1024) (l : Fin 128) :
    Fwd.out0_B_4 (F := Ideal) c i arg2 harg2 arg3 harg3 arg4 harg4 arg5 harg5 arg6 harg6 hc0 hc1 x0 x1 x2 xo (ix2 r l)
      = ((Real.log (den (q r) k) * (Real.log 2)⁻¹ : ℝ) : EReal) := by
  unfold Fwd.out0_B_4
  rw [View.read_writes_eq_canon _ _ _ (Fwd.cover0_B_4 c i arg2 harg2 arg3 harg3 arg4 harg4 arg5 harg5 arg6 harg6 hc0 hc1 x0 x1 x2 xo)]
  unfold Fwd.kernelRun0_B
  dsimp only
  sl_unfold_words
  rw [View.canon_unit_zero (S := S1024x128) hz]
  simp only [View.readAt_eq_ld, harg2.read_unread, harg3.read_unread, harg4.read_unread, View.ld_unit_zero (S := S1024x128) hz]
  obtain ⟨M, h14, h17, h18⟩ := fwd_rows x0 x1 x2 q k v hq hk hv
  exact pay23_real _ _ (fun r => den (q r) k) M (fun r => den_pos _ _) h17 h14 r l

end

end Cert.Attn
-- ==== Proof.BwdOut.lean ====
module

public import proofs.«01_k».proof.Proof.FwdOut
public import proofs.«01_k».proof.Proof.Bwd.Frame
public import Idealize.ShloMosaic.Lib.Pipeline.RowLoads

/-!
What the backward attention's body leaves in its three output blocks, on finite input blocks: the query gradient of its own
rows, and the key and value gradients added to what the blocks held (zero where the body first clears them).
-/

@[expose] public section

noncomputable section

open Idealize.ShloMosaic Idealize.ShloMosaic.TcCoe Cert.KernelIdeal Cert.KernelIdeal.Gen

namespace Cert.Attn

/-- Every row of 2304 is one of a block of 768. -/
theorem exists_row (K : Fin 2304) : ∃ c j, K = row c j :=
  ⟨⟨K.val / 768, by omega⟩, ⟨K.val % 768, by omega⟩, Fin.ext (by show K.val = 768 * (K.val / 768) + K.val % 768; omega)⟩

/-- The place of a row's element in the rectangle of its block. -/
theorem emb_row (c : Fin 3) (o : ℕ) (ho : o = 768 * c.val)
    (inb : ∀ a, (![o, 0] : Fin 2 → ℕ) a + S768x128.size a ≤ S2304x128.size a) (j : Fin 768) (l : Fin 128) :
    (Rect.unit (s := S2304x128) ![o, 0] S768x128.size inb).emb (ix2 j l) = ix2 (row c j) l := by
  subst ho
  funext a
  apply Fin.ext
  fin_cases a
  · show 768 * c.val + 1 * j.val = 768 * c.val + j.val
    omega
  · show 0 + 1 * l.val = l.val
    omega

theorem not_mem_row (c : Fin 3) (o : ℕ) (ho : o + 768 ≤ 768 * c.val ∨ 768 * c.val + 768 ≤ o)
    (inb : ∀ a, (![o, 0] : Fin 2 → ℕ) a + S768x128.size a ≤ S2304x128.size a) (j : Fin 768) (l : Fin 128) :
    ix2 (row c j) l ∉ (Rect.unit (s := S2304x128) ![o, 0] S768x128.size inb).set := by
  intro hm
  obtain ⟨x, hx⟩ := (Rect.unit (s := S2304x128) ![o, 0] S768x128.size inb).exists_idx_of_mem hm
  have h0 := congrArg (fun y : S2304x128.Idx => (y 0).val) hx
  have h1 : o + 1 * (x 0).val = 768 * c.val + j.val := h0
  have h2 : (x 0).val < 768 := (x 0).isLt
  have := j.isLt
  omega

section

variable (w0 w1 w2 : Vec Ideal S768x128 .f32) (L : List (View.Piece (Elt Ideal) S2304x128 .f32))

theorem canon_off (c : Fin 3) (o : ℕ) (ho : o + 768 ≤ 768 * c.val ∨ 768 * c.val + 768 ≤ o)
    (inb : ∀ a, (![o, 0] : Fin 2 → ℕ) a + S768x128.size a ≤ S2304x128.size a) (w : Vec Ideal S768x128 .f32) (j : Fin 768) (l : Fin 128) :
    View.canon ((⟨Rect.unit (s := S2304x128) ![o, 0] S768x128.size inb, w⟩ : View.Piece (Elt Ideal) S2304x128 .f32) :: L) (ix2 (row c j) l)
      = View.canon L (ix2 (row c j) l) :=
  View.canon_cons_of_not_mem ⟨Rect.unit (s := S2304x128) ![o, 0] S768x128.size inb, w⟩ L (not_mem_row c o ho inb j l)

theorem canon_on (c : Fin 3) (o : ℕ) (ho : o = 768 * c.val)
    (inb : ∀ a, (![o, 0] : Fin 2 → ℕ) a + S768x128.size a ≤ S2304x128.size a) (w : Vec Ideal S768x128 .f32) (j : Fin 768) (l : Fin 128) :
    View.canon ((⟨Rect.unit (s := S2304x128) ![o, 0] S768x128.size inb, w⟩ : View.Piece (Elt Ideal) S2304x128 .f32) :: L) (ix2 (row c j) l)
      = w (ix2 j l) := by
  have h := View.canon_cons_emb (Rect.unit (s := S2304x128) ![o, 0] S768x128.size inb) w L (ix2 j l)
  rwa [emb_row c o ho inb j l] at h

/-- Three blocks of 768 rows written last, read back: each row from its own block. -/
theorem canon_blocks (f : Fin 2304 → Fin 128 → ℝ) (h0 : ∀ j l, w0 (ix2 j l) = ((f (row 0 j) l : ℝ) : EReal))
    (h1 : ∀ j l, w1 (ix2 j l) = ((f (row 1 j) l : ℝ) : EReal)) (h2 : ∀ j l, w2 (ix2 j l) = ((f (row 2 j) l : ℝ) : EReal))
    (K : Fin 2304) (l : Fin 128) :
    View.canon ((⟨Rect.unit (s := S2304x128) ![1536, 0] S768x128.size inb_S2304x128_S768x128_1536_0, w2⟩ : View.Piece (Elt Ideal) S2304x128 .f32)
      :: ⟨Rect.unit (s := S2304x128) ![768, 0] S768x128.size inb_S2304x128_S768x128_768_0, w1⟩
      :: ⟨Rect.unit (s := S2304x128) ![0, 0] S768x128.size inb_S2304x128_S768x128_0_0, w0⟩ :: L) (ix2 K l)
      = ((f K l : ℝ) : EReal) := by
  obtain ⟨c, j, rfl⟩ := exists_row K
  match c with
  | 0 => rw [canon_off _ 0 1536 (.inr (by norm_num)), canon_off _ 0 768 (.inr (by norm_num)), canon_on _ 0 0 rfl, h0]
  | 1 => rw [canon_off _ 1 1536 (.inr (by norm_num)), canon_on _ 1 768 rfl, h1]
  | 2 => rw [canon_on _ 2 1536 rfl, h2]

/-- A block of 768 rows of a cleared buffer, before anything else was written to it. -/
theorem cleared {sp : Space} (V : View sig .tc sp S2304x128 .f32) (z : Vec Ideal S2304x128 .f32) (hzero : ∀ y, z y = (0 : EReal)) (o : ℕ)
    (inb : ∀ a, (![o, 0] : Fin 2 → ℕ) a + S768x128.size a ≤ S2304x128.size a) (y : S768x128.Idx) :
    V.readCov [(⟨Rect.unit (s := S2304x128) ![0, 0] S2304x128.size inb_S2304x128_S2304x128_0_0, z⟩ : View.Piece (Elt Ideal) S2304x128 .f32)]
      (Rect.unit (s := S2304x128) ![o, 0] S768x128.size inb).toLoadRect y = (0 : EReal) := by
  rw [View.readCov_eq_canon', View.canon_unit_zero (S := S2304x128) hz]
  exact hzero _

/-- A block read after other blocks were written. -/
theorem skip {sp : Space} (V : View sig .tc sp S2304x128 .f32) (o o' : ℕ) (h : o + 768 ≤ o' ∨ o' + 768 ≤ o)
    (inb : ∀ a, (![o, 0] : Fin 2 → ℕ) a + S768x128.size a ≤ S2304x128.size a)
    (inb' : ∀ a, (![o', 0] : Fin 2 → ℕ) a + S768x128.size a ≤ S2304x128.size a) (w : Vec Ideal S768x128 .f32) :
    V.readCov ((⟨Rect.unit (s := S2304x128) ![o, 0] S768x128.size inb, w⟩ : View.Piece (Elt Ideal) S2304x128 .f32) :: L)
      (Rect.unit (s := S2304x128) ![o', 0] S768x128.size inb').toLoadRect
      = V.readCov L (Rect.unit (s := S2304x128) ![o', 0] S768x128.size inb').toLoadRect :=
  View.readCov_cons_of_rows_disjoint V o o' h w L inb inb'

end

theorem pay5_zero (y : S2304x128.Idx) : k1_pay5 (F := Ideal) y = (0 : EReal) := by
  unfold k1_pay5
  exact Ideal.ofBits_zero_f32

theorem pay6_zero (y : S2304x128.Idx) : k1_pay6 (F := Ideal) y = (0 : EReal) := by
  unfold k1_pay6
  exact Ideal.ofBits_zero_f32

/-- The saved statistic's column. -/
theorem pay13_read (x : Vec Ideal S1024x128 .f32) (r : Fin 1024) :
    k1_pay13 (F := Ideal) (View.ld x (Rect.unit (s := S1024x128) ![0, 0] S1024x1.size inb_S1024x128_S1024x1_0_0)) (ix2 r 0)
      = x (ix2 r 0) := by
  unfold k1_pay13
  rw [shapeCast_self]
  refine View.ld_unit_apply_of x _ _ inb_S1024x128_S1024x1_0_0 (ix2 r 0) (ix2 r 0) fun a => ?_
  fin_cases a
  · exact (Nat.zero_add _).symm
  · rfl

theorem pay7_read (x : Vec Ideal S1024x128 .bf16) : k1_pay7 (F := Ideal) x = x := by
  unfold k1_pay7
  exact shapeCast_self x _

/-- The derivative of the loss in the score of query row `r` against key `K`, for the head whose lanes the cotangent keeps. -/
def dscore (h : ℕ) (q g p : Fin 1024 → Fin 128 → ℝ) (k v : Fin 2304 → Fin 128 → ℝ) (L : Fin 1024 → ℝ) (r : Fin 1024) (K : Fin 2304) : ℝ :=
  slope (q r) (half h g r) (∑ l, half h g r l * p r l) (L r) (k K) (v K)

section

variable (h : Fin 8) (x0 x3 x4 : Vec Ideal S1024x128 .bf16) (x1 x2 : Vec Ideal S2304x128 .bf16) (x5 : Vec Ideal S1024x128 .f32)
  (q g p : Fin 1024 → Fin 128 → ℝ) (k v : Fin 2304 → Fin 128 → ℝ) (L : Fin 1024 → ℝ)
  (hq : ∀ r l, x0 (ix2 r l) = ((q r l : ℝ) : EReal)) (hk : ∀ K l, x1 (ix2 K l) = ((k K l : ℝ) : EReal))
  (hv : ∀ K l, x2 (ix2 K l) = ((v K l : ℝ) : EReal)) (hg : ∀ r l, x3 (ix2 r l) = ((g r l : ℝ) : EReal))
  (hp : ∀ r l, x4 (ix2 r l) = ((p r l : ℝ) : EReal)) (hL : ∀ r, 0 < L r)
  (hs : ∀ r, x5 (ix2 r 0) = ((Real.log (L r) * (Real.log 2)⁻¹ : ℝ) : EReal))

/-- The masked cotangent, its row sums against the output, and the statistic's column. -/
def wv : FVec Ideal S1024x128 .bf16 :=
  k1_pay11 (F := Ideal) (BitVec.ofNat 32 h.val) (iota .tc S1x128 32 [1] iota_S1x128_d1_w32) k1_pay8 k1_pay9 k1_pay10 x3
def dv : FVec Ideal S1024x1 .f32 :=
  k1_pay12 (F := Ideal) (BitVec.ofNat 32 h.val) (iota .tc S1x128 32 [1] iota_S1x128_d1_w32) k1_pay8 k1_pay9 k1_pay10 x3 x4
def lv : FVec Ideal S1024x1 .f32 :=
  k1_pay13 (F := Ideal) (View.ld x5 (Rect.unit (s := S1024x128) ![0, 0] S1024x1.size inb_S1024x128_S1024x1_0_0))
/-- The three blocks of 768 rows. -/
def b0 {e : EltTy} (x : Vec Ideal S2304x128 e) : Vec Ideal S768x128 e :=
  View.ld x (Rect.unit (s := S2304x128) ![0, 0] S768x128.size inb_S2304x128_S768x128_0_0)
def b1 {e : EltTy} (x : Vec Ideal S2304x128 e) : Vec Ideal S768x128 e :=
  View.ld x (Rect.unit (s := S2304x128) ![768, 0] S768x128.size inb_S2304x128_S768x128_768_0)
def b2 {e : EltTy} (x : Vec Ideal S2304x128 e) : Vec Ideal S768x128 e :=
  View.ld x (Rect.unit (s := S2304x128) ![1536, 0] S768x128.size inb_S2304x128_S768x128_1536_0)

include hq hk hv hg hp hL hs

/-- The query gradient of a step. -/
theorem dq_rows (r : Fin 1024) (l : Fin 128) :
    k1_pay2 (F := Ideal) (dv h x3 x4)
        (k1_pay24 (F := Ideal) (wv h x3) (dv h x3 x4)
          (k1_pay19 (F := Ideal) (wv h x3) (dv h x3 x4) (lv x5) (k1_pay14 (F := Ideal)) (k1_pay15 (F := Ideal) (k1_pay7 (F := Ideal) x0) (b0 x1)) (k1_pay16 (F := Ideal)) (b0 x2) (b0 x1))
          (k1_pay22 (F := Ideal) (k1_pay7 (F := Ideal) x0) (lv x5) (b1 x1)) (b1 x2) (b1 x1))
        (k1_pay27 (F := Ideal) (k1_pay7 (F := Ideal) x0) (lv x5) (b2 x1)) (k1_pay28 (F := Ideal) (wv h x3) (b2 x2)) (b2 x1) (ix2 r l)
      = ((∑ K, dscore h.val q g p k v L r K * k K l : ℝ) : EReal) := by
  rw [pay7_read]
  refine (dq_real x0 (wv h x3) q (half h.val g) hq (masked_real h x3 g hg) (dv h x3 x4) _ (delta_real h x3 x4 g p hg hp) (lv x5) L hL
    (fun r => (pay13_read x5 r).trans (hs r)) _ _ _ _ _ _ (fun c j => k (row c j)) (fun c j => v (row c j))
    (fun j l => (ld_row x1 0 0 rfl inb_S2304x128_S768x128_0_0 j l).trans (hk _ _))
    (fun j l => (ld_row x1 1 768 rfl inb_S2304x128_S768x128_768_0 j l).trans (hk _ _))
    (fun j l => (ld_row x1 2 1536 rfl inb_S2304x128_S768x128_1536_0 j l).trans (hk _ _))
    (fun j l => (ld_row x2 0 0 rfl inb_S2304x128_S768x128_0_0 j l).trans (hv _ _))
    (fun j l => (ld_row x2 1 768 rfl inb_S2304x128_S768x128_768_0 j l).trans (hv _ _))
    (fun j l => (ld_row x2 2 1536 rfl inb_S2304x128_S768x128_1536_0 j l).trans (hv _ _)) r l).trans ?_
  exact congrArg (fun x : ℝ => (x : EReal)) (sum_row fun K => dscore h.val q g p k v L r K * k K l)

/-- The key gradient's block after a step. -/
theorem dk_rows (a0 a1 a2 : Vec Ideal S768x128 .f32) (T : List (View.Piece (Elt Ideal) S2304x128 .f32)) (β : Fin 2304 → Fin 128 → ℝ)
    (h0 : ∀ j l, a0 (ix2 j l) = ((β (row 0 j) l : ℝ) : EReal)) (h1 : ∀ j l, a1 (ix2 j l) = ((β (row 1 j) l : ℝ) : EReal))
    (h2 : ∀ j l, a2 (ix2 j l) = ((β (row 2 j) l : ℝ) : EReal)) (K : Fin 2304) (l : Fin 128) :
    View.canon ((⟨Rect.unit (s := S2304x128) ![1536, 0] S768x128.size inb_S2304x128_S768x128_1536_0,
          k1_pay3 (F := Ideal) (k1_pay7 (F := Ideal) x0) (dv h x3 x4) (k1_pay27 (F := Ideal) (k1_pay7 (F := Ideal) x0) (lv x5) (b2 x1)) (k1_pay28 (F := Ideal) (wv h x3) (b2 x2)) a2⟩
            : View.Piece (Elt Ideal) S2304x128 .f32)
        :: ⟨Rect.unit (s := S2304x128) ![768, 0] S768x128.size inb_S2304x128_S768x128_768_0,
          k1_pay25 (F := Ideal) (k1_pay7 (F := Ideal) x0) (wv h x3) (dv h x3 x4) (k1_pay22 (F := Ideal) (k1_pay7 (F := Ideal) x0) (lv x5) (b1 x1)) (b1 x2) a1⟩
        :: ⟨Rect.unit (s := S2304x128) ![0, 0] S768x128.size inb_S2304x128_S768x128_0_0,
          k1_pay20 (F := Ideal) (k1_pay7 (F := Ideal) x0) (wv h x3) (dv h x3 x4) (lv x5) (k1_pay15 (F := Ideal) (k1_pay7 (F := Ideal) x0) (b0 x1)) (k1_pay16 (F := Ideal)) (b0 x2) a0⟩
        :: T) (ix2 K l)
      = ((β K l + ∑ r, dscore h.val q g p k v L r K * q r l : ℝ) : EReal) := by
  rw [pay7_read]
  have hd := delta_real h x3 x4 g p hg hp
  have hw := masked_real h x3 g hg
  have hl : ∀ r, lv x5 (ix2 r 0) = ((Real.log (L r) * (Real.log 2)⁻¹ : ℝ) : EReal) := fun r => (pay13_read x5 r).trans (hs r)
  exact canon_blocks _ _ _ T (fun K l => β K l + ∑ r, dscore h.val q g p k v L r K * q r l)
    (p20_real x0 (wv h x3) q (half h.val g) hq hw (dv h x3 x4) _ hd (lv x5) L hL hl (b0 x1) (b0 x2) (fun j => k (row 0 j)) (fun j => v (row 0 j))
      (fun j l => (ld_row x1 0 0 rfl inb_S2304x128_S768x128_0_0 j l).trans (hk _ _))
      (fun j l => (ld_row x2 0 0 rfl inb_S2304x128_S768x128_0_0 j l).trans (hv _ _)) a0 (fun j => β (row 0 j)) h0)
    (p25_real x0 (wv h x3) q (half h.val g) hq hw (dv h x3 x4) _ hd (lv x5) L hL hl (b1 x1) (b1 x2) (fun j => k (row 1 j)) (fun j => v (row 1 j))
      (fun j l => (ld_row x1 1 768 rfl inb_S2304x128_S768x128_768_0 j l).trans (hk _ _))
      (fun j l => (ld_row x2 1 768 rfl inb_S2304x128_S768x128_768_0 j l).trans (hv _ _)) a1 (fun j => β (row 1 j)) h1)
    (p3_real x0 (wv h x3) q (half h.val g) hq hw (dv h x3 x4) _ hd (lv x5) L hL hl (b2 x1) (b2 x2) (fun j => k (row 2 j)) (fun j => v (row 2 j))
      (fun j l => (ld_row x1 2 1536 rfl inb_S2304x128_S768x128_1536_0 j l).trans (hk _ _))
      (fun j l => (ld_row x2 2 1536 rfl inb_S2304x128_S768x128_1536_0 j l).trans (hv _ _)) a2 (fun j => β (row 2 j)) h2) K l

omit hv hp

/-- The value gradient's block after a step. -/
theorem dv_rows (a0 a1 a2 : Vec Ideal S768x128 .f32) (T : List (View.Piece (Elt Ideal) S2304x128 .f32)) (β : Fin 2304 → Fin 128 → ℝ)
    (h0 : ∀ j l, a0 (ix2 j l) = ((β (row 0 j) l : ℝ) : EReal)) (h1 : ∀ j l, a1 (ix2 j l) = ((β (row 1 j) l : ℝ) : EReal))
    (h2 : ∀ j l, a2 (ix2 j l) = ((β (row 2 j) l : ℝ) : EReal)) (K : Fin 2304) (l : Fin 128) :
    View.canon ((⟨Rect.unit (s := S2304x128) ![1536, 0] S768x128.size inb_S2304x128_S768x128_1536_0,
          k1_pay4 (F := Ideal) (wv h x3) (k1_pay27 (F := Ideal) (k1_pay7 (F := Ideal) x0) (lv x5) (b2 x1)) a2⟩
            : View.Piece (Elt Ideal) S2304x128 .f32)
        :: ⟨Rect.unit (s := S2304x128) ![768, 0] S768x128.size inb_S2304x128_S768x128_768_0,
          k1_pay26 (F := Ideal) (wv h x3) (k1_pay22 (F := Ideal) (k1_pay7 (F := Ideal) x0) (lv x5) (b1 x1)) a1⟩
        :: ⟨Rect.unit (s := S2304x128) ![0, 0] S768x128.size inb_S2304x128_S768x128_0_0,
          k1_pay21 (F := Ideal) (wv h x3) (lv x5) (k1_pay15 (F := Ideal) (k1_pay7 (F := Ideal) x0) (b0 x1)) (k1_pay16 (F := Ideal)) a0⟩
        :: T) (ix2 K l)
      = ((β K l + ∑ r, E (q r) (k K) / L r * half h.val g r l : ℝ) : EReal) := by
  rw [pay7_read]
  have hw := masked_real h x3 g hg
  have hl : ∀ r, lv x5 (ix2 r 0) = ((Real.log (L r) * (Real.log 2)⁻¹ : ℝ) : EReal) := fun r => (pay13_read x5 r).trans (hs r)
  exact canon_blocks _ _ _ T (fun K l => β K l + ∑ r, E (q r) (k K) / L r * half h.val g r l)
    (p21_real x0 (wv h x3) q (half h.val g) hq hw (lv x5) L hL hl (b0 x1) (fun j => k (row 0 j))
      (fun j l => (ld_row x1 0 0 rfl inb_S2304x128_S768x128_0_0 j l).trans (hk _ _)) a0 (fun j => β (row 0 j)) h0)
    (p26_real x0 (wv h x3) q (half h.val g) hq hw (lv x5) L hL hl (b1 x1) (fun j => k (row 1 j))
      (fun j l => (ld_row x1 1 768 rfl inb_S2304x128_S768x128_768_0 j l).trans (hk _ _)) a1 (fun j => β (row 1 j)) h1)
    (p4_real x0 (wv h x3) q (half h.val g) hq hw (lv x5) L hL hl (b2 x1) (fun j => k (row 2 j))
      (fun j l => (ld_row x1 2 1536 rfl inb_S2304x128_S768x128_1536_0 j l).trans (hk _ _)) a2 (fun j => β (row 2 j)) h2) K l

end

end Cert.Attn
-- ==== Proof.BwdCase.lean ====
module

public import proofs.«01_k».proof.Proof.BwdOut

/-!
The three cases of the backward attention's body (both gradient blocks cleared first, the key block only, neither), each
output block as a closed form over finite inputs.
-/

@[expose] public section

noncomputable section

open Idealize.ShloMosaic Idealize.ShloMosaic.TcCoe Cert.KernelIdeal Cert.KernelIdeal.Gen

namespace Cert.Attn

variable (c : Dev nD) (i : grid1.Coords) (arg2 : Memref sig .tc .vmem S1024x128 .bf16) (harg2 : arg2.IsWhole)
  (arg3 : Memref sig .tc .vmem S2304x128 .bf16) (harg3 : arg3.IsWhole) (arg4 : Memref sig .tc .vmem S2304x128 .bf16)
  (harg4 : arg4.IsWhole) (arg5 : Memref sig .tc .vmem S1024x128 .bf16) (harg5 : arg5.IsWhole)
  (arg6 : Memref sig .tc .vmem S1024x128 .bf16) (harg6 : arg6.IsWhole) (arg7 : Memref sig .tc .vmem S1024x128 .f32) (harg7 : arg7.IsWhole)
  (arg8 : Memref sig .tc .vmem S1024x128 .f32) (harg8 : arg8.IsWhole) (arg9 : Memref sig .tc .vmem S2304x128 .f32) (harg9 : arg9.IsWhole)
  (arg10 : Memref sig .tc .vmem S2304x128 .f32) (harg10 : arg10.IsWhole)
  (x0 : Vec Ideal S1024x128 .bf16) (x1 x2 : Vec Ideal S2304x128 .bf16) (x3 x4 : Vec Ideal S1024x128 .bf16) (x5 : Vec Ideal S1024x128 .f32)
  (xo7 xo8 : Vec Ideal S2304x128 .f32)
  (q g p : Fin 1024 → Fin 128 → ℝ) (k v : Fin 2304 → Fin 128 → ℝ) (L : Fin 1024 → ℝ) (β γ : Fin 2304 → Fin 128 → ℝ)
  (hq : ∀ r l, x0 (ix2 r l) = ((q r l : ℝ) : EReal)) (hk : ∀ K l, x1 (ix2 K l) = ((k K l : ℝ) : EReal))
  (hv : ∀ K l, x2 (ix2 K l) = ((v K l : ℝ) : EReal)) (hg : ∀ r l, x3 (ix2 r l) = ((g r l : ℝ) : EReal))
  (hp : ∀ r l, x4 (ix2 r l) = ((p r l : ℝ) : EReal)) (hL : ∀ r, 0 < L r)
  (hs : ∀ r, x5 (ix2 r 0) = ((Real.log (L r) * (Real.log 2)⁻¹ : ℝ) : EReal))
  (hβ : ∀ K l, xo7 (ix2 K l) = ((β K l : ℝ) : EReal)) (hγ : ∀ K l, xo8 (ix2 K l) = ((γ K l : ℝ) : EReal))

/-- A block read from a buffer the body has cleared and written other blocks of. -/
theorem zero_first {sp : Space} (V : View sig .tc sp S2304x128 .f32) (z : Vec Ideal S2304x128 .f32) (hzero : ∀ y, z y = (0 : EReal)) (j : Fin 768) (l : Fin 128) :
    V.readCov [(⟨Rect.unit (s := S2304x128) ![0, 0] S2304x128.size inb_S2304x128_S2304x128_0_0, z⟩ : View.Piece (Elt Ideal) S2304x128 .f32)]
      (Rect.unit (s := S2304x128) ![0, 0] S768x128.size inb_S2304x128_S768x128_0_0).toLoadRect (ix2 j l) = ((0 : ℝ) : EReal) :=
  cleared V z hzero 0 _ _

theorem zero_second {sp : Space} (V : View sig .tc sp S2304x128 .f32) (z : Vec Ideal S2304x128 .f32) (hzero : ∀ y, z y = (0 : EReal))
    (w0 : Vec Ideal S768x128 .f32) (j : Fin 768) (l : Fin 128) :
    V.readCov ((⟨Rect.unit (s := S2304x128) ![0, 0] S768x128.size inb_S2304x128_S768x128_0_0, w0⟩ : View.Piece (Elt Ideal) S2304x128 .f32)
      :: [⟨Rect.unit (s := S2304x128) ![0, 0] S2304x128.size inb_S2304x128_S2304x128_0_0, z⟩])
      (Rect.unit (s := S2304x128) ![768, 0] S768x128.size inb_S2304x128_S768x128_768_0).toLoadRect (ix2 j l) = ((0 : ℝ) : EReal) :=
  (congrFun (skip _ V 0 768 (.inl (by norm_num)) _ _ w0) _).trans (cleared V z hzero 768 _ _)

theorem zero_third {sp : Space} (V : View sig .tc sp S2304x128 .f32) (z : Vec Ideal S2304x128 .f32) (hzero : ∀ y, z y = (0 : EReal))
    (w0 w1 : Vec Ideal S768x128 .f32) (j : Fin 768) (l : Fin 128) :
    V.readCov ((⟨Rect.unit (s := S2304x128) ![768, 0] S768x128.size inb_S2304x128_S768x128_768_0, w1⟩ : View.Piece (Elt Ideal) S2304x128 .f32)
      :: ⟨Rect.unit (s := S2304x128) ![0, 0] S768x128.size inb_S2304x128_S768x128_0_0, w0⟩
      :: [⟨Rect.unit (s := S2304x128) ![0, 0] S2304x128.size inb_S2304x128_S2304x128_0_0, z⟩])
      (Rect.unit (s := S2304x128) ![1536, 0] S768x128.size inb_S2304x128_S768x128_1536_0).toLoadRect (ix2 j l) = ((0 : ℝ) : EReal) :=
  (congrFun (skip _ V 768 1536 (.inl (by norm_num)) _ _ w1) _).trans
    ((congrFun (skip _ V 0 1536 (.inl (by norm_num)) _ _ w0) _).trans (cleared V z hzero 1536 _ _))

section

include hq hk hv hg hp hL hs

theorem bA6 (hc0 : Bwd.cond1_0 i) (hc1 : Bwd.cond1_1 i) (r : Fin 1024) (l : Fin 128) :
    Bwd.out1_A_6 (F := Ideal) c i arg2 harg2 arg3 harg3 arg4 harg4 arg5 harg5 arg6 harg6 arg7 harg7 arg8 harg8 arg9 harg9 arg10 harg10 hc0 hc1 x0 x1 x2 x3 x4 x5 (ix2 r l)
      = ((∑ K, dscore (i 0).val q g p k v L r K * k K l : ℝ) : EReal) := by
  unfold Bwd.out1_A_6
  rw [View.read_writes_eq_canon _ _ _ (Bwd.cover1_A_6 c i arg2 harg2 arg3 harg3 arg4 harg4 arg5 harg5 arg6 harg6 arg7 harg7 arg8 harg8 arg9 harg9 arg10 harg10 hc0 hc1 x0 x1 x2 x3 x4 x5)]
  unfold Bwd.kernelRun1_A
  dsimp only
  sl_unfold_words
  rw [View.canon_unit_zero (S := S1024x128) hz]
  simp only [View.readAt_eq_ld, harg2.read_unread, harg3.read_unread, harg4.read_unread, harg5.read_unread, harg6.read_unread, harg7.read_unread, View.ld_unit_zero (S := S1024x128) hz]
  exact dq_rows (i 0) x0 x3 x4 x1 x2 x5 q g p k v L hq hk hv hg hp hL hs r l

theorem bB6 (hc0 : ¬Bwd.cond1_0 i) (hc1 : ¬Bwd.cond1_1 i) (r : Fin 1024) (l : Fin 128) :
    Bwd.out1_B_6 (F := Ideal) c i arg2 harg2 arg3 harg3 arg4 harg4 arg5 harg5 arg6 harg6 arg7 harg7 arg8 harg8 arg9 harg9 arg10 harg10 hc0 hc1 x0 x1 x2 x3 x4 x5 xo7 xo8 (ix2 r l)
      = ((∑ K, dscore (i 0).val q g p k v L r K * k K l : ℝ) : EReal) := by
  unfold Bwd.out1_B_6
  rw [View.read_writes_eq_canon _ _ _ (Bwd.cover1_B_6 c i arg2 harg2 arg3 harg3 arg4 harg4 arg5 harg5 arg6 harg6 arg7 harg7 arg8 harg8 arg9 harg9 arg10 harg10 hc0 hc1 x0 x1 x2 x3 x4 x5 xo7 xo8)]
  unfold Bwd.kernelRun1_B
  dsimp only
  sl_unfold_words
  rw [View.canon_unit_zero (S := S1024x128) hz]
  simp only [View.readAt_eq_ld, harg2.read_unread, harg3.read_unread, harg4.read_unread, harg5.read_unread, harg6.read_unread, harg7.read_unread, View.ld_unit_zero (S := S1024x128) hz]
  exact dq_rows (i 0) x0 x3 x4 x1 x2 x5 q g p k v L hq hk hv hg hp hL hs r l

theorem bC6 (hc0 : Bwd.cond1_0 i) (hc1 : ¬Bwd.cond1_1 i) (r : Fin 1024) (l : Fin 128) :
    Bwd.out1_C_6 (F := Ideal) c i arg2 harg2 arg3 harg3 arg4 harg4 arg5 harg5 arg6 harg6 arg7 harg7 arg8 harg8 arg9 harg9 arg10 harg10 hc0 hc1 x0 x1 x2 x3 x4 x5 xo8 (ix2 r l)
      = ((∑ K, dscore (i 0).val q g p k v L r K * k K l : ℝ) : EReal) := by
  unfold Bwd.out1_C_6
  rw [View.read_writes_eq_canon _ _ _ (Bwd.cover1_C_6 c i arg2 harg2 arg3 harg3 arg4 harg4 arg5 harg5 arg6 harg6 arg7 harg7 arg8 harg8 arg9 harg9 arg10 harg10 hc0 hc1 x0 x1 x2 x3 x4 x5 xo8)]
  unfold Bwd.kernelRun1_C
  dsimp only
  sl_unfold_words
  rw [View.canon_unit_zero (S := S1024x128) hz]
  simp only [View.readAt_eq_ld, harg2.read_unread, harg3.read_unread, harg4.read_unread, harg5.read_unread, harg6.read_unread, harg7.read_unread, View.ld_unit_zero (S := S1024x128) hz]
  exact dq_rows (i 0) x0 x3 x4 x1 x2 x5 q g p k v L hq hk hv hg hp hL hs r l

theorem bA7 (hc0 : Bwd.cond1_0 i) (hc1 : Bwd.cond1_1 i) (K : Fin 2304) (l : Fin 128) :
    Bwd.out1_A_7 (F := Ideal) c i arg2 harg2 arg3 harg3 arg4 harg4 arg5 harg5 arg6 harg6 arg7 harg7 arg8 harg8 arg9 harg9 arg10 harg10 hc0 hc1 x0 x1 x2 x3 x4 x5 (ix2 K l)
      = ((0 + ∑ r, dscore (i 0).val q g p k v L r K * q r l : ℝ) : EReal) := by
  unfold Bwd.out1_A_7
  rw [View.read_writes_eq_canon _ _ _ (Bwd.cover1_A_7 c i arg2 harg2 arg3 harg3 arg4 harg4 arg5 harg5 arg6 harg6 arg7 harg7 arg8 harg8 arg9 harg9 arg10 harg10 hc0 hc1 x0 x1 x2 x3 x4 x5)]
  unfold Bwd.kernelRun1_A
  dsimp only
  sl_unfold_words
  simp only [View.readAt_eq_ld, harg2.read_unread, harg3.read_unread, harg4.read_unread, harg5.read_unread, harg6.read_unread, harg7.read_unread, View.ld_unit_zero (S := S1024x128) hz]
  exact dk_rows (i 0) x0 x3 x4 x1 x2 x5 q g p k v L hq hk hv hg hp hL hs _ _ _ _ (fun _ _ => 0) (zero_first _ _ pay5_zero)
    (zero_second _ _ pay5_zero _) (zero_third _ _ pay5_zero _ _) K l

theorem bC7 (hc0 : Bwd.cond1_0 i) (hc1 : ¬Bwd.cond1_1 i) (K : Fin 2304) (l : Fin 128) :
    Bwd.out1_C_7 (F := Ideal) c i arg2 harg2 arg3 harg3 arg4 harg4 arg5 harg5 arg6 harg6 arg7 harg7 arg8 harg8 arg9 harg9 arg10 harg10 hc0 hc1 x0 x1 x2 x3 x4 x5 xo8 (ix2 K l)
      = ((0 + ∑ r, dscore (i 0).val q g p k v L r K * q r l : ℝ) : EReal) := by
  unfold Bwd.out1_C_7
  rw [View.read_writes_eq_canon _ _ _ (Bwd.cover1_C_7 c i arg2 harg2 arg3 harg3 arg4 harg4 arg5 harg5 arg6 harg6 arg7 harg7 arg8 harg8 arg9 harg9 arg10 harg10 hc0 hc1 x0 x1 x2 x3 x4 x5 xo8)]
  unfold Bwd.kernelRun1_C
  dsimp only
  sl_unfold_words
  simp only [View.readAt_eq_ld, harg2.read_unread, harg3.read_unread, harg4.read_unread, harg5.read_unread, harg6.read_unread, harg7.read_unread, View.ld_unit_zero (S := S1024x128) hz]
  exact dk_rows (i 0) x0 x3 x4 x1 x2 x5 q g p k v L hq hk hv hg hp hL hs _ _ _ _ (fun _ _ => 0) (zero_first _ _ pay5_zero)
    (zero_second _ _ pay5_zero _) (zero_third _ _ pay5_zero _ _) K l

include hβ

theorem bB7 (hc0 : ¬Bwd.cond1_0 i) (hc1 : ¬Bwd.cond1_1 i) (K : Fin 2304) (l : Fin 128) :
    Bwd.out1_B_7 (F := Ideal) c i arg2 harg2 arg3 harg3 arg4 harg4 arg5 harg5 arg6 harg6 arg7 harg7 arg8 harg8 arg9 harg9 arg10 harg10 hc0 hc1 x0 x1 x2 x3 x4 x5 xo7 xo8 (ix2 K l)
      = ((β K l + ∑ r, dscore (i 0).val q g p k v L r K * q r l : ℝ) : EReal) := by
  unfold Bwd.out1_B_7
  rw [View.read_writes_eq_canon _ _ _ (Bwd.cover1_B_7 c i arg2 harg2 arg3 harg3 arg4 harg4 arg5 harg5 arg6 harg6 arg7 harg7 arg8 harg8 arg9 harg9 arg10 harg10 hc0 hc1 x0 x1 x2 x3 x4 x5 xo7 xo8)]
  unfold Bwd.kernelRun1_B
  dsimp only
  sl_unfold_words
  simp only [View.readAt_eq_ld, harg2.read_unread, harg3.read_unread, harg4.read_unread, harg5.read_unread, harg6.read_unread, harg7.read_unread, harg9.read_unread, View.ld_unit_zero (S := S1024x128) hz]
  exact dk_rows (i 0) x0 x3 x4 x1 x2 x5 q g p k v L hq hk hv hg hp hL hs (b0 xo7) (b1 xo7) (b2 xo7) _ β
    (fun j l => (ld_row xo7 0 0 rfl inb_S2304x128_S768x128_0_0 j l).trans (hβ _ _))
    (fun j l => (ld_row xo7 1 768 rfl inb_S2304x128_S768x128_768_0 j l).trans (hβ _ _))
    (fun j l => (ld_row xo7 2 1536 rfl inb_S2304x128_S768x128_1536_0 j l).trans (hβ _ _)) K l

end

section

include hq hk hg hL hs

theorem bA8 (hc0 : Bwd.cond1_0 i) (hc1 : Bwd.cond1_1 i) (K : Fin 2304) (l : Fin 128) :
    Bwd.out1_A_8 (F := Ideal) c i arg2 harg2 arg3 harg3 arg4 harg4 arg5 harg5 arg6 harg6 arg7 harg7 arg8 harg8 arg9 harg9 arg10 harg10 hc0 hc1 x0 x1 x2 x3 x4 x5 (ix2 K l)
      = ((0 + ∑ r, E (q r) (k K) / L r * half (i 0).val g r l : ℝ) : EReal) := by
  unfold Bwd.out1_A_8
  rw [View.read_writes_eq_canon _ _ _ (Bwd.cover1_A_8 c i arg2 harg2 arg3 harg3 arg4 harg4 arg5 harg5 arg6 harg6 arg7 harg7 arg8 harg8 arg9 harg9 arg10 harg10 hc0 hc1 x0 x1 x2 x3 x4 x5)]
  unfold Bwd.kernelRun1_A
  dsimp only
  sl_unfold_words
  simp only [View.readAt_eq_ld, harg2.read_unread, harg3.read_unread, harg4.read_unread, harg5.read_unread, harg6.read_unread, harg7.read_unread, View.ld_unit_zero (S := S1024x128) hz]
  exact dv_rows (i 0) x0 x3 x1 x5 q g k L hq hk hg hL hs _ _ _ _ (fun _ _ => 0) (zero_first _ _ pay6_zero)
    (zero_second _ _ pay6_zero _) (zero_third _ _ pay6_zero _ _) K l

include hγ

theorem bB8 (hc0 : ¬Bwd.cond1_0 i) (hc1 : ¬Bwd.cond1_1 i) (K : Fin 2304) (l : Fin 128) :
    Bwd.out1_B_8 (F := Ideal) c i arg2 harg2 arg3 harg3 arg4 harg4 arg5 harg5 arg6 harg6 arg7 harg7 arg8 harg8 arg9 harg9 arg10 harg10 hc0 hc1 x0 x1 x2 x3 x4 x5 xo7 xo8 (ix2 K l)
      = ((γ K l + ∑ r, E (q r) (k K) / L r * half (i 0).val g r l : ℝ) : EReal) := by
  unfold Bwd.out1_B_8
  rw [View.read_writes_eq_canon _ _ _ (Bwd.cover1_B_8 c i arg2 harg2 arg3 harg3 arg4 harg4 arg5 harg5 arg6 harg6 arg7 harg7 arg8 harg8 arg9 harg9 arg10 harg10 hc0 hc1 x0 x1 x2 x3 x4 x5 xo7 xo8)]
  unfold Bwd.kernelRun1_B
  dsimp only
  sl_unfold_words
  simp only [View.readAt_eq_ld, harg2.read_unread, harg3.read_unread, harg4.read_unread, harg5.read_unread, harg6.read_unread, harg7.read_unread, harg10.read_unread, View.ld_unit_zero (S := S1024x128) hz]
  exact dv_rows (i 0) x0 x3 x1 x5 q g k L hq hk hg hL hs (b0 xo8) (b1 xo8) (b2 xo8) _ γ
    (fun j l => (ld_row xo8 0 0 rfl inb_S2304x128_S768x128_0_0 j l).trans (hγ _ _))
    (fun j l => (ld_row xo8 1 768 rfl inb_S2304x128_S768x128_768_0 j l).trans (hγ _ _))
    (fun j l => (ld_row xo8 2 1536 rfl inb_S2304x128_S768x128_1536_0 j l).trans (hγ _ _)) K l

theorem bC8 (hc0 : Bwd.cond1_0 i) (hc1 : ¬Bwd.cond1_1 i) (K : Fin 2304) (l : Fin 128) :
    Bwd.out1_C_8 (F := Ideal) c i arg2 harg2 arg3 harg3 arg4 harg4 arg5 harg5 arg6 harg6 arg7 harg7 arg8 harg8 arg9 harg9 arg10 harg10 hc0 hc1 x0 x1 x2 x3 x4 x5 xo8 (ix2 K l)
      = ((γ K l + ∑ r, E (q r) (k K) / L r * half (i 0).val g r l : ℝ) : EReal) := by
  unfold Bwd.out1_C_8
  rw [View.read_writes_eq_canon _ _ _ (Bwd.cover1_C_8 c i arg2 harg2 arg3 harg3 arg4 harg4 arg5 harg5 arg6 harg6 arg7 harg7 arg8 harg8 arg9 harg9 arg10 harg10 hc0 hc1 x0 x1 x2 x3 x4 x5 xo8)]
  unfold Bwd.kernelRun1_C
  dsimp only
  sl_unfold_words
  simp only [View.readAt_eq_ld, harg2.read_unread, harg3.read_unread, harg4.read_unread, harg5.read_unread, harg6.read_unread, harg7.read_unread, harg10.read_unread, View.ld_unit_zero (S := S1024x128) hz]
  exact dv_rows (i 0) x0 x3 x1 x5 q g k L hq hk hg hL hs (b0 xo8) (b1 xo8) (b2 xo8) _ γ
    (fun j l => (ld_row xo8 0 0 rfl inb_S2304x128_S768x128_0_0 j l).trans (hγ _ _))
    (fun j l => (ld_row xo8 1 768 rfl inb_S2304x128_S768x128_768_0 j l).trans (hγ _ _))
    (fun j l => (ld_row xo8 2 1536 rfl inb_S2304x128_S768x128_1536_0 j l).trans (hγ _ _)) K l

end

end Cert.Attn
-- ==== Proof.Rows.lean ====
module

public import proofs.«01_k».proof.Proof.BwdCase

/-!
The attention and its gradients over whole arrays of finite numbers: queries `Q`, keys `Kk`, values `Vv` (a pair of heads
to 128 lanes) and the output's cotangent `G`, all as the program lays them out in rows of heads.
-/

@[expose] public section

noncomputable section

open Idealize.ShloMosaic Cert.KernelIdeal Cert.KernelIdeal.Gen

namespace Cert.Attn

/-- Row `r` of query block `b`; lane `l` of head `h`; lane `l` of a pair of heads; a head's pair. -/
def tok (b : Fin 2) (r : Fin 1024) : Fin 2048 := ⟨1024 * b.val + r.val, by omega⟩
def lane (h : Fin 8) (l : Fin 128) : Fin 1024 := ⟨128 * h.val + l.val, by omega⟩
def lane2 (p : Fin 4) (l : Fin 128) : Fin 512 := ⟨128 * p.val + l.val, by omega⟩
def pair (h : Fin 8) : Fin 4 := ⟨h.val / 2, by omega⟩

theorem lane_inj {h h' : Fin 8} {l l' : Fin 128} (e : lane h l = lane h' l') : h = h' ∧ l = l' := by
  have := congrArg Fin.val e
  simp only [lane] at this
  exact ⟨Fin.ext (by omega), Fin.ext (by omega)⟩

theorem lane2_inj {h h' : Fin 4} {l l' : Fin 128} (e : lane2 h l = lane2 h' l') : h = h' ∧ l = l' := by
  have := congrArg Fin.val e
  simp only [lane2] at this
  exact ⟨Fin.ext (by omega), Fin.ext (by omega)⟩

theorem exists_lane (n : Fin 1024) : ∃ h l, n = lane h l :=
  ⟨⟨n.val / 128, by omega⟩, ⟨n.val % 128, by omega⟩, Fin.ext (by show n.val = 128 * (n.val / 128) + n.val % 128; omega)⟩

theorem exists_lane2 (n : Fin 512) : ∃ p l, n = lane2 p l :=
  ⟨⟨n.val / 128, by omega⟩, ⟨n.val % 128, by omega⟩, Fin.ext (by show n.val = 128 * (n.val / 128) + n.val % 128; omega)⟩

theorem sum_tok (f : Fin 2048 → ℝ) : ∑ b, ∑ r, f (tok b r) = ∑ T, f T := by
  rw [← Fintype.sum_prod_type' (fun b r => f (tok b r))]
  refine Fintype.sum_equiv (finProdFinEquiv (m := 2) (n := 1024)) _ _ fun p => congrArg f (Fin.ext ?_)
  show 1024 * p.1.val + p.2.val = p.2.val + 1024 * p.1.val
  omega

section

variable (Q : Fin 2048 → Fin 1024 → ℝ) (Kk : Fin 2304 → Fin 1024 → ℝ) (Vv : Fin 2304 → Fin 512 → ℝ)
  (G P : Fin 2048 → Fin 512 → ℝ)

/-- A head's queries, keys, values. -/
def qh (h : Fin 8) (T : Fin 2048) (l : Fin 128) : ℝ := Q T (lane h l)
def kh (h : Fin 8) (K : Fin 2304) (l : Fin 128) : ℝ := Kk K (lane h l)
def vh (h : Fin 8) (K : Fin 2304) (l : Fin 128) : ℝ := Vv K (lane2 (pair h) l)
/-- A head's half of the cotangent, the other head's lanes zero; the output of the pair. -/
def gh (h : Fin 8) (T : Fin 2048) (l : Fin 128) : ℝ := if l.val / 64 = h.val % 2 then G T (lane2 (pair h) l) else 0
def ph (h : Fin 8) (T : Fin 2048) (l : Fin 128) : ℝ := P T (lane2 (pair h) l)
/-- The softmax's denominator. -/
def Lh (h : Fin 8) (T : Fin 2048) : ℝ := den (qh Q h T) (kh Kk h)
/-- The derivative of the loss in the score of token `T` against key `K`. -/
def dsh (h : Fin 8) (T : Fin 2048) (K : Fin 2304) : ℝ :=
  slope (qh Q h T) (gh G h T) (∑ l, gh G h T l * ph P h T l) (Lh Q Kk h T) (kh Kk h K) (vh Vv h K)

/-- The head of a pair a lane belongs to. -/
def headOf (p : Fin 4) (l : Fin 128) : Fin 8 := ⟨2 * p.val + l.val / 64, by omega⟩

/-- The output, the saved statistic and the three gradients. -/
def outV (T : Fin 2048) (p : Fin 4) (l : Fin 128) : ℝ := avg (qh Q (headOf p l) T) (kh Kk (headOf p l)) (vh Vv (headOf p l)) l
def lseV (T : Fin 2048) (h : Fin 8) : ℝ := Real.log (Lh Q Kk h T) * (Real.log 2)⁻¹
def dqV (T : Fin 2048) (h : Fin 8) (l : Fin 128) : ℝ := ∑ K, dsh Q Kk Vv G P h T K * kh Kk h K l
def dkV (K : Fin 2304) (h : Fin 8) (l : Fin 128) : ℝ := ∑ T, dsh Q Kk Vv G P h T K * qh Q h T l
def dvV (K : Fin 2304) (p : Fin 4) (l : Fin 128) : ℝ :=
  ∑ T, E (qh Q (headOf p l) T) (kh Kk (headOf p l) K) / Lh Q Kk (headOf p l) T * G T (lane2 p l)

end

end Cert.Attn
-- ==== Proof.FwdArr.lean ====
module

public import proofs.«01_k».proof.Proof.Rows
public import Idealize.ShloMosaic.Lib.Pipeline.ValueKit.Geometry

/-!
The forward attention's result arrays, from finite argument arrays.
-/

@[expose] public section

noncomputable section

open Idealize.ShloMosaic Idealize.ShloMosaic.TcCoe Cert.KernelIdeal Cert.KernelIdeal.Gen
open Idealize.ShloMosaic.Pipeline (Dat)

namespace Cert.Attn

/-- Where the forward's blocks lie: the query block, the head, the head's pair. -/
theorem fwd_points : ∀ t : Fin grid0.N, t.val = 8 * (grid0.coords t 0).val + (grid0.coords t 1).val
    ∧ (grid0.coords t 0).val < 2 ∧ (grid0.coords t 1).val < 8 := by decide +kernel

theorem fwd_index : ∀ t : Fin grid0.N,
    (win0_0.index t 0 = (grid0.coords t 0).val ∧ win0_0.index t 1 = (grid0.coords t 1).val)
    ∧ (win0_1.index t 0 = 0 ∧ win0_1.index t 1 = (grid0.coords t 1).val)
    ∧ (win0_2.index t 0 = 0 ∧ win0_2.index t 1 = (grid0.coords t 1).val / 2)
    ∧ (win0_3.index t 0 = (grid0.coords t 0).val ∧ win0_3.index t 1 = (grid0.coords t 1).val / 2)
    ∧ (win0_4.index t 0 = (grid0.coords t 0).val ∧ win0_4.index t 1 = (grid0.coords t 1).val) := by decide +kernel

section

variable (W : Dev nD → Valuation τ sig (Elt Ideal)) (c : Dev nD)
  (Q : Fin 2048 → Fin 1024 → ℝ) (Kk : Fin 2304 → Fin 1024 → ℝ) (Vv : Fin 2304 → Fin 512 → ℝ)

/-- The blocks at a point, read off the arrays. -/
theorem fwd_q (hQ : ∀ T n, (Fwd.V W c (Pipeline.arrRef spec0 0) : Vec Ideal S2048x1024 .bf16) (ix2 T n) = ((Q T n : ℝ) : EReal))
    (t : Fin cfg0.N) (r : Fin 1024) (l : Fin 128) :
    (Fwd.iblk W c 0 t : Vec Ideal S1024x128 .bf16) (ix2 r l) = ((qh Q (grid0.coords t 1) (tok (grid0.coords t 0) r) l : ℝ) : EReal) := by
  obtain ⟨⟨h0, h1⟩, -⟩ := fwd_index t
  refine Eq.trans ?_ (hQ (tok (grid0.coords t 0) r) (lane (grid0.coords t 1) l))
  unfold Fwd.iblk
  rw [View.read_apply]
  show Fwd.V W c (Pipeline.arrRef spec0 0) _ = Fwd.V W c (Pipeline.arrRef spec0 0) _
  congr 1
  funext a
  apply Fin.ext
  match a with
  | ⟨0, _⟩ => show win0_0.index t 0 * 1024 + 1 * r.val = 1024 * (grid0.coords t 0).val + r.val; rw [h0]; omega
  | ⟨1, _⟩ => show win0_0.index t 1 * 128 + 1 * l.val = 128 * (grid0.coords t 1).val + l.val; rw [h1]; omega

theorem fwd_k (hK : ∀ T n, (Fwd.V W c (Pipeline.arrRef spec0 1) : Vec Ideal S2304x1024 .bf16) (ix2 T n) = ((Kk T n : ℝ) : EReal))
    (t : Fin cfg0.N) (r : Fin 2304) (l : Fin 128) :
    (Fwd.iblk W c 1 t : Vec Ideal S2304x128 .bf16) (ix2 r l) = ((kh Kk (grid0.coords t 1) r l : ℝ) : EReal) := by
  obtain ⟨-, ⟨h0, h1⟩, -⟩ := fwd_index t
  refine Eq.trans ?_ (hK r (lane (grid0.coords t 1) l))
  unfold Fwd.iblk
  rw [View.read_apply]
  show Fwd.V W c (Pipeline.arrRef spec0 1) _ = Fwd.V W c (Pipeline.arrRef spec0 1) _
  congr 1
  funext a
  apply Fin.ext
  match a with
  | ⟨0, _⟩ => show win0_1.index t 0 * 2304 + 1 * r.val = r.val; rw [h0]; omega
  | ⟨1, _⟩ => show win0_1.index t 1 * 128 + 1 * l.val = 128 * (grid0.coords t 1).val + l.val; rw [h1]; omega

theorem fwd_v (hV : ∀ T n, (Fwd.V W c (Pipeline.arrRef spec0 2) : Vec Ideal S2304x512 .bf16) (ix2 T n) = ((Vv T n : ℝ) : EReal))
    (t : Fin cfg0.N) (r : Fin 2304) (l : Fin 128) :
    (Fwd.iblk W c 2 t : Vec Ideal S2304x128 .bf16) (ix2 r l) = ((vh Vv (grid0.coords t 1) r l : ℝ) : EReal) := by
  obtain ⟨-, -, ⟨h0, h1⟩, -⟩ := fwd_index t
  refine Eq.trans ?_ (hV r (lane2 (pair (grid0.coords t 1)) l))
  unfold Fwd.iblk
  rw [View.read_apply]
  show Fwd.V W c (Pipeline.arrRef spec0 2) _ = Fwd.V W c (Pipeline.arrRef spec0 2) _
  congr 1
  funext a
  apply Fin.ext
  match a with
  | ⟨0, _⟩ => show win0_2.index t 0 * 2304 + 1 * r.val = r.val; rw [h0]; omega
  | ⟨1, _⟩ => show win0_2.index t 1 * 128 + 1 * l.val = 128 * ((grid0.coords t 1).val / 2) + l.val; rw [h1]; omega

/-- The head of an odd point and the one before it. -/
theorem fwd_prev : ∀ t s : Fin grid0.N, t.val % 2 = 1 → s.val = t.val - 1 →
    (grid0.coords s 0).val = (grid0.coords t 0).val ∧ (grid0.coords s 1).val + 1 = (grid0.coords t 1).val
    ∧ (grid0.coords t 1).val % 2 = 1 := by
  intro t s h e
  obtain ⟨a, b, d⟩ := fwd_points t
  obtain ⟨a', b', d'⟩ := fwd_points s
  omega

section

variable (hQ : ∀ T n, (Fwd.V W c (Pipeline.arrRef spec0 0) : Vec Ideal S2048x1024 .bf16) (ix2 T n) = ((Q T n : ℝ) : EReal))
  (hK : ∀ T n, (Fwd.V W c (Pipeline.arrRef spec0 1) : Vec Ideal S2304x1024 .bf16) (ix2 T n) = ((Kk T n : ℝ) : EReal))
  (hV : ∀ T n, (Fwd.V W c (Pipeline.arrRef spec0 2) : Vec Ideal S2304x512 .bf16) (ix2 T n) = ((Vv T n : ℝ) : EReal))

include hQ hK hV

/-- After an even point: the even head's average in its own lanes. -/
theorem fwd_even (t : Fin cfg0.N) (h0 : t.val % 2 = 0) (r : Fin 1024) (l : Fin 128) :
    ((Fwd.outsAt0 W c t.val t.isLt).1 : Vec Ideal S1024x128 .bf16) (ix2 r l)
      = ((if l.val / 64 = (grid0.coords t 1).val % 2 then
          avg (qh Q (grid0.coords t 1) (tok (grid0.coords t 0) r)) (kh Kk (grid0.coords t 1)) (vh Vv (grid0.coords t 1)) l
          else 0 : ℝ) : EReal) := by
  refine (congrFun (congrArg Prod.fst (Fwd.outsAt0_A W c t h0 (by omega))) (ix2 r l)).trans ?_
  dsimp only
  exact outA3_real c (grid0.coords t) _ _ _ _ _ _ _ _ _ _ _ _ _ (fun r => qh Q (grid0.coords t 1) (tok (grid0.coords t 0) r))
    (kh Kk (grid0.coords t 1)) (vh Vv (grid0.coords t 1)) (fwd_q W c Q hQ t) (fwd_k W c Kk hK t) (fwd_v W c Vv hV t) _ _ r l

/-- After an odd point: each lane its own head's average. -/
theorem fwd_odd (t : Fin cfg0.N) (h1 : t.val % 2 = 1) (r : Fin 1024) (l : Fin 128) :
    ((Fwd.outsAt0 W c t.val t.isLt).1 : Vec Ideal S1024x128 .bf16) (ix2 r l)
      = ((outV Q Kk Vv (tok (grid0.coords t 0) r) (pair (grid0.coords t 1)) l : ℝ) : EReal) := by
  have hlt : t.val - 1 < cfg0.N := Nat.lt_of_le_of_lt (Nat.sub_le _ _) t.isLt
  obtain ⟨e0, e1, e2⟩ := fwd_prev t ⟨t.val - 1, hlt⟩ h1 rfl
  refine (congrFun (congrArg Prod.fst (Fwd.outsAt0_B W c t (by omega) h1)) (ix2 r l)).trans ?_
  dsimp only
  refine (outB3_real c (grid0.coords t) _ _ _ _ _ _ _ _ _ _ _ _ _ (fun r => qh Q (grid0.coords t 1) (tok (grid0.coords t 0) r))
    (kh Kk (grid0.coords t 1)) (vh Vv (grid0.coords t 1)) (fwd_q W c Q hQ t) (fwd_k W c Kk hK t) (fwd_v W c Vv hV t) _ _ _ _
    (fwd_even W c Q Kk Vv hQ hK hV ⟨t.val - 1, hlt⟩ (by show (t.val - 1) % 2 = 0; omega)) r l).trans ?_
  refine congrArg (fun x : ℝ => (x : EReal)) ?_
  have eb : grid0.coords ⟨t.val - 1, hlt⟩ 0 = grid0.coords t 0 := Fin.ext e0
  rw [eb]
  generalize grid0.coords t 0 = b at *
  generalize grid0.coords ⟨t.val - 1, hlt⟩ 1 = s at *
  generalize grid0.coords t 1 = h at *
  have hl := l.isLt
  unfold outV
  by_cases hh : l.val / 64 = 0
  · have eh : headOf (pair h) l = s := Fin.ext (by show 2 * (h.val / 2) + l.val / 64 = s.val; omega)
    have ev : vh Vv s = vh Vv (headOf (pair h) l) := by rw [eh]
    rw [if_pos (by omega), if_neg (by omega), add_zero, eh]
  · have eh : headOf (pair h) l = h := Fin.ext (by show 2 * (h.val / 2) + l.val / 64 = h.val; omega)
    rw [if_neg (by omega), if_pos (by omega), zero_add, eh]

/-- After any point: the head's statistic in every lane. -/
theorem fwd_stat (t : Fin cfg0.N) (r : Fin 1024) (l : Fin 128) :
    ((Fwd.outsAt0 W c t.val t.isLt).2 : Vec Ideal S1024x128 .f32) (ix2 r l)
      = ((lseV Q Kk (tok (grid0.coords t 0) r) (grid0.coords t 1) : ℝ) : EReal) := by
  by_cases h0 : t.val % 2 = 0
  · refine (congrFun (congrArg Prod.snd (Fwd.outsAt0_A W c t h0 (by omega))) (ix2 r l)).trans ?_
    dsimp only
    exact outA4_real c (grid0.coords t) _ _ _ _ _ _ _ _ _ _ _ _ _ (fun r => qh Q (grid0.coords t 1) (tok (grid0.coords t 0) r))
      (kh Kk (grid0.coords t 1)) (vh Vv (grid0.coords t 1)) (fwd_q W c Q hQ t) (fwd_k W c Kk hK t) (fwd_v W c Vv hV t) _ _ r l
  · refine (congrFun (congrArg Prod.snd (Fwd.outsAt0_B W c t h0 (by omega))) (ix2 r l)).trans ?_
    dsimp only
    exact outB4_real c (grid0.coords t) _ _ _ _ _ _ _ _ _ _ _ _ _ (fun r => qh Q (grid0.coords t 1) (tok (grid0.coords t 0) r))
      (kh Kk (grid0.coords t 1)) (vh Vv (grid0.coords t 1)) (fwd_q W c Q hQ t) (fwd_k W c Kk hK t) (fwd_v W c Vv hV t) _ _ _ r l

/-- THE OUTPUT ARRAY of the forward. -/
theorem fwd_out (T : Fin 2048) (p : Fin 4) (l : Fin 128) :
    ((Fwd.dats W c).arrAt 3 cfg0.N : Vec Ideal S2048x512 .bf16) (ix2 T (lane2 p l)) = ((outV Q Kk Vv T p l : ℝ) : EReal) := by
  refine (?_ : ∀ T' p' l', ix2 T (lane2 p l) = ix2 T' (lane2 p' l') → _ = ((outV Q Kk Vv T' p' l' : ℝ) : EReal)) T p l rfl
  refine (Fwd.dats W c).arrAt_forall_of_covers 3
    (fun i v => ∀ T p l, i = ix2 T (lane2 p l) → v = ((outV Q Kk Vv T p l : ℝ) : EReal)) (by decide +kernel)
    (fun t hf y T p l e => ?_) (ix2 T (lane2 p l))
  blk_simp
  rw [Fwd.after0_3]
  have e0 : win0_3.index t 0 * 1024 + 1 * (y 0).val = T.val := congrArg Fin.val (congrFun e 0)
  have e1 : win0_3.index t 1 * 128 + 1 * (y 1).val = 128 * p.val + l.val := congrArg Fin.val (congrFun e 1)
  obtain ⟨-, -, -, ⟨i0, i1⟩, -⟩ := fwd_index t
  rw [i0] at e0
  rw [i1] at e1
  have hl : (y 1).val < 128 := (y 1).isLt
  have hy : y = ix2 (y 0) l := by
    funext a
    match a with
    | ⟨0, _⟩ => rfl
    | ⟨1, _⟩ => exact Fin.ext (by show (y 1).val = l.val; omega)
  have hp : pair (grid0.coords t 1) = p := Fin.ext (by show (grid0.coords t 1).val / 2 = p.val; omega)
  have hT : tok (grid0.coords t 0) (y 0) = T := Fin.ext (by show 1024 * (grid0.coords t 0).val + (y 0).val = T.val; omega)
  rw [hy]
  refine (fwd_odd W c Q Kk Vv hQ hK hV t ((flush0_3 t).mp hf) (y 0) l).trans ?_
  rw [hT, hp]

/-- The statistic's array: each head's in its 128 lanes. -/
theorem fwd_lse (T : Fin 2048) (h : Fin 8) (l : Fin 128) :
    ((Fwd.dats W c).arrAt 4 cfg0.N : Vec Ideal S2048x1024 .f32) (ix2 T (lane h l)) = ((lseV Q Kk T h : ℝ) : EReal) := by
  refine (?_ : ∀ T' h' l', ix2 T (lane h l) = ix2 T' (lane h' l') → _ = ((lseV Q Kk T' h' : ℝ) : EReal)) T h l rfl
  refine (Fwd.dats W c).arrAt_forall_of_covers 4
    (fun i v => ∀ T h l, i = ix2 T (lane h l) → v = ((lseV Q Kk T h : ℝ) : EReal)) (by decide +kernel)
    (fun t hf y T h l e => ?_) (ix2 T (lane h l))
  blk_simp
  rw [Fwd.after0_4]
  have e0 : win0_4.index t 0 * 1024 + 1 * (y 0).val = T.val := congrArg Fin.val (congrFun e 0)
  have e1 : win0_4.index t 1 * 128 + 1 * (y 1).val = 128 * h.val + l.val := congrArg Fin.val (congrFun e 1)
  obtain ⟨-, -, -, -, ⟨i0, i1⟩⟩ := fwd_index t
  rw [i0] at e0
  rw [i1] at e1
  have hl : (y 1).val < 128 := (y 1).isLt
  have hy : y = ix2 (y 0) l := by
    funext a
    match a with
    | ⟨0, _⟩ => rfl
    | ⟨1, _⟩ => exact Fin.ext (by show (y 1).val = l.val; omega)
  have hp : grid0.coords t 1 = h := Fin.ext (by show (grid0.coords t 1).val = h.val; omega)
  have hT : tok (grid0.coords t 0) (y 0) = T := Fin.ext (by show 1024 * (grid0.coords t 0).val + (y 0).val = T.val; omega)
  rw [hy]
  refine (fwd_stat W c Q Kk Vv hQ hK hV t (y 0) l).trans ?_
  rw [hT, hp]

end

end

end Cert.Attn
-- ==== Proof.BwdArr.lean ====
module

public import proofs.«01_k».proof.Proof.Rows
public import Idealize.ShloMosaic.Lib.Pipeline.ValueKit.Geometry

/-!
The backward attention's result arrays, from finite argument arrays and the forward's saved statistic.
-/

@[expose] public section

noncomputable section

open Idealize.ShloMosaic Idealize.ShloMosaic.TcCoe Cert.KernelIdeal Cert.KernelIdeal.Gen
open Idealize.ShloMosaic.Pipeline (Dat)

namespace Cert.Attn

/-- Where the backward's blocks lie: the head, its pair, the query block. -/
theorem bwd_points : ∀ t : Fin grid1.N, t.val = 2 * (grid1.coords t 0).val + (grid1.coords t 1).val
    ∧ (grid1.coords t 0).val < 8 ∧ (grid1.coords t 1).val < 2 := by decide +kernel

theorem bwd_index : ∀ t : Fin grid1.N,
    (win1_0.index t 0 = (grid1.coords t 1).val ∧ win1_0.index t 1 = (grid1.coords t 0).val)
    ∧ (win1_1.index t 0 = 0 ∧ win1_1.index t 1 = (grid1.coords t 0).val)
    ∧ (win1_2.index t 0 = 0 ∧ win1_2.index t 1 = (grid1.coords t 0).val / 2)
    ∧ (win1_3.index t 0 = (grid1.coords t 1).val ∧ win1_3.index t 1 = (grid1.coords t 0).val / 2)
    ∧ (win1_4.index t 0 = (grid1.coords t 1).val ∧ win1_4.index t 1 = (grid1.coords t 0).val / 2)
    ∧ (win1_5.index t 0 = (grid1.coords t 1).val ∧ win1_5.index t 1 = (grid1.coords t 0).val) := by decide +kernel

theorem bwd_index_out : ∀ t : Fin grid1.N,
    (win1_6.index t 0 = (grid1.coords t 1).val ∧ win1_6.index t 1 = (grid1.coords t 0).val)
    ∧ (win1_7.index t 0 = 0 ∧ win1_7.index t 1 = (grid1.coords t 0).val)
    ∧ (win1_8.index t 0 = 0 ∧ win1_8.index t 1 = (grid1.coords t 0).val / 2) := by decide +kernel

section

variable (W : Dev nD → Valuation τ sig (Elt Ideal)) (c : Dev nD)

/-- A block's element is the array's at the block's place. -/
theorem bwd_q (t : Fin cfg1.N) (r : Fin 1024) (l : Fin 128) :
    (Bwd.iblk W c 0 t : Vec Ideal S1024x128 .bf16) (ix2 r l)
      = (Bwd.V W c (Pipeline.arrRef spec1 0) : Vec Ideal S2048x1024 .bf16) (ix2 (tok (grid1.coords t 1) r) (lane (grid1.coords t 0) l)) := by
  obtain ⟨⟨h0, h1⟩, -⟩ := bwd_index t
  unfold Bwd.iblk
  rw [View.read_apply]
  show Bwd.V W c (Pipeline.arrRef spec1 0) _ = Bwd.V W c (Pipeline.arrRef spec1 0) _
  congr 1
  funext a
  apply Fin.ext
  match a with
  | ⟨0, _⟩ => show win1_0.index t 0 * 1024 + 1 * r.val = 1024 * (grid1.coords t 1).val + r.val; rw [h0]; omega
  | ⟨1, _⟩ => show win1_0.index t 1 * 128 + 1 * l.val = 128 * (grid1.coords t 0).val + l.val; rw [h1]; omega

theorem bwd_k (t : Fin cfg1.N) (r : Fin 2304) (l : Fin 128) :
    (Bwd.iblk W c 1 t : Vec Ideal S2304x128 .bf16) (ix2 r l)
      = (Bwd.V W c (Pipeline.arrRef spec1 1) : Vec Ideal S2304x1024 .bf16) (ix2 r (lane (grid1.coords t 0) l)) := by
  obtain ⟨-, ⟨h0, h1⟩, -⟩ := bwd_index t
  unfold Bwd.iblk
  rw [View.read_apply]
  show Bwd.V W c (Pipeline.arrRef spec1 1) _ = Bwd.V W c (Pipeline.arrRef spec1 1) _
  congr 1
  funext a
  apply Fin.ext
  match a with
  | ⟨0, _⟩ => show win1_1.index t 0 * 2304 + 1 * r.val = r.val; rw [h0]; omega
  | ⟨1, _⟩ => show win1_1.index t 1 * 128 + 1 * l.val = 128 * (grid1.coords t 0).val + l.val; rw [h1]; omega

theorem bwd_v (t : Fin cfg1.N) (r : Fin 2304) (l : Fin 128) :
    (Bwd.iblk W c 2 t : Vec Ideal S2304x128 .bf16) (ix2 r l)
      = (Bwd.V W c (Pipeline.arrRef spec1 2) : Vec Ideal S2304x512 .bf16) (ix2 r (lane2 (pair (grid1.coords t 0)) l)) := by
  obtain ⟨-, -, ⟨h0, h1⟩, -⟩ := bwd_index t
  unfold Bwd.iblk
  rw [View.read_apply]
  show Bwd.V W c (Pipeline.arrRef spec1 2) _ = Bwd.V W c (Pipeline.arrRef spec1 2) _
  congr 1
  funext a
  apply Fin.ext
  match a with
  | ⟨0, _⟩ => show win1_2.index t 0 * 2304 + 1 * r.val = r.val; rw [h0]; omega
  | ⟨1, _⟩ => show win1_2.index t 1 * 128 + 1 * l.val = 128 * ((grid1.coords t 0).val / 2) + l.val; rw [h1]; omega

theorem bwd_g (t : Fin cfg1.N) (r : Fin 1024) (l : Fin 128) :
    (Bwd.iblk W c 3 t : Vec Ideal S1024x128 .bf16) (ix2 r l)
      = (Bwd.V W c (Pipeline.arrRef spec1 3) : Vec Ideal S2048x512 .bf16) (ix2 (tok (grid1.coords t 1) r) (lane2 (pair (grid1.coords t 0)) l)) := by
  obtain ⟨-, -, -, ⟨h0, h1⟩, -⟩ := bwd_index t
  unfold Bwd.iblk
  rw [View.read_apply]
  show Bwd.V W c (Pipeline.arrRef spec1 3) _ = Bwd.V W c (Pipeline.arrRef spec1 3) _
  congr 1
  funext a
  apply Fin.ext
  match a with
  | ⟨0, _⟩ => show win1_3.index t 0 * 1024 + 1 * r.val = 1024 * (grid1.coords t 1).val + r.val; rw [h0]; omega
  | ⟨1, _⟩ => show win1_3.index t 1 * 128 + 1 * l.val = 128 * ((grid1.coords t 0).val / 2) + l.val; rw [h1]; omega

theorem bwd_p (t : Fin cfg1.N) (r : Fin 1024) (l : Fin 128) :
    (Bwd.iblk W c 4 t : Vec Ideal S1024x128 .bf16) (ix2 r l)
      = (Bwd.V W c (Pipeline.arrRef spec1 4) : Vec Ideal S2048x512 .bf16) (ix2 (tok (grid1.coords t 1) r) (lane2 (pair (grid1.coords t 0)) l)) := by
  obtain ⟨-, -, -, -, ⟨h0, h1⟩, -⟩ := bwd_index t
  unfold Bwd.iblk
  rw [View.read_apply]
  show Bwd.V W c (Pipeline.arrRef spec1 4) _ = Bwd.V W c (Pipeline.arrRef spec1 4) _
  congr 1
  funext a
  apply Fin.ext
  match a with
  | ⟨0, _⟩ => show win1_4.index t 0 * 1024 + 1 * r.val = 1024 * (grid1.coords t 1).val + r.val; rw [h0]; omega
  | ⟨1, _⟩ => show win1_4.index t 1 * 128 + 1 * l.val = 128 * ((grid1.coords t 0).val / 2) + l.val; rw [h1]; omega

theorem bwd_s (t : Fin cfg1.N) (r : Fin 1024) (l : Fin 128) :
    (Bwd.iblk W c 5 t : Vec Ideal S1024x128 .f32) (ix2 r l)
      = (Bwd.V W c (Pipeline.arrRef spec1 5) : Vec Ideal S2048x1024 .f32) (ix2 (tok (grid1.coords t 1) r) (lane (grid1.coords t 0) l)) := by
  obtain ⟨-, -, -, -, -, ⟨h0, h1⟩⟩ := bwd_index t
  unfold Bwd.iblk
  rw [View.read_apply]
  show Bwd.V W c (Pipeline.arrRef spec1 5) _ = Bwd.V W c (Pipeline.arrRef spec1 5) _
  congr 1
  funext a
  apply Fin.ext
  match a with
  | ⟨0, _⟩ => show win1_5.index t 0 * 1024 + 1 * r.val = 1024 * (grid1.coords t 1).val + r.val; rw [h0]; omega
  | ⟨1, _⟩ => show win1_5.index t 1 * 128 + 1 * l.val = 128 * (grid1.coords t 0).val + l.val; rw [h1]; omega

section

variable (Q : Fin 2048 → Fin 1024 → ℝ) (Kk : Fin 2304 → Fin 1024 → ℝ) (Vv : Fin 2304 → Fin 512 → ℝ)
  (G P : Fin 2048 → Fin 512 → ℝ)

/-- What one head's one query block adds to the keys' and the values' gradients. -/
def dkInc (h : Fin 8) (b : Fin 2) (K : Fin 2304) (l : Fin 128) : ℝ :=
  ∑ r, dsh Q Kk Vv G P h (tok b r) K * qh Q h (tok b r) l
def dvInc (h : Fin 8) (b : Fin 2) (K : Fin 2304) (l : Fin 128) : ℝ :=
  ∑ r, E (qh Q h (tok b r)) (kh Kk h K) / Lh Q Kk h (tok b r) * gh G h (tok b r) l

variable (hQ : ∀ T n, (Bwd.V W c (Pipeline.arrRef spec1 0) : Vec Ideal S2048x1024 .bf16) (ix2 T n) = ((Q T n : ℝ) : EReal))
  (hK : ∀ T n, (Bwd.V W c (Pipeline.arrRef spec1 1) : Vec Ideal S2304x1024 .bf16) (ix2 T n) = ((Kk T n : ℝ) : EReal))
  (hV : ∀ T n, (Bwd.V W c (Pipeline.arrRef spec1 2) : Vec Ideal S2304x512 .bf16) (ix2 T n) = ((Vv T n : ℝ) : EReal))
  (hG : ∀ T n, (Bwd.V W c (Pipeline.arrRef spec1 3) : Vec Ideal S2048x512 .bf16) (ix2 T n) = ((G T n : ℝ) : EReal))
  (hP : ∀ T n, (Bwd.V W c (Pipeline.arrRef spec1 4) : Vec Ideal S2048x512 .bf16) (ix2 T n) = ((P T n : ℝ) : EReal))
  (hS : ∀ T h l, (Bwd.V W c (Pipeline.arrRef spec1 5) : Vec Ideal S2048x1024 .f32) (ix2 T (lane h l)) = ((lseV Q Kk T h : ℝ) : EReal))

include hQ hK hV hG hP hS

/-- After any point: the block's rows of the queries' gradient. -/
theorem bwd_dq_at (t : Fin cfg1.N) (r : Fin 1024) (l : Fin 128) :
    ((Bwd.outsAt1 W c t.val t.isLt).1 : Vec Ideal S1024x128 .f32) (ix2 r l)
      = ((dqV Q Kk Vv G P (tok (grid1.coords t 1) r) (grid1.coords t 0) l : ℝ) : EReal) := by
  by_cases h0 : t.val % 2 = 0
  · by_cases h1 : t.val % 4 = 0
    · refine (congrFun (congrArg Prod.fst (Bwd.outsAt1_A W c t h0 h1)) (ix2 r l)).trans ?_
      dsimp only
      exact bA6 c (grid1.coords t) _ _ _ _ _ _ _ _ _ _ _ _ _ _ _ _ _ _ _ _ _ _ _ _
        (fun r => qh Q (grid1.coords t 0) (tok (grid1.coords t 1) r)) (fun r l => G (tok (grid1.coords t 1) r) (lane2 (pair (grid1.coords t 0)) l))
        (fun r => ph P (grid1.coords t 0) (tok (grid1.coords t 1) r)) (kh Kk (grid1.coords t 0)) (vh Vv (grid1.coords t 0))
        (fun r => Lh Q Kk (grid1.coords t 0) (tok (grid1.coords t 1) r))
         (fun r l => (bwd_q W c t r l).trans (hQ _ _)) (fun r l => (bwd_k W c t r l).trans (hK _ _))
        (fun r l => (bwd_v W c t r l).trans (hV _ _)) (fun r l => (bwd_g W c t r l).trans (hG _ _))
        (fun r l => (bwd_p W c t r l).trans (hP _ _)) (fun r => den_pos _ _) (fun r => (bwd_s W c t r 0).trans (hS _ _ _)) _ _ r l
    · refine (congrFun (congrArg Prod.fst (Bwd.outsAt1_C W c t h0 h1)) (ix2 r l)).trans ?_
      dsimp only
      exact bC6 c (grid1.coords t) _ _ _ _ _ _ _ _ _ _ _ _ _ _ _ _ _ _ _ _ _ _ _ _ _
        (fun r => qh Q (grid1.coords t 0) (tok (grid1.coords t 1) r)) (fun r l => G (tok (grid1.coords t 1) r) (lane2 (pair (grid1.coords t 0)) l))
        (fun r => ph P (grid1.coords t 0) (tok (grid1.coords t 1) r)) (kh Kk (grid1.coords t 0)) (vh Vv (grid1.coords t 0))
        (fun r => Lh Q Kk (grid1.coords t 0) (tok (grid1.coords t 1) r))
         (fun r l => (bwd_q W c t r l).trans (hQ _ _)) (fun r l => (bwd_k W c t r l).trans (hK _ _))
        (fun r l => (bwd_v W c t r l).trans (hV _ _)) (fun r l => (bwd_g W c t r l).trans (hG _ _))
        (fun r l => (bwd_p W c t r l).trans (hP _ _)) (fun r => den_pos _ _) (fun r => (bwd_s W c t r 0).trans (hS _ _ _)) _ _ r l
  · refine (congrFun (congrArg Prod.fst (Bwd.outsAt1_B W c t h0 (by omega))) (ix2 r l)).trans ?_
    dsimp only
    exact bB6 c (grid1.coords t) _ _ _ _ _ _ _ _ _ _ _ _ _ _ _ _ _ _ _ _ _ _ _ _ _ _
        (fun r => qh Q (grid1.coords t 0) (tok (grid1.coords t 1) r)) (fun r l => G (tok (grid1.coords t 1) r) (lane2 (pair (grid1.coords t 0)) l))
        (fun r => ph P (grid1.coords t 0) (tok (grid1.coords t 1) r)) (kh Kk (grid1.coords t 0)) (vh Vv (grid1.coords t 0))
        (fun r => Lh Q Kk (grid1.coords t 0) (tok (grid1.coords t 1) r))
         (fun r l => (bwd_q W c t r l).trans (hQ _ _)) (fun r l => (bwd_k W c t r l).trans (hK _ _))
        (fun r l => (bwd_v W c t r l).trans (hV _ _)) (fun r l => (bwd_g W c t r l).trans (hG _ _))
        (fun r l => (bwd_p W c t r l).trans (hP _ _)) (fun r => den_pos _ _) (fun r => (bwd_s W c t r 0).trans (hS _ _ _)) _ _ r l

/-- After a head's first query block: that block's part of the keys' gradient. -/
theorem bwd_dk_first (t : Fin cfg1.N) (h0 : t.val % 2 = 0) (K : Fin 2304) (l : Fin 128) :
    ((Bwd.outsAt1 W c t.val t.isLt).2.1 : Vec Ideal S2304x128 .f32) (ix2 K l)
      = ((0 + dkInc Q Kk Vv G P (grid1.coords t 0) (grid1.coords t 1) K l : ℝ) : EReal) := by
  by_cases h1 : t.val % 4 = 0
  · refine (congrFun (congrArg (fun p => p.2.1) (Bwd.outsAt1_A W c t h0 h1)) (ix2 K l)).trans ?_
    dsimp only
    exact bA7 c (grid1.coords t) _ _ _ _ _ _ _ _ _ _ _ _ _ _ _ _ _ _ _ _ _ _ _ _
        (fun r => qh Q (grid1.coords t 0) (tok (grid1.coords t 1) r)) (fun r l => G (tok (grid1.coords t 1) r) (lane2 (pair (grid1.coords t 0)) l))
        (fun r => ph P (grid1.coords t 0) (tok (grid1.coords t 1) r)) (kh Kk (grid1.coords t 0)) (vh Vv (grid1.coords t 0))
        (fun r => Lh Q Kk (grid1.coords t 0) (tok (grid1.coords t 1) r))
         (fun r l => (bwd_q W c t r l).trans (hQ _ _)) (fun r l => (bwd_k W c t r l).trans (hK _ _))
        (fun r l => (bwd_v W c t r l).trans (hV _ _)) (fun r l => (bwd_g W c t r l).trans (hG _ _))
        (fun r l => (bwd_p W c t r l).trans (hP _ _)) (fun r => den_pos _ _) (fun r => (bwd_s W c t r 0).trans (hS _ _ _)) _ _ K l
  · refine (congrFun (congrArg (fun p => p.2.1) (Bwd.outsAt1_C W c t h0 h1)) (ix2 K l)).trans ?_
    dsimp only
    exact bC7 c (grid1.coords t) _ _ _ _ _ _ _ _ _ _ _ _ _ _ _ _ _ _ _ _ _ _ _ _ _
        (fun r => qh Q (grid1.coords t 0) (tok (grid1.coords t 1) r)) (fun r l => G (tok (grid1.coords t 1) r) (lane2 (pair (grid1.coords t 0)) l))
        (fun r => ph P (grid1.coords t 0) (tok (grid1.coords t 1) r)) (kh Kk (grid1.coords t 0)) (vh Vv (grid1.coords t 0))
        (fun r => Lh Q Kk (grid1.coords t 0) (tok (grid1.coords t 1) r))
         (fun r l => (bwd_q W c t r l).trans (hQ _ _)) (fun r l => (bwd_k W c t r l).trans (hK _ _))
        (fun r l => (bwd_v W c t r l).trans (hV _ _)) (fun r l => (bwd_g W c t r l).trans (hG _ _))
        (fun r l => (bwd_p W c t r l).trans (hP _ _)) (fun r => den_pos _ _) (fun r => (bwd_s W c t r 0).trans (hS _ _ _)) _ _ K l

/-- After its second: what the first left and that block's part. -/
theorem bwd_dk_next (t : Fin cfg1.N) (h0 : ¬t.val % 2 = 0) (β : Fin 2304 → Fin 128 → ℝ)
    (hβ : ∀ K l, ((Bwd.outsAt1 W c (t.val - 1) (Nat.lt_of_le_of_lt (Nat.sub_le _ _) t.isLt)).2.1 : Vec Ideal S2304x128 .f32) (ix2 K l) = ((β K l : ℝ) : EReal))
    (K : Fin 2304) (l : Fin 128) :
    ((Bwd.outsAt1 W c t.val t.isLt).2.1 : Vec Ideal S2304x128 .f32) (ix2 K l)
      = ((β K l + dkInc Q Kk Vv G P (grid1.coords t 0) (grid1.coords t 1) K l : ℝ) : EReal) := by
  refine (congrFun (congrArg (fun p => p.2.1) (Bwd.outsAt1_B W c t h0 (by omega))) (ix2 K l)).trans ?_
  dsimp only
  exact bB7 c (grid1.coords t) _ _ _ _ _ _ _ _ _ _ _ _ _ _ _ _ _ _ _ _ _ _ _ _ _ _
        (fun r => qh Q (grid1.coords t 0) (tok (grid1.coords t 1) r)) (fun r l => G (tok (grid1.coords t 1) r) (lane2 (pair (grid1.coords t 0)) l))
        (fun r => ph P (grid1.coords t 0) (tok (grid1.coords t 1) r)) (kh Kk (grid1.coords t 0)) (vh Vv (grid1.coords t 0))
        (fun r => Lh Q Kk (grid1.coords t 0) (tok (grid1.coords t 1) r))
         β (fun r l => (bwd_q W c t r l).trans (hQ _ _)) (fun r l => (bwd_k W c t r l).trans (hK _ _))
        (fun r l => (bwd_v W c t r l).trans (hV _ _)) (fun r l => (bwd_g W c t r l).trans (hG _ _))
        (fun r l => (bwd_p W c t r l).trans (hP _ _)) (fun r => den_pos _ _) (fun r => (bwd_s W c t r 0).trans (hS _ _ _)) hβ _ _ K l

omit hV hP in
/-- After a pair's first point: its part of the values' gradient. -/
theorem bwd_dv_first (t : Fin cfg1.N) (h1 : t.val % 4 = 0) (K : Fin 2304) (l : Fin 128) :
    ((Bwd.outsAt1 W c t.val t.isLt).2.2 : Vec Ideal S2304x128 .f32) (ix2 K l)
      = ((0 + dvInc Q Kk G (grid1.coords t 0) (grid1.coords t 1) K l : ℝ) : EReal) := by
  refine (congrFun (congrArg (fun p => p.2.2) (Bwd.outsAt1_A W c t (by omega) h1)) (ix2 K l)).trans ?_
  dsimp only
  exact bA8 c (grid1.coords t) _ _ _ _ _ _ _ _ _ _ _ _ _ _ _ _ _ _ _ _ _ _ _ _
        (fun r => qh Q (grid1.coords t 0) (tok (grid1.coords t 1) r)) (fun r l => G (tok (grid1.coords t 1) r) (lane2 (pair (grid1.coords t 0)) l))
        (kh Kk (grid1.coords t 0)) (fun r => Lh Q Kk (grid1.coords t 0) (tok (grid1.coords t 1) r))
         (fun r l => (bwd_q W c t r l).trans (hQ _ _)) (fun r l => (bwd_k W c t r l).trans (hK _ _))
        (fun r l => (bwd_g W c t r l).trans (hG _ _)) (fun r => den_pos _ _) (fun r => (bwd_s W c t r 0).trans (hS _ _ _)) _ _ K l

omit hV hP in
/-- After each further point of the pair: what the point before left and this one's part. -/
theorem bwd_dv_next (t : Fin cfg1.N) (h1 : ¬t.val % 4 = 0) (γ : Fin 2304 → Fin 128 → ℝ)
    (hγ : ∀ K l, ((Bwd.outsAt1 W c (t.val - 1) (Nat.lt_of_le_of_lt (Nat.sub_le _ _) t.isLt)).2.2 : Vec Ideal S2304x128 .f32) (ix2 K l) = ((γ K l : ℝ) : EReal))
    (K : Fin 2304) (l : Fin 128) :
    ((Bwd.outsAt1 W c t.val t.isLt).2.2 : Vec Ideal S2304x128 .f32) (ix2 K l)
      = ((γ K l + dvInc Q Kk G (grid1.coords t 0) (grid1.coords t 1) K l : ℝ) : EReal) := by
  by_cases h0 : t.val % 2 = 0
  · refine (congrFun (congrArg (fun p => p.2.2) (Bwd.outsAt1_C W c t h0 h1)) (ix2 K l)).trans ?_
    dsimp only
    exact bC8 c (grid1.coords t) _ _ _ _ _ _ _ _ _ _ _ _ _ _ _ _ _ _ _ _ _ _ _ _ _
        (fun r => qh Q (grid1.coords t 0) (tok (grid1.coords t 1) r)) (fun r l => G (tok (grid1.coords t 1) r) (lane2 (pair (grid1.coords t 0)) l))
        (kh Kk (grid1.coords t 0)) (fun r => Lh Q Kk (grid1.coords t 0) (tok (grid1.coords t 1) r))
         γ (fun r l => (bwd_q W c t r l).trans (hQ _ _)) (fun r l => (bwd_k W c t r l).trans (hK _ _))
        (fun r l => (bwd_g W c t r l).trans (hG _ _)) (fun r => den_pos _ _) (fun r => (bwd_s W c t r 0).trans (hS _ _ _)) hγ _ _ K l
  · refine (congrFun (congrArg (fun p => p.2.2) (Bwd.outsAt1_B W c t h0 h1)) (ix2 K l)).trans ?_
    dsimp only
    exact bB8 c (grid1.coords t) _ _ _ _ _ _ _ _ _ _ _ _ _ _ _ _ _ _ _ _ _ _ _ _ _ _
        (fun r => qh Q (grid1.coords t 0) (tok (grid1.coords t 1) r)) (fun r l => G (tok (grid1.coords t 1) r) (lane2 (pair (grid1.coords t 0)) l))
        (kh Kk (grid1.coords t 0)) (fun r => Lh Q Kk (grid1.coords t 0) (tok (grid1.coords t 1) r))
         γ (fun r l => (bwd_q W c t r l).trans (hQ _ _)) (fun r l => (bwd_k W c t r l).trans (hK _ _))
        (fun r l => (bwd_g W c t r l).trans (hG _ _)) (fun r => den_pos _ _) (fun r => (bwd_s W c t r 0).trans (hS _ _ _)) hγ _ _ K l

end

end

end Cert.Attn
-- ==== Proof.BwdGrad.lean ====
module

public import proofs.«01_k».proof.Proof.BwdArr

/-!
The three gradient arrays the backward attention leaves.
-/

@[expose] public section

noncomputable section

open Idealize.ShloMosaic Idealize.ShloMosaic.TcCoe Cert.KernelIdeal Cert.KernelIdeal.Gen
open Idealize.ShloMosaic.Pipeline (Dat)

namespace Cert.Attn

section

variable (W : Dev nD → Valuation τ sig (Elt Ideal)) (c : Dev nD)
  (Q : Fin 2048 → Fin 1024 → ℝ) (Kk : Fin 2304 → Fin 1024 → ℝ) (Vv : Fin 2304 → Fin 512 → ℝ)
  (G P : Fin 2048 → Fin 512 → ℝ)
  (hQ : ∀ T n, (Bwd.V W c (Pipeline.arrRef spec1 0) : Vec Ideal S2048x1024 .bf16) (ix2 T n) = ((Q T n : ℝ) : EReal))
  (hK : ∀ T n, (Bwd.V W c (Pipeline.arrRef spec1 1) : Vec Ideal S2304x1024 .bf16) (ix2 T n) = ((Kk T n : ℝ) : EReal))
  (hV : ∀ T n, (Bwd.V W c (Pipeline.arrRef spec1 2) : Vec Ideal S2304x512 .bf16) (ix2 T n) = ((Vv T n : ℝ) : EReal))
  (hG : ∀ T n, (Bwd.V W c (Pipeline.arrRef spec1 3) : Vec Ideal S2048x512 .bf16) (ix2 T n) = ((G T n : ℝ) : EReal))
  (hP : ∀ T n, (Bwd.V W c (Pipeline.arrRef spec1 4) : Vec Ideal S2048x512 .bf16) (ix2 T n) = ((P T n : ℝ) : EReal))
  (hS : ∀ T h l, (Bwd.V W c (Pipeline.arrRef spec1 5) : Vec Ideal S2048x1024 .f32) (ix2 T (lane h l)) = ((lseV Q Kk T h : ℝ) : EReal))

/-- The point before an odd one: the head's first query block. -/
theorem bwd_prev : ∀ t s : Fin grid1.N, t.val % 2 = 1 → s.val = t.val - 1 →
    grid1.coords s 0 = grid1.coords t 0 ∧ grid1.coords s 1 = (0 : Fin 2) ∧ grid1.coords t 1 = (1 : Fin 2) := by
  intro t s h e
  obtain ⟨a, b, d⟩ := bwd_points t
  obtain ⟨a', b', d'⟩ := bwd_points s
  exact ⟨Fin.ext (by omega), Fin.ext (by show (grid1.coords s 1).val = 0; omega), Fin.ext (by show (grid1.coords t 1).val = 1; omega)⟩

include hQ hK hV hG hP hS

/-- THE QUERIES' GRADIENT. -/
theorem bwd_dq (T : Fin 2048) (h : Fin 8) (l : Fin 128) :
    ((Bwd.dats W c).arrAt 6 cfg1.N : Vec Ideal S2048x1024 .f32) (ix2 T (lane h l)) = ((dqV Q Kk Vv G P T h l : ℝ) : EReal) := by
  refine (?_ : ∀ T' h' l', ix2 T (lane h l) = ix2 T' (lane h' l') → _ = ((dqV Q Kk Vv G P T' h' l' : ℝ) : EReal)) T h l rfl
  refine (Bwd.dats W c).arrAt_forall_of_covers 6
    (fun i v => ∀ T h l, i = ix2 T (lane h l) → v = ((dqV Q Kk Vv G P T h l : ℝ) : EReal)) (by decide +kernel)
    (fun t hf y T h l e => ?_) (ix2 T (lane h l))
  blk_simp
  rw [Bwd.after1_6]
  have e0 : win1_6.index t 0 * 1024 + 1 * (y 0).val = T.val := congrArg Fin.val (congrFun e 0)
  have e1 : win1_6.index t 1 * 128 + 1 * (y 1).val = 128 * h.val + l.val := congrArg Fin.val (congrFun e 1)
  obtain ⟨⟨i0, i1⟩, -⟩ := bwd_index_out t
  rw [i0] at e0
  rw [i1] at e1
  have hl : (y 1).val < 128 := (y 1).isLt
  have hy : y = ix2 (y 0) l := by
    funext a
    match a with
    | ⟨0, _⟩ => rfl
    | ⟨1, _⟩ => exact Fin.ext (by show (y 1).val = l.val; omega)
  have hp : grid1.coords t 0 = h := Fin.ext (by show (grid1.coords t 0).val = h.val; omega)
  have hT : tok (grid1.coords t 1) (y 0) = T := Fin.ext (by show 1024 * (grid1.coords t 1).val + (y 0).val = T.val; omega)
  rw [hy]
  refine (bwd_dq_at W c Q Kk Vv G P hQ hK hV hG hP hS t (y 0) l).trans ?_
  rw [hT, hp]

/-- A head's keys' gradient after its second query block. -/
theorem bwd_dk_at (t : Fin cfg1.N) (h1 : t.val % 2 = 1) (K : Fin 2304) (l : Fin 128) :
    ((Bwd.outsAt1 W c t.val t.isLt).2.1 : Vec Ideal S2304x128 .f32) (ix2 K l)
      = ((dkV Q Kk Vv G P K (grid1.coords t 0) l : ℝ) : EReal) := by
  have hlt : t.val - 1 < cfg1.N := Nat.lt_of_le_of_lt (Nat.sub_le _ _) t.isLt
  obtain ⟨e0, e1, e2⟩ := bwd_prev t ⟨t.val - 1, hlt⟩ h1 rfl
  refine (bwd_dk_next W c Q Kk Vv G P hQ hK hV hG hP hS t (by omega) _
    (bwd_dk_first W c Q Kk Vv G P hQ hK hV hG hP hS ⟨t.val - 1, hlt⟩ (by show (t.val - 1) % 2 = 0; omega)) K l).trans ?_
  refine congrArg (fun x : ℝ => (x : EReal)) ?_
  rw [e0, e1, e2]
  unfold dkV dkInc
  rw [← sum_tok, Fin.sum_univ_two, zero_add]

/-- THE KEYS' GRADIENT. -/
theorem bwd_dk (K : Fin 2304) (h : Fin 8) (l : Fin 128) :
    ((Bwd.dats W c).arrAt 7 cfg1.N : Vec Ideal S2304x1024 .f32) (ix2 K (lane h l)) = ((dkV Q Kk Vv G P K h l : ℝ) : EReal) := by
  refine (?_ : ∀ T' h' l', ix2 K (lane h l) = ix2 T' (lane h' l') → _ = ((dkV Q Kk Vv G P T' h' l' : ℝ) : EReal)) K h l rfl
  refine (Bwd.dats W c).arrAt_forall_of_covers 7
    (fun i v => ∀ T h l, i = ix2 T (lane h l) → v = ((dkV Q Kk Vv G P T h l : ℝ) : EReal)) (by decide +kernel)
    (fun t hf y T h l e => ?_) (ix2 K (lane h l))
  blk_simp
  rw [Bwd.after1_7]
  have e0 : win1_7.index t 0 * 2304 + 1 * (y 0).val = T.val := congrArg Fin.val (congrFun e 0)
  have e1 : win1_7.index t 1 * 128 + 1 * (y 1).val = 128 * h.val + l.val := congrArg Fin.val (congrFun e 1)
  obtain ⟨-, ⟨i0, i1⟩, -⟩ := bwd_index_out t
  rw [i0] at e0
  rw [i1] at e1
  have hl : (y 1).val < 128 := (y 1).isLt
  have hy : y = ix2 T l := by
    funext a
    match a with
    | ⟨0, _⟩ => exact Fin.ext (by show (y 0).val = T.val; omega)
    | ⟨1, _⟩ => exact Fin.ext (by show (y 1).val = l.val; omega)
  have hp : grid1.coords t 0 = h := Fin.ext (by show (grid1.coords t 0).val = h.val; omega)
  rw [hy]
  refine (bwd_dk_at W c Q Kk Vv G P hQ hK hV hG hP hS t ((flush1_7 t).mp hf) T l).trans ?_
  rw [hp]

omit hV hP in
/-- A pair's values' gradient after its fourth point: each lane keeps its own head's part. -/
theorem bwd_dv_at (t : Fin cfg1.N) (h1 : t.val % 4 = 3) (K : Fin 2304) (l : Fin 128) :
    ((Bwd.outsAt1 W c t.val t.isLt).2.2 : Vec Ideal S2304x128 .f32) (ix2 K l)
      = ((dvV Q Kk G K (pair (grid1.coords t 0)) l : ℝ) : EReal) := by
  have hlt : t.val - 1 < cfg1.N := Nat.lt_of_le_of_lt (Nat.sub_le _ _) t.isLt
  have hlt2 : t.val - 1 - 1 < cfg1.N := Nat.lt_of_le_of_lt (Nat.sub_le _ _) hlt
  have hlt3 : t.val - 1 - 1 - 1 < cfg1.N := Nat.lt_of_le_of_lt (Nat.sub_le _ _) hlt2
  obtain ⟨a, b, d⟩ := bwd_points t
  obtain ⟨a1, b1, d1⟩ := bwd_points ⟨t.val - 1, hlt⟩
  obtain ⟨a2, b2, d2⟩ := bwd_points ⟨t.val - 1 - 1, hlt2⟩
  obtain ⟨a3, b3, d3⟩ := bwd_points ⟨t.val - 1 - 1 - 1, hlt3⟩
  refine (bwd_dv_next W c Q Kk G hQ hK hG hS t (by omega) _
    (bwd_dv_next W c Q Kk G hQ hK hG hS ⟨t.val - 1, hlt⟩ (by show ¬(t.val - 1) % 4 = 0; omega) _
    (bwd_dv_next W c Q Kk G hQ hK hG hS ⟨t.val - 1 - 1, hlt2⟩ (by show ¬(t.val - 1 - 1) % 4 = 0; omega) _
    (bwd_dv_first W c Q Kk G hQ hK hG hS ⟨t.val - 1 - 1 - 1, hlt3⟩ (by show (t.val - 1 - 1 - 1) % 4 = 0; omega)))) K l).trans ?_
  refine congrArg (fun x : ℝ => (x : EReal)) ?_
  dsimp only at a1 a2 a3
  generalize grid1.coords ⟨t.val - 1, hlt⟩ 0 = s1 at *
  generalize grid1.coords ⟨t.val - 1, hlt⟩ 1 = u1 at *
  generalize grid1.coords ⟨t.val - 1 - 1, hlt2⟩ 0 = s2 at *
  generalize grid1.coords ⟨t.val - 1 - 1, hlt2⟩ 1 = u2 at *
  generalize grid1.coords ⟨t.val - 1 - 1 - 1, hlt3⟩ 0 = s3 at *
  generalize grid1.coords ⟨t.val - 1 - 1 - 1, hlt3⟩ 1 = u3 at *
  generalize grid1.coords t 0 = s at *
  generalize grid1.coords t 1 = u at *
  obtain rfl : s1 = s := Fin.ext (by omega)
  obtain rfl : s3 = s2 := Fin.ext (by omega)
  obtain rfl : u = (1 : Fin 2) := Fin.ext (by show u.val = 1; omega)
  obtain rfl : u1 = (0 : Fin 2) := Fin.ext (by show u1.val = 0; omega)
  obtain rfl : u2 = (1 : Fin 2) := Fin.ext (by show u2.val = 1; omega)
  obtain rfl : u3 = (0 : Fin 2) := Fin.ext (by show u3.val = 0; omega)
  have hl := l.isLt
  have hodd : s1.val % 2 = 1 := by omega
  have heven : s3.val % 2 = 0 := by omega
  have hps : pair s3 = pair s1 := Fin.ext (by show s3.val / 2 = s1.val / 2; omega)
  unfold dvV
  by_cases hh : l.val / 64 = 0
  · have eh : headOf (pair s1) l = s3 := Fin.ext (by show 2 * (s1.val / 2) + l.val / 64 = s3.val; omega)
    have z : ∀ b, dvInc Q Kk G s1 b K l = 0 := fun b => Finset.sum_eq_zero fun r _ => by
      unfold gh; rw [if_neg (by omega), mul_zero]
    rw [z, z, eh, add_zero, add_zero, zero_add, ← sum_tok, Fin.sum_univ_two]
    have g : ∀ b, dvInc Q Kk G s3 b K l
        = ∑ r, E (qh Q s3 (tok b r)) (kh Kk s3 K) / Lh Q Kk s3 (tok b r) * G (tok b r) (lane2 (pair s1) l) := fun b => by
      unfold dvInc gh; rw [← hps]; exact Finset.sum_congr rfl fun r _ => by rw [if_pos (by omega)]
    rw [g, g]
  · have eh : headOf (pair s1) l = s1 := Fin.ext (by show 2 * (s1.val / 2) + l.val / 64 = s1.val; omega)
    have z : ∀ b, dvInc Q Kk G s3 b K l = 0 := fun b => Finset.sum_eq_zero fun r _ => by
      unfold gh; rw [if_neg (by omega), mul_zero]
    rw [z, z, eh, add_zero, add_zero, zero_add, ← sum_tok, Fin.sum_univ_two]
    have g : ∀ b, dvInc Q Kk G s1 b K l
        = ∑ r, E (qh Q s1 (tok b r)) (kh Kk s1 K) / Lh Q Kk s1 (tok b r) * G (tok b r) (lane2 (pair s1) l) := fun b => by
      unfold dvInc gh; exact Finset.sum_congr rfl fun r _ => by rw [if_pos (by omega)]
    rw [g, g]

omit hV hP in
/-- THE VALUES' GRADIENT. -/
theorem bwd_dv (K : Fin 2304) (p : Fin 4) (l : Fin 128) :
    ((Bwd.dats W c).arrAt 8 cfg1.N : Vec Ideal S2304x512 .f32) (ix2 K (lane2 p l)) = ((dvV Q Kk G K p l : ℝ) : EReal) := by
  refine (?_ : ∀ T' p' l', ix2 K (lane2 p l) = ix2 T' (lane2 p' l') → _ = ((dvV Q Kk G T' p' l' : ℝ) : EReal)) K p l rfl
  refine (Bwd.dats W c).arrAt_forall_of_covers 8
    (fun i v => ∀ T p l, i = ix2 T (lane2 p l) → v = ((dvV Q Kk G T p l : ℝ) : EReal)) (by decide +kernel)
    (fun t hf y T p l e => ?_) (ix2 K (lane2 p l))
  blk_simp
  rw [Bwd.after1_8]
  have e0 : win1_8.index t 0 * 2304 + 1 * (y 0).val = T.val := congrArg Fin.val (congrFun e 0)
  have e1 : win1_8.index t 1 * 128 + 1 * (y 1).val = 128 * p.val + l.val := congrArg Fin.val (congrFun e 1)
  obtain ⟨-, -, ⟨i0, i1⟩⟩ := bwd_index_out t
  rw [i0] at e0
  rw [i1] at e1
  have hl : (y 1).val < 128 := (y 1).isLt
  have hy : y = ix2 T l := by
    funext a
    match a with
    | ⟨0, _⟩ => exact Fin.ext (by show (y 0).val = T.val; omega)
    | ⟨1, _⟩ => exact Fin.ext (by show (y 1).val = l.val; omega)
  have hp : pair (grid1.coords t 0) = p := Fin.ext (by show (grid1.coords t 0).val / 2 = p.val; omega)
  rw [hy]
  refine (bwd_dv_at W c Q Kk G hQ hK hG hS t ((flush1_8 t).mp hf) T l).trans ?_
  rw [hp]

end

end Cert.Attn
-- ==== Proof.RefOps.lean ====
module

public import proofs.«01_k».proof.Proof.Consts
public import proofs.«01_k».proof.Proof.Gen.ReferenceIdeal.Run
public import Idealize.ShloMosaic.Lib.Pointwise.Tactic

/-!
The reference's operations on arrays of finite numbers, one by one.
-/

@[expose] public section

noncomputable section

open Idealize.ShloMosaic Idealize.ShloMosaic.TcCoe Cert.ReferenceIdeal Cert.ReferenceIdeal.Gen

namespace Cert.Attn.Ref

section

variable {S : Shape} {x y : FVec Ideal S .f32} {i : S.Idx} {a b : ℝ}

theorem mul_r (hx : x i = (a : EReal)) (hy : y i = (b : EReal)) : mulf x y i = ((a * b : ℝ) : EReal) := by
  have h : mulf x y i = ((x i : EReal) * (y i : EReal)) := rfl
  rw [h, hx, hy, EReal.coe_mul]

theorem add_r (hx : x i = (a : EReal)) (hy : y i = (b : EReal)) : addf x y i = ((a + b : ℝ) : EReal) := by
  have h : addf x y i = ((x i : EReal) + (y i : EReal)) := rfl
  rw [h, hx, hy, EReal.coe_add]

theorem sub_r (hx : x i = (a : EReal)) (hy : y i = (b : EReal)) : subf x y i = ((a - b : ℝ) : EReal) := by
  have h : subf x y i = ((x i : EReal) - (y i : EReal)) := rfl
  rw [h, hx, hy, EReal.coe_sub]

theorem div_r (hx : x i = (a : EReal)) (hy : y i = (b : EReal)) (hb : b ≠ 0) : Host.divf x y i = ((a / b : ℝ) : EReal) := by
  have h : Host.divf x y i = Ideal.div (x i : EReal) (y i : EReal) := rfl
  rw [h, hx, hy, Ideal.div_coe hb, ← EReal.coe_mul]
  exact congrArg (fun z : ℝ => (z : EReal)) (by ring)

theorem exp_r (hx : x i = (a : EReal)) : Host.exp x i = ((Real.exp a : ℝ) : EReal) := by
  have h : Host.exp x i = Ideal.exp (x i : EReal) := rfl
  rw [h, hx, Ideal.exp_coe]

theorem neg_r (hx : x i = (a : EReal)) : Host.negf x i = ((-a : ℝ) : EReal) := by
  have h : Host.negf x i = -(x i : EReal) := rfl
  rw [h, hx, EReal.coe_neg]

end

section dots

theorem dot_nope {x : FVec Ideal S2048x8x64 .f32} {y : FVec Ideal S2304x8x64 .f32} {a : Fin 2048 → Fin 8 → Fin 64 → ℝ}
    {b : Fin 2304 → Fin 8 → Fin 64 → ℝ} (hx : ∀ T h d, x (ix3 T h d) = ((a T h d : ℝ) : EReal))
    (hy : ∀ K h d, y (ix3 K h d) = ((b K h d : ℝ) : EReal)) (h : Fin 8) (T : Fin 2048) (K : Fin 2304) :
    Host.dotGeneral dot_S2048x8x64_S2304x8x64_S8x2048x2304_2_2_0_0_1_1 none x y (ix3 h T K) = ((∑ d, a T h d * b K h d : ℝ) : EReal) := by
  pointwise []
  exact sum_real _ _ _ fun d => by rw [hx, hy, EReal.coe_mul]

theorem dot_rope {x : FVec Ideal S2048x8x32 .f32} {y : FVec Ideal S2304x8x32 .f32} {a : Fin 2048 → Fin 8 → Fin 32 → ℝ}
    {b : Fin 2304 → Fin 8 → Fin 32 → ℝ} (hx : ∀ T h d, x (ix3 T h d) = ((a T h d : ℝ) : EReal))
    (hy : ∀ K h d, y (ix3 K h d) = ((b K h d : ℝ) : EReal)) (h : Fin 8) (T : Fin 2048) (K : Fin 2304) :
    Host.dotGeneral dot_S2048x8x32_S2304x8x32_S8x2048x2304_2_2_0_0_1_1 none x y (ix3 h T K) = ((∑ d, a T h d * b K h d : ℝ) : EReal) := by
  pointwise []
  exact sum_real _ _ _ fun d => by rw [hx, hy, EReal.coe_mul]

theorem dot_out {x : FVec Ideal S2304x8x64 .f32} {y : FVec Ideal S8x2048x2304 .f32} {a : Fin 2304 → Fin 8 → Fin 64 → ℝ}
    {b : Fin 8 → Fin 2048 → Fin 2304 → ℝ} (hx : ∀ K h d, x (ix3 K h d) = ((a K h d : ℝ) : EReal))
    (hy : ∀ h T K, y (ix3 h T K) = ((b h T K : ℝ) : EReal)) (h : Fin 8) (d : Fin 64) (T : Fin 2048) :
    Host.dotGeneral dot_S2304x8x64_S8x2048x2304_S8x64x2048_0_2_2_1_1_0 none x y (ix3 h d T) = ((∑ K, a K h d * b h T K : ℝ) : EReal) := by
  pointwise []
  exact sum_real _ _ _ fun K => by rw [hx, hy, EReal.coe_mul]

theorem dot_slope {x : FVec Ideal S8x64x2048 .f32} {y : FVec Ideal S2304x8x64 .f32} {a : Fin 8 → Fin 64 → Fin 2048 → ℝ}
    {b : Fin 2304 → Fin 8 → Fin 64 → ℝ} (hx : ∀ h d T, x (ix3 h d T) = ((a h d T : ℝ) : EReal))
    (hy : ∀ K h d, y (ix3 K h d) = ((b K h d : ℝ) : EReal)) (h : Fin 8) (T : Fin 2048) (K : Fin 2304) :
    Host.dotGeneral dot_S8x64x2048_S2304x8x64_S8x2048x2304_1_2_2_0_0_1 none x y (ix3 h T K) = ((∑ d, a h d T * b K h d : ℝ) : EReal) := by
  pointwise []
  exact sum_real _ _ _ fun d => by rw [hx, hy, EReal.coe_mul]

theorem dot_value {x : FVec Ideal S8x64x2048 .f32} {y : FVec Ideal S8x2048x2304 .f32} {a : Fin 8 → Fin 64 → Fin 2048 → ℝ}
    {b : Fin 8 → Fin 2048 → Fin 2304 → ℝ} (hx : ∀ h d T, x (ix3 h d T) = ((a h d T : ℝ) : EReal))
    (hy : ∀ h T K, y (ix3 h T K) = ((b h T K : ℝ) : EReal)) (h : Fin 8) (d : Fin 64) (K : Fin 2304) :
    Host.dotGeneral dot_S8x64x2048_S8x2048x2304_S8x64x2304_2_1_1_2_0_0 none x y (ix3 h d K) = ((∑ T, a h d T * b h T K : ℝ) : EReal) := by
  pointwise []
  exact sum_real _ _ _ fun T => by rw [hx, hy, EReal.coe_mul]

variable {x : FVec Ideal S8x2048x2304 .f32} {a : Fin 8 → Fin 2048 → Fin 2304 → ℝ}
  (hx : ∀ h T K, x (ix3 h T K) = ((a h T K : ℝ) : EReal))

include hx

theorem dot_keyRope {y : FVec Ideal S2048x8x32 .f32} {b : Fin 2048 → Fin 8 → Fin 32 → ℝ}
    (hy : ∀ T h d, y (ix3 T h d) = ((b T h d : ℝ) : EReal)) (h : Fin 8) (K : Fin 2304) (d : Fin 32) :
    Host.dotGeneral dot_S8x2048x2304_S2048x8x32_S8x2304x32_1_0_2_2_0_1 none x y (ix3 h K d) = ((∑ T, a h T K * b T h d : ℝ) : EReal) := by
  pointwise []
  exact sum_real _ _ _ fun T => by rw [hx, hy, EReal.coe_mul]

theorem dot_queryRope {y : FVec Ideal S2304x8x32 .f32} {b : Fin 2304 → Fin 8 → Fin 32 → ℝ}
    (hy : ∀ T h d, y (ix3 T h d) = ((b T h d : ℝ) : EReal)) (h : Fin 8) (T : Fin 2048) (d : Fin 32) :
    Host.dotGeneral dot_S8x2048x2304_S2304x8x32_S8x2048x32_2_0_1_2_0_1 none x y (ix3 h T d) = ((∑ K, a h T K * b K h d : ℝ) : EReal) := by
  pointwise []
  exact sum_real _ _ _ fun T => by rw [hx, hy, EReal.coe_mul]

theorem dot_keyNope {y : FVec Ideal S2048x8x64 .f32} {b : Fin 2048 → Fin 8 → Fin 64 → ℝ}
    (hy : ∀ T h d, y (ix3 T h d) = ((b T h d : ℝ) : EReal)) (h : Fin 8) (K : Fin 2304) (d : Fin 64) :
    Host.dotGeneral dot_S8x2048x2304_S2048x8x64_S8x2304x64_1_0_2_2_0_1 none x y (ix3 h K d) = ((∑ T, a h T K * b T h d : ℝ) : EReal) := by
  pointwise []
  exact sum_real _ _ _ fun T => by rw [hx, hy, EReal.coe_mul]

theorem dot_queryNope {y : FVec Ideal S2304x8x64 .f32} {b : Fin 2304 → Fin 8 → Fin 64 → ℝ}
    (hy : ∀ T h d, y (ix3 T h d) = ((b T h d : ℝ) : EReal)) (h : Fin 8) (T : Fin 2048) (d : Fin 64) :
    Host.dotGeneral dot_S8x2048x2304_S2304x8x64_S8x2048x64_2_0_1_2_0_1 none x y (ix3 h T d) = ((∑ K, a h T K * b K h d : ℝ) : EReal) := by
  pointwise []
  exact sum_real _ _ _ fun T => by rw [hx, hy, EReal.coe_mul]

/-- The sum over the keys, and that the greatest score is finite. -/
theorem sum_keys (h : Fin 8) (T : Fin 2048) :
    Host.reduceAdd x (constant S_ .f32 0x00000000#32) reducesTo_S8x2048x2304_S8x2048_d2 h_S_ (ix2 h T) = ((∑ K, a h T K : ℝ) : EReal) := by
  pointwise []
  exact sum_real _ _ _ fun K => hx h T K

theorem reduce_keys (h : Fin 8) (T : Fin 2048) : ∃ M : ℝ,
    Host.reduce FloatOps.maximumf x (constant S_ .f32 0xFF800000#32) reducesTo_S8x2048x2304_S8x2048_d2 h_S_ (ix2 h T) = (M : EReal) := by
  pointwise []
  rw [negInf_eq]
  exact fold_max_real _ fun K => ⟨_, hx h T K⟩

omit hx in
theorem max_row {y : FVec Ideal S8x2048 .f32} {h : Fin 8} {T : Fin 2048} {M : ℝ} (hy : y (ix2 h T) = (M : EReal)) :
    maximumf (broadcastInDim S8x2048 ![] bcast_S_S8x2048 (constant (F := Ideal) S_ .f32 0xFF800000#32)) y (ix2 h T) = (M : EReal) := by
  pointwise []
  rw [negInf_eq, hy]
  exact max_eq_right bot_le

end dots

/-- The scale: one over the root of 96. -/
theorem scale_r (i : S8x2048x2304.Idx) :
    broadcastInDim S8x2048x2304 ![] bcast_S_S8x2048x2304 (Host.divf (F := Ideal) (constant S_ .f32 0x3F800000#32) (Host.sqrt (constant S_ .f32 0x42C00000#32))) i
      = ((sc : ℝ) : EReal) := by
  have e : (Ideal.ofBits FTy.f32 0x42C00000#32 : EReal) = ((96 : ℝ) : EReal) := by
    simp [Ideal.ofBits, Ideal.ieee, -EReal.coe_mul]; norm_num
  have p : Real.sqrt 96 ≠ 0 := by positivity
  have r : Ideal.div 1 (Ideal.sqrt (Ideal.ofBits FTy.f32 0x42C00000#32 : EReal)) = ((sc : ℝ) : EReal) := by
    rw [e, Ideal.sqrt_coe, if_neg (by norm_num), one_div_real p, one_div]
    rfl
  pointwise []
  exact r

/-- A row's number spread over the keys; the unit axis. -/
theorem row_keys {x : FVec Ideal S8x2048x1 .f32} {a : Fin 8 → Fin 2048 → ℝ} (hx : ∀ h T, x (ix3 h T 0) = ((a h T : ℝ) : EReal))
    (h : Fin 8) (T : Fin 2048) (K : Fin 2304) :
    broadcastInDim S8x2048x2304 ![0, 1, 2] bcast_S8x2048x1_S8x2048x2304_0_1_2 x (ix3 h T K) = ((a h T : ℝ) : EReal) := by
  pointwise []
  exact hx h T

theorem row_keys' {x : FVec Ideal S8x2048 .f32} {a : Fin 8 → Fin 2048 → ℝ} (hx : ∀ h T, x (ix2 h T) = ((a h T : ℝ) : EReal))
    (h : Fin 8) (T : Fin 2048) (K : Fin 2304) :
    broadcastInDim S8x2048x2304 ![0, 1] bcast_S8x2048_S8x2048x2304_0_1 x (ix3 h T K) = ((a h T : ℝ) : EReal) := by
  pointwise []
  exact hx h T

theorem row_unit {x : FVec Ideal S8x2048 .f32} {a : Fin 8 → Fin 2048 → ℝ} (hx : ∀ h T, x (ix2 h T) = ((a h T : ℝ) : EReal))
    (h : Fin 8) (T : Fin 2048) :
    broadcastInDim S8x2048x1 ![0, 1] bcast_S8x2048_S8x2048x1_0_1 x (ix3 h T 0) = ((a h T : ℝ) : EReal) := by
  pointwise []
  exact hx h T

theorem row_cast {x : FVec Ideal S8x2048 .f32} {a : Fin 8 → Fin 2048 → ℝ} (hx : ∀ h T, x (ix2 h T) = ((a h T : ℝ) : EReal))
    (h : Fin 8) (T : Fin 2048) :
    shapeCast S8x2048x1 x shapeCasts_S8x2048_S8x2048x1 (ix3 h T 0) = ((a h T : ℝ) : EReal) := by
  pointwise []
  exact hx h T

theorem row_sum {x : FVec Ideal S8x2048x1 .f32} {a : Fin 8 → Fin 2048 → ℝ} (hx : ∀ h T, x (ix3 h T 0) = ((a h T : ℝ) : EReal))
    (h : Fin 8) (T : Fin 2048) :
    Host.reduceAdd x (constant S_ .f32 0x00000000#32) reducesTo_S8x2048x1_S8x2048_d2 h_S_ (ix2 h T) = ((a h T : ℝ) : EReal) := by
  pointwise []
  rw [Fin.sum_univ_one]
  exact hx h T

theorem one_r (i : S8x2048x1.Idx) :
    broadcastInDim S8x2048x1 ![] bcast_S_S8x2048x1 (constant (F := Ideal) S_ .f32 0x3F800000#32) i = ((1 : ℝ) : EReal) := by
  pointwise []
  norm_num

/-- The key's rope part, the same for every head. -/
theorem rope_heads {x : FVec Ideal S2304x32 .f32} {a : Fin 2304 → Fin 32 → ℝ} (hx : ∀ K d, x (ix2 K d) = ((a K d : ℝ) : EReal))
    (K : Fin 2304) (h : Fin 8) (d : Fin 32) :
    broadcastInDim S2304x8x32 ![0, 1, 2] bcast_S2304x1x32_S2304x8x32_0_1_2 (broadcastInDim S2304x1x32 ![0, 2] bcast_S2304x32_S2304x1x32_0_2 x) (ix3 K h d)
      = ((a K d : ℝ) : EReal) := by
  pointwise []
  exact hx K d

/-- The transposed cotangent. -/
theorem cotangent {x : FVec Ideal S2048x8x64 .f32} {a : Fin 2048 → Fin 8 → Fin 64 → ℝ} (hx : ∀ T h d, x (ix3 T h d) = ((a T h d : ℝ) : EReal))
    (h : Fin 8) (d : Fin 64) (T : Fin 2048) :
    transpose S8x64x2048 [1, 2, 0] x transposes_S2048x8x64_S8x64x2048_1_2_0 (ix3 h d T) = ((a T h d : ℝ) : EReal) := by
  pointwise []
  exact hx T h d

/-- The output's and the values' gradient's layout: heads of 64 lanes. -/
theorem layout_out {x : FVec Ideal S8x64x2048 .f32} {a : Fin 8 → Fin 64 → Fin 2048 → ℝ} (hx : ∀ h d T, x (ix3 h d T) = ((a h d T : ℝ) : EReal))
    (T : Fin 2048) (h : Fin 8) (d : Fin 64) (n : Fin 512) (e : n.val = 64 * h.val + d.val) :
    (truncf .bf16 (shapeCast S2048x512 (transpose S2048x8x64 [2, 0, 1] x transposes_S8x64x2048_S2048x8x64_2_0_1) shapeCasts_S2048x8x64_S2048x512)
      bitsLt_bf16_f32) (ix2 T n) = ((a h d T : ℝ) : EReal) := by
  have e1 : (⟨n.val / 64, by omega⟩ : Fin 8) = h := Fin.ext (by show n.val / 64 = h.val; omega)
  have e2 : (⟨n.val % 64, by omega⟩ : Fin 64) = d := Fin.ext (by show n.val % 64 = d.val; omega)
  pointwise []
  rw [e1, e2]
  exact hx _ _ _

theorem layout_value {x : FVec Ideal S8x64x2304 .f32} {a : Fin 8 → Fin 64 → Fin 2304 → ℝ} (hx : ∀ h d T, x (ix3 h d T) = ((a h d T : ℝ) : EReal))
    (K : Fin 2304) (h : Fin 8) (d : Fin 64) (n : Fin 512) (e : n.val = 64 * h.val + d.val) :
    shapeCast S2304x512 (transpose S2304x8x64 [2, 0, 1] x transposes_S8x64x2304_S2304x8x64_2_0_1) shapeCasts_S2304x8x64_S2304x512 (ix2 K n)
      = ((a h d K : ℝ) : EReal) := by
  have e1 : (⟨n.val / 64, by omega⟩ : Fin 8) = h := Fin.ext (by show n.val / 64 = h.val; omega)
  have e2 : (⟨n.val % 64, by omega⟩ : Fin 64) = d := Fin.ext (by show n.val % 64 = d.val; omega)
  pointwise []
  rw [e1, e2]
  exact hx _ _ _

/-- A row of 128 lanes from its 64 plain lanes and its 32 rope lanes, zero beyond. -/
def lanes (a : Fin 64 → ℝ) (b : Fin 32 → ℝ) (l : Fin 128) : ℝ :=
  if h : l.val < 64 then a ⟨l.val, h⟩ else if h' : l.val - 64 < 32 then b ⟨l.val - 64, h'⟩ else 0

theorem layout_query {x : FVec Ideal S8x2048x64 .f32} {y : FVec Ideal S8x2048x32 .f32} {a : Fin 8 → Fin 2048 → Fin 64 → ℝ}
    {b : Fin 8 → Fin 2048 → Fin 32 → ℝ} (hx : ∀ h T d, x (ix3 h T d) = ((a h T d : ℝ) : EReal))
    (hy : ∀ h T d, y (ix3 h T d) = ((b h T d : ℝ) : EReal))
    (T : Fin 2048) (h : Fin 8) (l : Fin 128) (n : Fin 1024) (e : n.val = 128 * h.val + l.val) :
    shapeCast S2048x1024 (Value.fn_main_v66 (F := Ideal)
      (transpose S2048x8x64 [1, 0, 2] x transposes_S8x2048x64_S2048x8x64_1_0_2)
      (transpose S2048x8x32 [1, 0, 2] y transposes_S8x2048x32_S2048x8x32_1_0_2)
      (broadcastInDim S2048x8x32 ![] bcast_S_S2048x8x32 (constant (F := Ideal) S_ .f32 0x00000000#32) : FVec Ideal S2048x8x32 .f32)) shapeCasts_S2048x8x128_S2048x1024 (ix2 T n)
      = ((lanes (a h T) (b h T) l : ℝ) : EReal) := by
  have e1 : (⟨n.val / 128, by omega⟩ : Fin 8) = h := Fin.ext (by show n.val / 128 = h.val; omega)
  have e2 : n.val % 128 = l.val := by omega
  pointwise [Value.fn_main_v66]
  simp only [e1, e2]
  unfold lanes
  split_ifs <;> first | exact hx _ _ _ | exact hy _ _ _ | rfl

theorem layout_key {x : FVec Ideal S8x2304x64 .f32} {y : FVec Ideal S8x2304x32 .f32} {a : Fin 8 → Fin 2304 → Fin 64 → ℝ}
    {b : Fin 8 → Fin 2304 → Fin 32 → ℝ} (hx : ∀ h T d, x (ix3 h T d) = ((a h T d : ℝ) : EReal))
    (hy : ∀ h T d, y (ix3 h T d) = ((b h T d : ℝ) : EReal))
    (K : Fin 2304) (h : Fin 8) (l : Fin 128) (n : Fin 1024) (e : n.val = 128 * h.val + l.val) :
    shapeCast S2304x1024 (Value.fn_main_v69 (F := Ideal)
      (transpose S2304x8x64 [1, 0, 2] x transposes_S8x2304x64_S2304x8x64_1_0_2)
      (transpose S2304x8x32 [1, 0, 2] y transposes_S8x2304x32_S2304x8x32_1_0_2)
      (broadcastInDim S2304x8x32 ![] bcast_S_S2304x8x32 (constant (F := Ideal) S_ .f32 0x00000000#32) : FVec Ideal S2304x8x32 .f32)) shapeCasts_S2304x8x128_S2304x1024 (ix2 K n)
      = ((lanes (a h K) (b h K) l : ℝ) : EReal) := by
  have e1 : (⟨n.val / 128, by omega⟩ : Fin 8) = h := Fin.ext (by show n.val / 128 = h.val; omega)
  have e2 : n.val % 128 = l.val := by omega
  pointwise [Value.fn_main_v69]
  simp only [e1, e2]
  unfold lanes
  split_ifs <;> first | exact hx _ _ _ | exact hy _ _ _ | rfl

end Cert.Attn.Ref
-- ==== Proof.RefValue.lean ====
module

public import proofs.«01_k».proof.Proof.RefOps

/-!
The reference's four results on finite arguments: softmax attention and its gradient, as sums of real numbers.
-/

@[expose] public section

noncomputable section

open Idealize.ShloMosaic Idealize.ShloMosaic.TcCoe Idealize.SL.Sem Cert.ReferenceIdeal Cert.ReferenceIdeal.Gen

namespace Cert.Attn.Ref

/-- The arguments' numbers on one device: queries' and keys' plain and rope parts, values, cotangent. -/
structure Args where
  qn : Fin 2048 → Fin 8 → Fin 64 → ℝ
  qr : Fin 2048 → Fin 8 → Fin 32 → ℝ
  kn : Fin 2304 → Fin 8 → Fin 64 → ℝ
  kr : Fin 2304 → Fin 32 → ℝ
  v : Fin 2304 → Fin 8 → Fin 64 → ℝ
  g : Fin 2048 → Fin 8 → Fin 64 → ℝ

namespace Args

variable (A : Args)

/-- The scaled score, the softmax weight, the weight's cotangent, the score's cotangent. -/
def score (h : Fin 8) (T : Fin 2048) (K : Fin 2304) : ℝ :=
  ((∑ d, A.qn T h d * A.kn K h d) + ∑ d, A.qr T h d * A.kr K d) * sc
def weight (h : Fin 8) (T : Fin 2048) (K : Fin 2304) : ℝ := Real.exp (A.score h T K) / ∑ J, Real.exp (A.score h T J)
def pull (h : Fin 8) (T : Fin 2048) (K : Fin 2304) : ℝ := ∑ d, A.g T h d * A.v K h d
def slope (h : Fin 8) (T : Fin 2048) (K : Fin 2304) : ℝ :=
  A.weight h T K * (A.pull h T K - ∑ J, A.weight h T J * A.pull h T J) * sc

end Args

/-- Subtracting the greatest score leaves the weights as they are. -/
theorem weight_shift (s : Fin 2304 → ℝ) (M : ℝ) (K : Fin 2304) :
    Real.exp (s K - M) / ∑ J, Real.exp (s J - M) = Real.exp (s K) / ∑ J, Real.exp (s J) := by
  have h : ∀ J, Real.exp (s J - M) = Real.exp (s J) * Real.exp (-M) := fun J => by rw [sub_eq_add_neg, Real.exp_add]
  simp only [h]
  rw [← Finset.sum_mul, mul_div_mul_right _ _ (Real.exp_pos _).ne']

theorem slope_eq (e p w : Fin 2304 → ℝ) (Z c : ℝ) (hw : ∀ J, e J / Z = w J) (hZ : Z ≠ 0) (K : Fin 2304) :
    (p K / Z + -∑ J, p J * (1 / (Z * Z)) * e J) * e K * c = w K * (p K - ∑ J, w J * p J) * c := by
  have h : ∀ J, p J * (1 / (Z * Z)) * e J = w J * p J / Z := fun J => by rw [← hw]; field_simp
  simp only [h]
  rw [← Finset.sum_div, ← hw K]
  field_simp
  ring

theorem run (m : (ℓ : Loc nD τ sig) → Buf (Elt Ideal) ℓ) (ρ : Dev nD → PrngReg) (A : Dev nD → Args)
    (h0 : ∀ c T h d, (m ((c.tc : Thread nD τ).loc main_arg0) : FVec Ideal S2048x8x64 .f32) (ix3 T h d) = (((A c).qn T h d : ℝ) : EReal))
    (h1 : ∀ c T h d, (m ((c.tc : Thread nD τ).loc main_arg1) : FVec Ideal S2048x8x32 .f32) (ix3 T h d) = (((A c).qr T h d : ℝ) : EReal))
    (h2 : ∀ c T h d, (m ((c.tc : Thread nD τ).loc main_arg2) : FVec Ideal S2304x8x64 .f32) (ix3 T h d) = (((A c).kn T h d : ℝ) : EReal))
    (h3 : ∀ c T d, (m ((c.tc : Thread nD τ).loc main_arg3) : FVec Ideal S2304x32 .f32) (ix2 T d) = (((A c).kr T d : ℝ) : EReal))
    (h4 : ∀ c T h d, (m ((c.tc : Thread nD τ).loc main_arg4) : FVec Ideal S2304x8x64 .f32) (ix3 T h d) = (((A c).v T h d : ℝ) : EReal))
    (h5 : ∀ c T h d, (m ((c.tc : Thread nD τ).loc main_arg5) : FVec Ideal S2048x8x64 .f32) (ix3 T h d) = (((A c).g T h d : ℝ) : EReal)) :
    θ_run defs (onTc (τ := τ) (main (F := Ideal))) ⟨m, fun _ => 0, ρ⟩ fun r => ∀ c : Dev nD,
      (∀ T h d (n : Fin 512), n.val = 64 * h.val + d.val →
        (r.2.mem ((c.tc : Thread nD τ).loc main_v72) : FVec Ideal S2048x512 .bf16) (ix2 T n) = ((∑ K, (A c).v K h d * (A c).weight h T K : ℝ) : EReal))
      ∧ (∀ T h l (n : Fin 1024), n.val = 128 * h.val + l.val →
        (r.2.mem ((c.tc : Thread nD τ).loc main_v67) : FVec Ideal S2048x1024 .f32) (ix2 T n)
          = ((lanes (fun d => ∑ K, (A c).slope h T K * (A c).kn K h d) (fun d => ∑ K, (A c).slope h T K * (A c).kr K d) l : ℝ) : EReal))
      ∧ (∀ K h l (n : Fin 1024), n.val = 128 * h.val + l.val →
        (r.2.mem ((c.tc : Thread nD τ).loc main_v70) : FVec Ideal S2304x1024 .f32) (ix2 K n)
          = ((lanes (fun d => ∑ T, (A c).slope h T K * (A c).qn T h d) (fun d => ∑ T, (A c).slope h T K * (A c).qr T h d) l : ℝ) : EReal))
      ∧ (∀ K h d (n : Fin 512), n.val = 64 * h.val + d.val →
        (r.2.mem ((c.tc : Thread nD τ).loc main_v73) : FVec Ideal S2304x512 .f32) (ix2 K n) = ((∑ T, (A c).g T h d * (A c).weight h T K : ℝ) : EReal))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) := by
  refine (θ_run defs _ _).mono (fun r h c => ?_) (Value.run m ρ)
  obtain ⟨r0, r1, r2, r3, kept⟩ := h c
  have k1 := rope_heads (h3 c)
  have k4 := dot_nope (h0 c) (h2 c)
  have k5 := dot_rope (h1 c) k1
  have k8 : ∀ h T K, _ = (((A c).score h T K : ℝ) : EReal) := fun h T K => mul_r (add_r (k4 h T K) (k5 h T K)) (scale_r (ix3 h T K))
  have k9 := reduce_keys k8
  choose M k9 using k9
  have k16 := fun h T => max_row (k9 h T)
  have k26 := row_unit k16
  have k27 := row_keys k26
  have k29 := fun h T K => exp_r (sub_r (k8 h T K) (k27 h T K))
  have k30 := sum_keys k29
  have k31 := row_unit k30
  have k32 := row_keys k31
  have zpos : ∀ h T, 0 < ∑ K, Real.exp ((A c).score h T K - M h T) := fun h T => Finset.sum_pos (fun K _ => Real.exp_pos _) Finset.univ_nonempty
  have hw : ∀ h T K, Real.exp ((A c).score h T K - M h T) / ∑ J, Real.exp ((A c).score h T J - M h T) = (A c).weight h T K :=
    fun h T K => weight_shift _ _ K
  have k33 : ∀ h T K, _ = (((A c).weight h T K : ℝ) : EReal) := fun h T K =>
    (div_r (k29 h T K) (k32 h T K) (zpos h T).ne').trans (congrArg _ (hw h T K))
  have k37 := dot_out (h4 c) k33
  have k39 := cotangent (h5 c)
  have k40 := dot_slope k39 (h4 c)
  have k41 := dot_value k39 k33
  have k36 := fun h T => div_r (one_r (ix3 h T 0)) (mul_r (k31 h T) (k31 h T)) (mul_pos (zpos h T) (zpos h T)).ne'
  have k43 := row_keys k36
  have k45 := fun h T K => mul_r (mul_r (k40 h T K) (k43 h T K)) (k29 h T K)
  have k46 := sum_keys k45
  have k47 := row_cast k46
  have k51 := row_sum (fun h T => neg_r (k47 h T))
  have k52 := row_keys' k51
  have k50 := fun h T K => div_r (k40 h T K) (k32 h T K) (zpos h T).ne'
  have k56 : ∀ h T K, _ = (((A c).slope h T K : ℝ) : EReal) := fun h T K =>
    (mul_r (mul_r (add_r (k50 h T K) (k52 h T K)) (k29 h T K)) (scale_r (ix3 h T K))).trans
      (congrArg _ (slope_eq (fun K => Real.exp ((A c).score h T K - M h T)) (fun K => (A c).pull h T K) (fun K => (A c).weight h T K)
        _ sc (hw h T) (zpos h T).ne' K))
  have k57 := dot_keyRope k56 (h1 c)
  have k59 := dot_queryRope k56 k1
  have k61 := dot_keyNope k56 (h0 c)
  have k63 := dot_queryNope k56 (h2 c)
  refine ⟨fun T h d n e => ?_, fun T h l n e => ?_, fun K h l n e => ?_, fun K h d n e => ?_, kept⟩
  · rw [r0]; exact layout_out k37 T h d n e
  · rw [r1]; exact layout_query k63 k59 T h l n e
  · rw [r2]; exact layout_key k61 k57 K h l n e
  · rw [r3]; exact layout_value k41 K h d n e

end Cert.Attn.Ref
-- ==== Proof.Bridge.lean ====
module

public import proofs.«01_k».proof.Proof.Rows
public import proofs.«01_k».proof.Proof.RefValue

/-!
The kernel's rows of heads hold the reference's arrays: each head's 128 lanes carry the 64 plain and 32 rope lanes and zeros,
each pair of heads' 128 lanes of the values carry the two heads' 64. On such rows the kernel's sums are the reference's.
-/

@[expose] public section

noncomputable section

open Idealize.ShloMosaic
open Cert.Attn.Ref (lanes Args)

namespace Cert.Attn

/-- The arguments laid out in rows of heads. -/
def rowQ (A : Args) (T : Fin 2048) (n : Fin 1024) : ℝ := lanes (A.qn T ⟨n.val / 128, by omega⟩) (A.qr T ⟨n.val / 128, by omega⟩) ⟨n.val % 128, by omega⟩
def rowK (A : Args) (K : Fin 2304) (n : Fin 1024) : ℝ := lanes (A.kn K ⟨n.val / 128, by omega⟩) (A.kr K) ⟨n.val % 128, by omega⟩
def rowV (A : Args) (K : Fin 2304) (n : Fin 512) : ℝ := A.v K ⟨n.val / 64, by omega⟩ ⟨n.val % 64, by omega⟩
def rowG (A : Args) (T : Fin 2048) (n : Fin 512) : ℝ := A.g T ⟨n.val / 64, by omega⟩ ⟨n.val % 64, by omega⟩
/-- The output in rows of pairs of heads. -/
def rowP (A : Args) (T : Fin 2048) (n : Fin 512) : ℝ := outV (rowQ A) (rowK A) (rowV A) T ⟨n.val / 128, by omega⟩ ⟨n.val % 128, by omega⟩

variable (A : Args)

theorem rowQ_lane (T : Fin 2048) (h : Fin 8) (l : Fin 128) : rowQ A T (lane h l) = lanes (A.qn T h) (A.qr T h) l := by
  have e1 : (⟨(lane h l).val / 128, by omega⟩ : Fin 8) = h := Fin.ext (by show (128 * h.val + l.val) / 128 = h.val; omega)
  have e2 : (⟨(lane h l).val % 128, by omega⟩ : Fin 128) = l := Fin.ext (by show (128 * h.val + l.val) % 128 = l.val; omega)
  unfold rowQ
  rw [e1, e2]

theorem rowK_lane (K : Fin 2304) (h : Fin 8) (l : Fin 128) : rowK A K (lane h l) = lanes (A.kn K h) (A.kr K) l := by
  have e1 : (⟨(lane h l).val / 128, by omega⟩ : Fin 8) = h := Fin.ext (by show (128 * h.val + l.val) / 128 = h.val; omega)
  have e2 : (⟨(lane h l).val % 128, by omega⟩ : Fin 128) = l := Fin.ext (by show (128 * h.val + l.val) % 128 = l.val; omega)
  unfold rowK
  rw [e1, e2]

theorem rowP_lane (T : Fin 2048) (p : Fin 4) (l : Fin 128) : rowP A T (lane2 p l) = outV (rowQ A) (rowK A) (rowV A) T p l := by
  have e1 : (⟨(lane2 p l).val / 128, by omega⟩ : Fin 4) = p := Fin.ext (by show (128 * p.val + l.val) / 128 = p.val; omega)
  have e2 : (⟨(lane2 p l).val % 128, by omega⟩ : Fin 128) = l := Fin.ext (by show (128 * p.val + l.val) % 128 = l.val; omega)
  unfold rowP
  rw [e1, e2]

/-- Lane `d` of head `h`, as a lane of its pair. -/
def own (h : Fin 8) (d : Fin 64) : Fin 128 := ⟨64 * (h.val % 2) + d.val, by omega⟩

theorem rowV_own (K : Fin 2304) (h : Fin 8) (d : Fin 64) : rowV A K (lane2 (pair h) (own h d)) = A.v K h d := by
  have e1 : (⟨(lane2 (pair h) (own h d)).val / 64, by omega⟩ : Fin 8) = h :=
    Fin.ext (by show (128 * (h.val / 2) + (64 * (h.val % 2) + d.val)) / 64 = h.val; omega)
  have e2 : (⟨(lane2 (pair h) (own h d)).val % 64, by omega⟩ : Fin 64) = d :=
    Fin.ext (by show (128 * (h.val / 2) + (64 * (h.val % 2) + d.val)) % 64 = d.val; omega)
  unfold rowV
  rw [e1, e2]

theorem rowG_own (T : Fin 2048) (h : Fin 8) (d : Fin 64) : rowG A T (lane2 (pair h) (own h d)) = A.g T h d := by
  have e1 : (⟨(lane2 (pair h) (own h d)).val / 64, by omega⟩ : Fin 8) = h :=
    Fin.ext (by show (128 * (h.val / 2) + (64 * (h.val % 2) + d.val)) / 64 = h.val; omega)
  have e2 : (⟨(lane2 (pair h) (own h d)).val % 64, by omega⟩ : Fin 64) = d :=
    Fin.ext (by show (128 * (h.val / 2) + (64 * (h.val % 2) + d.val)) % 64 = d.val; omega)
  unfold rowG
  rw [e1, e2]

theorem headOf_own (h : Fin 8) (d : Fin 64) : headOf (pair h) (own h d) = h :=
  Fin.ext (by show 2 * (h.val / 2) + (64 * (h.val % 2) + d.val) / 64 = h.val; omega)

/-- A sum over 128 lanes by halves, over 64 by halves. -/
theorem sum_halves (f : Fin 128 → ℝ) :
    ∑ l, f l = (∑ d : Fin 64, f ⟨d.val, by omega⟩) + ∑ d : Fin 64, f ⟨64 + d.val, by omega⟩ := Fin.sum_univ_add (a := 64) (b := 64) f
theorem sum_quarters (f : Fin 64 → ℝ) :
    ∑ l, f l = (∑ d : Fin 32, f ⟨d.val, by omega⟩) + ∑ d : Fin 32, f ⟨32 + d.val, by omega⟩ := Fin.sum_univ_add (a := 32) (b := 32) f

theorem lanes_plain (a : Fin 64 → ℝ) (b : Fin 32 → ℝ) (d : Fin 64) (hd : d.val < 128) : lanes a b ⟨d.val, hd⟩ = a d := by
  unfold lanes
  rw [dif_pos (show d.val < 64 from d.isLt)]

theorem lanes_rope (a : Fin 64 → ℝ) (b : Fin 32 → ℝ) (d : Fin 32) (hd : 64 + d.val < 128) : lanes a b ⟨64 + d.val, hd⟩ = b d := by
  unfold lanes
  rw [dif_neg (show ¬ 64 + d.val < 64 by omega), dif_pos (show 64 + d.val - 64 < 32 by omega)]
  exact congrArg b (Fin.ext (by show 64 + d.val - 64 = d.val; omega))

theorem lanes_rest (a : Fin 64 → ℝ) (b : Fin 32 → ℝ) (d : Fin 32) (hd : 64 + (32 + d.val) < 128) : lanes a b ⟨64 + (32 + d.val), hd⟩ = 0 := by
  unfold lanes
  rw [dif_neg (show ¬ 64 + (32 + d.val) < 64 by omega), dif_neg (show ¬ 64 + (32 + d.val) - 64 < 32 by omega)]

theorem dot_lanes (a a' : Fin 64 → ℝ) (b b' : Fin 32 → ℝ) :
    ∑ l, lanes a b l * lanes a' b' l = (∑ d, a d * a' d) + ∑ d, b d * b' d := by
  rw [sum_halves, sum_quarters (fun d => lanes a b ⟨64 + d.val, by omega⟩ * lanes a' b' ⟨64 + d.val, by omega⟩)]
  simp only [lanes_plain, lanes_rope, lanes_rest, mul_zero, Finset.sum_const_zero, add_zero]

/-- A weighted sum of rows of lanes is the row of the weighted sums. -/
theorem sum_lanes {ι : Type*} [Fintype ι] (w : ι → ℝ) (a : ι → Fin 64 → ℝ) (b : ι → Fin 32 → ℝ) (l : Fin 128) :
    ∑ k, w k * lanes (a k) (b k) l = lanes (fun d => ∑ k, w k * a k d) (fun d => ∑ k, w k * b k d) l := by
  unfold lanes
  split_ifs
  · rfl
  · rfl
  · simp only [mul_zero, Finset.sum_const_zero]

/-- Only a head's own half of its pair's lanes counts in a product with its cotangent. -/
theorem sum_own (T : Fin 2048) (h : Fin 8) (f : Fin 128 → ℝ) :
    ∑ l, gh (rowG A) h T l * f l = ∑ d, A.g T h d * f (own h d) := by
  rw [sum_halves]
  rcases Nat.mod_two_eq_zero_or_one h.val with hh | hh
  · have lo : ∀ d : Fin 64, gh (rowG A) h T ⟨d.val, by omega⟩ * f ⟨d.val, by omega⟩ = A.g T h d * f (own h d) := fun d => by
      have e : (⟨d.val, by omega⟩ : Fin 128) = own h d := Fin.ext (by show d.val = 64 * (h.val % 2) + d.val; omega)
      rw [e, gh, if_pos (by show (64 * (h.val % 2) + d.val) / 64 = h.val % 2; omega), rowG_own]
    have hi : ∀ d : Fin 64, gh (rowG A) h T ⟨64 + d.val, by omega⟩ * f ⟨64 + d.val, by omega⟩ = 0 := fun d => by
      rw [gh, if_neg (by show ¬ (64 + d.val) / 64 = h.val % 2; omega), zero_mul]
    simp only [lo, hi, Finset.sum_const_zero, add_zero]
  · have lo : ∀ d : Fin 64, gh (rowG A) h T ⟨d.val, by omega⟩ * f ⟨d.val, by omega⟩ = 0 := fun d => by
      rw [gh, if_neg (by show ¬ d.val / 64 = h.val % 2; omega), zero_mul]
    have hi : ∀ d : Fin 64, gh (rowG A) h T ⟨64 + d.val, by omega⟩ * f ⟨64 + d.val, by omega⟩ = A.g T h d * f (own h d) := fun d => by
      have e : (⟨64 + d.val, by omega⟩ : Fin 128) = own h d := Fin.ext (by show 64 + d.val = 64 * (h.val % 2) + d.val; omega)
      rw [e, gh, if_pos (by show (64 * (h.val % 2) + d.val) / 64 = h.val % 2; omega), rowG_own]
    simp only [lo, hi, Finset.sum_const_zero, zero_add]

theorem qh_row (h : Fin 8) (T : Fin 2048) : qh (rowQ A) h T = lanes (A.qn T h) (A.qr T h) := funext fun l => rowQ_lane A T h l
theorem kh_row (h : Fin 8) (K : Fin 2304) : kh (rowK A) h K = lanes (A.kn K h) (A.kr K) := funext fun l => rowK_lane A K h l

theorem E_row (h : Fin 8) (T : Fin 2048) (K : Fin 2304) :
    E (qh (rowQ A) h T) (kh (rowK A) h K) = Real.exp (A.score h T K) := by
  rw [qh_row, kh_row, E, dot_lanes]
  rfl

theorem Lh_row (h : Fin 8) (T : Fin 2048) : Lh (rowQ A) (rowK A) h T = ∑ J, Real.exp (A.score h T J) := by
  unfold Lh den
  exact Finset.sum_congr rfl fun J _ => E_row A h T J

theorem weight_row (h : Fin 8) (T : Fin 2048) (K : Fin 2304) :
    E (qh (rowQ A) h T) (kh (rowK A) h K) / Lh (rowQ A) (rowK A) h T = A.weight h T K := by
  rw [E_row, Lh_row]
  rfl

/-- The output at a head's own lanes. -/
theorem out_row (h : Fin 8) (T : Fin 2048) (d : Fin 64) :
    outV (rowQ A) (rowK A) (rowV A) T (pair h) (own h d) = ∑ K, A.v K h d * A.weight h T K := by
  unfold outV avg
  rw [headOf_own, Finset.sum_div]
  refine Finset.sum_congr rfl fun K _ => ?_
  rw [mul_div_right_comm, show vh (rowV A) h K (own h d) = A.v K h d from rowV_own A K h d, mul_comm]
  exact congrArg _ (weight_row A h T K)

theorem dsh_row (h : Fin 8) (T : Fin 2048) (K : Fin 2304) :
    dsh (rowQ A) (rowK A) (rowV A) (rowG A) (rowP A) h T K = A.slope h T K := by
  unfold dsh slope
  rw [weight_row, sum_own, sum_own]
  have e1 : ∑ d, A.g T h d * vh (rowV A) h K (own h d) = A.pull h T K := Finset.sum_congr rfl fun d _ => by
    rw [show vh (rowV A) h K (own h d) = A.v K h d from rowV_own A K h d]
  have e2 : ∑ d, A.g T h d * ph (rowP A) h T (own h d) = ∑ J, A.weight h T J * A.pull h T J := by
    simp only [show ∀ d, ph (rowP A) h T (own h d) = ∑ J, A.v J h d * A.weight h T J from
      fun d => (rowP_lane A T (pair h) (own h d)).trans (out_row A h T d), Finset.mul_sum]
    rw [Finset.sum_comm]
    refine Finset.sum_congr rfl fun J _ => ?_
    rw [Args.pull, Finset.mul_sum]
    exact Finset.sum_congr rfl fun d _ => by ring
  rw [e1, e2]
  rfl

theorem dq_row (h : Fin 8) (T : Fin 2048) (l : Fin 128) : dqV (rowQ A) (rowK A) (rowV A) (rowG A) (rowP A) T h l
    = lanes (fun d => ∑ K, A.slope h T K * A.kn K h d) (fun d => ∑ K, A.slope h T K * A.kr K d) l := by
  unfold dqV
  simp only [dsh_row, kh_row]
  exact sum_lanes _ _ _ l

theorem dk_row (h : Fin 8) (K : Fin 2304) (l : Fin 128) : dkV (rowQ A) (rowK A) (rowV A) (rowG A) (rowP A) K h l
    = lanes (fun d => ∑ T, A.slope h T K * A.qn T h d) (fun d => ∑ T, A.slope h T K * A.qr T h d) l := by
  unfold dkV
  simp only [dsh_row, qh_row]
  exact sum_lanes _ _ _ l

theorem dv_row (h : Fin 8) (K : Fin 2304) (d : Fin 64) :
    dvV (rowQ A) (rowK A) (rowG A) K (pair h) (own h d) = ∑ T, A.g T h d * A.weight h T K := by
  unfold dvV
  simp only [headOf_own, weight_row, rowG_own]
  exact Finset.sum_congr rfl fun T _ => mul_comm _ _

/-- Every lane of a pair is some head's own. -/
theorem exists_own (n : Fin 512) : ∃ h d, n = lane2 (pair h) (own h d) :=
  ⟨⟨n.val / 64, by omega⟩, ⟨n.val % 64, by omega⟩,
    Fin.ext (by show n.val = 128 * (n.val / 64 / 2) + (64 * (n.val / 64 % 2) + n.val % 64); omega)⟩

theorem own_val (h : Fin 8) (d : Fin 64) : (lane2 (pair h) (own h d)).val = 64 * h.val + d.val := by
  show 128 * (h.val / 2) + (64 * (h.val % 2) + d.val) = 64 * h.val + d.val
  omega

end Cert.Attn
-- ==== Proof.Host.lean ====
module

public import proofs.«01_k».proof.Proof.Bridge
public import proofs.«01_k».proof.Proof.Gen.KernelIdeal.Regions
public import Idealize.ShloMosaic.Lib.KernelVsHost
public import Idealize.ShloMosaic.Lib.StableHlo.Run
public import Idealize.ShloMosaic.Lib.Pointwise.Tactic

/-!
What the host operations before the two calls leave in the calls' arrays: the arguments laid out in rows of heads.
-/

@[expose] public section

noncomputable section

open Idealize.ShloMosaic Idealize.ShloMosaic.TcCoe Cert.KernelIdeal Cert.KernelIdeal.Gen Idealize.ShloMosaic.StableHlo
open Cert.Attn.Ref (lanes Args)

namespace Cert.Attn

theorem split_query (x : FVec Ideal S2048x8x128 .f32) (T : Fin 2048) (n : Fin 1024) :
    shapeCast S2048x1024 x shapeCasts_S2048x8x128_S2048x1024 (ix2 T n) = x (ix3 T ⟨n.val / 128, by omega⟩ ⟨n.val % 128, by omega⟩) := by
  pointwise []

theorem split_key (x : FVec Ideal S2304x8x128 .f32) (K : Fin 2304) (n : Fin 1024) :
    shapeCast S2304x1024 x shapeCasts_S2304x8x128_S2304x1024 (ix2 K n) = x (ix3 K ⟨n.val / 128, by omega⟩ ⟨n.val % 128, by omega⟩) := by
  pointwise []

theorem pad_query (x : FVec Ideal S2048x8x96 .f32) (z : FVec Ideal S_ .f32) (T : Fin 2048) (h : Fin 8) (l : Fin 128) :
    pad S2048x8x128 ![0, 0, 0] ![0, 0, 32] ![0, 0, 0] x z pads_S2048x8x96_S2048x8x128_000_000_0320 h_S_ (ix3 T h l)
      = if hl : l.val < 96 then x (ix3 T h ⟨l.val, hl⟩) else z (Shape.Idx.first h_S_) := by
  split
  · rename_i hl
    exact pad_apply_of_inside _ _ _ _ _ _ _ _ (ix3 T h ⟨l.val, hl⟩) (fun a => by fin_cases a <;> simp [ix3] <;> rfl)
  · rename_i hl
    exact pad_apply_of_not_inside _ _ _ _ _ _ _ _ (2 : Fin 3) (fun hn => hl (by simpa using hn.2.2))

theorem pad_key (x : FVec Ideal S2304x8x96 .f32) (z : FVec Ideal S_ .f32) (K : Fin 2304) (h : Fin 8) (l : Fin 128) :
    pad S2304x8x128 ![0, 0, 0] ![0, 0, 32] ![0, 0, 0] x z pads_S2304x8x96_S2304x8x128_000_000_0320 h_S_ (ix3 K h l)
      = if hl : l.val < 96 then x (ix3 K h ⟨l.val, hl⟩) else z (Shape.Idx.first h_S_) := by
  split
  · rename_i hl
    exact pad_apply_of_inside _ _ _ _ _ _ _ _ (ix3 K h ⟨l.val, hl⟩) (fun a => by fin_cases a <;> simp [ix3] <;> rfl)
  · rename_i hl
    exact pad_apply_of_not_inside _ _ _ _ _ _ _ _ (2 : Fin 3) (fun hn => hl (by simpa using hn.2.2))

theorem cat_query {x : FVec Ideal S2048x8x64 .f32} {y : FVec Ideal S2048x8x32 .f32} {a : Fin 64 → ℝ} {b : Fin 32 → ℝ} {T : Fin 2048} {h : Fin 8}
    (hx : ∀ d, x (ix3 T h d) = ((a d : ℝ) : EReal)) (hy : ∀ d, y (ix3 T h d) = ((b d : ℝ) : EReal)) (l : Fin 96) :
    concatenate S2048x8x96 2 [⟨S2048x8x64, x⟩, ⟨S2048x8x32, y⟩] concatenates_S2048x8x64_S2048x8x32_S2048x8x96_d2 (ix3 T h l)
      = ((lanes a b ⟨l.val, by omega⟩ : ℝ) : EReal) := by
  pointwise []
  unfold lanes
  by_cases hl : l.val < 64
  · rw [dif_pos hl, dif_pos hl]
    exact hx _
  · rw [dif_neg hl, dif_neg hl, dif_pos (show l.val - 64 < 32 by omega)]
    exact hy _

theorem cat_key {x : FVec Ideal S2304x8x64 .f32} {y : FVec Ideal S2304x8x32 .f32} {a : Fin 64 → ℝ} {b : Fin 32 → ℝ} {K : Fin 2304} {h : Fin 8}
    (hx : ∀ d, x (ix3 K h d) = ((a d : ℝ) : EReal)) (hy : ∀ d, y (ix3 K h d) = ((b d : ℝ) : EReal)) (l : Fin 96) :
    concatenate S2304x8x96 2 [⟨S2304x8x64, x⟩, ⟨S2304x8x32, y⟩] concatenates_S2304x8x64_S2304x8x32_S2304x8x96_d2 (ix3 K h l)
      = ((lanes a b ⟨l.val, by omega⟩ : ℝ) : EReal) := by
  pointwise []
  unfold lanes
  by_cases hl : l.val < 64
  · rw [dif_pos hl, dif_pos hl]
    exact hx _
  · rw [dif_neg hl, dif_neg hl, dif_pos (show l.val - 64 < 32 by omega)]
    exact hy _

theorem rope_rows (x : FVec Ideal S2304x32 .f32) (K : Fin 2304) (h : Fin 8) (d : Fin 32) :
    broadcastInDim S2304x8x32 ![0, 1, 2] bcast_S2304x1x32_S2304x8x32_0_1_2 (broadcastInDim S2304x1x32 ![0, 2] bcast_S2304x32_S2304x1x32_0_2 x) (ix3 K h d)
      = x (ix2 K d) := by
  pointwise []

theorem pad_zero : (sitofp (F := Ideal) .f32 (constantI S_ 32 0#32)) (Shape.Idx.first h_S_) = ((0 : ℝ) : EReal) := by
  pointwise []
  simp [FloatOps.sitofp]

theorem lanes_beyond (a : Fin 64 → ℝ) (b : Fin 32 → ℝ) (l : Fin 128) (hl : ¬ l.val < 96) : lanes a b l = 0 := by
  unfold lanes
  rw [dif_neg (by omega), dif_neg (by omega)]

theorem row_value (x : FVec Ideal S2304x8x64 .f32) (K : Fin 2304) (n : Fin 512) :
    truncf .bf16 (shapeCast S2304x512 x shapeCasts_S2304x8x64_S2304x512) bitsLt_bf16_f32 (ix2 K n)
      = x (ix3 K ⟨n.val / 64, by omega⟩ ⟨n.val % 64, by omega⟩) := by
  pointwise []

theorem row_cotangent (x : FVec Ideal S2048x8x64 .f32) (T : Fin 2048) (n : Fin 512) :
    truncf .bf16 (shapeCast S2048x512 x shapeCasts_S2048x8x64_S2048x512) bitsLt_bf16_f32 (ix2 T n)
      = x (ix3 T ⟨n.val / 64, by omega⟩ ⟨n.val % 64, by omega⟩) := by
  pointwise []

section

variable (m : (ℓ : Loc nD τ sig) → Buf (Elt Ideal) ℓ) (c : Dev nD)

theorem query_host : (V5 m c (Proc.devRef .tc main_v3) : FVec Ideal S2048x1024 .bf16)
    = truncf .bf16 (shapeCast S2048x1024 (pad S2048x8x128 ![0, 0, 0] ![0, 0, 32] ![0, 0, 0]
        (concatenate S2048x8x96 2 [⟨S2048x8x64, (m ((c : Thread nD τ).loc main_arg0) : FVec Ideal S2048x8x64 .f32)⟩,
          ⟨S2048x8x32, (m ((c : Thread nD τ).loc main_arg1) : FVec Ideal S2048x8x32 .f32)⟩] concatenates_S2048x8x64_S2048x8x32_S2048x8x96_d2)
        (sitofp (F := Ideal) .f32 (constantI S_ 32 0#32)) pads_S2048x8x96_S2048x8x128_000_000_0320 h_S_) shapeCasts_S2048x8x128_S2048x1024) bitsLt_bf16_f32 := by
  refine (V5_of m c main_v3 (by decide)).trans ((V4_of m c main_v3 (by decide)).trans ?_)
  after_results_simp
  rfl

theorem key_host : (V5 m c (Proc.devRef .tc main_v9) : FVec Ideal S2304x1024 .bf16)
    = truncf .bf16 (shapeCast S2304x1024 (pad S2304x8x128 ![0, 0, 0] ![0, 0, 32] ![0, 0, 0]
        (concatenate S2304x8x96 2 [⟨S2304x8x64, (m ((c : Thread nD τ).loc main_arg2) : FVec Ideal S2304x8x64 .f32)⟩,
          ⟨S2304x8x32, broadcastInDim S2304x8x32 ![0, 1, 2] bcast_S2304x1x32_S2304x8x32_0_1_2
            (broadcastInDim S2304x1x32 ![0, 2] bcast_S2304x32_S2304x1x32_0_2 (m ((c : Thread nD τ).loc main_arg3) : FVec Ideal S2304x32 .f32))⟩]
          concatenates_S2304x8x64_S2304x8x32_S2304x8x96_d2)
        (sitofp (F := Ideal) .f32 (constantI S_ 32 0#32)) pads_S2304x8x96_S2304x8x128_000_000_0320 h_S_) shapeCasts_S2304x8x128_S2304x1024) bitsLt_bf16_f32 := by
  after_results_simp
  rfl

theorem value_host : (V5 m c (Proc.devRef .tc main_v11) : FVec Ideal S2304x512 .bf16)
    = truncf (F := Ideal) .bf16 (shapeCast S2304x512 (m ((c : Thread nD τ).loc main_arg4) : FVec Ideal S2304x8x64 .f32) shapeCasts_S2304x8x64_S2304x512) bitsLt_bf16_f32 := by
  after_results_simp
  rfl

theorem cotangent_host : (V5 m c (Proc.devRef .tc main_v13) : FVec Ideal S2048x512 .bf16)
    = truncf (F := Ideal) .bf16 (shapeCast S2048x512 (m ((c : Thread nD τ).loc main_arg5) : FVec Ideal S2048x8x64 .f32) shapeCasts_S2048x8x64_S2048x512) bitsLt_bf16_f32 := by
  after_results_simp
  rfl

variable {m} {c} {A : Args}

theorem query_read (h0 : ∀ T h d, (m ((c : Thread nD τ).loc main_arg0) : FVec Ideal S2048x8x64 .f32) (ix3 T h d) = ((A.qn T h d : ℝ) : EReal))
    (h1 : ∀ T h d, (m ((c : Thread nD τ).loc main_arg1) : FVec Ideal S2048x8x32 .f32) (ix3 T h d) = ((A.qr T h d : ℝ) : EReal))
    (T : Fin 2048) (n : Fin 1024) :
    (V5 m c (Proc.devRef .tc main_v3) : FVec Ideal S2048x1024 .bf16) (ix2 T n) = ((rowQ A T n : ℝ) : EReal) := by
  refine (congrFun (query_host m c) (ix2 T n)).trans ((split_query _ T n).trans ((pad_query _ _ _ _ _).trans ?_))
  split
  · exact cat_query (h0 T _) (h1 T _) _
  · rename_i hl
    rw [pad_zero, rowQ, lanes_beyond _ _ _ hl]

theorem key_read (h2 : ∀ K h d, (m ((c : Thread nD τ).loc main_arg2) : FVec Ideal S2304x8x64 .f32) (ix3 K h d) = ((A.kn K h d : ℝ) : EReal))
    (h3 : ∀ K d, (m ((c : Thread nD τ).loc main_arg3) : FVec Ideal S2304x32 .f32) (ix2 K d) = ((A.kr K d : ℝ) : EReal))
    (K : Fin 2304) (n : Fin 1024) :
    (V5 m c (Proc.devRef .tc main_v9) : FVec Ideal S2304x1024 .bf16) (ix2 K n) = ((rowK A K n : ℝ) : EReal) := by
  refine (congrFun (key_host m c) (ix2 K n)).trans ((split_key _ K n).trans ((pad_key _ _ _ _ _).trans ?_))
  split
  · exact cat_key (h2 K _) (fun d => (rope_rows _ K _ d).trans (h3 K d)) _
  · rename_i hl
    rw [pad_zero, rowK, lanes_beyond _ _ _ hl]

theorem value_read (h4 : ∀ K h d, (m ((c : Thread nD τ).loc main_arg4) : FVec Ideal S2304x8x64 .f32) (ix3 K h d) = ((A.v K h d : ℝ) : EReal))
    (K : Fin 2304) (n : Fin 512) :
    (V5 m c (Proc.devRef .tc main_v11) : FVec Ideal S2304x512 .bf16) (ix2 K n) = ((rowV A K n : ℝ) : EReal) :=
  (congrFun (value_host m c) (ix2 K n)).trans ((row_value _ K n).trans (h4 K _ _))

theorem cotangent_read (h5 : ∀ T h d, (m ((c : Thread nD τ).loc main_arg5) : FVec Ideal S2048x8x64 .f32) (ix3 T h d) = ((A.g T h d : ℝ) : EReal))
    (T : Fin 2048) (n : Fin 512) :
    (V5 m c (Proc.devRef .tc main_v13) : FVec Ideal S2048x512 .bf16) (ix2 T n) = ((rowG A T n : ℝ) : EReal) :=
  (congrFun (cotangent_host m c) (ix2 T n)).trans ((row_cotangent _ T n).trans (h5 T _ _))

end

end Cert.Attn
-- ==== Proof.Finite.lean ====
module

public import proofs.«01_k».proof.Defs
public import proofs.«01_k».proof.Proof.Gen.Pre_finite_arguments
public import Idealize.ShloMosaic.Lib.ReduceAll
public import Idealize.ShloMosaic.Lib.Pointwise.Tactic

/-! The precondition read: every element of every argument is a finite number. -/

@[expose] public section

noncomputable section

open Idealize.ShloMosaic Idealize.ShloMosaic.TcCoe

namespace Cert.Attn

theorem posInf_eq : (Ideal.ofBits .f32 0x7F800000#32 : EReal) = ⊤ := by
  simp [Ideal.ofBits, Ideal.ieee]

/-- A number whose absolute value is below infinity is finite. -/
theorem real_of_below {x : EReal} (h : BitVec.ofBool (decide (FloatOps.absf (F := Ideal) (φ := .f32) x < Ideal.ofBits .f32 0x7F800000#32)) = 1#1) :
    ∃ r : ℝ, x = (r : EReal) := by
  rw [posInf_eq] at h
  have h' : FloatOps.absf (F := Ideal) (φ := .f32) x < (⊤ : EReal) := by
    by_contra hn
    rw [decide_eq_false hn] at h
    exact absurd h (by decide)
  induction x using EReal.rec with
  | bot => exact absurd h' (by simp [FloatOps.absf])
  | top => exact absurd h' (by simp [FloatOps.absf])
  | coe r => exact ⟨r, rfl⟩

instance : Subsingleton Cert.Pre_finite_arguments.S_.Idx := ⟨fun a b => funext fun d => d.elim0⟩

/-- An argument all of whose elements pass the test has finite elements. -/
theorem finite_of_all {s : Shape} {axes : List (Fin s.rank)} {x : FVec Ideal s .f32}
    {hb : Cert.Pre_finite_arguments.S_.BroadcastsInDim s (![] : Fin 0 → Fin s.rank)} {hr : s.ReducesTo axes Cert.Pre_finite_arguments.S_}
    {hu : 0 < Cert.Pre_finite_arguments.S_.numel} {j : Cert.Pre_finite_arguments.S_.Idx}
    (e : Host.reduce IntOp.andi (cmpf .olt (Host.absf x) (broadcastInDim s (![] : Fin 0 → Fin s.rank) hb
      (constant (F := Ideal) Cert.Pre_finite_arguments.S_ .f32 0x7F800000#32))) (constantI Cert.Pre_finite_arguments.S_ 1 1#1) hr hu j = 1#1)
    (i : s.Idx) : ∃ r : ℝ, x i = (r : EReal) :=
  real_of_below (Host.reduce_andi_all _ _ _ _ _ e i)

theorem and_one {a b : BitVec 1} (h : a &&& b = 1#1) : a = 1#1 ∧ b = 1#1 := by
  revert h; revert a b; decide

theorem finite_arguments (m : (ℓ : Loc Cert.KernelIdeal.nD Cert.KernelIdeal.τ Cert.KernelIdeal.sig) → Buf (Elt Ideal) ℓ)
    (h : Cert.Pre_KernelIdeal_finite_arguments m) (c : Dev Cert.KernelIdeal.nD) :
    (∀ i, ∃ r : ℝ, (m ((c.tc : Thread Cert.KernelIdeal.nD Cert.KernelIdeal.τ).loc Cert.KernelIdeal.main_arg0) : FVec Ideal Cert.KernelIdeal.S2048x8x64 .f32) i = (r : EReal))
    ∧ (∀ i, ∃ r : ℝ, (m ((c.tc : Thread Cert.KernelIdeal.nD Cert.KernelIdeal.τ).loc Cert.KernelIdeal.main_arg1) : FVec Ideal Cert.KernelIdeal.S2048x8x32 .f32) i = (r : EReal))
    ∧ (∀ i, ∃ r : ℝ, (m ((c.tc : Thread Cert.KernelIdeal.nD Cert.KernelIdeal.τ).loc Cert.KernelIdeal.main_arg2) : FVec Ideal Cert.KernelIdeal.S2304x8x64 .f32) i = (r : EReal))
    ∧ (∀ i, ∃ r : ℝ, (m ((c.tc : Thread Cert.KernelIdeal.nD Cert.KernelIdeal.τ).loc Cert.KernelIdeal.main_arg3) : FVec Ideal Cert.KernelIdeal.S2304x32 .f32) i = (r : EReal))
    ∧ (∀ i, ∃ r : ℝ, (m ((c.tc : Thread Cert.KernelIdeal.nD Cert.KernelIdeal.τ).loc Cert.KernelIdeal.main_arg4) : FVec Ideal Cert.KernelIdeal.S2304x8x64 .f32) i = (r : EReal))
    ∧ (∀ i, ∃ r : ℝ, (m ((c.tc : Thread Cert.KernelIdeal.nD Cert.KernelIdeal.τ).loc Cert.KernelIdeal.main_arg5) : FVec Ideal Cert.KernelIdeal.S2048x8x64 .f32) i = (r : EReal)) := by
  have e := congrFun (h c) (fun d => d.elim0)
  obtain ⟨e, a5⟩ := and_one e
  obtain ⟨e, a4⟩ := and_one e
  obtain ⟨e, a3⟩ := and_one e
  obtain ⟨e, a2⟩ := and_one e
  obtain ⟨a0, a1⟩ := and_one e
  exact ⟨finite_of_all a0, finite_of_all a1, finite_of_all a2, finite_of_all a3, finite_of_all a4, finite_of_all a5⟩

end Cert.Attn
-- ==== Proof.Value.lean ====
module

public import proofs.«01_k».proof.Proof.Run
public import proofs.«01_k».proof.Proof.FwdArr
public import proofs.«01_k».proof.Proof.BwdGrad
public import proofs.«01_k».proof.Proof.Host
public import proofs.«01_k».proof.Proof.Finite

/-!
The two programs leave the same four arrays: the kernel's, read through its two calls, and the reference's, entry by entry.
-/

@[expose] public section

noncomputable section

open Idealize.ShloMosaic Idealize.ShloMosaic.TcCoe Idealize.SL.Sem Cert.KernelIdeal Cert.KernelIdeal.Gen Cert.KernelIdeal.Attn
open Cert.Attn.Ref (lanes Args)

namespace Cert.Attn

variable (m : (ℓ : Loc nD τ sig) → Buf (Elt Ideal) ℓ) (c : Dev nD)

/-- A buffer the forward call does not write is handed on as the host operations left it. -/
theorem WB_kept (r : Ref sig .tc) (h : ∀ w, Pipeline.arrRef spec0 w = r → (cfg0.win w).isOut = false) :
    WB m c (Proc.devRef .tc r) = V5 m c (Proc.devRef .tc r) :=
  Pipeline.afterRegion_keeps (Fwd.dats (V5 m) c) (V5 m c) launch0.win.arr_inj (fun w => Fwd.A_eq (V5 m) c w) r h

theorem WB_out : WB m c (Proc.devRef .tc main_v14_0) = (Fwd.dats (V5 m) c).arrAt 3 cfg0.N :=
  Pipeline.afterRegion_arr (Fwd.dats (V5 m) c) (V5 m c) launch0.win.arr_inj 3
theorem WB_stat : WB m c (Proc.devRef .tc main_v14_1) = (Fwd.dats (V5 m) c).arrAt 4 cfg0.N :=
  Pipeline.afterRegion_arr (Fwd.dats (V5 m) c) (V5 m c) launch0.win.arr_inj 4

theorem WE_out : WE m c (Proc.devRef .tc main_v14_0) = WB m c (Proc.devRef .tc main_v14_0) :=
  Pipeline.afterRegion_keeps (Bwd.dats (WB m) c) (WB m c) launch1.win.arr_inj (fun w => Bwd.A_eq (WB m) c w) main_v14_0 (by decide)
theorem WE_dq : WE m c (Proc.devRef .tc main_v15_0) = (Bwd.dats (WB m) c).arrAt 6 cfg1.N :=
  Pipeline.afterRegion_arr (Bwd.dats (WB m) c) (WB m c) launch1.win.arr_inj 6
theorem WE_dk : WE m c (Proc.devRef .tc main_v15_1) = (Bwd.dats (WB m) c).arrAt 7 cfg1.N :=
  Pipeline.afterRegion_arr (Bwd.dats (WB m) c) (WB m c) launch1.win.arr_inj 7
theorem WE_dv : WE m c (Proc.devRef .tc main_v15_2) = (Bwd.dats (WB m) c).arrAt 8 cfg1.N :=
  Pipeline.afterRegion_arr (Bwd.dats (WB m) c) (WB m c) launch1.win.arr_inj 8

section

variable {m c} {A : Args}
  (h0 : ∀ T h d, (m ((c : Thread nD τ).loc main_arg0) : FVec Ideal S2048x8x64 .f32) (ix3 T h d) = ((A.qn T h d : ℝ) : EReal))
  (h1 : ∀ T h d, (m ((c : Thread nD τ).loc main_arg1) : FVec Ideal S2048x8x32 .f32) (ix3 T h d) = ((A.qr T h d : ℝ) : EReal))
  (h2 : ∀ K h d, (m ((c : Thread nD τ).loc main_arg2) : FVec Ideal S2304x8x64 .f32) (ix3 K h d) = ((A.kn K h d : ℝ) : EReal))
  (h3 : ∀ K d, (m ((c : Thread nD τ).loc main_arg3) : FVec Ideal S2304x32 .f32) (ix2 K d) = ((A.kr K d : ℝ) : EReal))
  (h4 : ∀ K h d, (m ((c : Thread nD τ).loc main_arg4) : FVec Ideal S2304x8x64 .f32) (ix3 K h d) = ((A.v K h d : ℝ) : EReal))
  (h5 : ∀ T h d, (m ((c : Thread nD τ).loc main_arg5) : FVec Ideal S2048x8x64 .f32) (ix3 T h d) = ((A.g T h d : ℝ) : EReal))

include h0 h1 h2 h3 h4

/-- What the forward call leaves: the output and the statistic. -/
theorem out_at (T : Fin 2048) (p : Fin 4) (l : Fin 128) :
    (WB m c (Proc.devRef .tc main_v14_0) : Vec Ideal S2048x512 .bf16) (ix2 T (lane2 p l))
      = ((outV (rowQ A) (rowK A) (rowV A) T p l : ℝ) : EReal) :=
  (congrFun (WB_out m c) (ix2 T (lane2 p l))).trans
    (fwd_out (V5 m) c _ _ _ (query_read h0 h1) (key_read h2 h3) (value_read h4) T p l)

theorem stat_at (T : Fin 2048) (h : Fin 8) (l : Fin 128) :
    (WB m c (Proc.devRef .tc main_v14_1) : Vec Ideal S2048x1024 .f32) (ix2 T (lane h l)) = ((lseV (rowQ A) (rowK A) T h : ℝ) : EReal) :=
  (congrFun (WB_stat m c) (ix2 T (lane h l))).trans
    (fwd_lse (V5 m) c _ _ _ (query_read h0 h1) (key_read h2 h3) (value_read h4) T h l)

theorem out_rows (T : Fin 2048) (n : Fin 512) :
    (WB m c (Proc.devRef .tc main_v14_0) : Vec Ideal S2048x512 .bf16) (ix2 T n) = ((rowP A T n : ℝ) : EReal) := by
  obtain ⟨p, l, rfl⟩ := exists_lane2 n
  rw [rowP_lane]
  exact out_at h0 h1 h2 h3 h4 T p l

omit h2 h3 h4 in
theorem query_at (T : Fin 2048) (n : Fin 1024) :
    (WB m c (Proc.devRef .tc main_v3) : Vec Ideal S2048x1024 .bf16) (ix2 T n) = ((rowQ A T n : ℝ) : EReal) :=
  (congrFun (WB_kept m c main_v3 (by decide)) (ix2 T n)).trans (query_read h0 h1 T n)

omit h0 h1 h4 in
theorem key_at (K : Fin 2304) (n : Fin 1024) :
    (WB m c (Proc.devRef .tc main_v9) : Vec Ideal S2304x1024 .bf16) (ix2 K n) = ((rowK A K n : ℝ) : EReal) :=
  (congrFun (WB_kept m c main_v9 (by decide)) (ix2 K n)).trans (key_read h2 h3 K n)

omit h0 h1 h2 h3 in
theorem value_at (K : Fin 2304) (n : Fin 512) :
    (WB m c (Proc.devRef .tc main_v11) : Vec Ideal S2304x512 .bf16) (ix2 K n) = ((rowV A K n : ℝ) : EReal) :=
  (congrFun (WB_kept m c main_v11 (by decide)) (ix2 K n)).trans (value_read h4 K n)

omit h0 h1 h2 h3 h4 in
include h5 in
theorem cotangent_at (T : Fin 2048) (n : Fin 512) :
    (WB m c (Proc.devRef .tc main_v13) : Vec Ideal S2048x512 .bf16) (ix2 T n) = ((rowG A T n : ℝ) : EReal) :=
  (congrFun (WB_kept m c main_v13 (by decide)) (ix2 T n)).trans (cotangent_read h5 T n)

/-- The four arrays at the end. -/
theorem out_end (T : Fin 2048) (h : Fin 8) (d : Fin 64) :
    (WE m c (Proc.devRef .tc main_v14_0) : Vec Ideal S2048x512 .bf16) (ix2 T (lane2 (pair h) (own h d)))
      = ((∑ K, A.v K h d * A.weight h T K : ℝ) : EReal) :=
  (congrFun (WE_out m c) _).trans ((out_at h0 h1 h2 h3 h4 T _ _).trans (congrArg _ (out_row A h T d)))

include h5

theorem dq_end (T : Fin 2048) (h : Fin 8) (l : Fin 128) :
    (WE m c (Proc.devRef .tc main_v15_0) : Vec Ideal S2048x1024 .f32) (ix2 T (lane h l))
      = ((lanes (fun d => ∑ K, A.slope h T K * A.kn K h d) (fun d => ∑ K, A.slope h T K * A.kr K d) l : ℝ) : EReal) :=
  (congrFun (WE_dq m c) _).trans ((bwd_dq (WB m) c _ _ _ _ _ (query_at h0 h1) (key_at h2 h3) (value_at h4) (cotangent_at h5)
    (out_rows h0 h1 h2 h3 h4) (stat_at h0 h1 h2 h3 h4) T h l).trans (congrArg _ (dq_row A h T l)))

theorem dk_end (K : Fin 2304) (h : Fin 8) (l : Fin 128) :
    (WE m c (Proc.devRef .tc main_v15_1) : Vec Ideal S2304x1024 .f32) (ix2 K (lane h l))
      = ((lanes (fun d => ∑ T, A.slope h T K * A.qn T h d) (fun d => ∑ T, A.slope h T K * A.qr T h d) l : ℝ) : EReal) :=
  (congrFun (WE_dk m c) _).trans ((bwd_dk (WB m) c _ _ _ _ _ (query_at h0 h1) (key_at h2 h3) (value_at h4) (cotangent_at h5)
    (out_rows h0 h1 h2 h3 h4) (stat_at h0 h1 h2 h3 h4) K h l).trans (congrArg _ (dk_row A h K l)))

theorem dv_end (K : Fin 2304) (h : Fin 8) (d : Fin 64) :
    (WE m c (Proc.devRef .tc main_v15_2) : Vec Ideal S2304x512 .f32) (ix2 K (lane2 (pair h) (own h d)))
      = ((∑ T, A.g T h d * A.weight h T K : ℝ) : EReal) :=
  (congrFun (WE_dv m c) _).trans ((bwd_dv (WB m) c _ _ _ (query_at h0 h1) (key_at h2 h3) (cotangent_at h5)
    (stat_at h0 h1 h2 h3 h4) K _ _).trans (congrArg _ (dv_row A h K d)))

end

/-- The numbers of finite arguments. -/
theorem exists_args (h : Cert.Pre_KernelIdeal_finite_arguments m) : ∃ A : Args,
    (∀ T h d, (m ((c : Thread nD τ).loc main_arg0) : FVec Ideal S2048x8x64 .f32) (ix3 T h d) = ((A.qn T h d : ℝ) : EReal))
    ∧ (∀ T h d, (m ((c : Thread nD τ).loc main_arg1) : FVec Ideal S2048x8x32 .f32) (ix3 T h d) = ((A.qr T h d : ℝ) : EReal))
    ∧ (∀ K h d, (m ((c : Thread nD τ).loc main_arg2) : FVec Ideal S2304x8x64 .f32) (ix3 K h d) = ((A.kn K h d : ℝ) : EReal))
    ∧ (∀ K d, (m ((c : Thread nD τ).loc main_arg3) : FVec Ideal S2304x32 .f32) (ix2 K d) = ((A.kr K d : ℝ) : EReal))
    ∧ (∀ K h d, (m ((c : Thread nD τ).loc main_arg4) : FVec Ideal S2304x8x64 .f32) (ix3 K h d) = ((A.v K h d : ℝ) : EReal))
    ∧ (∀ T h d, (m ((c : Thread nD τ).loc main_arg5) : FVec Ideal S2048x8x64 .f32) (ix3 T h d) = ((A.g T h d : ℝ) : EReal)) := by
  obtain ⟨a0, a1, a2, a3, a4, a5⟩ := finite_arguments m h c
  choose x0 e0 using a0
  choose x1 e1 using a1
  choose x2 e2 using a2
  choose x3 e3 using a3
  choose x4 e4 using a4
  choose x5 e5 using a5
  exact ⟨⟨fun T h d => x0 (ix3 T h d), fun T h d => x1 (ix3 T h d), fun T h d => x2 (ix3 T h d), fun T d => x3 (ix2 T d),
    fun T h d => x4 (ix3 T h d), fun T h d => x5 (ix3 T h d)⟩, fun T h d => e0 _, fun T h d => e1 _, fun T h d => e2 _, fun T d => e3 _,
    fun T h d => e4 _, fun T h d => e5 _⟩

theorem algebraic : Cert.algebraic_KernelIdeal_ReferenceIdeal_pre_finite_arguments := by
  intro m g m' g' hp heq
  choose A h0 h1 h2 h3 h4 h5 using fun c => exists_args m c hp
  refine ⟨fun c => WE m c (Proc.devRef .tc main_v14_0), fun c => WE m c (Proc.devRef .tc main_v15_0), fun c => WE m c (Proc.devRef .tc main_v15_1),
    fun c => WE m c (Proc.devRef .tc main_v15_2), ?_, ?_⟩
  · refine (θ_run defs _ _).mono (fun r h c => ?_) (Cert.KernelIdeal.Attn.run m g)
    exact ⟨h.1 c _ (mem_uc main_v14_0 (by decide)), h.1 c _ (mem_uc main_v15_0 (by decide)), h.1 c _ (mem_uc main_v15_1 (by decide)),
      h.1 c _ (mem_uc main_v15_2 (by decide)), args_kept m r.2 c (h.1 c)⟩
  · refine (θ_run Cert.ReferenceIdeal.defs _ _).mono (fun r h c => ?_) (Ref.run m' g' A
      (fun c T h d => (congrFun (heq c).1 _).trans (h0 c T h d)) (fun c T h d => (congrFun (heq c).2.1 _).trans (h1 c T h d))
      (fun c T h d => (congrFun (heq c).2.2.1 _).trans (h2 c T h d)) (fun c T d => (congrFun (heq c).2.2.2.1 _).trans (h3 c T d))
      (fun c T h d => (congrFun (heq c).2.2.2.2.1 _).trans (h4 c T h d)) (fun c T h d => (congrFun (heq c).2.2.2.2.2 _).trans (h5 c T h d)))
    obtain ⟨r0, r1, r2, r3, kept⟩ := h c
    refine ⟨funext fun i => ?_, funext fun i => ?_, funext fun i => ?_, funext fun i => ?_, kept⟩
    · obtain ⟨T, n, rfl⟩ : ∃ T n, i = ix2 T n := ⟨_, _, eq_ix2 i⟩
      obtain ⟨h, d, rfl⟩ := exists_own n
      exact (r0 T h d _ (own_val h d)).trans (out_end (h0 c) (h1 c) (h2 c) (h3 c) (h4 c) T h d).symm
    · obtain ⟨T, n, rfl⟩ : ∃ T n, i = ix2 T n := ⟨_, _, eq_ix2 i⟩
      obtain ⟨h, l, rfl⟩ := exists_lane n
      exact (r1 T h l _ rfl).trans (dq_end (h0 c) (h1 c) (h2 c) (h3 c) (h4 c) (h5 c) T h l).symm
    · obtain ⟨K, n, rfl⟩ : ∃ T n, i = ix2 T n := ⟨_, _, eq_ix2 i⟩
      obtain ⟨h, l, rfl⟩ := exists_lane n
      exact (r2 K h l _ rfl).trans (dk_end (h0 c) (h1 c) (h2 c) (h3 c) (h4 c) (h5 c) K h l).symm
    · obtain ⟨K, n, rfl⟩ : ∃ T n, i = ix2 T n := ⟨_, _, eq_ix2 i⟩
      obtain ⟨h, d, rfl⟩ := exists_own n
      exact (r3 K h d _ (own_val h d)).trans (dv_end (h0 c) (h1 c) (h2 c) (h3 c) (h4 c) (h5 c) K h d).symm

end Cert.Attn
-- ==== Proof.Up.lean ====
module

public import proofs.«01_k».proof.Proof.FwdOut
public import proofs.«01_k».proof.Proof.Gen.UpKernelIdeal.Value
public import proofs.«01_k».proof.Proof.Gen.UpReferenceIdeal.Run
public import proofs.«01_k».proof.Defs
public import Idealize.ShloMosaic.Lib.Pipeline.ValueKit.Geometry

/-!
The up projection: the blocked product, its gate and value halves in two planes, is the whole product split.
-/

@[expose] public section

noncomputable section

open Idealize.ShloMosaic Idealize.ShloMosaic.TcCoe Idealize.SL.Sem Cert.UpKernelIdeal Cert.UpKernelIdeal.Gen

namespace Cert.Up

theorem hz3 : (![0, 0, 0] : Fin 3 → Nat) = fun _ => 0 := funext fun a => by fin_cases a <;> rfl

/-- Column `n` of half `s`. -/
def col (s : Fin 2) (n : Fin 2816) : Fin 5632 := ⟨2816 * s.val + n.val, by omega⟩

variable (m : (ℓ : Loc nD τ sig) → Buf (Elt Ideal) ℓ) (c : Dev nD)

/-- The tokens and the weights. -/
abbrev act : FVec Ideal S2048x1024 .f32 := m ((c : Thread nD τ).loc main_arg0)
abbrev wt : FVec Ideal S1024x5632 .f32 := m ((c : Thread nD τ).loc main_arg1)

theorem index : ∀ t : Fin grid0.N, (win0_0.index t 0 = win0_2.index t 1 ∧ win0_0.index t 1 = 0)
    ∧ (win0_1.index t 0 = 2 * win0_2.index t 0 + win0_2.index t 2 ∧ win0_1.index t 1 = 0) := by
  decide +kernel

theorem operand_act : (V m c (Pipeline.arrRef spec0 0) : FVec Ideal S2048x1024 .bf16) = truncf (F := Ideal) .bf16 (act m c) bitsLt_bf16_f32 := by
  after_results_simp; rfl

theorem operand_wt : (V m c (Pipeline.arrRef spec0 1) : FVec Ideal S5632x1024 .bf16)
    = truncf (F := Ideal) .bf16 (transpose S5632x1024 [1, 0] (wt m c) transposes_S1024x5632_S5632x1024_1_0) bitsLt_bf16_f32 := by
  after_results_simp; rfl

theorem wt_read (n : Fin 5632) (k : Fin 1024) :
    truncf (F := Ideal) .bf16 (transpose S5632x1024 [1, 0] (wt m c) transposes_S1024x5632_S5632x1024_1_0) bitsLt_bf16_f32 (ix2 n k)
      = wt m c (ix2 k n) := by
  pointwise []

/-- A block of 1024 tokens. -/
theorem read_act (A : FVec Ideal S2048x1024 .bf16) (t : Fin cfg0.N) (r : Fin 1024) (k : Fin 1024) (T : Fin 2048)
    (hT : win0_2.index t 1 * 1024 + 1 * r.val = T.val) :
    (((cfg0.win 0).blk t).view.read (Elt Ideal) A : Vec Ideal S1024x1024 .bf16) (ix2 r k) = A (ix2 T k) := by
  obtain ⟨⟨h0, h1⟩, -⟩ := index t
  rw [View.read_apply]
  refine congrArg A (funext fun a => Fin.ext ?_)
  match a with
  | ⟨0, _⟩ => show win0_0.index t 0 * 1024 + 1 * r.val = T.val; rw [h0, hT]
  | ⟨1, _⟩ => show win0_0.index t 1 * 1024 + 1 * k.val = k.val; rw [h1, Nat.zero_mul, Nat.zero_add, Nat.one_mul]

/-- A block of 1408 rows of the transposed weights. -/
theorem read_wt (A : FVec Ideal S5632x1024 .bf16) (t : Fin cfg0.N) (j : Fin 1408) (k : Fin 1024) (s : Fin 2) (n : Fin 2816)
    (hs : win0_2.index t 0 = s.val) (hn : win0_2.index t 2 * 1408 + 1 * j.val = n.val) :
    (((cfg0.win 1).blk t).view.read (Elt Ideal) A : Vec Ideal S1408x1024 .bf16) (ix2 j k) = A (ix2 (col s n) k) := by
  obtain ⟨-, ⟨h0, h1⟩⟩ := index t
  rw [View.read_apply]
  refine congrArg A (funext fun a => Fin.ext ?_)
  match a with
  | ⟨0, _⟩ =>
    show win0_1.index t 0 * 1408 + 1 * j.val = 2816 * s.val + n.val
    rw [h0, ← hs, ← hn]; ring
  | ⟨1, _⟩ => show win0_1.index t 1 * 1024 + 1 * k.val = k.val; rw [h1, Nat.zero_mul, Nat.zero_add, Nat.one_mul]

/-- What the body leaves: the product of its two blocks. -/
theorem out_block (i : grid0.Coords) (arg3 : Memref sig .tc .vmem S1024x1024 .bf16) (harg3 : arg3.IsWhole)
    (arg4 : Memref sig .tc .vmem S1408x1024 .bf16) (harg4 : arg4.IsWhole) (arg5 : Memref sig .tc .vmem S1x1024x1408 .f32)
    (harg5 : arg5.IsWhole) (arg6 : Memref sig .tc .vmem S8x128 .f32) (harg6 : arg6.IsWhole)
    (x : Vec Ideal S1024x1024 .bf16) (y : Vec Ideal S1408x1024 .bf16) (z : Fin 1) (r : Fin 1024) (j : Fin 1408) :
    out0_A_2 (F := Ideal) c i arg3 harg3 arg4 harg4 arg5 harg5 arg6 harg6 x y (ix3 z r j)
      = (∑ k : Fin 1024, (x (ix2 r k) : EReal) * y (ix2 j k) : EReal) := by
  unfold out0_A_2
  rw [View.read_writes_eq_canon _ _ _ (cover0_A_2 c i arg3 harg3 arg4 harg4 arg5 harg5 arg6 harg6 x y)]
  unfold kernelRun0_A
  dsimp only
  sl_unfold_words
  rw [View.canon_unit_zero (S := S1x1024x1408) hz3]
  simp only [View.readAt_eq_ld, harg3.read_unread, harg4.read_unread, View.ld_unit_zero (S := S1024x1024) Attn.hz, View.ld_unit_zero (S := S1408x1024) Attn.hz]
  obtain rfl : z = 0 := Subsingleton.elim _ _
  pointwise [k0_pay1]

/-- The two planes of the product. -/
theorem array (s : Fin 2) (T : Fin 2048) (n : Fin 2816) :
    ((dats m 0 c).arrAt 2 cfg0.N : Vec Ideal S2x2048x2816 .f32) (ix3 s T n)
      = (∑ k : Fin 1024, (act m c (ix2 T k) : EReal) * wt m c (ix2 k (col s n)) : EReal) := by
  refine (?_ : ∀ s' T' n', ix3 s T n = ix3 s' T' n' → _ = (∑ k : Fin 1024, (act m c (ix2 T' k) : EReal) * wt m c (ix2 k (col s' n')) : EReal)) s T n rfl
  refine (dats m 0 c).arrAt_forall_of_covers 2
    (fun i v => ∀ s T n, i = ix3 s T n → v = (∑ k : Fin 1024, (act m c (ix2 T k) : EReal) * wt m c (ix2 k (col s n)) : EReal)) (by decide +kernel)
    (fun t hf y s T n e => ?_) (ix3 s T n)
  blk_simp
  rw [after0_2]
  have e0 : win0_2.index t 0 * 1 + 1 * (y 0).val = s.val := congrArg Fin.val (congrFun e 0)
  have e1 : win0_2.index t 1 * 1024 + 1 * (y 1).val = T.val := congrArg Fin.val (congrFun e 1)
  have e2 : win0_2.index t 2 * 1408 + 1 * (y 2).val = n.val := congrArg Fin.val (congrFun e 2)
  have hy : (y 0).val < 1 := (y 0).isLt
  rw [eq_ix3 y]
  refine (out_block c _ _ _ _ _ _ _ _ _ _ _ _ _ _).trans (Finset.sum_congr rfl fun k _ => ?_)
  exact congrArg₂ (fun a b : EReal => a * b) ((read_act _ t _ k T e1).trans (congrFun (operand_act m c) _))
    ((read_wt _ t _ k s n (by omega) e2).trans ((congrFun (operand_wt m c) _).trans (wt_read m c _ k)))

theorem algebraic : Cert.algebraic_UpKernelIdeal_UpReferenceIdeal := by
  intro m g m' g' _ heq
  refine ⟨fun c => (dats m 0 c).arrAt 2 cfg0.N, Cert.UpKernelIdeal.Value.run_blocks m g, ?_⟩
  refine (θ_run Cert.UpReferenceIdeal.defs _ _).mono (fun r h c => ⟨(h c).1.trans (funext fun i => ?_), (h c).2⟩)
    (Cert.UpReferenceIdeal.Value.run m' g')
  obtain ⟨s, T, n, rfl⟩ : ∃ s T n, i = ix3 s T n := ⟨_, _, _, eq_ix3 i⟩
  rw [(heq c).1, (heq c).2]
  refine Eq.trans ?_ (array m c s T n).symm
  have hc : ∀ j : Fin 5632, j.val = 2816 * s.val + n.val → ∀ k : Fin 1024, (ix2 k j : S1024x5632.Idx) = ix2 k (col s n) :=
    fun j hj k => congrArg (ix2 k) (Fin.ext hj)
  fin_cases s
  · pointwise []
    exact Finset.sum_congr rfl fun k _ => congrArg (fun i => (act m c (ix2 T k) : EReal) * wt m c i) (hc _ (by simp) k)
  · pointwise []
    exact Finset.sum_congr rfl fun k _ => congrArg (fun i => (act m c (ix2 T k) : EReal) * wt m c i) (hc _ (by simp) k)

end Cert.Up
-- ==== Proof.UpDw.lean ====
module

public import proofs.«01_k».proof.Proof.Up
public import proofs.«01_k».proof.Proof.Gen.UpDwKernelIdeal.Value
public import proofs.«01_k».proof.Proof.Gen.UpDwReferenceIdeal.Run

/-!
The gradient of the up projection's weights, transposed: each block is a full sum over the tokens.
-/

@[expose] public section

noncomputable section

open Idealize.ShloMosaic Idealize.ShloMosaic.TcCoe Idealize.SL.Sem Cert.UpDwKernelIdeal Cert.UpDwKernelIdeal.Gen

namespace Cert.UpDw

open Cert.Up (col)

theorem exists_col (n : Fin 5632) : ∃ s n', n = col s n' :=
  ⟨⟨n.val / 2816, by omega⟩, ⟨n.val % 2816, by omega⟩, Fin.ext (by show n.val = 2816 * (n.val / 2816) + n.val % 2816; omega)⟩

variable (m : (ℓ : Loc nD τ sig) → Buf (Elt Ideal) ℓ) (c : Dev nD)

/-- The tokens and the cotangent's two planes. -/
abbrev act : FVec Ideal S2048x1024 .f32 := m ((c : Thread nD τ).loc main_arg0)
abbrev ct : FVec Ideal S2x2048x2816 .f32 := m ((c : Thread nD τ).loc main_arg2)

theorem index : ∀ t : Fin grid0.N, (win0_2.index t 0 = 2 * win0_0.index t 0 + win0_0.index t 2 ∧ win0_0.index t 1 = 0 ∧ win0_0.index t 2 < 2)
    ∧ (win0_1.index t 0 = 0 ∧ win0_1.index t 1 = 0) ∧ win0_2.index t 1 = 0 := by
  decide +kernel

theorem operand_ct : (V m c (Pipeline.arrRef spec0 0) : FVec Ideal S2x2048x2816 .bf16) = truncf (F := Ideal) .bf16 (ct m c) bitsLt_bf16_f32 := by
  after_results_simp; rfl

theorem operand_act : (V m c (Pipeline.arrRef spec0 1) : FVec Ideal S2048x1024 .bf16) = truncf (F := Ideal) .bf16 (act m c) bitsLt_bf16_f32 := by
  after_results_simp; rfl

/-- A block of 1408 columns of one plane of the cotangent, all tokens. -/
theorem read_ct (A : FVec Ideal S2x2048x2816 .bf16) (t : Fin cfg0.N) (T : Fin 2048) (r : Fin 1408) (s : Fin 2) (n : Fin 2816)
    (hn : win0_2.index t 0 * 1408 + 1 * r.val = (col s n).val) :
    (((cfg0.win 0).blk t).view.read (Elt Ideal) A : Vec Ideal S1x2048x1408 .bf16) (ix3 0 T r) = A (ix3 s T n) := by
  obtain ⟨⟨h0, h1, h2⟩, -⟩ := index t
  have hc : win0_2.index t 0 * 1408 + 1 * r.val = 2816 * s.val + n.val := hn
  have hr := r.isLt
  have hn' := n.isLt
  rw [h0] at hc
  rw [View.read_apply]
  refine congrArg A (funext fun a => Fin.ext ?_)
  match a with
  | ⟨0, _⟩ =>
    show win0_0.index t 0 * 1 + 1 * 0 = s.val
    generalize win0_0.index t 0 = p at *
    generalize win0_0.index t 2 = q at *
    omega
  | ⟨1, _⟩ => show win0_0.index t 1 * 2048 + 1 * T.val = T.val; rw [h1, Nat.zero_mul, Nat.zero_add, Nat.one_mul]
  | ⟨2, _⟩ =>
    show win0_0.index t 2 * 1408 + 1 * r.val = n.val
    generalize win0_0.index t 0 = p at *
    generalize win0_0.index t 2 = q at *
    omega

/-- The tokens' block is the whole array. -/
theorem read_act (A : FVec Ideal S2048x1024 .bf16) (t : Fin cfg0.N) (T : Fin 2048) (k : Fin 1024) :
    (((cfg0.win 1).blk t).view.read (Elt Ideal) A : Vec Ideal S2048x1024 .bf16) (ix2 T k) = A (ix2 T k) := by
  obtain ⟨-, ⟨h0, h1⟩, -⟩ := index t
  rw [View.read_apply]
  refine congrArg A (funext fun a => Fin.ext ?_)
  match a with
  | ⟨0, _⟩ => show win0_1.index t 0 * 2048 + 1 * T.val = T.val; rw [h0, Nat.zero_mul, Nat.zero_add, Nat.one_mul]
  | ⟨1, _⟩ => show win0_1.index t 1 * 1024 + 1 * k.val = k.val; rw [h1, Nat.zero_mul, Nat.zero_add, Nat.one_mul]

/-- What the body leaves: the product of its two blocks over the tokens. -/
theorem out_block (i : grid0.Coords) (arg3 : Memref sig .tc .vmem S1x2048x1408 .bf16) (harg3 : arg3.IsWhole)
    (arg4 : Memref sig .tc .vmem S2048x1024 .bf16) (harg4 : arg4.IsWhole) (arg5 : Memref sig .tc .vmem S1408x1024 .bf16)
    (harg5 : arg5.IsWhole) (arg6 : Memref sig .tc .vmem S8x128 .f32) (harg6 : arg6.IsWhole)
    (x : Vec Ideal S1x2048x1408 .bf16) (y : Vec Ideal S2048x1024 .bf16) (r : Fin 1408) (k : Fin 1024) :
    out0_A_2 (F := Ideal) c i arg3 harg3 arg4 harg4 arg5 harg5 arg6 harg6 x y (ix2 r k)
      = (∑ T : Fin 2048, (x (ix3 0 T r) : EReal) * y (ix2 T k) : EReal) := by
  unfold out0_A_2
  rw [View.read_writes_eq_canon _ _ _ (cover0_A_2 c i arg3 harg3 arg4 harg4 arg5 harg5 arg6 harg6 x y)]
  unfold kernelRun0_A
  dsimp only
  sl_unfold_words
  rw [View.canon_unit_zero (S := S1408x1024) Attn.hz]
  simp only [View.readAt_eq_ld, harg3.read_unread, harg4.read_unread, View.ld_unit_zero (S := S1x2048x1408) Up.hz3, View.ld_unit_zero (S := S2048x1024) Attn.hz]
  pointwise [k0_pay1]

/-- The gradient's array. -/
theorem array (s : Fin 2) (n : Fin 2816) (k : Fin 1024) :
    ((dats m 0 c).arrAt 2 cfg0.N : Vec Ideal S5632x1024 .bf16) (ix2 (col s n) k)
      = (∑ T : Fin 2048, (ct m c (ix3 s T n) : EReal) * act m c (ix2 T k) : EReal) := by
  refine (?_ : ∀ s' n' k', ix2 (col s n) k = ix2 (col s' n') k' → _ = (∑ T : Fin 2048, (ct m c (ix3 s' T n') : EReal) * act m c (ix2 T k') : EReal)) s n k rfl
  refine (dats m 0 c).arrAt_forall_of_covers 2
    (fun i v => ∀ s n k, i = ix2 (col s n) k → v = (∑ T : Fin 2048, (ct m c (ix3 s T n) : EReal) * act m c (ix2 T k) : EReal)) (by decide +kernel)
    (fun t hf y s n k e => ?_) (ix2 (col s n) k)
  blk_simp
  rw [after0_2]
  have e0 : win0_2.index t 0 * 1408 + 1 * (y 0).val = (col s n).val := congrArg Fin.val (congrFun e 0)
  have e1 : win0_2.index t 1 * 1024 + 1 * (y 1).val = k.val := congrArg Fin.val (congrFun e 1)
  rw [(index t).2.2, Nat.zero_mul, Nat.zero_add, Nat.one_mul] at e1
  obtain rfl : y 1 = k := Fin.ext e1
  rw [eq_ix2 y]
  refine (out_block c _ _ _ _ _ _ _ _ _ _ _ _ _).trans (Finset.sum_congr rfl fun T _ => ?_)
  exact congrArg₂ (fun a b : EReal => a * b) ((read_ct _ t T _ s n e0).trans (congrFun (operand_ct m c) _))
    ((read_act _ t T _).trans (congrFun (operand_act m c) _))

theorem algebraic : Cert.algebraic_UpDwKernelIdeal_UpDwReferenceIdeal := by
  intro m g m' g' _ heq
  refine ⟨fun c => (dats m 0 c).arrAt 2 cfg0.N, Cert.UpDwKernelIdeal.Value.run_blocks m g, ?_⟩
  refine (θ_run Cert.UpDwReferenceIdeal.defs _ _).mono (fun r h c => ⟨(h c).1.trans (funext fun i => ?_), (h c).2⟩)
    (Cert.UpDwReferenceIdeal.Value.run m' g')
  obtain ⟨n, k, rfl⟩ : ∃ n k, i = ix2 n k := ⟨_, _, eq_ix2 i⟩
  obtain ⟨s, n, rfl⟩ := exists_col n
  rw [(heq c).1, (heq c).2.2]
  refine Eq.trans ?_ (array m c s n k).symm
  have hn := n.isLt
  fin_cases s
  · have hc : (col 0 n).val = n.val := by show 2816 * 0 + n.val = n.val; omega
    pointwise []
    refine Finset.sum_congr rfl fun T _ => congrArg (fun a : EReal => a * act m c (ix2 T k)) ?_
    rw [dif_pos (by omega)]
    exact congrArg (fun j => ct m c (ix3 0 T j)) (Fin.ext hc)
  · have hc : (col 1 n).val = 2816 + n.val := by show 2816 * 1 + n.val = 2816 + n.val; omega
    pointwise []
    refine Finset.sum_congr rfl fun T _ => congrArg (fun a : EReal => a * act m c (ix2 T k)) ?_
    rw [dif_neg (by omega)]
    exact congrArg (fun j => ct m c (ix3 1 T j)) (Fin.ext (by show (col 1 n).val - 2816 = n.val; omega))

end Cert.UpDw
-- ==== Proof.DownDx.lean ====
module

public import proofs.«01_k».proof.Proof.FwdOut
public import proofs.«01_k».proof.Proof.Gen.DownDxKernelIdeal.Value
public import proofs.«01_k».proof.Proof.Gen.DownDxReferenceIdeal.Run
public import proofs.«01_k».proof.Defs
public import Idealize.ShloMosaic.Lib.Pipeline.ValueKit.Geometry

/-!
The gradient of the down projection's input: the blocked product is the whole product.
-/

@[expose] public section

noncomputable section

open Idealize.ShloMosaic Idealize.ShloMosaic.TcCoe Idealize.SL.Sem Cert.DownDxKernelIdeal Cert.DownDxKernelIdeal.Gen
open Idealize.ShloMosaic.Pipeline (Dat)

namespace Cert.DownDx

variable (m : (ℓ : Loc nD τ sig) → Buf (Elt Ideal) ℓ) (c : Dev nD)

/-- The cotangent and the weights. -/
abbrev ct : FVec Ideal S2048x1024 .f32 := m ((c : Thread nD τ).loc main_arg2)
abbrev wt : FVec Ideal S2816x1024 .f32 := m ((c : Thread nD τ).loc main_arg1)

theorem index : ∀ t : Fin grid0.N,
    (win0_0.index t 0 = win0_2.index t 0 ∧ win0_0.index t 1 = 0) ∧ (win0_1.index t 0 = win0_2.index t 1 ∧ win0_1.index t 1 = 0) := by
  decide +kernel

theorem read_ct (A : FVec Ideal S2048x1024 .bf16) (t : Fin cfg0.N) (r : Fin 1024) (k : Fin 1024) (T : Fin 2048)
    (hT : win0_2.index t 0 * 1024 + 1 * r.val = T.val) :
    (((cfg0.win 0).blk t).view.read (Elt Ideal) A : Vec Ideal S1024x1024 .bf16) (ix2 r k) = A (ix2 T k) := by
  obtain ⟨⟨h0, h1⟩, -⟩ := index t
  rw [View.read_apply]
  refine congrArg A (funext fun a => Fin.ext ?_)
  match a with
  | ⟨0, _⟩ => show win0_0.index t 0 * 1024 + 1 * r.val = T.val; rw [h0, hT]
  | ⟨1, _⟩ => show win0_0.index t 1 * 1024 + 1 * k.val = k.val; rw [h1, Nat.zero_mul, Nat.zero_add, Nat.one_mul]

theorem read_wt (A : FVec Ideal S2816x1024 .bf16) (t : Fin cfg0.N) (j : Fin 1408) (k : Fin 1024) (n : Fin 2816)
    (hn : win0_2.index t 1 * 1408 + 1 * j.val = n.val) :
    (((cfg0.win 1).blk t).view.read (Elt Ideal) A : Vec Ideal S1408x1024 .bf16) (ix2 j k) = A (ix2 n k) := by
  obtain ⟨-, ⟨h0, h1⟩⟩ := index t
  rw [View.read_apply]
  refine congrArg A (funext fun a => Fin.ext ?_)
  match a with
  | ⟨0, _⟩ => show win0_1.index t 0 * 1408 + 1 * j.val = n.val; rw [h0, hn]
  | ⟨1, _⟩ => show win0_1.index t 1 * 1024 + 1 * k.val = k.val; rw [h1, Nat.zero_mul, Nat.zero_add, Nat.one_mul]

/-- The call's operands are the arguments, cast. -/
theorem operand_ct : (V m c (Pipeline.arrRef spec0 0) : FVec Ideal S2048x1024 .bf16) = truncf (F := Ideal) .bf16 (ct m c) bitsLt_bf16_f32 := by
  after_results_simp; rfl

theorem operand_wt : (V m c (Pipeline.arrRef spec0 1) : FVec Ideal S2816x1024 .bf16) = truncf (F := Ideal) .bf16 (wt m c) bitsLt_bf16_f32 := by
  after_results_simp; rfl

/-- What the body leaves: the product of its two blocks. -/
theorem out_block (i : grid0.Coords) (arg3 : Memref sig .tc .vmem S1024x1024 .bf16) (harg3 : arg3.IsWhole)
    (arg4 : Memref sig .tc .vmem S1408x1024 .bf16) (harg4 : arg4.IsWhole) (arg5 : Memref sig .tc .vmem S1024x1408 .f32)
    (harg5 : arg5.IsWhole) (arg6 : Memref sig .tc .vmem S8x128 .f32) (harg6 : arg6.IsWhole)
    (x : Vec Ideal S1024x1024 .bf16) (y : Vec Ideal S1408x1024 .bf16) (r : Fin 1024) (j : Fin 1408) :
    out0_A_2 (F := Ideal) c i arg3 harg3 arg4 harg4 arg5 harg5 arg6 harg6 x y (ix2 r j)
      = (∑ k : Fin 1024, (x (ix2 r k) : EReal) * y (ix2 j k) : EReal) := by
  unfold out0_A_2
  rw [View.read_writes_eq_canon _ _ _ (cover0_A_2 c i arg3 harg3 arg4 harg4 arg5 harg5 arg6 harg6 x y)]
  unfold kernelRun0_A
  dsimp only
  sl_unfold_words
  rw [View.canon_unit_zero (S := S1024x1408) Attn.hz]
  simp only [View.readAt_eq_ld, harg3.read_unread, harg4.read_unread, View.ld_unit_zero (S := S1024x1024) Attn.hz, View.ld_unit_zero (S := S1408x1024) Attn.hz]
  pointwise [k0_pay1]

/-- The gradient's array. -/
theorem array (T : Fin 2048) (n : Fin 2816) :
    ((dats m 0 c).arrAt 2 cfg0.N : Vec Ideal S2048x2816 .f32) (ix2 T n)
      = (∑ k : Fin 1024, (ct m c (ix2 T k) : EReal) * wt m c (ix2 n k) : EReal) := by
  refine (?_ : ∀ T' n', ix2 T n = ix2 T' n' → _ = (∑ k : Fin 1024, (ct m c (ix2 T' k) : EReal) * wt m c (ix2 n' k) : EReal)) T n rfl
  refine (dats m 0 c).arrAt_forall_of_covers 2
    (fun i v => ∀ T n, i = ix2 T n → v = (∑ k : Fin 1024, (ct m c (ix2 T k) : EReal) * wt m c (ix2 n k) : EReal)) (by decide +kernel)
    (fun t hf y T n e => ?_) (ix2 T n)
  blk_simp
  rw [after0_2]
  have e0 : win0_2.index t 0 * 1024 + 1 * (y 0).val = T.val := congrArg Fin.val (congrFun e 0)
  have e1 : win0_2.index t 1 * 1408 + 1 * (y 1).val = n.val := congrArg Fin.val (congrFun e 1)
  rw [eq_ix2 y]
  refine (out_block c _ _ _ _ _ _ _ _ _ _ _ _ _).trans (Finset.sum_congr rfl fun k _ => ?_)
  exact congrArg₂ (fun a b : EReal => a * b) ((read_ct _ t _ k T e0).trans (congrFun (operand_ct m c) _))
    ((read_wt _ t _ k n e1).trans (congrFun (operand_wt m c) _))

theorem algebraic : Cert.algebraic_DownDxKernelIdeal_DownDxReferenceIdeal := by
  intro m g m' g' _ heq
  refine ⟨fun c => (dats m 0 c).arrAt 2 cfg0.N, ?_, ?_⟩
  · exact Cert.DownDxKernelIdeal.Value.run_blocks m g
  · refine (θ_run Cert.DownDxReferenceIdeal.defs _ _).mono (fun r h c => ⟨(h c).1.trans (funext fun i => ?_), (h c).2⟩)
      (Cert.DownDxReferenceIdeal.Value.run m' g')
    obtain ⟨T, n, rfl⟩ : ∃ T n, i = ix2 T n := ⟨_, _, eq_ix2 i⟩
    rw [(heq c).2.1, (heq c).2.2]
    refine Eq.trans ?_ (array m c T n).symm
    pointwise []

end Cert.DownDx
-- ==== Proof.DownDw.lean ====
module

public import proofs.«01_k».proof.Proof.FwdOut
public import proofs.«01_k».proof.Proof.Gen.DownDwKernelIdeal.Value
public import proofs.«01_k».proof.Proof.Gen.DownDwReferenceIdeal.Run
public import proofs.«01_k».proof.Defs
public import Idealize.ShloMosaic.Lib.Pipeline.ValueKit.Geometry

/-!
The gradient of the down projection's weights: each block is a full sum over the tokens.
-/

@[expose] public section

noncomputable section

open Idealize.ShloMosaic Idealize.ShloMosaic.TcCoe Idealize.SL.Sem Cert.DownDwKernelIdeal Cert.DownDwKernelIdeal.Gen

namespace Cert.DownDw

variable (m : (ℓ : Loc nD τ sig) → Buf (Elt Ideal) ℓ) (c : Dev nD)

/-- The activations and the cotangent. -/
abbrev act : FVec Ideal S2048x2816 .f32 := m ((c : Thread nD τ).loc main_arg0)
abbrev ct : FVec Ideal S2048x1024 .f32 := m ((c : Thread nD τ).loc main_arg2)

theorem index : ∀ t : Fin grid0.N, (win0_0.index t 0 = 0 ∧ win0_0.index t 1 = win0_2.index t 0)
    ∧ (win0_1.index t 0 = 0 ∧ win0_1.index t 1 = 0) ∧ win0_2.index t 1 = 0 := by
  decide +kernel

theorem operand_act : (V m c (Pipeline.arrRef spec0 0) : FVec Ideal S2048x2816 .bf16) = truncf (F := Ideal) .bf16 (act m c) bitsLt_bf16_f32 := by
  after_results_simp; rfl

theorem operand_ct : (V m c (Pipeline.arrRef spec0 1) : FVec Ideal S2048x1024 .bf16) = truncf (F := Ideal) .bf16 (ct m c) bitsLt_bf16_f32 := by
  after_results_simp; rfl

/-- A block of 1408 columns of the activations, all tokens. -/
theorem read_act (A : FVec Ideal S2048x2816 .bf16) (t : Fin cfg0.N) (T : Fin 2048) (r : Fin 1408) (n : Fin 2816)
    (hn : win0_2.index t 0 * 1408 + 1 * r.val = n.val) :
    (((cfg0.win 0).blk t).view.read (Elt Ideal) A : Vec Ideal S2048x1408 .bf16) (ix2 T r) = A (ix2 T n) := by
  obtain ⟨⟨h0, h1⟩, -⟩ := index t
  rw [View.read_apply]
  refine congrArg A (funext fun a => Fin.ext ?_)
  match a with
  | ⟨0, _⟩ => show win0_0.index t 0 * 2048 + 1 * T.val = T.val; rw [h0, Nat.zero_mul, Nat.zero_add, Nat.one_mul]
  | ⟨1, _⟩ => show win0_0.index t 1 * 1408 + 1 * r.val = n.val; rw [h1, hn]

/-- The cotangent's block is the whole array. -/
theorem read_ct (A : FVec Ideal S2048x1024 .bf16) (t : Fin cfg0.N) (T : Fin 2048) (k : Fin 1024) :
    (((cfg0.win 1).blk t).view.read (Elt Ideal) A : Vec Ideal S2048x1024 .bf16) (ix2 T k) = A (ix2 T k) := by
  obtain ⟨-, ⟨h0, h1⟩, -⟩ := index t
  rw [View.read_apply]
  refine congrArg A (funext fun a => Fin.ext ?_)
  match a with
  | ⟨0, _⟩ => show win0_1.index t 0 * 2048 + 1 * T.val = T.val; rw [h0, Nat.zero_mul, Nat.zero_add, Nat.one_mul]
  | ⟨1, _⟩ => show win0_1.index t 1 * 1024 + 1 * k.val = k.val; rw [h1, Nat.zero_mul, Nat.zero_add, Nat.one_mul]

/-- What the body leaves: the product of its two blocks over the tokens. -/
theorem out_block (i : grid0.Coords) (arg3 : Memref sig .tc .vmem S2048x1408 .bf16) (harg3 : arg3.IsWhole)
    (arg4 : Memref sig .tc .vmem S2048x1024 .bf16) (harg4 : arg4.IsWhole) (arg5 : Memref sig .tc .vmem S1408x1024 .bf16)
    (harg5 : arg5.IsWhole) (arg6 : Memref sig .tc .vmem S8x128 .f32) (harg6 : arg6.IsWhole)
    (x : Vec Ideal S2048x1408 .bf16) (y : Vec Ideal S2048x1024 .bf16) (r : Fin 1408) (k : Fin 1024) :
    out0_A_2 (F := Ideal) c i arg3 harg3 arg4 harg4 arg5 harg5 arg6 harg6 x y (ix2 r k)
      = (∑ T : Fin 2048, (x (ix2 T r) : EReal) * y (ix2 T k) : EReal) := by
  unfold out0_A_2
  rw [View.read_writes_eq_canon _ _ _ (cover0_A_2 c i arg3 harg3 arg4 harg4 arg5 harg5 arg6 harg6 x y)]
  unfold kernelRun0_A
  dsimp only
  sl_unfold_words
  rw [View.canon_unit_zero (S := S1408x1024) Attn.hz]
  simp only [View.readAt_eq_ld, harg3.read_unread, harg4.read_unread, View.ld_unit_zero (S := S2048x1408) Attn.hz, View.ld_unit_zero (S := S2048x1024) Attn.hz]
  pointwise [k0_pay1]

/-- The gradient's array. -/
theorem array (n : Fin 2816) (k : Fin 1024) :
    ((dats m 0 c).arrAt 2 cfg0.N : Vec Ideal S2816x1024 .bf16) (ix2 n k)
      = (∑ T : Fin 2048, (act m c (ix2 T n) : EReal) * ct m c (ix2 T k) : EReal) := by
  refine (?_ : ∀ n' k', ix2 n k = ix2 n' k' → _ = (∑ T : Fin 2048, (act m c (ix2 T n') : EReal) * ct m c (ix2 T k') : EReal)) n k rfl
  refine (dats m 0 c).arrAt_forall_of_covers 2
    (fun i v => ∀ n k, i = ix2 n k → v = (∑ T : Fin 2048, (act m c (ix2 T n) : EReal) * ct m c (ix2 T k) : EReal)) (by decide +kernel)
    (fun t hf y n k e => ?_) (ix2 n k)
  blk_simp
  rw [after0_2]
  have e0 : win0_2.index t 0 * 1408 + 1 * (y 0).val = n.val := congrArg Fin.val (congrFun e 0)
  have e1 : win0_2.index t 1 * 1024 + 1 * (y 1).val = k.val := congrArg Fin.val (congrFun e 1)
  rw [(index t).2.2, Nat.zero_mul, Nat.zero_add, Nat.one_mul] at e1
  obtain rfl : y 1 = k := Fin.ext e1
  rw [eq_ix2 y]
  refine (out_block c _ _ _ _ _ _ _ _ _ _ _ _ _).trans (Finset.sum_congr rfl fun T _ => ?_)
  exact congrArg₂ (fun a b : EReal => a * b) ((read_act _ t T _ n e0).trans (congrFun (operand_act m c) _))
    ((read_ct _ t T _).trans (congrFun (operand_ct m c) _))

theorem algebraic : Cert.algebraic_DownDwKernelIdeal_DownDwReferenceIdeal := by
  intro m g m' g' _ heq
  refine ⟨fun c => (dats m 0 c).arrAt 2 cfg0.N, Cert.DownDwKernelIdeal.Value.run_blocks m g, ?_⟩
  refine (θ_run Cert.DownDwReferenceIdeal.defs _ _).mono (fun r h c => ⟨(h c).1.trans (funext fun i => ?_), (h c).2⟩)
    (Cert.DownDwReferenceIdeal.Value.run m' g')
  obtain ⟨n, k, rfl⟩ : ∃ n k, i = ix2 n k := ⟨_, _, eq_ix2 i⟩
  rw [(heq c).1, (heq c).2.2]
  refine Eq.trans ?_ (array m c n k).symm
  pointwise []
  exact Finset.sum_congr rfl fun T _ => mul_comm _ _

end Cert.DownDw
-- ==== Proof.InProj.lean ====
module

public import proofs.«01_k».proof.Proof.FwdOut
public import proofs.«01_k».proof.Proof.Gen.InKernelIdeal.Value
public import proofs.«01_k».proof.Proof.Gen.InReferenceIdeal.Run
public import proofs.«01_k».proof.Defs
public import Idealize.ShloMosaic.Lib.Pipeline.ValueKit.Geometry

/-!
The input projection of the latent tokens: each block is a full product.
-/

@[expose] public section

noncomputable section

open Idealize.ShloMosaic Idealize.ShloMosaic.TcCoe Idealize.SL.Sem Cert.InKernelIdeal Cert.InKernelIdeal.Gen

namespace Cert.InProj

variable (m : (ℓ : Loc nD τ sig) → Buf (Elt Ideal) ℓ) (c : Dev nD)

/-- The tokens, latent ones first, and the weights. -/
abbrev tok : FVec Ideal S2304x1024 .f32 := m ((c : Thread nD τ).loc main_arg0)
abbrev wt : FVec Ideal S1024x4608 .f32 := m ((c : Thread nD τ).loc main_arg1)

theorem index : ∀ t : Fin grid0.N,
    (win0_0.index t 0 = win0_2.index t 0 ∧ win0_0.index t 1 = 0) ∧ (win0_1.index t 0 = 0 ∧ win0_1.index t 1 = win0_2.index t 1) := by
  decide +kernel

theorem operand_tok : (V m c (Pipeline.arrRef spec0 0) : FVec Ideal S2304x1024 .bf16) = truncf (F := Ideal) .bf16 (tok m c) bitsLt_bf16_f32 := by
  after_results_simp; rfl

theorem operand_wt : (V m c (Pipeline.arrRef spec0 1) : FVec Ideal S1024x4608 .bf16) = truncf (F := Ideal) .bf16 (wt m c) bitsLt_bf16_f32 := by
  after_results_simp; rfl

theorem read_tok (A : FVec Ideal S2304x1024 .bf16) (t : Fin cfg0.N) (d : (cfg0.win 0).block.Idx → Elt Ideal (cfg0.win 0).elt)
    (r : Fin 1024) (k : Fin 1024) (T : Fin 2304) (hT : win0_2.index t 0 * 1024 + 1 * r.val = T.val) :
    ((cfg0.win 0).fill (cfg0.grid.coords t) d (((cfg0.win 0).blk t).view.read (Elt Ideal) A) : Vec Ideal S1024x1024 .bf16) (ix2 r k)
      = A (ix2 T k) := by
  obtain ⟨⟨h0, h1⟩, -⟩ := index t
  unfold Pipeline.Window.fill
  rw [dif_pos (moved0_0 t _), View.read_apply]
  refine congrArg A (funext fun a => Fin.ext ?_)
  match a with
  | ⟨0, _⟩ => show win0_0.index t 0 * 1024 + 1 * r.val = T.val; rw [h0, hT]
  | ⟨1, _⟩ => show win0_0.index t 1 * 1024 + 1 * k.val = k.val; rw [h1, Nat.zero_mul, Nat.zero_add, Nat.one_mul]

theorem read_wt (A : FVec Ideal S1024x4608 .bf16) (t : Fin cfg0.N) (k : Fin 1024) (j : Fin 768) (n : Fin 4608)
    (hn : win0_2.index t 1 * 768 + 1 * j.val = n.val) :
    (((cfg0.win 1).blk t).view.read (Elt Ideal) A : Vec Ideal S1024x768 .bf16) (ix2 k j) = A (ix2 k n) := by
  obtain ⟨-, ⟨h0, h1⟩⟩ := index t
  rw [View.read_apply]
  refine congrArg A (funext fun a => Fin.ext ?_)
  match a with
  | ⟨0, _⟩ => show win0_1.index t 0 * 1024 + 1 * k.val = k.val; rw [h0, Nat.zero_mul, Nat.zero_add, Nat.one_mul]
  | ⟨1, _⟩ => show win0_1.index t 1 * 768 + 1 * j.val = n.val; rw [h1, hn]

/-- What the body leaves: the product of its two blocks. -/
theorem out_block (i : grid0.Coords) (arg3 : Memref sig .tc .vmem S1024x1024 .bf16) (harg3 : arg3.IsWhole)
    (arg4 : Memref sig .tc .vmem S1024x768 .bf16) (harg4 : arg4.IsWhole) (arg5 : Memref sig .tc .vmem S1024x768 .f32)
    (harg5 : arg5.IsWhole) (arg6 : Memref sig .tc .vmem S8x128 .f32) (harg6 : arg6.IsWhole)
    (x : Vec Ideal S1024x1024 .bf16) (y : Vec Ideal S1024x768 .bf16) (r : Fin 1024) (j : Fin 768) :
    out0_A_2 (F := Ideal) c i arg3 harg3 arg4 harg4 arg5 harg5 arg6 harg6 x y (ix2 r j)
      = (∑ k : Fin 1024, (x (ix2 r k) : EReal) * y (ix2 k j) : EReal) := by
  unfold out0_A_2
  rw [View.read_writes_eq_canon _ _ _ (cover0_A_2 c i arg3 harg3 arg4 harg4 arg5 harg5 arg6 harg6 x y)]
  unfold kernelRun0_A
  dsimp only
  sl_unfold_words
  rw [View.canon_unit_zero (S := S1024x768) Attn.hz]
  simp only [View.readAt_eq_ld, harg3.read_unread, harg4.read_unread, View.ld_unit_zero (S := S1024x1024) Attn.hz, View.ld_unit_zero (S := S1024x768) Attn.hz]
  pointwise [k0_pay1]

/-- A latent token among all. -/
abbrev lat (T : Fin 2048) : Fin 2304 := ⟨T.val, by omega⟩

/-- The projection's array. -/
theorem array (T : Fin 2048) (n : Fin 4608) :
    ((dats m 0 c).arrAt 2 cfg0.N : Vec Ideal S2048x4608 .f32) (ix2 T n)
      = (∑ k : Fin 1024, (tok m c (ix2 (lat T) k) : EReal) * wt m c (ix2 k n) : EReal) := by
  refine (?_ : ∀ T' n', ix2 T n = ix2 T' n' → _ = (∑ k : Fin 1024, (tok m c (ix2 (lat T') k) : EReal) * wt m c (ix2 k n') : EReal)) T n rfl
  refine (dats m 0 c).arrAt_forall_of_covers 2
    (fun i v => ∀ T n, i = ix2 T n → v = (∑ k : Fin 1024, (tok m c (ix2 (lat T) k) : EReal) * wt m c (ix2 k n) : EReal)) (by decide +kernel)
    (fun t hf y T n e => ?_) (ix2 T n)
  blk_simp
  rw [after0_2]
  have e0 : win0_2.index t 0 * 1024 + 1 * (y 0).val = T.val := congrArg Fin.val (congrFun e 0)
  have e1 : win0_2.index t 1 * 768 + 1 * (y 1).val = n.val := congrArg Fin.val (congrFun e 1)
  rw [eq_ix2 y]
  refine (out_block c _ _ _ _ _ _ _ _ _ _ _ _ _).trans (Finset.sum_congr rfl fun k _ => ?_)
  exact congrArg₂ (fun a b : EReal => a * b) ((read_tok _ t _ _ k (lat T) e0).trans (congrFun (operand_tok m c) _))
    ((read_wt _ t k _ n e1).trans (congrFun (operand_wt m c) _))

theorem algebraic : Cert.algebraic_InKernelIdeal_InReferenceIdeal := by
  intro m g m' g' _ heq
  refine ⟨fun c => (dats m 0 c).arrAt 2 cfg0.N, Cert.InKernelIdeal.Value.run_blocks m g, ?_⟩
  refine (θ_run Cert.InReferenceIdeal.defs _ _).mono (fun r h c => ⟨(h c).1.trans (funext fun i => ?_), (h c).2⟩)
    (Cert.InReferenceIdeal.Value.run m' g')
  obtain ⟨T, n, rfl⟩ : ∃ T n, i = ix2 T n := ⟨_, _, eq_ix2 i⟩
  rw [(heq c).1, (heq c).2]
  refine Eq.trans ?_ (array m c T n).symm
  pointwise []

end Cert.InProj
-- ==== Proof.InDwI.lean ====
module

public import proofs.«01_k».proof.Proof.FwdOut
public import proofs.«01_k».proof.Proof.Gen.InDwIKernelIdeal.Value
public import proofs.«01_k».proof.Proof.Gen.InDwIReferenceIdeal.Run
public import proofs.«01_k».proof.Defs
public import Idealize.ShloMosaic.Lib.Pipeline.ValueKit.Geometry

/-!
The gradient of the input projection's weights, transposed, for the first half of the channels: each block is
a full sum over the latent tokens.
-/

@[expose] public section

noncomputable section

open Idealize.ShloMosaic Idealize.ShloMosaic.TcCoe Idealize.SL.Sem Cert.InDwIKernelIdeal Cert.InDwIKernelIdeal.Gen

namespace Cert.InDwI

variable (m : (ℓ : Loc nD τ sig) → Buf (Elt Ideal) ℓ) (c : Dev nD)

/-- The tokens, latent ones first, and the projection's cotangent. -/
abbrev tok : FVec Ideal S2304x1024 .f32 := m ((c : Thread nD τ).loc main_arg0)
abbrev ct : FVec Ideal S2048x4608 .f32 := m ((c : Thread nD τ).loc main_arg2)

/-- A latent token among all, and a channel of this half among all. -/
abbrev lat (T : Fin 2048) : Fin 2304 := ⟨T.val, by omega⟩
abbrev chan (k : Fin 512) : Fin 1024 := ⟨k.val, by omega⟩

theorem index : ∀ t : Fin grid0.N, (win0_0.index t 0 = 0 ∧ win0_0.index t 1 = win0_2.index t 0)
    ∧ (win0_1.index t 0 = 0 ∧ win0_1.index t 1 = 0) ∧ win0_2.index t 1 = 0 := by
  decide +kernel

theorem operand_ct : (V m c (Pipeline.arrRef spec0 0) : FVec Ideal S2048x4608 .bf16) = truncf (F := Ideal) .bf16 (ct m c) bitsLt_bf16_f32 := by
  after_results_simp; rfl

theorem operand_tok : (V m c (Pipeline.arrRef spec0 1) : FVec Ideal S2304x1024 .bf16) = truncf (F := Ideal) .bf16 (tok m c) bitsLt_bf16_f32 := by
  after_results_simp; rfl

/-- A block of 1536 columns of the cotangent, all latent tokens. -/
theorem read_ct (A : FVec Ideal S2048x4608 .bf16) (t : Fin cfg0.N) (T : Fin 2048) (r : Fin 1536) (n : Fin 4608)
    (hn : win0_2.index t 0 * 1536 + 1 * r.val = n.val) :
    (((cfg0.win 0).blk t).view.read (Elt Ideal) A : Vec Ideal S2048x1536 .bf16) (ix2 T r) = A (ix2 T n) := by
  obtain ⟨⟨h0, h1⟩, -⟩ := index t
  rw [View.read_apply]
  refine congrArg A (funext fun a => Fin.ext ?_)
  match a with
  | ⟨0, _⟩ => show win0_0.index t 0 * 2048 + 1 * T.val = T.val; rw [h0, Nat.zero_mul, Nat.zero_add, Nat.one_mul]
  | ⟨1, _⟩ => show win0_0.index t 1 * 1536 + 1 * r.val = n.val; rw [h1, hn]

/-- The latent tokens' first half of the channels. -/
theorem read_tok (A : FVec Ideal S2304x1024 .bf16) (t : Fin cfg0.N) (d : (cfg0.win 1).block.Idx → Elt Ideal (cfg0.win 1).elt)
    (T : Fin 2048) (k : Fin 512) :
    ((cfg0.win 1).fill (cfg0.grid.coords t) d (((cfg0.win 1).blk t).view.read (Elt Ideal) A) : Vec Ideal S2048x512 .bf16) (ix2 T k)
      = A (ix2 (lat T) (chan k)) := by
  obtain ⟨-, ⟨h0, h1⟩, -⟩ := index t
  unfold Pipeline.Window.fill
  rw [dif_pos (moved0_1 t _), View.read_apply]
  refine congrArg A (funext fun a => Fin.ext ?_)
  match a with
  | ⟨0, _⟩ => show win0_1.index t 0 * 2048 + 1 * T.val = T.val; rw [h0, Nat.zero_mul, Nat.zero_add, Nat.one_mul]
  | ⟨1, _⟩ => show win0_1.index t 1 * 512 + 1 * k.val = k.val; rw [h1, Nat.zero_mul, Nat.zero_add, Nat.one_mul]

/-- What the body leaves: the product of its two blocks over the tokens. -/
theorem out_block (i : grid0.Coords) (arg3 : Memref sig .tc .vmem S2048x1536 .bf16) (harg3 : arg3.IsWhole)
    (arg4 : Memref sig .tc .vmem S2048x512 .bf16) (harg4 : arg4.IsWhole) (arg5 : Memref sig .tc .vmem S1536x512 .f32)
    (harg5 : arg5.IsWhole) (arg6 : Memref sig .tc .vmem S8x128 .f32) (harg6 : arg6.IsWhole)
    (x : Vec Ideal S2048x1536 .bf16) (y : Vec Ideal S2048x512 .bf16) (r : Fin 1536) (k : Fin 512) :
    out0_A_2 (F := Ideal) c i arg3 harg3 arg4 harg4 arg5 harg5 arg6 harg6 x y (ix2 r k)
      = (∑ T : Fin 2048, (x (ix2 T r) : EReal) * y (ix2 T k) : EReal) := by
  unfold out0_A_2
  rw [View.read_writes_eq_canon _ _ _ (cover0_A_2 c i arg3 harg3 arg4 harg4 arg5 harg5 arg6 harg6 x y)]
  unfold kernelRun0_A
  dsimp only
  sl_unfold_words
  rw [View.canon_unit_zero (S := S1536x512) Attn.hz]
  simp only [View.readAt_eq_ld, harg3.read_unread, harg4.read_unread, View.ld_unit_zero (S := S2048x1536) Attn.hz, View.ld_unit_zero (S := S2048x512) Attn.hz]
  pointwise [k0_pay1]

/-- The gradient's array. -/
theorem array (n : Fin 4608) (k : Fin 512) :
    ((dats m 0 c).arrAt 2 cfg0.N : Vec Ideal S4608x512 .f32) (ix2 n k)
      = (∑ T : Fin 2048, (ct m c (ix2 T n) : EReal) * tok m c (ix2 (lat T) (chan k)) : EReal) := by
  refine (?_ : ∀ n' k', ix2 n k = ix2 n' k' → _ = (∑ T : Fin 2048, (ct m c (ix2 T n') : EReal) * tok m c (ix2 (lat T) (chan k')) : EReal)) n k rfl
  refine (dats m 0 c).arrAt_forall_of_covers 2
    (fun i v => ∀ n k, i = ix2 n k → v = (∑ T : Fin 2048, (ct m c (ix2 T n) : EReal) * tok m c (ix2 (lat T) (chan k)) : EReal)) (by decide +kernel)
    (fun t hf y n k e => ?_) (ix2 n k)
  blk_simp
  rw [after0_2]
  have e0 : win0_2.index t 0 * 1536 + 1 * (y 0).val = n.val := congrArg Fin.val (congrFun e 0)
  have e1 : win0_2.index t 1 * 512 + 1 * (y 1).val = k.val := congrArg Fin.val (congrFun e 1)
  rw [(index t).2.2, Nat.zero_mul, Nat.zero_add, Nat.one_mul] at e1
  obtain rfl : y 1 = k := Fin.ext e1
  rw [eq_ix2 y]
  refine (out_block c _ _ _ _ _ _ _ _ _ _ _ _ _).trans (Finset.sum_congr rfl fun T _ => ?_)
  exact congrArg₂ (fun a b : EReal => a * b) ((read_ct _ t T _ n e0).trans (congrFun (operand_ct m c) _))
    ((read_tok _ t _ T _).trans (congrFun (operand_tok m c) _))

theorem algebraic : Cert.algebraic_InDwIKernelIdeal_InDwIReferenceIdeal := by
  intro m g m' g' _ heq
  refine ⟨fun c => (dats m 0 c).arrAt 2 cfg0.N, Cert.InDwIKernelIdeal.Value.run_blocks m g, ?_⟩
  refine (θ_run Cert.InDwIReferenceIdeal.defs _ _).mono (fun r h c => ⟨(h c).1.trans (funext fun i => ?_), (h c).2⟩)
    (Cert.InDwIReferenceIdeal.Value.run m' g')
  obtain ⟨n, k, rfl⟩ : ∃ n k, i = ix2 n k := ⟨_, _, eq_ix2 i⟩
  rw [(heq c).1, (heq c).2.2]
  refine Eq.trans ?_ (array m c n k).symm
  pointwise []

end Cert.InDwI
-- ==== Proof.InDwII.lean ====
module

public import proofs.«01_k».proof.Proof.FwdOut
public import proofs.«01_k».proof.Proof.Gen.InDwIIKernelIdeal.Value
public import proofs.«01_k».proof.Proof.Gen.InDwIIReferenceIdeal.Run
public import proofs.«01_k».proof.Defs
public import Idealize.ShloMosaic.Lib.Pipeline.ValueKit.Geometry

/-!
The gradient of the input projection's weights, transposed, for the second half of the channels: each block is
a full sum over the latent tokens.
-/

@[expose] public section

noncomputable section

open Idealize.ShloMosaic Idealize.ShloMosaic.TcCoe Idealize.SL.Sem Cert.InDwIIKernelIdeal Cert.InDwIIKernelIdeal.Gen

namespace Cert.InDwII

variable (m : (ℓ : Loc nD τ sig) → Buf (Elt Ideal) ℓ) (c : Dev nD)

/-- The tokens, latent ones first, and the projection's cotangent. -/
abbrev tok : FVec Ideal S2304x1024 .f32 := m ((c : Thread nD τ).loc main_arg0)
abbrev ct : FVec Ideal S2048x4608 .f32 := m ((c : Thread nD τ).loc main_arg2)

/-- A latent token among all, and a channel of this half among all. -/
abbrev lat (T : Fin 2048) : Fin 2304 := ⟨T.val, by omega⟩
abbrev chan (k : Fin 512) : Fin 1024 := ⟨512 + k.val, by omega⟩

theorem index : ∀ t : Fin grid0.N, (win0_0.index t 0 = 0 ∧ win0_0.index t 1 = win0_2.index t 0)
    ∧ (win0_1.index t 0 = 0 ∧ win0_1.index t 1 = 1) ∧ win0_2.index t 1 = 0 := by
  decide +kernel

theorem operand_ct : (V m c (Pipeline.arrRef spec0 0) : FVec Ideal S2048x4608 .bf16) = truncf (F := Ideal) .bf16 (ct m c) bitsLt_bf16_f32 := by
  after_results_simp; rfl

theorem operand_tok : (V m c (Pipeline.arrRef spec0 1) : FVec Ideal S2304x1024 .bf16) = truncf (F := Ideal) .bf16 (tok m c) bitsLt_bf16_f32 := by
  after_results_simp; rfl

/-- A block of 1536 columns of the cotangent, all latent tokens. -/
theorem read_ct (A : FVec Ideal S2048x4608 .bf16) (t : Fin cfg0.N) (T : Fin 2048) (r : Fin 1536) (n : Fin 4608)
    (hn : win0_2.index t 0 * 1536 + 1 * r.val = n.val) :
    (((cfg0.win 0).blk t).view.read (Elt Ideal) A : Vec Ideal S2048x1536 .bf16) (ix2 T r) = A (ix2 T n) := by
  obtain ⟨⟨h0, h1⟩, -⟩ := index t
  rw [View.read_apply]
  refine congrArg A (funext fun a => Fin.ext ?_)
  match a with
  | ⟨0, _⟩ => show win0_0.index t 0 * 2048 + 1 * T.val = T.val; rw [h0, Nat.zero_mul, Nat.zero_add, Nat.one_mul]
  | ⟨1, _⟩ => show win0_0.index t 1 * 1536 + 1 * r.val = n.val; rw [h1, hn]

/-- The latent tokens' second half of the channels. -/
theorem read_tok (A : FVec Ideal S2304x1024 .bf16) (t : Fin cfg0.N) (d : (cfg0.win 1).block.Idx → Elt Ideal (cfg0.win 1).elt)
    (T : Fin 2048) (k : Fin 512) :
    ((cfg0.win 1).fill (cfg0.grid.coords t) d (((cfg0.win 1).blk t).view.read (Elt Ideal) A) : Vec Ideal S2048x512 .bf16) (ix2 T k)
      = A (ix2 (lat T) (chan k)) := by
  obtain ⟨-, ⟨h0, h1⟩, -⟩ := index t
  unfold Pipeline.Window.fill
  rw [dif_pos (moved0_1 t _), View.read_apply]
  refine congrArg A (funext fun a => Fin.ext ?_)
  match a with
  | ⟨0, _⟩ => show win0_1.index t 0 * 2048 + 1 * T.val = T.val; rw [h0, Nat.zero_mul, Nat.zero_add, Nat.one_mul]
  | ⟨1, _⟩ => show win0_1.index t 1 * 512 + 1 * k.val = 512 + k.val; rw [h1, Nat.one_mul, Nat.one_mul]

/-- What the body leaves: the product of its two blocks over the tokens. -/
theorem out_block (i : grid0.Coords) (arg3 : Memref sig .tc .vmem S2048x1536 .bf16) (harg3 : arg3.IsWhole)
    (arg4 : Memref sig .tc .vmem S2048x512 .bf16) (harg4 : arg4.IsWhole) (arg5 : Memref sig .tc .vmem S1536x512 .f32)
    (harg5 : arg5.IsWhole) (arg6 : Memref sig .tc .vmem S8x128 .f32) (harg6 : arg6.IsWhole)
    (x : Vec Ideal S2048x1536 .bf16) (y : Vec Ideal S2048x512 .bf16) (r : Fin 1536) (k : Fin 512) :
    out0_A_2 (F := Ideal) c i arg3 harg3 arg4 harg4 arg5 harg5 arg6 harg6 x y (ix2 r k)
      = (∑ T : Fin 2048, (x (ix2 T r) : EReal) * y (ix2 T k) : EReal) := by
  unfold out0_A_2
  rw [View.read_writes_eq_canon _ _ _ (cover0_A_2 c i arg3 harg3 arg4 harg4 arg5 harg5 arg6 harg6 x y)]
  unfold kernelRun0_A
  dsimp only
  sl_unfold_words
  rw [View.canon_unit_zero (S := S1536x512) Attn.hz]
  simp only [View.readAt_eq_ld, harg3.read_unread, harg4.read_unread, View.ld_unit_zero (S := S2048x1536) Attn.hz, View.ld_unit_zero (S := S2048x512) Attn.hz]
  pointwise [k0_pay1]

/-- The gradient's array. -/
theorem array (n : Fin 4608) (k : Fin 512) :
    ((dats m 0 c).arrAt 2 cfg0.N : Vec Ideal S4608x512 .f32) (ix2 n k)
      = (∑ T : Fin 2048, (ct m c (ix2 T n) : EReal) * tok m c (ix2 (lat T) (chan k)) : EReal) := by
  refine (?_ : ∀ n' k', ix2 n k = ix2 n' k' → _ = (∑ T : Fin 2048, (ct m c (ix2 T n') : EReal) * tok m c (ix2 (lat T) (chan k')) : EReal)) n k rfl
  refine (dats m 0 c).arrAt_forall_of_covers 2
    (fun i v => ∀ n k, i = ix2 n k → v = (∑ T : Fin 2048, (ct m c (ix2 T n) : EReal) * tok m c (ix2 (lat T) (chan k)) : EReal)) (by decide +kernel)
    (fun t hf y n k e => ?_) (ix2 n k)
  blk_simp
  rw [after0_2]
  have e0 : win0_2.index t 0 * 1536 + 1 * (y 0).val = n.val := congrArg Fin.val (congrFun e 0)
  have e1 : win0_2.index t 1 * 512 + 1 * (y 1).val = k.val := congrArg Fin.val (congrFun e 1)
  rw [(index t).2.2, Nat.zero_mul, Nat.zero_add, Nat.one_mul] at e1
  obtain rfl : y 1 = k := Fin.ext e1
  rw [eq_ix2 y]
  refine (out_block c _ _ _ _ _ _ _ _ _ _ _ _ _).trans (Finset.sum_congr rfl fun T _ => ?_)
  exact congrArg₂ (fun a b : EReal => a * b) ((read_ct _ t T _ n e0).trans (congrFun (operand_ct m c) _))
    ((read_tok _ t _ T _).trans (congrFun (operand_tok m c) _))

theorem algebraic : Cert.algebraic_InDwIIKernelIdeal_InDwIIReferenceIdeal := by
  intro m g m' g' _ heq
  refine ⟨fun c => (dats m 0 c).arrAt 2 cfg0.N, Cert.InDwIIKernelIdeal.Value.run_blocks m g, ?_⟩
  refine (θ_run Cert.InDwIIReferenceIdeal.defs _ _).mono (fun r h c => ⟨(h c).1.trans (funext fun i => ?_), (h c).2⟩)
    (Cert.InDwIIReferenceIdeal.Value.run m' g')
  obtain ⟨n, k, rfl⟩ : ∃ n k, i = ix2 n k := ⟨_, _, eq_ix2 i⟩
  rw [(heq c).1, (heq c).2.2]
  refine Eq.trans ?_ (array m c n k).symm
  pointwise []

end Cert.InDwII
-- ==== Proof.NormGrad.lean ====
module

public import proofs.«01_k».proof.Proof.Consts

/-!
The gradient of the norm and the modulation, one row (token) at a time: the kernel's formula and the
reference's. Both use the row's reciprocal root of the mean square.
-/

@[expose] public section

noncomputable section

open Idealize.ShloMosaic Cert.Attn

namespace Cert.NormGrad

/-- The numbers 1024, -1/2 and the norm's small summand, as the programs' literals. -/
abbrev n1024 : EReal := Ideal.ofBits .f32 0x44800000#32
abbrev negHalf : EReal := Ideal.ofBits .f32 0xBF000000#32
abbrev eps : EReal := Ideal.ofBits .f32 0x358637BD#32

theorem n1024_eq : n1024 = ((1024 : ℝ) : EReal) := by
  simp [n1024, Ideal.ofBits, Ideal.ieee]; rw [← EReal.coe_mul]; congr 1; norm_num

theorem negHalf_eq : negHalf = ((-(1 / 2) : ℝ) : EReal) := by
  simp [negHalf, Ideal.ofBits, Ideal.ieee]; rw [← EReal.coe_mul]; congr 1; norm_num

theorem eps_pos : ∃ e : ℝ, 0 < e ∧ eps = (e : EReal) := by
  refine ⟨8796093 * (1 / 8796093022208), by norm_num, ?_⟩
  simp [eps, Ideal.ofBits, Ideal.ieee]; congr 2; norm_num

/-- The row's mean square with the small summand, and its reciprocal root. -/
def ms (x : Fin 1024 → EReal) : EReal := Ideal.div (∑ k, x k * x k) n1024 + eps
def rs (x : Fin 1024 → EReal) : EReal := Ideal.rsqrt (ms x)

/-- The gradient arriving at the normed row. -/
def slope (dh sc g : Fin 1024 → EReal) (k : Fin 1024) : EReal := dh k * (1 + sc k) * g k

/-- The row's gradient as the kernel computes it. -/
def kernelDx (x dh sc g : Fin 1024 → EReal) (dr : EReal) (k : Fin 1024) : EReal :=
  dr + rs x * (slope dh sc g k - x k * rs x * Ideal.div (∑ j, slope dh sc g j * (x j * rs x)) n1024)

/-- The reference's share of the gradient that passes through the reciprocal root. -/
def rootSlope (x dh sc g : Fin 1024 → EReal) : EReal :=
  Ideal.div ((∑ j, x j * slope dh sc g j) * (negHalf * Ideal.div (rs x) (ms x))) n1024

/-- The row's gradient as the reference computes it. -/
def referenceDx (x dh sc g : Fin 1024 → EReal) (dr : EReal) (k : Fin 1024) : EReal :=
  dr + slope dh sc g k * rs x + x k * rootSlope x dh sc g + rootSlope x dh sc g * x k

/-- A token's terms of the four summed rows: gradients of the shift, the scale, the gain and the gate. -/
def term (i : Fin 4) (x dh sc g : Fin 1024 → EReal) (dr gs : EReal) (k : Fin 1024) : EReal :=
  match i with
  | 0 => dh k
  | 1 => dh k * (x k * rs x * g k)
  | 2 => dh k * (1 + sc k) * (x k * rs x)
  | 3 => dr * gs

theorem div_real (a : ℝ) {b : ℝ} (h : b ≠ 0) : Ideal.div (a : EReal) (b : EReal) = ((a / b : ℝ) : EReal) := by
  unfold Ideal.div
  rw [if_neg (by exact_mod_cast h), EReal.coe_div]; rfl

theorem rsqrt_real {a : ℝ} (h : 0 < a) : Ideal.rsqrt (a : EReal) = (((Real.sqrt a)⁻¹ : ℝ) : EReal) := by
  show (if a < 0 then ⊥ else if a = 0 then ⊤ else _) = _
  rw [if_neg (not_lt.mpr h.le), if_neg h.ne']

/-- On finite numbers the two formulas agree. -/
theorem dx_eq (x dh sc g : Fin 1024 → EReal) (dr : EReal) (hx : ∀ k, ∃ r : ℝ, x k = r) (hdh : ∀ k, ∃ r : ℝ, dh k = r)
    (hsc : ∀ k, ∃ r : ℝ, sc k = r) (hg : ∀ k, ∃ r : ℝ, g k = r) (hdr : ∃ r : ℝ, dr = r) (k : Fin 1024) :
    referenceDx x dh sc g dr k = kernelDx x dh sc g dr k := by
  choose x' hx using hx
  choose dh' hdh using hdh
  choose sc' hsc using hsc
  choose g' hg using hg
  obtain ⟨dr', hdr⟩ := hdr
  obtain ⟨e, he, hee⟩ := eps_pos
  have hsl : ∀ j, slope dh sc g j = ((dh' j * (1 + sc' j) * g' j : ℝ) : EReal) := fun j => by
    rw [slope, hdh, hsc, hg, ← EReal.coe_one, ← EReal.coe_add, ← EReal.coe_mul, ← EReal.coe_mul]
  have hms : ms x = (((∑ j, x' j * x' j) / 1024 + e : ℝ) : EReal) := by
    rw [ms, sum_real Finset.univ _ (fun j => x' j * x' j) (fun j => by rw [hx, EReal.coe_mul]), n1024_eq, div_real _ (by norm_num), hee,
      EReal.coe_add]
  have hpos : 0 < (∑ j, x' j * x' j) / 1024 + e :=
    add_pos_of_nonneg_of_pos (div_nonneg (Finset.sum_nonneg fun j _ => mul_self_nonneg _) (by norm_num)) he
  obtain ⟨M, hM⟩ : ∃ M, M = (∑ j, x' j * x' j) / 1024 + e := ⟨_, rfl⟩
  rw [← hM] at hms hpos
  have hrs : rs x = (((Real.sqrt M)⁻¹ : ℝ) : EReal) := by rw [rs, hms, rsqrt_real hpos]
  obtain ⟨R, hR⟩ : ∃ R, R = (Real.sqrt M)⁻¹ := ⟨_, rfl⟩
  rw [← hR] at hrs
  have hRM : R / M = R * R * R := by
    have : R * R = 1 / M := by rw [hR, ← mul_inv, Real.mul_self_sqrt hpos.le, one_div]
    rw [this]; ring
  obtain ⟨a, ha⟩ : ∃ a : Fin 1024 → ℝ, a = fun j => dh' j * (1 + sc' j) * g' j := ⟨_, rfl⟩
  have hsl' : ∀ j, slope dh sc g j = ((a j : ℝ) : EReal) := fun j => by rw [hsl, ha]
  have hS : rootSlope x dh sc g = (((∑ j, x' j * a j) * (-(1 / 2) * (R / M)) / 1024 : ℝ) : EReal) := by
    rw [rootSlope, sum_real Finset.univ _ (fun j => x' j * a j) (fun j => by rw [hx, hsl', EReal.coe_mul]), hms, hrs, negHalf_eq, n1024_eq,
      div_real _ hpos.ne', ← EReal.coe_mul, ← EReal.coe_mul, div_real _ (by norm_num)]
  rw [referenceDx, kernelDx, sum_real Finset.univ _ (fun j => a j * (x' j * R)) (fun j => by rw [hx, hsl', hrs, EReal.coe_mul, EReal.coe_mul]),
    hS, hrs, hsl', hx, hdr, n1024_eq, div_real _ (by norm_num)]
  simp only [← EReal.coe_mul, ← EReal.coe_add, ← EReal.coe_sub]
  refine congrArg _ ?_
  have : ∑ j, a j * (x' j * R) = (∑ j, x' j * a j) * R := by
    rw [Finset.sum_mul]; exact Finset.sum_congr rfl fun j _ => by ring
  rw [this, hRM]
  ring

/-! Four rows stored one after the other. -/

abbrev R4 : Shape := ⟨2, ![4, 1024]⟩
abbrev R1 : Shape := ⟨2, ![1, 1024]⟩

theorem emb_row (i : Fin 4) (o : ℕ) (ho : o = i.val) (inb : ∀ a, (![o, 0] : Fin 2 → ℕ) a + R1.size a ≤ R4.size a) (k : Fin 1024) :
    (Rect.unit (s := R4) ![o, 0] R1.size inb).emb (ix2 (0 : Fin 1) k) = ix2 i k := by
  subst ho
  funext a
  apply Fin.ext
  fin_cases a
  · show i.val + 1 * 0 = i.val
    omega
  · show 0 + 1 * k.val = k.val
    omega

/-- A load of one row. -/
theorem ld_row (x : Vec Ideal R4 .f32) (i : Fin 4) (o : ℕ) (ho : o = i.val) (inb : ∀ a, (![o, 0] : Fin 2 → ℕ) a + R1.size a ≤ R4.size a)
    (k : Fin 1024) : View.ld x (Rect.unit (s := R4) ![o, 0] R1.size inb) (ix2 (0 : Fin 1) k) = x (ix2 i k) :=
  congrArg x (emb_row i o ho inb k)

theorem not_mem_row (i : Fin 4) (o : ℕ) (ho : o ≠ i.val) (inb : ∀ a, (![o, 0] : Fin 2 → ℕ) a + R1.size a ≤ R4.size a) (k : Fin 1024) :
    ix2 i k ∉ (Rect.unit (s := R4) ![o, 0] R1.size inb).set := by
  intro hm
  obtain ⟨x, hx⟩ := (Rect.unit (s := R4) ![o, 0] R1.size inb).exists_idx_of_mem hm
  have h0 := congrArg (fun y : R4.Idx => (y 0).val) hx
  have h1 : o + 1 * (x 0).val = i.val := h0
  have h2 : (x 0).val < 1 := (x 0).isLt
  omega

theorem canon_off (L : List (View.Piece (Elt Ideal) R4 .f32)) (i : Fin 4) (o : ℕ) (ho : o ≠ i.val)
    (inb : ∀ a, (![o, 0] : Fin 2 → ℕ) a + R1.size a ≤ R4.size a) (w : Vec Ideal R1 .f32) (k : Fin 1024) :
    View.canon ((⟨Rect.unit (s := R4) ![o, 0] R1.size inb, w⟩ : View.Piece (Elt Ideal) R4 .f32) :: L) (ix2 i k) = View.canon L (ix2 i k) :=
  View.canon_cons_of_not_mem ⟨Rect.unit (s := R4) ![o, 0] R1.size inb, w⟩ L (not_mem_row i o ho inb k)

theorem canon_on (L : List (View.Piece (Elt Ideal) R4 .f32)) (i : Fin 4) (o : ℕ) (ho : o = i.val)
    (inb : ∀ a, (![o, 0] : Fin 2 → ℕ) a + R1.size a ≤ R4.size a) (w : Vec Ideal R1 .f32) (k : Fin 1024) :
    View.canon ((⟨Rect.unit (s := R4) ![o, 0] R1.size inb, w⟩ : View.Piece (Elt Ideal) R4 .f32) :: L) (ix2 i k) = w (ix2 (0 : Fin 1) k) := by
  have h := View.canon_cons_emb (Rect.unit (s := R4) ![o, 0] R1.size inb) w L (ix2 (0 : Fin 1) k)
  rwa [emb_row i o ho inb k] at h

/-- Four rows written, read back: each from its own store. -/
theorem canon_rows (L : List (View.Piece (Elt Ideal) R4 .f32)) (w0 w1 w2 w3 : Vec Ideal R1 .f32)
    (inb0 : ∀ a, (![0, 0] : Fin 2 → ℕ) a + R1.size a ≤ R4.size a) (inb1 : ∀ a, (![1, 0] : Fin 2 → ℕ) a + R1.size a ≤ R4.size a)
    (inb2 : ∀ a, (![2, 0] : Fin 2 → ℕ) a + R1.size a ≤ R4.size a) (inb3 : ∀ a, (![3, 0] : Fin 2 → ℕ) a + R1.size a ≤ R4.size a)
    (f : Fin 4 → Fin 1024 → EReal) (h0 : ∀ k, w0 (ix2 (0 : Fin 1) k) = f 0 k) (h1 : ∀ k, w1 (ix2 (0 : Fin 1) k) = f 1 k)
    (h2 : ∀ k, w2 (ix2 (0 : Fin 1) k) = f 2 k) (h3 : ∀ k, w3 (ix2 (0 : Fin 1) k) = f 3 k) (i : Fin 4) (k : Fin 1024) :
    View.canon ((⟨Rect.unit (s := R4) ![3, 0] R1.size inb3, w3⟩ : View.Piece (Elt Ideal) R4 .f32)
      :: ⟨Rect.unit (s := R4) ![2, 0] R1.size inb2, w2⟩ :: ⟨Rect.unit (s := R4) ![1, 0] R1.size inb1, w1⟩
      :: ⟨Rect.unit (s := R4) ![0, 0] R1.size inb0, w0⟩ :: L) (ix2 i k) = f i k := by
  match i with
  | 0 => rw [canon_off _ 0 3 (by decide), canon_off _ 0 2 (by decide), canon_off _ 0 1 (by decide), canon_on _ 0 0 rfl, h0]
  | 1 => rw [canon_off _ 1 3 (by decide), canon_off _ 1 2 (by decide), canon_on _ 1 1 rfl, h1]
  | 2 => rw [canon_off _ 2 3 (by decide), canon_on _ 2 2 rfl, h2]
  | 3 => rw [canon_on _ 3 3 rfl, h3]

end Cert.NormGrad
-- ==== Proof.NormI.lean ====
module

public import proofs.«01_k».proof.Proof.FwdOut
public import proofs.«01_k».proof.Proof.NormGrad
public import proofs.«01_k».proof.Proof.Finite
public import proofs.«01_k».proof.Proof.Gen.Pre_finite_norm1
public import proofs.«01_k».proof.Proof.Gen.NormIKernelIdeal.Value
public import proofs.«01_k».proof.Proof.Gen.NormIReferenceIdeal.Run
public import proofs.«01_k».proof.Defs
public import Idealize.ShloMosaic.Lib.Pipeline.ValueKit.Geometry

/-!
The first norm's backward call with the input projection's token gradient: the tokens' gradient and four summed rows.
-/

@[expose] public section

set_option maxRecDepth 16384

noncomputable section

open Idealize.ShloMosaic Idealize.ShloMosaic.TcCoe Idealize.SL.Sem Cert.NormIKernelIdeal Cert.NormIKernelIdeal.Gen

namespace Cert.NormI

open Cert.NormGrad

section

variable (x0 : Vec Ideal S512x1024 .f32) (x1 : Vec Ideal S512x4608 .bf16) (x2 : Vec Ideal S1024x4608 .bf16) (x3 x4 : Vec Ideal S1x1024 .f32)
  (x5 x6 : Vec Ideal S512x1024 .f32) (x7 : Vec Ideal S1x1024 .f32)

/-- A block's gradient of the projection's input: cotangents times the transposed weights. -/
def dhB (r : Fin 512) (k : Fin 1024) : EReal := ∑ n : Fin 4608, (x1 (ix2 r n) : EReal) * x2 (ix2 k n)

/-- A row of a block, and the one row of a vector. -/
abbrev rowB (r : Fin 512) (k : Fin 1024) : EReal := x0 (ix2 r k)
abbrev one1 (k : Fin 1024) : EReal := x3 (ix2 (0 : Fin 1) k)

theorem pay_dh (r : Fin 512) (k : Fin 1024) : k0_pay8 x1 x2 (ix2 r k) = dhB x1 x2 r k := by
  pointwise [k0_pay8]
  rfl

theorem pay_dx (r : Fin 512) (k : Fin 1024) :
    k0_pay1 (k0_pay9 x0) (k0_pay10 x0) (k0_pay12 x1 x2 x4 x3) x5 (ix2 r k)
      = kernelDx (rowB x0 r) (dhB x1 x2 r) (one1 x4) (one1 x3) (x5 (ix2 r k)) k := by
  pointwise [k0_pay1, k0_pay9, k0_pay10, k0_pay12, k0_pay11, pay_dh]
  rfl

/-- The block's share of the four rows. -/
def rowsB (i : Fin 4) (k : Fin 1024) : EReal :=
  ∑ r : Fin 512, term i (rowB x0 r) (dhB x1 x2 r) (one1 x4) (one1 x3) (x5 (ix2 r k)) (x6 (ix2 r k)) k

theorem pay_row0 (k : Fin 1024) : k0_pay13 x1 x2 (ix2 (0 : Fin 1) k) = rowsB x0 x1 x2 x3 x4 x5 x6 0 k := by
  pointwise [k0_pay13, pay_dh]
  rfl

theorem pay_row1 (k : Fin 1024) : k0_pay14 x1 x2 x0 x3 (ix2 (0 : Fin 1) k) = rowsB x0 x1 x2 x3 x4 x5 x6 1 k := by
  pointwise [k0_pay14, pay_dh, k0_pay10, k0_pay9]
  rfl

theorem pay_row2 (k : Fin 1024) : k0_pay15 x1 x2 x0 x4 (ix2 (0 : Fin 1) k) = rowsB x0 x1 x2 x3 x4 x5 x6 2 k := by
  pointwise [k0_pay15, k0_pay11, pay_dh, k0_pay10, k0_pay9]
  rfl

theorem pay_row3 (k : Fin 1024) : k0_pay3 x5 x6 (ix2 (0 : Fin 1) k) = rowsB x0 x1 x2 x3 x4 x5 x6 3 k := by
  pointwise [k0_pay3]
  rfl

section

variable (c : Dev nD) (i : grid0.Coords) (arg2 : Memref sig .tc .vmem S512x1024 .f32) (harg2 : arg2.IsWhole) (arg3 : Memref sig .tc .vmem S512x4608 .bf16) (harg3 : arg3.IsWhole) (arg4 : Memref sig .tc .vmem S1024x4608 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S4x1024 .f32) (harg12 : arg12.IsWhole) (arg13 : Memref sig .tc .vmem S8x128 .f32) (harg13 : arg13.IsWhole)

theorem out8_A (hc0 : cond0_0 i) (hc1 : ¬cond0_1 i) (r : Fin 512) (k : Fin 1024) :
    out0_A_8 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 (ix2 r k)
      = kernelDx (rowB x0 r) (dhB x1 x2 r) (one1 x4) (one1 x3) (x5 (ix2 r k)) k := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_unit_zero (S := S512x1024) Attn.hz]
  simp only [View.readAt_eq_ld, harg2.read_unread, harg3.read_unread, harg4.read_unread, harg5.read_unread, harg6.read_unread, harg7.read_unread,
    View.ld_unit_zero (S := S512x1024) Attn.hz, View.ld_unit_zero (S := S512x4608) Attn.hz, View.ld_unit_zero (S := S1024x4608) Attn.hz, View.ld_unit_zero (S := S1x1024) Attn.hz]
  exact pay_dx x0 x1 x2 x3 x4 x5 r k

theorem out8_B (hc0 : ¬cond0_0 i) (hc1 : cond0_1 i) (xo : Vec Ideal S4x1024 .f32) (r : Fin 512) (k : Fin 1024) :
    out0_B_8 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo (ix2 r k)
      = kernelDx (rowB x0 r) (dhB x1 x2 r) (one1 x4) (one1 x3) (x5 (ix2 r k)) k := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo)]
  unfold kernelRun0_B
  dsimp only
  sl_unfold_words
  rw [View.canon_unit_zero (S := S512x1024) Attn.hz]
  simp only [View.readAt_eq_ld, harg2.read_unread, harg3.read_unread, harg4.read_unread, harg5.read_unread, harg6.read_unread, harg7.read_unread,
    View.ld_unit_zero (S := S512x1024) Attn.hz, View.ld_unit_zero (S := S512x4608) Attn.hz, View.ld_unit_zero (S := S1024x4608) Attn.hz, View.ld_unit_zero (S := S1x1024) Attn.hz]
  exact pay_dx x0 x1 x2 x3 x4 x5 r k

theorem out10_A (hc0 : cond0_0 i) (hc1 : ¬cond0_1 i) (j : Fin 4) (k : Fin 1024) :
    out0_A_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 (ix2 j k)
      = rowsB x0 x1 x2 x3 x4 x5 x6 j k := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread,
    View.ld_unit_zero (S := S512x1024) Attn.hz, View.ld_unit_zero (S := S512x4608) Attn.hz, View.ld_unit_zero (S := S1024x4608) Attn.hz, View.ld_unit_zero (S := S1x1024) Attn.hz]
  exact canon_rows _ _ _ _ _ _ _ _ _ (rowsB x0 x1 x2 x3 x4 x5 x6) (pay_row0 x0 x1 x2 x3 x4 x5 x6) (pay_row1 x0 x1 x2 x3 x4 x5 x6)
    (pay_row2 x0 x1 x2 x3 x4 x5 x6) (pay_row3 x0 x1 x2 x3 x4 x5 x6) j k

theorem out10_B (hc0 : ¬cond0_0 i) (hc1 : cond0_1 i) (xo : Vec Ideal S4x1024 .f32) (j : Fin 4) (k : Fin 1024) :
    out0_B_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo (ix2 j k)
      = (xo (ix2 j k) : EReal) + rowsB x0 x1 x2 x3 x4 x5 x6 j k := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo)]
  unfold kernelRun0_B
  dsimp only
  sl_unfold_words
  simp only [View.readAt_eq_ld, harg2.read_unread, harg3.read_unread, harg4.read_unread, harg5.read_unread, harg6.read_unread, harg7.read_unread, harg8.read_unread, harg12.read_unread,
    View.ld_unit_zero (S := S512x1024) Attn.hz, View.ld_unit_zero (S := S512x4608) Attn.hz, View.ld_unit_zero (S := S1024x4608) Attn.hz, View.ld_unit_zero (S := S1x1024) Attn.hz]
  refine canon_rows _ _ _ _ _ _ _ _ _ (fun j k => (xo (ix2 j k) : EReal) + rowsB x0 x1 x2 x3 x4 x5 x6 j k) (fun k => ?_) (fun k => ?_)
    (fun k => ?_) (fun k => ?_) j k
  · rw [← pay_row0 x0 x1 x2 x3 x4 x5 x6 k, ← ld_row xo 0 0 rfl inb_S4x1024_S1x1024_0_0 k]; pointwise [k0_pay4]
  · rw [← pay_row1 x0 x1 x2 x3 x4 x5 x6 k, ← ld_row xo 1 1 rfl inb_S4x1024_S1x1024_1_0 k]; pointwise [k0_pay5]
  · rw [← pay_row2 x0 x1 x2 x3 x4 x5 x6 k, ← ld_row xo 2 2 rfl inb_S4x1024_S1x1024_2_0 k]; pointwise [k0_pay6]
  · rw [← pay_row3 x0 x1 x2 x3 x4 x5 x6 k, ← ld_row xo 3 3 rfl inb_S4x1024_S1x1024_3_0 k]; pointwise [k0_pay7]

end

end

variable (m : (ℓ : Loc nD τ sig) → Buf (Elt Ideal) ℓ) (c : Dev nD)

/-- The arguments read: tokens, cotangents of the projection's result, weights, gain, scale, gate, the residual's cotangent, the gated output. -/
abbrev xs (T : Fin 2048) (k : Fin 1024) : EReal := (m ((c : Thread nD τ).loc main_arg0) : FVec Ideal S2048x1024 .f32) (ix2 T k)
abbrev ct : FVec Ideal S2048x4608 .f32 := m ((c : Thread nD τ).loc main_arg7)
abbrev wt : FVec Ideal S1024x4608 .f32 := m ((c : Thread nD τ).loc main_arg4)
abbrev gain (k : Fin 1024) : EReal := (m ((c : Thread nD τ).loc main_arg1) : FVec Ideal S1024 .f32) (ix1 k)
abbrev scl (k : Fin 1024) : EReal := (m ((c : Thread nD τ).loc main_arg3) : FVec Ideal S1024 .f32) (ix1 k)
abbrev dres (T : Fin 2048) (k : Fin 1024) : EReal := (m ((c : Thread nD τ).loc main_arg8) : FVec Ideal S2048x1024 .f32) (ix2 T k)
abbrev gsrc (T : Fin 2048) (k : Fin 1024) : EReal := (m ((c : Thread nD τ).loc main_arg6) : FVec Ideal S2048x1024 .f32) (ix2 T k)
def dh (T : Fin 2048) (k : Fin 1024) : EReal := ∑ n : Fin 4608, (ct m c (ix2 T n) : EReal) * wt m c (ix2 k n)

theorem index : ∀ t : Fin grid0.N,
    (win0_0.index t 0 = t.val ∧ win0_0.index t 1 = 0) ∧ (win0_1.index t 0 = t.val ∧ win0_1.index t 1 = 0)
      ∧ (win0_2.index t 0 = 0 ∧ win0_2.index t 1 = 0) ∧ (win0_3.index t 0 = 0 ∧ win0_3.index t 1 = 0)
      ∧ (win0_4.index t 0 = 0 ∧ win0_4.index t 1 = 0) ∧ (win0_5.index t 0 = t.val ∧ win0_5.index t 1 = 0)
      ∧ (win0_6.index t 0 = t.val ∧ win0_6.index t 1 = 0) ∧ (win0_8.index t 0 = t.val ∧ win0_8.index t 1 = 0)
      ∧ (win0_10.index t 0 = 0 ∧ win0_10.index t 1 = 0) := by
  decide +kernel

theorem operand_ct : (V m c (Pipeline.arrRef spec0 1) : FVec Ideal S2048x4608 .bf16) = truncf (F := Ideal) .bf16 (ct m c) bitsLt_bf16_f32 := by
  after_results_simp; rfl

theorem operand_wt : (V m c (Pipeline.arrRef spec0 2) : FVec Ideal S1024x4608 .bf16) = truncf (F := Ideal) .bf16 (wt m c) bitsLt_bf16_f32 := by
  after_results_simp; rfl

theorem operand_gain : (V m c (Pipeline.arrRef spec0 3) : FVec Ideal S1x1024 .f32)
    = broadcastInDim S1x1024 ![1] bcast_S1024_S1x1024_1 (m ((c : Thread nD τ).loc main_arg1) : FVec Ideal S1024 .f32) := by
  after_results_simp; rfl

theorem operand_scl : (V m c (Pipeline.arrRef spec0 4) : FVec Ideal S1x1024 .f32)
    = broadcastInDim S1x1024 ![1] bcast_S1024_S1x1024_1 (m ((c : Thread nD τ).loc main_arg3) : FVec Ideal S1024 .f32) := by
  after_results_simp; rfl

theorem row_at (x : FVec Ideal S1024 .f32) (k : Fin 1024) : (broadcastInDim S1x1024 ![1] bcast_S1024_S1x1024_1 x) (ix2 (0 : Fin 1) k) = x (ix1 k) := by
  pointwise []

/-- Row `r` of block `t`. -/
def tok (t : Fin 4) (r : Fin 512) : Fin 2048 := ⟨512 * t.val + r.val, by omega⟩

theorem sum_tok (f : Fin 2048 → EReal) : ∑ t, ∑ r, f (tok t r) = ∑ T, f T := by
  rw [← Fintype.sum_prod_type' (fun t r => f (tok t r))]
  refine Fintype.sum_equiv (finProdFinEquiv (m := 4) (n := 512)) _ _ fun p => congrArg f (Fin.ext ?_)
  show 512 * p.1.val + p.2.val = p.2.val + 512 * p.1.val
  omega

theorem read_x (t : Fin cfg0.N) (r : Fin 512) : rowB (iblk m c 0 t) r = xs m c (tok t r) := funext fun k => by
  obtain ⟨⟨h0, h1⟩, -⟩ := index t
  unfold iblk rowB
  rw [View.read_apply]
  refine congrArg (m ((c : Thread nD τ).loc main_arg0) : FVec Ideal S2048x1024 .f32) (funext fun a => Fin.ext ?_)
  match a with
  | ⟨0, _⟩ => show win0_0.index t 0 * 512 + 1 * r.val = 512 * t.val + r.val; rw [h0]; ring
  | ⟨1, _⟩ => show win0_0.index t 1 * 1024 + 1 * k.val = k.val; rw [h1, Nat.zero_mul, Nat.zero_add, Nat.one_mul]

theorem read_dres (t : Fin cfg0.N) (r : Fin 512) (k : Fin 1024) : (iblk m c 5 t : Vec Ideal S512x1024 .f32) (ix2 r k) = dres m c (tok t r) k := by
  obtain ⟨-, -, -, -, -, ⟨h0, h1⟩, -⟩ := index t
  unfold iblk
  rw [View.read_apply]
  refine congrArg (m ((c : Thread nD τ).loc main_arg8) : FVec Ideal S2048x1024 .f32) (funext fun a => Fin.ext ?_)
  match a with
  | ⟨0, _⟩ => show win0_5.index t 0 * 512 + 1 * r.val = 512 * t.val + r.val; rw [h0]; ring
  | ⟨1, _⟩ => show win0_5.index t 1 * 1024 + 1 * k.val = k.val; rw [h1, Nat.zero_mul, Nat.zero_add, Nat.one_mul]

theorem read_gsrc (t : Fin cfg0.N) (r : Fin 512) (k : Fin 1024) : (iblk m c 6 t : Vec Ideal S512x1024 .f32) (ix2 r k) = gsrc m c (tok t r) k := by
  obtain ⟨-, -, -, -, -, -, ⟨h0, h1⟩, -⟩ := index t
  unfold iblk
  rw [View.read_apply]
  refine congrArg (m ((c : Thread nD τ).loc main_arg6) : FVec Ideal S2048x1024 .f32) (funext fun a => Fin.ext ?_)
  match a with
  | ⟨0, _⟩ => show win0_6.index t 0 * 512 + 1 * r.val = 512 * t.val + r.val; rw [h0]; ring
  | ⟨1, _⟩ => show win0_6.index t 1 * 1024 + 1 * k.val = k.val; rw [h1, Nat.zero_mul, Nat.zero_add, Nat.one_mul]

theorem read_ct (A : FVec Ideal S2048x4608 .bf16) (t : Fin cfg0.N) (r : Fin 512) (n : Fin 4608) :
    (((cfg0.win 1).blk t).view.read (Elt Ideal) A : Vec Ideal S512x4608 .bf16) (ix2 r n) = A (ix2 (tok t r) n) := by
  obtain ⟨-, ⟨h0, h1⟩, -⟩ := index t
  rw [View.read_apply]
  refine congrArg A (funext fun a => Fin.ext ?_)
  match a with
  | ⟨0, _⟩ => show win0_1.index t 0 * 512 + 1 * r.val = 512 * t.val + r.val; rw [h0]; ring
  | ⟨1, _⟩ => show win0_1.index t 1 * 4608 + 1 * n.val = n.val; rw [h1, Nat.zero_mul, Nat.zero_add, Nat.one_mul]

theorem read_wt (A : FVec Ideal S1024x4608 .bf16) (t : Fin cfg0.N) (k : Fin 1024) (n : Fin 4608) :
    (((cfg0.win 2).blk t).view.read (Elt Ideal) A : Vec Ideal S1024x4608 .bf16) (ix2 k n) = A (ix2 k n) := by
  obtain ⟨-, -, ⟨h0, h1⟩, -⟩ := index t
  rw [View.read_apply]
  refine congrArg A (funext fun a => Fin.ext ?_)
  match a with
  | ⟨0, _⟩ => show win0_2.index t 0 * 1024 + 1 * k.val = k.val; rw [h0, Nat.zero_mul, Nat.zero_add, Nat.one_mul]
  | ⟨1, _⟩ => show win0_2.index t 1 * 4608 + 1 * n.val = n.val; rw [h1, Nat.zero_mul, Nat.zero_add, Nat.one_mul]

theorem read_row3 (A : FVec Ideal S1x1024 .f32) (t : Fin cfg0.N) (k : Fin 1024) :
    (((cfg0.win 3).blk t).view.read (Elt Ideal) A : Vec Ideal S1x1024 .f32) (ix2 (0 : Fin 1) k) = A (ix2 (0 : Fin 1) k) := by
  obtain ⟨-, -, -, ⟨h0, h1⟩, -⟩ := index t
  rw [View.read_apply]
  refine congrArg A (funext fun a => Fin.ext ?_)
  match a with
  | ⟨0, _⟩ => show win0_3.index t 0 * 1 + 1 * 0 = 0; rw [h0]
  | ⟨1, _⟩ => show win0_3.index t 1 * 1024 + 1 * k.val = k.val; rw [h1, Nat.zero_mul, Nat.zero_add, Nat.one_mul]

theorem read_row4 (A : FVec Ideal S1x1024 .f32) (t : Fin cfg0.N) (k : Fin 1024) :
    (((cfg0.win 4).blk t).view.read (Elt Ideal) A : Vec Ideal S1x1024 .f32) (ix2 (0 : Fin 1) k) = A (ix2 (0 : Fin 1) k) := by
  obtain ⟨-, -, -, -, ⟨h0, h1⟩, -⟩ := index t
  rw [View.read_apply]
  refine congrArg A (funext fun a => Fin.ext ?_)
  match a with
  | ⟨0, _⟩ => show win0_4.index t 0 * 1 + 1 * 0 = 0; rw [h0]
  | ⟨1, _⟩ => show win0_4.index t 1 * 1024 + 1 * k.val = k.val; rw [h1, Nat.zero_mul, Nat.zero_add, Nat.one_mul]

theorem read_dh (t : Fin cfg0.N) (r : Fin 512) : dhB (iblk m c 1 t) (iblk m c 2 t) r = dh m c (tok t r) := funext fun k =>
  Finset.sum_congr rfl fun n _ => congrArg₂ (fun a b : EReal => a * b) ((read_ct _ t r n).trans (congrFun (operand_ct m c) _))
    ((read_wt _ t k n).trans (congrFun (operand_wt m c) _))

theorem read_gain (t : Fin cfg0.N) : one1 (iblk m c 3 t) = gain m c := funext fun k =>
  (read_row3 _ t k).trans ((congrFun (operand_gain m c) _).trans (row_at _ k))

theorem read_scl (t : Fin cfg0.N) : one1 (iblk m c 4 t) = scl m c := funext fun k =>
  (read_row4 _ t k).trans ((congrFun (operand_scl m c) _).trans (row_at _ k))

/-- A token's gradient, and its terms of the four rows. -/
abbrev dxAt (T : Fin 2048) (k : Fin 1024) : EReal := kernelDx (xs m c T) (dh m c T) (scl m c) (gain m c) (dres m c T k) k
abbrev termAt (j : Fin 4) (k : Fin 1024) (T : Fin 2048) : EReal :=
  term j (xs m c T) (dh m c T) (scl m c) (gain m c) (dres m c T k) (gsrc m c T k) k

theorem rows_at (t : Fin cfg0.N) (j : Fin 4) (k : Fin 1024) :
    rowsB (iblk m c 0 t) (iblk m c 1 t) (iblk m c 2 t) (iblk m c 3 t) (iblk m c 4 t) (iblk m c 5 t) (iblk m c 6 t) j k
      = ∑ r, termAt m c j k (tok t r) :=
  Finset.sum_congr rfl fun r _ => by rw [read_x, read_dh, read_scl, read_gain, read_dres, read_gsrc]

theorem dx_at (t : Fin cfg0.N) (r : Fin 512) (k : Fin 1024) :
    kernelDx (rowB (iblk m c 0 t) r) (dhB (iblk m c 1 t) (iblk m c 2 t) r) (one1 (iblk m c 4 t)) (one1 (iblk m c 3 t))
      ((iblk m c 5 t : Vec Ideal S512x1024 .f32) (ix2 r k)) k = dxAt m c (tok t r) k := by
  rw [read_x, read_dh, read_scl, read_gain, read_dres]

theorem lt4 (t : Fin cfg0.N) : t.val < 4 := t.isLt

theorem after_dx (t : Fin cfg0.N) (r : Fin 512) (k : Fin 1024) :
    ((outsAt0 m c t.val t.isLt).1 : Vec Ideal S512x1024 .f32) (ix2 r k) = dxAt m c (tok t r) k := by
  have := lt4 t
  by_cases h1 : 1 ≤ t.val
  · refine (congrFun (congrArg Prod.fst (outsAt0_B m c t (by omega) h1)) _).trans ?_
    dsimp only
    exact (out8_B _ _ _ _ _ _ _ _ c _ _ _ _ _ _ _ _ _ _ _ _ _ _ _ _ _ _ _ _ _ _ _ _ _ _ _ _ r k).trans (dx_at m c t r k)
  · refine (congrFun (congrArg Prod.fst (outsAt0_A m c t (by omega) h1)) _).trans ?_
    dsimp only
    exact (out8_A _ _ _ _ _ _ _ _ c _ _ _ _ _ _ _ _ _ _ _ _ _ _ _ _ _ _ _ _ _ _ _ _ _ _ _ r k).trans (dx_at m c t r k)

/-- The rows so far: the sum over the points up to this one. -/
theorem after_rows : ∀ (n : ℕ) (h : n < cfg0.N) (j : Fin 4) (k : Fin 1024),
    ((outsAt0 m c n h).2.2 : Vec Ideal S4x1024 .f32) (ix2 j k)
      = (∑ t : Fin (n + 1), ∑ r, termAt m c j k (tok (Fin.castLE h t) r) : EReal)
  | 0, h, j, k => by
    refine (congrFun (congrArg (fun p => p.2.2) (outsAt0_A m c ⟨0, h⟩ rfl (show ¬1 ≤ 0 by omega))) _).trans ?_
    dsimp only
    refine (out10_A _ _ _ _ _ _ _ _ c _ _ _ _ _ _ _ _ _ _ _ _ _ _ _ _ _ _ _ _ _ _ _ _ _ _ _ j k).trans ((rows_at m c ⟨0, h⟩ j k).trans ?_)
    exact (Fin.sum_univ_one (fun t : Fin 1 => ∑ r, termAt m c j k (tok (Fin.castLE h t) r))).symm
  | n + 1, h, j, k => by
    have h4 : n + 1 < 4 := h
    refine (congrFun (congrArg (fun p => p.2.2) (outsAt0_B m c ⟨n + 1, h⟩ (show ¬(n + 1) % 4 = 0 by omega) (show 1 ≤ n + 1 by omega))) _).trans ?_
    dsimp only
    refine (out10_B _ _ _ _ _ _ _ _ c _ _ _ _ _ _ _ _ _ _ _ _ _ _ _ _ _ _ _ _ _ _ _ _ _ _ _ _ j k).trans ?_
    rw [Fin.sum_univ_castSucc]
    exact congrArg₂ (fun a b : EReal => a + b) (after_rows n (Nat.lt_of_succ_lt h) j k) (rows_at m c ⟨n + 1, h⟩ j k)

/-- The tokens' gradient. -/
theorem array_dx (T : Fin 2048) (k : Fin 1024) : ((dats m 0 c).arrAt 8 cfg0.N : Vec Ideal S2048x1024 .f32) (ix2 T k) = dxAt m c T k := by
  refine (?_ : ∀ T' k', ix2 T k = ix2 T' k' → _ = dxAt m c T' k') T k rfl
  refine (dats m 0 c).arrAt_forall_of_covers 8 (fun i v => ∀ T k, i = ix2 T k → v = dxAt m c T k) (by decide +kernel)
    (fun t hf y T k e => ?_) (ix2 T k)
  blk_simp
  rw [after0_8]
  obtain ⟨-, -, -, -, -, -, -, ⟨h0, h1⟩, -⟩ := index t
  have e0 : win0_8.index t 0 * 512 + 1 * (y 0).val = T.val := congrArg Fin.val (congrFun e 0)
  have e1 : win0_8.index t 1 * 1024 + 1 * (y 1).val = k.val := congrArg Fin.val (congrFun e 1)
  rw [h0] at e0
  rw [h1, Nat.zero_mul, Nat.zero_add, Nat.one_mul] at e1
  rw [eq_ix2 y]
  have eT : tok t (y 0) = T := Fin.ext (by rw [← e0]; show 512 * t.val + (y 0).val = _; ring)
  have ek : (y 1 : Fin 1024) = k := Fin.ext e1
  exact (after_dx m c t (y 0) (y 1)).trans (by rw [eT, ek])

/-- The four summed rows. -/
theorem array_rows (j : Fin 4) (k : Fin 1024) :
    ((dats m 0 c).arrAt 10 cfg0.N : Vec Ideal S4x1024 .f32) (ix2 j k) = (∑ T, termAt m c j k T : EReal) := by
  refine (?_ : ∀ j' k', ix2 j k = ix2 j' k' → _ = (∑ T, termAt m c j' k' T : EReal)) j k rfl
  refine (dats m 0 c).arrAt_forall_of_covers 10 (fun i v => ∀ j k, i = ix2 j k → v = (∑ T, termAt m c j k T : EReal)) (by decide +kernel)
    (fun t hf y j k e => ?_) (ix2 j k)
  blk_simp
  rw [after0_10]
  have ht : t = ⟨3, by decide⟩ := (by decide +kernel : ∀ t : Fin cfg0.N, (cfg0.win 10).flush t = true → t = ⟨3, by decide⟩) t hf
  obtain ⟨-, -, -, -, -, -, -, -, ⟨h0, h1⟩⟩ := index t
  have e0 : win0_10.index t 0 * 4 + 1 * (y 0).val = j.val := congrArg Fin.val (congrFun e 0)
  have e1 : win0_10.index t 1 * 1024 + 1 * (y 1).val = k.val := congrArg Fin.val (congrFun e 1)
  rw [h0, Nat.zero_mul, Nat.zero_add, Nat.one_mul] at e0
  rw [h1, Nat.zero_mul, Nat.zero_add, Nat.one_mul] at e1
  rw [eq_ix2 y]
  have ej : (y 0 : Fin 4) = j := Fin.ext e0
  have ek : (y 1 : Fin 1024) = k := Fin.ext e1
  subst ht
  exact (after_rows m c 3 (by decide) (y 0) (y 1)).trans (by rw [ej, ek]; exact sum_tok _)

/-- The precondition read. -/
theorem finite_arguments (h : Cert.Pre_NormIKernelIdeal_finite_norm1 m) :
    (∀ i, ∃ r : ℝ, (m ((c : Thread nD τ).loc main_arg0) : FVec Ideal S2048x1024 .f32) i = (r : EReal))
    ∧ (∀ i, ∃ r : ℝ, (m ((c : Thread nD τ).loc main_arg1) : FVec Ideal S1024 .f32) i = (r : EReal))
    ∧ (∀ i, ∃ r : ℝ, (m ((c : Thread nD τ).loc main_arg3) : FVec Ideal S1024 .f32) i = (r : EReal))
    ∧ (∀ i, ∃ r : ℝ, wt m c i = (r : EReal)) ∧ (∀ i, ∃ r : ℝ, ct m c i = (r : EReal))
    ∧ (∀ i, ∃ r : ℝ, (m ((c : Thread nD τ).loc main_arg8) : FVec Ideal S2048x1024 .f32) i = (r : EReal)) := by
  have e := congrFun (h c) (fun d => d.elim0)
  obtain ⟨e, a8⟩ := Attn.and_one e
  obtain ⟨e, a7⟩ := Attn.and_one e
  obtain ⟨e, a6⟩ := Attn.and_one e
  obtain ⟨e, a5⟩ := Attn.and_one e
  obtain ⟨e, a4⟩ := Attn.and_one e
  obtain ⟨e, a3⟩ := Attn.and_one e
  obtain ⟨e, a2⟩ := Attn.and_one e
  obtain ⟨a0, a1⟩ := Attn.and_one e
  exact ⟨Attn.finite_of_all a0, Attn.finite_of_all a1, Attn.finite_of_all a3, Attn.finite_of_all a4, Attn.finite_of_all a7, Attn.finite_of_all a8⟩

theorem dh_real (h7 : ∀ i, ∃ r : ℝ, ct m c i = (r : EReal)) (h4 : ∀ i, ∃ r : ℝ, wt m c i = (r : EReal)) (T : Fin 2048) (k : Fin 1024) :
    ∃ r : ℝ, dh m c T k = r := by
  choose p hp using h7
  choose q hq using h4
  exact ⟨_, Attn.sum_real Finset.univ _ (fun n => p (ix2 T n) * q (ix2 k n)) fun n => by rw [hp, hq, EReal.coe_mul]⟩

theorem algebraic : Cert.algebraic_NormIKernelIdeal_NormIReferenceIdeal_pre_finite_norm1 := by
  intro m g m' g' hpre heq
  refine ⟨fun c => (dats m 0 c).arrAt 8 cfg0.N, fun c => (dats m 0 c).arrAt 10 cfg0.N, ?_, ?_⟩
  · refine (θ_run Cert.NormIKernelIdeal.defs _ _).mono (fun r h c => ?_) (Cert.NormIKernelIdeal.Value.run_blocks m g)
    obtain ⟨h8, -, h10, h⟩ := h c
    exact ⟨h8, h10, h⟩
  refine (θ_run Cert.NormIReferenceIdeal.defs _ _).mono (fun r h c => ?_) (Cert.NormIReferenceIdeal.Value.run m' g')
  obtain ⟨h8, h10, h⟩ := h c
  obtain ⟨e0, e1, e2, e3, e4, e5, e6, e7, e8⟩ := heq c
  refine ⟨h8.trans (funext fun i => ?_), h10.trans (funext fun i => ?_), h⟩
  · obtain ⟨T, k, rfl⟩ : ∃ T k, i = ix2 T k := ⟨_, _, eq_ix2 i⟩
    refine Eq.trans ?_ (array_dx m c T k).symm
    pointwise [Cert.NormIReferenceIdeal.Value.res_main_v68]
    rw [Fin.sum_univ_one, e0, e1, e3, e4, e7, e8]
    obtain ⟨f0, f1, f3, f4, f7, f8⟩ := finite_arguments m c hpre
    exact dx_eq (xs m c T) (dh m c T) (scl m c) (gain m c) (dres m c T k) (fun k => f0 _) (fun k => dh_real m c f7 f4 T k) (fun k => f3 _)
      (fun k => f1 _) (f8 _) k
  · obtain ⟨j, k, rfl⟩ : ∃ j k, i = ix2 j k := ⟨_, _, eq_ix2 i⟩
    rw [e0, e1, e3, e4, e6, e7, e8]
    refine Eq.trans ?_ (array_rows m c j k).symm
    pointwise []
    match j with
    | 0 =>
      rw [dif_pos (show (0 : Fin 4).val < 1 by decide), Fin.sum_univ_one]
      rfl
    | 1 =>
      rw [dif_neg (show ¬(1 : Fin 4).val < 1 by decide), dif_pos (show (1 : Fin 4).val - 1 < 1 by decide), Fin.sum_univ_one]
      exact Finset.sum_congr rfl fun T _ => mul_comm _ _
    | 2 =>
      rw [dif_neg (show ¬(2 : Fin 4).val < 1 by decide), dif_neg (show ¬(2 : Fin 4).val - 1 < 1 by decide),
        dif_pos (show (2 : Fin 4).val - 1 - 1 < 1 by decide), Fin.sum_univ_one]
      exact Finset.sum_congr rfl fun T _ => mul_comm _ _
    | 3 =>
      rw [dif_neg (show ¬(3 : Fin 4).val < 1 by decide), dif_neg (show ¬(3 : Fin 4).val - 1 < 1 by decide),
        dif_neg (show ¬(3 : Fin 4).val - 1 - 1 < 1 by decide), Fin.sum_univ_one]
      rfl

end Cert.NormI
-- ==== Proof.NormII.lean ====
module

public import proofs.«01_k».proof.Proof.FwdOut
public import proofs.«01_k».proof.Proof.NormGrad
public import proofs.«01_k».proof.Proof.Finite
public import proofs.«01_k».proof.Proof.Up
public import proofs.«01_k».proof.Proof.Gen.Pre_finite_norm2
public import proofs.«01_k».proof.Proof.Gen.NormIIKernelIdeal.Value
public import proofs.«01_k».proof.Proof.Gen.NormIIReferenceIdeal.Run
public import proofs.«01_k».proof.Defs
public import Idealize.ShloMosaic.Lib.Pipeline.ValueKit.Geometry

/-!
The second norm's backward call with the feed-forward part's token gradient: the tokens' gradient, its gated copy and four summed rows.
-/

@[expose] public section

set_option maxRecDepth 16384

noncomputable section

open Idealize.ShloMosaic Idealize.ShloMosaic.TcCoe Idealize.SL.Sem Cert.NormIIKernelIdeal Cert.NormIIKernelIdeal.Gen

namespace Cert.NormII

open Cert.NormGrad

section

variable (x0 : Vec Ideal S512x1024 .f32) (x1 : Vec Ideal S1x512x2816 .bf16) (x2 : Vec Ideal S2816x1024 .bf16) (x3 x4 : Vec Ideal S1x1024 .f32)
  (x5 x6 : Vec Ideal S512x1024 .f32) (x7 : Vec Ideal S1x1024 .f32) (xs0 : Vec Ideal S512x1024 .f32)

/-- Half a block's gradient of the feed-forward part's input: cotangents times the transposed weights. -/
def halfB (r : Fin 512) (k : Fin 1024) : EReal := ∑ n : Fin 2816, (x1 (ix3 (0 : Fin 1) r n) : EReal) * x2 (ix2 n k)

/-- The half carried and the half just computed. -/
def dhB (r : Fin 512) (k : Fin 1024) : EReal := (xs0 (ix2 r k) : EReal) + halfB x1 x2 r k

/-- A row of a block, and the one row of a vector. -/
abbrev rowB (r : Fin 512) (k : Fin 1024) : EReal := x0 (ix2 r k)
abbrev one1 (k : Fin 1024) : EReal := x3 (ix2 (0 : Fin 1) k)

theorem pay_half (r : Fin 512) (k : Fin 1024) : k0_pay2 x1 x2 (ix2 r k) = halfB x1 x2 r k := by
  pointwise [k0_pay2, k0_pay1]
  rfl

theorem pay_dh (r : Fin 512) (k : Fin 1024) : k0_pay3 x1 x2 xs0 (ix2 r k) = dhB x1 x2 xs0 r k := by
  pointwise [k0_pay3, k0_pay1]
  rfl

theorem pay_dx (r : Fin 512) (k : Fin 1024) :
    k0_pay4 (k0_pay12 x0) (k0_pay13 x0) (k0_pay15 (k0_pay3 x1 x2 xs0) x4 x3) x5 (k0_pay19 (k0_pay3 x1 x2 xs0) x0 x4 x3) (Scalar.ofBits .f32 0x44800000#32) (ix2 r k)
      = kernelDx (rowB x0 r) (dhB x1 x2 xs0 r) (one1 x4) (one1 x3) (x5 (ix2 r k)) k := by
  pointwise [k0_pay4, k0_pay12, k0_pay13, k0_pay15, k0_pay14, k0_pay19, k0_pay11, pay_dh]
  rfl

theorem pay_da (r : Fin 512) (k : Fin 1024) :
    k0_pay5 (k0_pay12 x0) (k0_pay13 x0) (k0_pay15 (k0_pay3 x1 x2 xs0) x4 x3) x5 (k0_pay19 (k0_pay3 x1 x2 xs0) x0 x4 x3) (Scalar.ofBits .f32 0x44800000#32) x7 (ix2 r k)
      = kernelDx (rowB x0 r) (dhB x1 x2 xs0 r) (one1 x4) (one1 x3) (x5 (ix2 r k)) k * one1 x7 k := by
  pointwise [k0_pay5]
  exact congrArg (fun a : EReal => a * one1 x7 k) (pay_dx x0 x1 x2 x3 x4 x5 xs0 r k)

/-- The block's share of the four rows. -/
def rowsB (i : Fin 4) (k : Fin 1024) : EReal :=
  ∑ r : Fin 512, term i (rowB x0 r) (dhB x1 x2 xs0 r) (one1 x4) (one1 x3) (x5 (ix2 r k)) (x6 (ix2 r k)) k

theorem pay_row0 (k : Fin 1024) : k0_pay16 (k0_pay3 x1 x2 xs0) (ix2 (0 : Fin 1) k) = rowsB x0 x1 x2 x3 x4 x5 x6 xs0 0 k := by
  pointwise [k0_pay16, pay_dh]
  rfl

theorem pay_row1 (k : Fin 1024) : k0_pay17 (k0_pay3 x1 x2 xs0) x0 x3 (ix2 (0 : Fin 1) k) = rowsB x0 x1 x2 x3 x4 x5 x6 xs0 1 k := by
  pointwise [k0_pay17, pay_dh, k0_pay13, k0_pay12, k0_pay11]
  rfl

theorem pay_row2 (k : Fin 1024) : k0_pay18 (k0_pay3 x1 x2 xs0) x0 x4 (ix2 (0 : Fin 1) k) = rowsB x0 x1 x2 x3 x4 x5 x6 xs0 2 k := by
  pointwise [k0_pay18, k0_pay14, pay_dh, k0_pay13, k0_pay12, k0_pay11]
  rfl

theorem pay_row3 (k : Fin 1024) : k0_pay6 x5 x6 (ix2 (0 : Fin 1) k) = rowsB x0 x1 x2 x3 x4 x5 x6 xs0 3 k := by
  pointwise [k0_pay6]
  rfl

/-- A read of the whole block. -/
theorem whole (x : Vec Ideal S512x1024 .f32) :
    (fun j => x ((Rect.unit (s := S512x1024) ![0, 0] S512x1024.size inb_S512x1024_S512x1024_0_0).idx j)) = x :=
  View.ld_unit_zero (S := S512x1024) Attn.hz _ x

section

variable (c : Dev nD) (i : grid0.Coords) (arg2 : Memref sig .tc .vmem S512x1024 .f32) (harg2 : arg2.IsWhole) (arg3 : Memref sig .tc .vmem S1x512x2816 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S4x1024 .f32) (harg12 : arg12.IsWhole) (arg13 : Memref sig .tc .vmem S512x1024 .f32) (harg13 : arg13.IsWhole)

theorem sout_A (hc0 : cond0_0 i) (hc1 : ¬cond0_1 i) (hc2 : ¬cond0_2 i) (r : Fin 512) (k : Fin 1024) :
    sout0_A_0 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 (ix2 r k)
      = halfB x1 x2 r k := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7)]
  unfold kernelRun0_A
  dsimp only
  sl_unfold_words
  rw [View.canon_unit_zero (S := S512x1024) Attn.hz]
  simp only [View.readAt_eq_ld, harg2.read_unread, harg3.read_unread, harg4.read_unread, harg5.read_unread, harg6.read_unread, harg7.read_unread,
    harg8.read_unread, harg9.read_unread, harg13.read_unread, View.readCov_eq_canon', View.canon_unit_zero (S := S512x1024) Attn.hz,
    View.ld_unit_zero (S := S512x1024) Attn.hz, View.ld_unit_zero (S := S1x512x2816) Up.hz3, View.ld_unit_zero (S := S2816x1024) Attn.hz, View.ld_unit_zero (S := S1x1024) Attn.hz]
  exact pay_half x1 x2 r k

theorem out8_B (hc0 : ¬cond0_0 i) (hc1 : cond0_1 i) (hc2 : cond0_2 i) (hc3 : cond0_3 i) (hc4 : ¬cond0_4 i) (r : Fin 512) (k : Fin 1024) :
    out0_B_8 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x7 xs0 (ix2 r k)
      = kernelDx (rowB x0 r) (dhB x1 x2 xs0 r) (one1 x4) (one1 x3) (x5 (ix2 r k)) k := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x7 xs0)]
  unfold kernelRun0_B
  dsimp only
  sl_unfold_words
  rw [View.canon_unit_zero (S := S512x1024) Attn.hz]
  simp only [View.readAt_eq_ld, harg2.read_unread, harg3.read_unread, harg4.read_unread, harg5.read_unread, harg6.read_unread, harg7.read_unread,
    harg8.read_unread, harg9.read_unread, harg13.read_unread, View.readCov_eq_canon', View.canon_unit_zero (S := S512x1024) Attn.hz,
    View.ld_unit_zero (S := S512x1024) Attn.hz, View.ld_unit_zero (S := S1x512x2816) Up.hz3, View.ld_unit_zero (S := S2816x1024) Attn.hz, View.ld_unit_zero (S := S1x1024) Attn.hz]
  rw [whole]
  exact pay_dx x0 x1 x2 x3 x4 x5 xs0 r k

theorem out9_B (hc0 : ¬cond0_0 i) (hc1 : cond0_1 i) (hc2 : cond0_2 i) (hc3 : cond0_3 i) (hc4 : ¬cond0_4 i) (r : Fin 512) (k : Fin 1024) :
    out0_B_9 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x7 xs0 (ix2 r k)
      = kernelDx (rowB x0 r) (dhB x1 x2 xs0 r) (one1 x4) (one1 x3) (x5 (ix2 r k)) k * one1 x7 k := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x7 xs0)]
  unfold kernelRun0_B
  dsimp only
  sl_unfold_words
  rw [View.canon_unit_zero (S := S512x1024) Attn.hz]
  simp only [View.readAt_eq_ld, harg2.read_unread, harg3.read_unread, harg4.read_unread, harg5.read_unread, harg6.read_unread, harg7.read_unread,
    harg8.read_unread, harg9.read_unread, harg13.read_unread, View.readCov_eq_canon', View.canon_unit_zero (S := S512x1024) Attn.hz,
    View.ld_unit_zero (S := S512x1024) Attn.hz, View.ld_unit_zero (S := S1x512x2816) Up.hz3, View.ld_unit_zero (S := S2816x1024) Attn.hz, View.ld_unit_zero (S := S1x1024) Attn.hz]
  rw [whole]
  exact pay_da x0 x1 x2 x3 x4 x5 x7 xs0 r k

theorem out8_C (hc0 : ¬cond0_0 i) (hc1 : cond0_1 i) (hc2 : cond0_2 i) (hc3 : ¬cond0_3 i) (hc4 : cond0_4 i) (xo : Vec Ideal S4x1024 .f32) (r : Fin 512) (k : Fin 1024) :
    out0_C_8 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x7 xo xs0 (ix2 r k)
      = kernelDx (rowB x0 r) (dhB x1 x2 xs0 r) (one1 x4) (one1 x3) (x5 (ix2 r k)) k := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x7 xo xs0)]
  unfold kernelRun0_C
  dsimp only
  sl_unfold_words
  rw [View.canon_unit_zero (S := S512x1024) Attn.hz]
  simp only [View.readAt_eq_ld, harg2.read_unread, harg3.read_unread, harg4.read_unread, harg5.read_unread, harg6.read_unread, harg7.read_unread,
    harg8.read_unread, harg9.read_unread, harg13.read_unread, View.readCov_eq_canon', View.canon_unit_zero (S := S512x1024) Attn.hz,
    View.ld_unit_zero (S := S512x1024) Attn.hz, View.ld_unit_zero (S := S1x512x2816) Up.hz3, View.ld_unit_zero (S := S2816x1024) Attn.hz, View.ld_unit_zero (S := S1x1024) Attn.hz]
  rw [whole]
  exact pay_dx x0 x1 x2 x3 x4 x5 xs0 r k

theorem out9_C (hc0 : ¬cond0_0 i) (hc1 : cond0_1 i) (hc2 : cond0_2 i) (hc3 : ¬cond0_3 i) (hc4 : cond0_4 i) (xo : Vec Ideal S4x1024 .f32) (r : Fin 512) (k : Fin 1024) :
    out0_C_9 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x7 xo xs0 (ix2 r k)
      = kernelDx (rowB x0 r) (dhB x1 x2 xs0 r) (one1 x4) (one1 x3) (x5 (ix2 r k)) k * one1 x7 k := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x7 xo xs0)]
  unfold kernelRun0_C
  dsimp only
  sl_unfold_words
  rw [View.canon_unit_zero (S := S512x1024) Attn.hz]
  simp only [View.readAt_eq_ld, harg2.read_unread, harg3.read_unread, harg4.read_unread, harg5.read_unread, harg6.read_unread, harg7.read_unread,
    harg8.read_unread, harg9.read_unread, harg13.read_unread, View.readCov_eq_canon', View.canon_unit_zero (S := S512x1024) Attn.hz,
    View.ld_unit_zero (S := S512x1024) Attn.hz, View.ld_unit_zero (S := S1x512x2816) Up.hz3, View.ld_unit_zero (S := S2816x1024) Attn.hz, View.ld_unit_zero (S := S1x1024) Attn.hz]
  rw [whole]
  exact pay_da x0 x1 x2 x3 x4 x5 x7 xs0 r k

theorem out10_B (hc0 : ¬cond0_0 i) (hc1 : cond0_1 i) (hc2 : cond0_2 i) (hc3 : cond0_3 i) (hc4 : ¬cond0_4 i) (j : Fin 4) (k : Fin 1024) :
    out0_B_10 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x7 xs0 (ix2 j k)
      = rowsB x0 x1 x2 x3 x4 x5 x6 xs0 j k := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x7 xs0)]
  unfold kernelRun0_B
  dsimp only
  sl_unfold_words
  simp only [View.readAt_eq_ld, harg2.read_unread, harg3.read_unread, harg4.read_unread, harg5.read_unread, harg6.read_unread, harg7.read_unread,
    harg8.read_unread, harg9.read_unread, harg13.read_unread, View.readCov_eq_canon', View.canon_unit_zero (S := S512x1024) Attn.hz,
    View.ld_unit_zero (S := S512x1024) Attn.hz, View.ld_unit_zero (S := S1x512x2816) Up.hz3, View.ld_unit_zero (S := S2816x1024) Attn.hz, View.ld_unit_zero (S := S1x1024) Attn.hz]
  rw [whole]
  exact canon_rows _ _ _ _ _ _ _ _ _ (rowsB x0 x1 x2 x3 x4 x5 x6 xs0) (pay_row0 x0 x1 x2 x3 x4 x5 x6 xs0) (pay_row1 x0 x1 x2 x3 x4 x5 x6 xs0)
    (pay_row2 x0 x1 x2 x3 x4 x5 x6 xs0) (pay_row3 x0 x1 x2 x3 x4 x5 x6 xs0) j k

theorem out10_C (hc0 : ¬cond0_0 i) (hc1 : cond0_1 i) (hc2 : cond0_2 i) (hc3 : ¬cond0_3 i) (hc4 : cond0_4 i) (xo : Vec Ideal S4x1024 .f32) (j : Fin 4) (k : Fin 1024) :
    out0_C_10 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x7 xo xs0 (ix2 j k)
      = (xo (ix2 j k) : EReal) + rowsB x0 x1 x2 x3 x4 x5 x6 xs0 j k := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x7 xo xs0)]
  unfold kernelRun0_C
  dsimp only
  sl_unfold_words
  simp only [View.readAt_eq_ld, harg2.read_unread, harg3.read_unread, harg4.read_unread, harg5.read_unread, harg6.read_unread, harg7.read_unread,
    harg8.read_unread, harg9.read_unread, harg12.read_unread, harg13.read_unread, View.readCov_eq_canon', View.canon_unit_zero (S := S512x1024) Attn.hz,
    View.ld_unit_zero (S := S512x1024) Attn.hz, View.ld_unit_zero (S := S1x512x2816) Up.hz3, View.ld_unit_zero (S := S2816x1024) Attn.hz, View.ld_unit_zero (S := S1x1024) Attn.hz]
  rw [whole]
  refine canon_rows _ _ _ _ _ _ _ _ _ (fun j k => (xo (ix2 j k) : EReal) + rowsB x0 x1 x2 x3 x4 x5 x6 xs0 j k) (fun k => ?_) (fun k => ?_)
    (fun k => ?_) (fun k => ?_) j k
  · rw [← pay_row0 x0 x1 x2 x3 x4 x5 x6 xs0 k, ← ld_row xo 0 0 rfl inb_S4x1024_S1x1024_0_0 k]; pointwise [k0_pay7]
  · rw [← pay_row1 x0 x1 x2 x3 x4 x5 x6 xs0 k, ← ld_row xo 1 1 rfl inb_S4x1024_S1x1024_1_0 k]; pointwise [k0_pay8]
  · rw [← pay_row2 x0 x1 x2 x3 x4 x5 x6 xs0 k, ← ld_row xo 2 2 rfl inb_S4x1024_S1x1024_2_0 k]; pointwise [k0_pay9]
  · rw [← pay_row3 x0 x1 x2 x3 x4 x5 x6 xs0 k, ← ld_row xo 3 3 rfl inb_S4x1024_S1x1024_3_0 k]; pointwise [k0_pay10]

end

end

variable (m : (ℓ : Loc nD τ sig) → Buf (Elt Ideal) ℓ) (c : Dev nD)

/-- The arguments read: gates, cotangents of the product, weights, gain, scale, the residual's cotangent, the gated output. -/
abbrev gate (k : Fin 1024) : EReal := (m ((c : Thread nD τ).loc main_arg2) : FVec Ideal S1024 .f32) (ix1 k)
abbrev ct : FVec Ideal S2x2048x2816 .f32 := m ((c : Thread nD τ).loc main_arg9)
abbrev wt : FVec Ideal S1024x5632 .f32 := m ((c : Thread nD τ).loc main_arg6)
abbrev gain (k : Fin 1024) : EReal := (m ((c : Thread nD τ).loc main_arg3) : FVec Ideal S1024 .f32) (ix1 k)
abbrev scl (k : Fin 1024) : EReal := (m ((c : Thread nD τ).loc main_arg5) : FVec Ideal S1024 .f32) (ix1 k)
abbrev dres (T : Fin 2048) (k : Fin 1024) : EReal := (m ((c : Thread nD τ).loc main_arg10) : FVec Ideal S2048x1024 .f32) (ix2 T k)
abbrev gsrc (T : Fin 2048) (k : Fin 1024) : EReal := (m ((c : Thread nD τ).loc main_arg8) : FVec Ideal S2048x1024 .f32) (ix2 T k)

/-- The tokens after the attention. -/
abbrev xIn (T : Fin 2048) (k : Fin 1024) : EReal := (m ((c : Thread nD τ).loc main_arg0) : FVec Ideal S2048x1024 .f32) (ix2 T k)
abbrev attn (T : Fin 2048) (k : Fin 1024) : EReal := (m ((c : Thread nD τ).loc main_arg1) : FVec Ideal S2048x1024 .f32) (ix2 T k)
abbrev xs (T : Fin 2048) (k : Fin 1024) : EReal := xIn m c T k + gate m c k * attn m c T k

/-- The gradient of the product's input: one half of the columns after the other. -/
def half (s : Fin 2) (T : Fin 2048) (k : Fin 1024) : EReal := ∑ n : Fin 2816, (ct m c (ix3 s T n) : EReal) * wt m c (ix2 k (Up.col s n))
def dh (T : Fin 2048) (k : Fin 1024) : EReal :=
  ∑ n : Fin 2816, (ct m c (ix3 0 T n) : EReal) * wt m c (ix2 k ⟨n.val, by omega⟩)
    + ∑ n : Fin 2816, (ct m c (ix3 1 T n) : EReal) * wt m c (ix2 k ⟨2816 + n.val, by omega⟩)

theorem dh_eq (T : Fin 2048) (k : Fin 1024) : half m c 0 T k + half m c 1 T k = dh m c T k :=
  congrArg₂ (fun a b : EReal => a + b)
    (Finset.sum_congr rfl fun n _ => congrArg (fun j => (ct m c (ix3 0 T n) : EReal) * wt m c (ix2 k j))
      (Fin.ext (show 2816 * 0 + n.val = n.val by omega)))
    (Finset.sum_congr rfl fun n _ => congrArg (fun j => (ct m c (ix3 1 T n) : EReal) * wt m c (ix2 k j))
      (Fin.ext (show 2816 * 1 + n.val = 2816 + n.val by omega)))

theorem index : ∀ t : Fin grid0.N,
    (win0_0.index t 0 = t.val / 2 ∧ win0_0.index t 1 = 0) ∧ (win0_1.index t 0 = t.val % 2 ∧ win0_1.index t 1 = t.val / 2 ∧ win0_1.index t 2 = 0)
      ∧ (win0_2.index t 0 = t.val % 2 ∧ win0_2.index t 1 = 0) ∧ (win0_3.index t 0 = 0 ∧ win0_3.index t 1 = 0)
      ∧ (win0_4.index t 0 = 0 ∧ win0_4.index t 1 = 0) ∧ (win0_5.index t 0 = t.val / 2 ∧ win0_5.index t 1 = 0)
      ∧ (win0_6.index t 0 = t.val / 2 ∧ win0_6.index t 1 = 0) ∧ (win0_7.index t 0 = 0 ∧ win0_7.index t 1 = 0)
      ∧ (win0_8.index t 0 = t.val / 2 ∧ win0_8.index t 1 = 0) ∧ (win0_9.index t 0 = t.val / 2 ∧ win0_9.index t 1 = 0)
      ∧ (win0_10.index t 0 = 0 ∧ win0_10.index t 1 = 0) := by
  decide +kernel

/-- The tokens after the attention, as the call is given them. -/
def xV : FVec Ideal S2048x1024 .f32 :=
  addf (F := Ideal) (m ((c : Thread nD τ).loc main_arg0) : FVec Ideal S2048x1024 .f32)
    (mulf (F := Ideal) (broadcastInDim S2048x1024 ![0, 1] bcast_S1x1024_S2048x1024_0_1
      (broadcastInDim S1x1024 ![1] bcast_S1024_S1x1024_1 (m ((c : Thread nD τ).loc main_arg2) : FVec Ideal S1024 .f32) : FVec Ideal S1x1024 .f32))
      (m ((c : Thread nD τ).loc main_arg1) : FVec Ideal S2048x1024 .f32))

theorem operand_x : (V m c (Pipeline.arrRef spec0 0) : FVec Ideal S2048x1024 .f32) = xV m c := by
  after_results_simp; rfl

theorem operand_ct : (V m c (Pipeline.arrRef spec0 1) : FVec Ideal S2x2048x2816 .bf16) = truncf (F := Ideal) .bf16 (ct m c) bitsLt_bf16_f32 := by
  after_results_simp; rfl

theorem operand_wt : (V m c (Pipeline.arrRef spec0 2) : FVec Ideal S5632x1024 .bf16)
    = truncf (F := Ideal) .bf16 (transpose S5632x1024 [1, 0] (wt m c) transposes_S1024x5632_S5632x1024_1_0) bitsLt_bf16_f32 := by
  after_results_simp; rfl

theorem operand_gain : (V m c (Pipeline.arrRef spec0 3) : FVec Ideal S1x1024 .f32)
    = broadcastInDim S1x1024 ![1] bcast_S1024_S1x1024_1 (m ((c : Thread nD τ).loc main_arg3) : FVec Ideal S1024 .f32) := by
  after_results_simp; rfl

theorem operand_scl : (V m c (Pipeline.arrRef spec0 4) : FVec Ideal S1x1024 .f32)
    = broadcastInDim S1x1024 ![1] bcast_S1024_S1x1024_1 (m ((c : Thread nD τ).loc main_arg5) : FVec Ideal S1024 .f32) := by
  after_results_simp; rfl

theorem operand_gate : (V m c (Pipeline.arrRef spec0 7) : FVec Ideal S1x1024 .f32)
    = broadcastInDim S1x1024 ![1] bcast_S1024_S1x1024_1 (m ((c : Thread nD τ).loc main_arg2) : FVec Ideal S1024 .f32) := by
  after_results_simp; rfl

theorem row_at (x : FVec Ideal S1024 .f32) (k : Fin 1024) : (broadcastInDim S1x1024 ![1] bcast_S1024_S1x1024_1 x) (ix2 (0 : Fin 1) k) = x (ix1 k) := by
  pointwise []

theorem x_at (T : Fin 2048) (k : Fin 1024) : (V m c (Pipeline.arrRef spec0 0) : FVec Ideal S2048x1024 .f32) (ix2 T k) = xs m c T k := by
  rw [operand_x]; pointwise [xV]

theorem wt_at (n : Fin 5632) (k : Fin 1024) : (V m c (Pipeline.arrRef spec0 2) : FVec Ideal S5632x1024 .bf16) (ix2 n k) = wt m c (ix2 k n) := by
  rw [operand_wt]; pointwise []

/-- Row `r` of block `b`, and the two points of a block. -/
def tok (b : Fin 4) (r : Fin 512) : Fin 2048 := ⟨512 * b.val + r.val, by omega⟩
def blk (t : Fin cfg0.N) : Fin 4 := ⟨t.val / 2, by have h : t.val < 8 := t.isLt; omega⟩

theorem sum_tok (f : Fin 2048 → EReal) : ∑ b, ∑ r, f (tok b r) = ∑ T, f T := by
  rw [← Fintype.sum_prod_type' (fun b r => f (tok b r))]
  refine Fintype.sum_equiv (finProdFinEquiv (m := 4) (n := 512)) _ _ fun p => congrArg f (Fin.ext ?_)
  show 512 * p.1.val + p.2.val = p.2.val + 512 * p.1.val
  omega

theorem read_x (t : Fin cfg0.N) (r : Fin 512) : rowB (iblk m c 0 t) r = xs m c (tok (blk t) r) := funext fun k => by
  obtain ⟨⟨h0, h1⟩, -⟩ := index t
  refine Eq.trans ?_ (x_at m c (tok (blk t) r) k)
  unfold iblk rowB
  rw [View.read_apply]
  refine congrArg (V m c (Pipeline.arrRef spec0 0) : FVec Ideal S2048x1024 .f32) (funext fun a => Fin.ext ?_)
  match a with
  | ⟨0, _⟩ => show win0_0.index t 0 * 512 + 1 * r.val = 512 * (t.val / 2) + r.val; rw [h0]; ring
  | ⟨1, _⟩ => show win0_0.index t 1 * 1024 + 1 * k.val = k.val; rw [h1, Nat.zero_mul, Nat.zero_add, Nat.one_mul]

theorem read_dres (t : Fin cfg0.N) (r : Fin 512) (k : Fin 1024) : (iblk m c 5 t : Vec Ideal S512x1024 .f32) (ix2 r k) = dres m c (tok (blk t) r) k := by
  obtain ⟨-, -, -, -, -, ⟨h0, h1⟩, -⟩ := index t
  unfold iblk
  rw [View.read_apply]
  refine congrArg (m ((c : Thread nD τ).loc main_arg10) : FVec Ideal S2048x1024 .f32) (funext fun a => Fin.ext ?_)
  match a with
  | ⟨0, _⟩ => show win0_5.index t 0 * 512 + 1 * r.val = 512 * (t.val / 2) + r.val; rw [h0]; ring
  | ⟨1, _⟩ => show win0_5.index t 1 * 1024 + 1 * k.val = k.val; rw [h1, Nat.zero_mul, Nat.zero_add, Nat.one_mul]

theorem read_gsrc (t : Fin cfg0.N) (r : Fin 512) (k : Fin 1024) : (iblk m c 6 t : Vec Ideal S512x1024 .f32) (ix2 r k) = gsrc m c (tok (blk t) r) k := by
  obtain ⟨-, -, -, -, -, -, ⟨h0, h1⟩, -⟩ := index t
  unfold iblk
  rw [View.read_apply]
  refine congrArg (m ((c : Thread nD τ).loc main_arg8) : FVec Ideal S2048x1024 .f32) (funext fun a => Fin.ext ?_)
  match a with
  | ⟨0, _⟩ => show win0_6.index t 0 * 512 + 1 * r.val = 512 * (t.val / 2) + r.val; rw [h0]; ring
  | ⟨1, _⟩ => show win0_6.index t 1 * 1024 + 1 * k.val = k.val; rw [h1, Nat.zero_mul, Nat.zero_add, Nat.one_mul]

theorem read_ct (A : FVec Ideal S2x2048x2816 .bf16) (t : Fin cfg0.N) (s : Fin 2) (hs : t.val % 2 = s.val) (r : Fin 512) (n : Fin 2816) :
    (((cfg0.win 1).blk t).view.read (Elt Ideal) A : Vec Ideal S1x512x2816 .bf16) (ix3 (0 : Fin 1) r n) = A (ix3 s (tok (blk t) r) n) := by
  obtain ⟨-, ⟨h0, h1, h2⟩, -⟩ := index t
  rw [View.read_apply]
  refine congrArg A (funext fun a => Fin.ext ?_)
  match a with
  | ⟨0, _⟩ => show win0_1.index t 0 * 1 + 1 * 0 = s.val; rw [h0, hs]; ring
  | ⟨1, _⟩ => show win0_1.index t 1 * 512 + 1 * r.val = 512 * (t.val / 2) + r.val; rw [h1]; ring
  | ⟨2, _⟩ => show win0_1.index t 2 * 2816 + 1 * n.val = n.val; rw [h2, Nat.zero_mul, Nat.zero_add, Nat.one_mul]

theorem read_wt (A : FVec Ideal S5632x1024 .bf16) (t : Fin cfg0.N) (s : Fin 2) (hs : t.val % 2 = s.val) (n : Fin 2816) (k : Fin 1024) :
    (((cfg0.win 2).blk t).view.read (Elt Ideal) A : Vec Ideal S2816x1024 .bf16) (ix2 n k) = A (ix2 (Up.col s n) k) := by
  obtain ⟨-, -, ⟨h0, h1⟩, -⟩ := index t
  rw [View.read_apply]
  refine congrArg A (funext fun a => Fin.ext ?_)
  match a with
  | ⟨0, _⟩ => show win0_2.index t 0 * 2816 + 1 * n.val = 2816 * s.val + n.val; rw [h0, hs]; ring
  | ⟨1, _⟩ => show win0_2.index t 1 * 1024 + 1 * k.val = k.val; rw [h1, Nat.zero_mul, Nat.zero_add, Nat.one_mul]

theorem read_row3 (A : FVec Ideal S1x1024 .f32) (t : Fin cfg0.N) (k : Fin 1024) :
    (((cfg0.win 3).blk t).view.read (Elt Ideal) A : Vec Ideal S1x1024 .f32) (ix2 (0 : Fin 1) k) = A (ix2 (0 : Fin 1) k) := by
  obtain ⟨-, -, -, ⟨h0, h1⟩, -⟩ := index t
  rw [View.read_apply]
  refine congrArg A (funext fun a => Fin.ext ?_)
  match a with
  | ⟨0, _⟩ => show win0_3.index t 0 * 1 + 1 * 0 = 0; rw [h0]
  | ⟨1, _⟩ => show win0_3.index t 1 * 1024 + 1 * k.val = k.val; rw [h1, Nat.zero_mul, Nat.zero_add, Nat.one_mul]

theorem read_row4 (A : FVec Ideal S1x1024 .f32) (t : Fin cfg0.N) (k : Fin 1024) :
    (((cfg0.win 4).blk t).view.read (Elt Ideal) A : Vec Ideal S1x1024 .f32) (ix2 (0 : Fin 1) k) = A (ix2 (0 : Fin 1) k) := by
  obtain ⟨-, -, -, -, ⟨h0, h1⟩, -⟩ := index t
  rw [View.read_apply]
  refine congrArg A (funext fun a => Fin.ext ?_)
  match a with
  | ⟨0, _⟩ => show win0_4.index t 0 * 1 + 1 * 0 = 0; rw [h0]
  | ⟨1, _⟩ => show win0_4.index t 1 * 1024 + 1 * k.val = k.val; rw [h1, Nat.zero_mul, Nat.zero_add, Nat.one_mul]

theorem read_row7 (A : FVec Ideal S1x1024 .f32) (t : Fin cfg0.N) (k : Fin 1024) :
    (((cfg0.win 7).blk t).view.read (Elt Ideal) A : Vec Ideal S1x1024 .f32) (ix2 (0 : Fin 1) k) = A (ix2 (0 : Fin 1) k) := by
  obtain ⟨-, -, -, -, -, -, -, ⟨h0, h1⟩, -⟩ := index t
  rw [View.read_apply]
  refine congrArg A (funext fun a => Fin.ext ?_)
  match a with
  | ⟨0, _⟩ => show win0_7.index t 0 * 1 + 1 * 0 = 0; rw [h0]
  | ⟨1, _⟩ => show win0_7.index t 1 * 1024 + 1 * k.val = k.val; rw [h1, Nat.zero_mul, Nat.zero_add, Nat.one_mul]

theorem read_gain (t : Fin cfg0.N) : one1 (iblk m c 3 t) = gain m c := funext fun k =>
  (read_row3 _ t k).trans ((congrFun (operand_gain m c) _).trans (row_at _ k))

theorem read_scl (t : Fin cfg0.N) : one1 (iblk m c 4 t) = scl m c := funext fun k =>
  (read_row4 _ t k).trans ((congrFun (operand_scl m c) _).trans (row_at _ k))

theorem read_gate (t : Fin cfg0.N) : one1 (iblk m c 7 t) = gate m c := funext fun k =>
  (read_row7 _ t k).trans ((congrFun (operand_gate m c) _).trans (row_at _ k))

theorem read_half (t : Fin cfg0.N) (s : Fin 2) (hs : t.val % 2 = s.val) (r : Fin 512) (k : Fin 1024) :
    halfB (iblk m c 1 t) (iblk m c 2 t) r k = half m c s (tok (blk t) r) k :=
  Finset.sum_congr rfl fun n _ => congrArg₂ (fun a b : EReal => a * b) ((read_ct _ t s hs r n).trans (congrFun (operand_ct m c) _))
    ((read_wt _ t s hs n k).trans (wt_at m c _ k))

/-- The first half, carried to the block's second point. -/
theorem after_half (t : Fin cfg0.N) (h0 : t.val % 2 = 0) (r : Fin 512) (k : Fin 1024) :
    ((outsAt0 m c t.val t.isLt).2.2.2 : Vec Ideal S512x1024 .f32) (ix2 r k) = half m c 0 (tok (blk t) r) k := by
  refine (congrFun (congrArg (fun p => p.2.2.2) (outsAt0_A m c t h0 (by omega) (by omega))) _).trans ?_
  dsimp only
  exact (sout_A _ _ _ _ _ _ _ _ c _ _ _ _ _ _ _ _ _ _ _ _ _ _ _ _ _ _ _ _ _ _ _ _ _ _ _ _ r k).trans (read_half m c t 0 h0 r k)

theorem read_dh (t : Fin cfg0.N) (h1 : t.val % 2 = 1) (r : Fin 512) :
    dhB (iblk m c 1 t) (iblk m c 2 t) (outsAt0 m c (t.val - 1) (Nat.lt_of_le_of_lt (Nat.sub_le _ _) t.isLt)).2.2.2 r = dh m c (tok (blk t) r) := funext fun k => by
  have e : blk ⟨t.val - 1, Nat.lt_of_le_of_lt (Nat.sub_le _ _) t.isLt⟩ = blk t := Fin.ext (by show (t.val - 1) / 2 = t.val / 2; omega)
  refine (congrArg₂ (fun a b : EReal => a + b) ?_ (read_half m c t 1 h1 r k)).trans (dh_eq m c _ k)
  refine (after_half m c ⟨t.val - 1, Nat.lt_of_le_of_lt (Nat.sub_le _ _) t.isLt⟩ (show (t.val - 1) % 2 = 0 by omega) r k).trans ?_
  rw [e]

/-- A token's gradient, and its terms of the four rows. -/
abbrev dxAt (T : Fin 2048) (k : Fin 1024) : EReal := kernelDx (xs m c T) (dh m c T) (scl m c) (gain m c) (dres m c T k) k
abbrev termAt (j : Fin 4) (k : Fin 1024) (T : Fin 2048) : EReal :=
  term j (xs m c T) (dh m c T) (scl m c) (gain m c) (dres m c T k) (gsrc m c T k) k

theorem rows_at (t : Fin cfg0.N) (h1 : t.val % 2 = 1) (j : Fin 4) (k : Fin 1024) :
    rowsB (iblk m c 0 t) (iblk m c 1 t) (iblk m c 2 t) (iblk m c 3 t) (iblk m c 4 t) (iblk m c 5 t) (iblk m c 6 t)
        (outsAt0 m c (t.val - 1) (Nat.lt_of_le_of_lt (Nat.sub_le _ _) t.isLt)).2.2.2 j k
      = ∑ r, termAt m c j k (tok (blk t) r) :=
  Finset.sum_congr rfl fun r _ => by rw [read_x, read_dh m c t h1, read_scl, read_gain, read_dres, read_gsrc]

theorem dx_at (t : Fin cfg0.N) (h1 : t.val % 2 = 1) (r : Fin 512) (k : Fin 1024) :
    kernelDx (rowB (iblk m c 0 t) r)
        (dhB (iblk m c 1 t) (iblk m c 2 t) (outsAt0 m c (t.val - 1) (Nat.lt_of_le_of_lt (Nat.sub_le _ _) t.isLt)).2.2.2 r) (one1 (iblk m c 4 t)) (one1 (iblk m c 3 t))
      ((iblk m c 5 t : Vec Ideal S512x1024 .f32) (ix2 r k)) k = dxAt m c (tok (blk t) r) k := by
  rw [read_x, read_dh m c t h1, read_scl, read_gain, read_dres]

theorem lt8 (t : Fin cfg0.N) : t.val < 8 := t.isLt

theorem after_dx (t : Fin cfg0.N) (h1 : t.val % 2 = 1) (r : Fin 512) (k : Fin 1024) :
    ((outsAt0 m c t.val t.isLt).1 : Vec Ideal S512x1024 .f32) (ix2 r k) = dxAt m c (tok (blk t) r) k := by
  by_cases h : 2 ≤ t.val
  · refine (congrFun (congrArg Prod.fst (outsAt0_C m c t (by omega) h1 h1 (by omega) h)) _).trans ?_
    dsimp only
    exact (out8_C _ _ _ _ _ _ _ _ _ c _ _ _ _ _ _ _ _ _ _ _ _ _ _ _ _ _ _ _ _ _ _ _ _ _ _ _ _ _ _ _ r k).trans (dx_at m c t h1 r k)
  · refine (congrFun (congrArg Prod.fst (outsAt0_B m c t (by omega) h1 h1 (by omega) h)) _).trans ?_
    dsimp only
    exact (out8_B _ _ _ _ _ _ _ _ _ c _ _ _ _ _ _ _ _ _ _ _ _ _ _ _ _ _ _ _ _ _ _ _ _ _ _ _ _ _ _ r k).trans (dx_at m c t h1 r k)

theorem after_da (t : Fin cfg0.N) (h1 : t.val % 2 = 1) (r : Fin 512) (k : Fin 1024) :
    ((outsAt0 m c t.val t.isLt).2.1 : Vec Ideal S512x1024 .bf16) (ix2 r k) = (dxAt m c (tok (blk t) r) k * gate m c k : EReal) := by
  by_cases h : 2 ≤ t.val
  · refine (congrFun (congrArg (fun p => p.2.1) (outsAt0_C m c t (by omega) h1 h1 (by omega) h)) _).trans ?_
    dsimp only
    exact (out9_C _ _ _ _ _ _ _ _ _ c _ _ _ _ _ _ _ _ _ _ _ _ _ _ _ _ _ _ _ _ _ _ _ _ _ _ _ _ _ _ _ r k).trans (by rw [dx_at m c t h1 r k, read_gate])
  · refine (congrFun (congrArg (fun p => p.2.1) (outsAt0_B m c t (by omega) h1 h1 (by omega) h)) _).trans ?_
    dsimp only
    exact (out9_B _ _ _ _ _ _ _ _ _ c _ _ _ _ _ _ _ _ _ _ _ _ _ _ _ _ _ _ _ _ _ _ _ _ _ _ _ _ _ _ r k).trans (by rw [dx_at m c t h1 r k, read_gate])

/-- The rows so far: the sum over the blocks up to this one. -/
theorem after_rows : ∀ (n : ℕ) (hn : n + 1 ≤ 4) (h : 2 * n + 1 < cfg0.N) (j : Fin 4) (k : Fin 1024),
    ((outsAt0 m c (2 * n + 1) h).2.2.1 : Vec Ideal S4x1024 .f32) (ix2 j k)
      = (∑ b : Fin (n + 1), ∑ r, termAt m c j k (tok (Fin.castLE hn b) r) : EReal)
  | 0, hn, h, j, k => by
    refine (congrFun (congrArg (fun p => p.2.2.1) (outsAt0_B m c ⟨1, h⟩ (by decide : ¬1 % 2 = 0) rfl rfl (show 1 < 2 by omega) (show ¬2 ≤ 1 by omega))) _).trans ?_
    dsimp only
    refine (out10_B _ _ _ _ _ _ _ _ _ c _ _ _ _ _ _ _ _ _ _ _ _ _ _ _ _ _ _ _ _ _ _ _ _ _ _ _ _ _ _ j k).trans ((rows_at m c ⟨1, h⟩ rfl j k).trans ?_)
    have hb : blk ⟨1, h⟩ = Fin.castLE hn 0 := Fin.ext (show 1 / 2 = 0 by decide)
    rw [hb]
    exact (Fin.sum_univ_one (fun b : Fin 1 => ∑ r, termAt m c j k (tok (Fin.castLE hn b) r))).symm
  | n + 1, hn, h, j, k => by
    have h1 : (2 * (n + 1) + 1) % 2 = 1 := by omega
    have h' : 2 * n + 2 < cfg0.N := Nat.lt_of_succ_lt h
    refine (congrFun (congrArg (fun p => p.2.2.1) (outsAt0_C m c ⟨2 * (n + 1) + 1, h⟩ (show ¬(2 * (n + 1) + 1) % 2 = 0 by omega) h1 h1
      (show ¬2 * (n + 1) + 1 < 2 by omega) (show 2 ≤ 2 * (n + 1) + 1 by omega))) _).trans ?_
    dsimp only
    refine (out10_C _ _ _ _ _ _ _ _ _ c _ _ _ _ _ _ _ _ _ _ _ _ _ _ _ _ _ _ _ _ _ _ _ _ _ _ _ _ _ _ _ j k).trans ?_
    have hb : blk ⟨2 * (n + 1) + 1, h⟩ = Fin.castLE hn (Fin.last (n + 1)) := Fin.ext (by show (2 * (n + 1) + 1) / 2 = n + 1; omega)
    rw [Fin.sum_univ_castSucc]
    refine congrArg₂ (fun a b : EReal => a + b) ?_ ((rows_at m c ⟨2 * (n + 1) + 1, h⟩ h1 j k).trans (by rw [hb]))
    refine (congrFun (congrArg (fun p => p.2.2.1) (outsAt0_A m c ⟨2 * n + 2, h'⟩ (show (2 * n + 2) % 2 = 0 by omega)
      (show ¬(2 * n + 2) % 2 = 1 by omega) (show ¬(2 * n + 2) % 2 = 1 by omega))) _).trans ?_
    exact after_rows n (by omega) (Nat.lt_of_succ_lt h') j k

theorem flush8 : ∀ t : Fin cfg0.N, (cfg0.win 8).flush t = true → t.val % 2 = 1 := by decide +kernel
theorem flush9 : ∀ t : Fin cfg0.N, (cfg0.win 9).flush t = true → t.val % 2 = 1 := by decide +kernel

/-- The tokens' gradient. -/
theorem array_dx (T : Fin 2048) (k : Fin 1024) : ((dats m 0 c).arrAt 8 cfg0.N : Vec Ideal S2048x1024 .f32) (ix2 T k) = dxAt m c T k := by
  refine (?_ : ∀ T' k', ix2 T k = ix2 T' k' → _ = dxAt m c T' k') T k rfl
  refine (dats m 0 c).arrAt_forall_of_covers 8 (fun i v => ∀ T k, i = ix2 T k → v = dxAt m c T k) (by decide +kernel)
    (fun t hf y T k e => ?_) (ix2 T k)
  blk_simp
  rw [after0_8]
  obtain ⟨-, -, -, -, -, -, -, -, ⟨h0, h1⟩, -⟩ := index t
  have e0 : win0_8.index t 0 * 512 + 1 * (y 0).val = T.val := congrArg Fin.val (congrFun e 0)
  have e1 : win0_8.index t 1 * 1024 + 1 * (y 1).val = k.val := congrArg Fin.val (congrFun e 1)
  rw [h0] at e0
  rw [h1, Nat.zero_mul, Nat.zero_add, Nat.one_mul] at e1
  rw [eq_ix2 y]
  have eT : tok (blk t) (y 0) = T := Fin.ext (by rw [← e0]; show 512 * (t.val / 2) + (y 0).val = _; ring)
  have ek : (y 1 : Fin 1024) = k := Fin.ext e1
  exact (after_dx m c t (flush8 t hf) (y 0) (y 1)).trans (by rw [eT, ek])

/-- Its gated copy. -/
theorem array_da (T : Fin 2048) (k : Fin 1024) :
    ((dats m 0 c).arrAt 9 cfg0.N : Vec Ideal S2048x1024 .bf16) (ix2 T k) = (dxAt m c T k * gate m c k : EReal) := by
  refine (?_ : ∀ T' k', ix2 T k = ix2 T' k' → _ = (dxAt m c T' k' * gate m c k' : EReal)) T k rfl
  refine (dats m 0 c).arrAt_forall_of_covers 9 (fun i v => ∀ T k, i = ix2 T k → v = (dxAt m c T k * gate m c k : EReal)) (by decide +kernel)
    (fun t hf y T k e => ?_) (ix2 T k)
  blk_simp
  rw [after0_9]
  obtain ⟨-, -, -, -, -, -, -, -, -, ⟨h0, h1⟩, -⟩ := index t
  have e0 : win0_9.index t 0 * 512 + 1 * (y 0).val = T.val := congrArg Fin.val (congrFun e 0)
  have e1 : win0_9.index t 1 * 1024 + 1 * (y 1).val = k.val := congrArg Fin.val (congrFun e 1)
  rw [h0] at e0
  rw [h1, Nat.zero_mul, Nat.zero_add, Nat.one_mul] at e1
  rw [eq_ix2 y]
  have eT : tok (blk t) (y 0) = T := Fin.ext (by rw [← e0]; show 512 * (t.val / 2) + (y 0).val = _; ring)
  have ek : (y 1 : Fin 1024) = k := Fin.ext e1
  exact (after_da m c t (flush9 t hf) (y 0) (y 1)).trans (by rw [eT, ek])

/-- The four summed rows. -/
theorem array_rows (j : Fin 4) (k : Fin 1024) :
    ((dats m 0 c).arrAt 10 cfg0.N : Vec Ideal S4x1024 .f32) (ix2 j k) = (∑ T, termAt m c j k T : EReal) := by
  refine (?_ : ∀ j' k', ix2 j k = ix2 j' k' → _ = (∑ T, termAt m c j' k' T : EReal)) j k rfl
  refine (dats m 0 c).arrAt_forall_of_covers 10 (fun i v => ∀ j k, i = ix2 j k → v = (∑ T, termAt m c j k T : EReal)) (by decide +kernel)
    (fun t hf y j k e => ?_) (ix2 j k)
  blk_simp
  rw [after0_10]
  have ht : t = ⟨7, by decide⟩ := (by decide +kernel : ∀ t : Fin cfg0.N, (cfg0.win 10).flush t = true → t = ⟨7, by decide⟩) t hf
  obtain ⟨-, -, -, -, -, -, -, -, -, -, ⟨h0, h1⟩⟩ := index t
  have e0 : win0_10.index t 0 * 4 + 1 * (y 0).val = j.val := congrArg Fin.val (congrFun e 0)
  have e1 : win0_10.index t 1 * 1024 + 1 * (y 1).val = k.val := congrArg Fin.val (congrFun e 1)
  rw [h0, Nat.zero_mul, Nat.zero_add, Nat.one_mul] at e0
  rw [h1, Nat.zero_mul, Nat.zero_add, Nat.one_mul] at e1
  rw [eq_ix2 y]
  have ej : (y 0 : Fin 4) = j := Fin.ext e0
  have ek : (y 1 : Fin 1024) = k := Fin.ext e1
  subst ht
  exact (after_rows m c 3 (by omega) (by decide) (y 0) (y 1)).trans (by rw [ej, ek]; exact sum_tok _)

/-- The precondition read. -/
theorem finite_arguments (h : Cert.Pre_NormIIKernelIdeal_finite_norm2 m) :
    (∀ T k, ∃ r : ℝ, xIn m c T k = r) ∧ (∀ T k, ∃ r : ℝ, attn m c T k = r) ∧ (∀ k, ∃ r : ℝ, gate m c k = r)
    ∧ (∀ k, ∃ r : ℝ, gain m c k = r) ∧ (∀ k, ∃ r : ℝ, scl m c k = r) ∧ (∀ i, ∃ r : ℝ, wt m c i = (r : EReal))
    ∧ (∀ i, ∃ r : ℝ, ct m c i = (r : EReal)) ∧ (∀ T k, ∃ r : ℝ, dres m c T k = r) := by
  have e := congrFun (h c) (fun d => d.elim0)
  obtain ⟨e, a10⟩ := Attn.and_one e
  obtain ⟨e, a9⟩ := Attn.and_one e
  obtain ⟨e, a8⟩ := Attn.and_one e
  obtain ⟨e, a7⟩ := Attn.and_one e
  obtain ⟨e, a6⟩ := Attn.and_one e
  obtain ⟨e, a5⟩ := Attn.and_one e
  obtain ⟨e, a4⟩ := Attn.and_one e
  obtain ⟨e, a3⟩ := Attn.and_one e
  obtain ⟨e, a2⟩ := Attn.and_one e
  obtain ⟨a0, a1⟩ := Attn.and_one e
  exact ⟨fun _ _ => Attn.finite_of_all a0 _, fun _ _ => Attn.finite_of_all a1 _, fun _ => Attn.finite_of_all a2 _, fun _ => Attn.finite_of_all a3 _,
    fun _ => Attn.finite_of_all a5 _, Attn.finite_of_all a6, Attn.finite_of_all a9, fun _ _ => Attn.finite_of_all a10 _⟩

theorem dh_real (h9 : ∀ i, ∃ r : ℝ, ct m c i = (r : EReal)) (h6 : ∀ i, ∃ r : ℝ, wt m c i = (r : EReal)) (T : Fin 2048) (k : Fin 1024) :
    ∃ r : ℝ, dh m c T k = r := by
  choose p hp using h9
  choose q hq using h6
  refine ⟨_, (congrArg₂ (fun a b : EReal => a + b)
    (Attn.sum_real Finset.univ _ (fun n : Fin 2816 => p (ix3 0 T n) * q (ix2 k ⟨n.val, by omega⟩)) fun n => by rw [hp, hq, EReal.coe_mul])
    (Attn.sum_real Finset.univ _ (fun n : Fin 2816 => p (ix3 1 T n) * q (ix2 k ⟨2816 + n.val, by omega⟩)) fun n => by rw [hp, hq, EReal.coe_mul])).trans
    (EReal.coe_add _ _).symm⟩

/-- On finite arguments the reference's formula is the kernel's. -/
theorem dx_agree (h : Cert.Pre_NormIIKernelIdeal_finite_norm2 m) (T : Fin 2048) (k : Fin 1024) :
    referenceDx (xs m c T) (dh m c T) (scl m c) (gain m c) (dres m c T k) k = dxAt m c T k := by
  obtain ⟨f0, f1, f2, f3, f5, f6, f9, f10⟩ := finite_arguments m c h
  refine dx_eq (xs m c T) (dh m c T) (scl m c) (gain m c) (dres m c T k) (fun k => ?_) (fun k => dh_real m c f9 f6 T k) f5 f3 (f10 T k) k
  obtain ⟨a, ha⟩ := f0 T k
  obtain ⟨b, hb⟩ := f1 T k
  obtain ⟨d, hd⟩ := f2 k
  exact ⟨a + d * b, by rw [xs, ha, hb, hd, EReal.coe_add, EReal.coe_mul]⟩

section

variable (m' : (ℓ : Loc Cert.NormIIReferenceIdeal.nD Cert.NormIIReferenceIdeal.τ Cert.NormIIReferenceIdeal.sig) → Buf (Elt Ideal) ℓ)
  (e0 : m' ((c.tc : Thread Cert.NormIIReferenceIdeal.nD Cert.NormIIReferenceIdeal.τ).loc Cert.NormIIReferenceIdeal.main_arg0) = m ((c.tc : Thread nD τ).loc main_arg0))
  (e1 : m' ((c.tc : Thread Cert.NormIIReferenceIdeal.nD Cert.NormIIReferenceIdeal.τ).loc Cert.NormIIReferenceIdeal.main_arg1) = m ((c.tc : Thread nD τ).loc main_arg1))
  (e2 : m' ((c.tc : Thread Cert.NormIIReferenceIdeal.nD Cert.NormIIReferenceIdeal.τ).loc Cert.NormIIReferenceIdeal.main_arg2) = m ((c.tc : Thread nD τ).loc main_arg2))
  (e3 : m' ((c.tc : Thread Cert.NormIIReferenceIdeal.nD Cert.NormIIReferenceIdeal.τ).loc Cert.NormIIReferenceIdeal.main_arg3) = m ((c.tc : Thread nD τ).loc main_arg3))
  (e5 : m' ((c.tc : Thread Cert.NormIIReferenceIdeal.nD Cert.NormIIReferenceIdeal.τ).loc Cert.NormIIReferenceIdeal.main_arg5) = m ((c.tc : Thread nD τ).loc main_arg5))
  (e6 : m' ((c.tc : Thread Cert.NormIIReferenceIdeal.nD Cert.NormIIReferenceIdeal.τ).loc Cert.NormIIReferenceIdeal.main_arg6) = m ((c.tc : Thread nD τ).loc main_arg6))
  (e8 : m' ((c.tc : Thread Cert.NormIIReferenceIdeal.nD Cert.NormIIReferenceIdeal.τ).loc Cert.NormIIReferenceIdeal.main_arg8) = m ((c.tc : Thread nD τ).loc main_arg8))
  (e9 : m' ((c.tc : Thread Cert.NormIIReferenceIdeal.nD Cert.NormIIReferenceIdeal.τ).loc Cert.NormIIReferenceIdeal.main_arg9) = m ((c.tc : Thread nD τ).loc main_arg9))
  (e10 : m' ((c.tc : Thread Cert.NormIIReferenceIdeal.nD Cert.NormIIReferenceIdeal.τ).loc Cert.NormIIReferenceIdeal.main_arg10) = m ((c.tc : Thread nD τ).loc main_arg10))

include e0 e1 e2 e3 e5 e6 e9 e10

theorem result_dx (h : Cert.Pre_NormIIKernelIdeal_finite_norm2 m) (T : Fin 2048) (k : Fin 1024) :
    Cert.NormIIReferenceIdeal.Value.res_main_v83 m' c (ix2 T k) = dxAt m c T k := by
  pointwise [Cert.NormIIReferenceIdeal.Value.res_main_v83]
  rw [Fin.sum_univ_one, e0, e1, e2, e3, e5, e6, e9, e10]
  exact dx_agree m c h T k

theorem result_da (h : Cert.Pre_NormIIKernelIdeal_finite_norm2 m) (T : Fin 2048) (k : Fin 1024) :
    Cert.NormIIReferenceIdeal.Value.res_main_v90 m' c (ix2 T k) = (dxAt m c T k * gate m c k : EReal) := by
  pointwise [Cert.NormIIReferenceIdeal.Value.res_main_v90]
  rw [Fin.sum_univ_one, e0, e1, e2, e3, e5, e6, e9, e10]
  exact (congrArg (fun a : EReal => gate m c k * a) (dx_agree m c h T k)).trans (mul_comm _ _)

include e8

theorem result_rows (j : Fin 4) (k : Fin 1024) : Cert.NormIIReferenceIdeal.Value.res_main_v95 m' c (ix2 j k) = (∑ T, termAt m c j k T : EReal) := by
  pointwise [Cert.NormIIReferenceIdeal.Value.res_main_v95]
  rw [e0, e1, e2, e3, e5, e6, e8, e9, e10]
  match j with
  | 0 =>
    rw [dif_pos (show (0 : Fin 4).val < 1 by decide), Fin.sum_univ_one]
    rfl
  | 1 =>
    rw [dif_neg (show ¬(1 : Fin 4).val < 1 by decide), dif_pos (show (1 : Fin 4).val - 1 < 1 by decide), Fin.sum_univ_one]
    exact (Finset.sum_congr rfl fun T _ => EReal.mul_comm _ _ : (∑ T : Fin 2048, (_ * _ : EReal)) = ∑ T, termAt m c 1 k T)
  | 2 =>
    rw [dif_neg (show ¬(2 : Fin 4).val < 1 by decide), dif_neg (show ¬(2 : Fin 4).val - 1 < 1 by decide),
      dif_pos (show (2 : Fin 4).val - 1 - 1 < 1 by decide), Fin.sum_univ_one]
    exact (Finset.sum_congr rfl fun T _ => EReal.mul_comm _ _ : (∑ T : Fin 2048, (_ * _ : EReal)) = ∑ T, termAt m c 2 k T)
  | 3 =>
    rw [dif_neg (show ¬(3 : Fin 4).val < 1 by decide), dif_neg (show ¬(3 : Fin 4).val - 1 < 1 by decide),
      dif_neg (show ¬(3 : Fin 4).val - 1 - 1 < 1 by decide), Fin.sum_univ_one]
    rfl

end

theorem algebraic : Cert.algebraic_NormIIKernelIdeal_NormIIReferenceIdeal_pre_finite_norm2 := by
  intro m g m' g' hpre heq
  refine ⟨fun c => (dats m 0 c).arrAt 8 cfg0.N, fun c => (dats m 0 c).arrAt 9 cfg0.N, fun c => (dats m 0 c).arrAt 10 cfg0.N,
    Cert.NormIIKernelIdeal.Value.run_blocks m g, ?_⟩
  refine (θ_run Cert.NormIIReferenceIdeal.defs _ _).mono (fun r h c => ?_) (Cert.NormIIReferenceIdeal.Value.run m' g')
  obtain ⟨h8, h9, h10, h⟩ := h c
  obtain ⟨e0, e1, e2, e3, e4, e5, e6, e7, e8, e9, e10⟩ := heq c
  refine ⟨h8.trans (funext fun i => ?_), h9.trans (funext fun i => ?_), h10.trans (funext fun i => ?_), h⟩
  · obtain ⟨T, k, rfl⟩ : ∃ T k, i = ix2 T k := ⟨_, _, eq_ix2 i⟩
    exact (result_dx m c m' e0 e1 e2 e3 e5 e6 e9 e10 hpre T k).trans (array_dx m c T k).symm
  · obtain ⟨T, k, rfl⟩ : ∃ T k, i = ix2 T k := ⟨_, _, eq_ix2 i⟩
    exact (result_da m c m' e0 e1 e2 e3 e5 e6 e9 e10 hpre T k).trans (array_da m c T k).symm
  · obtain ⟨j, k, rfl⟩ : ∃ j k, i = ix2 j k := ⟨_, _, eq_ix2 i⟩
    exact (result_rows m c m' e0 e1 e2 e3 e5 e6 e8 e9 e10 j k).trans (array_rows m c j k).symm

end Cert.NormII
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite_arguments
public import proofs.«01_k».proof.Proof.Gen.Pre_finite_norm1
public import proofs.«01_k».proof.Proof.Gen.Pre_finite_norm2
public import proofs.«01_k».proof.Proof.Gen.ReferenceIdeal.Run
public import proofs.«01_k».proof.Proof.Run
public import proofs.«01_k».proof.Proof.Twin
public import proofs.«01_k».proof.Proof.Value
public import proofs.«01_k».proof.Proof.UpDw
public import proofs.«01_k».proof.Proof.DownDx
public import proofs.«01_k».proof.Proof.DownDw
public import proofs.«01_k».proof.Proof.InProj
public import proofs.«01_k».proof.Proof.InDwI
public import proofs.«01_k».proof.Proof.InDwII
public import proofs.«01_k».proof.Proof.NormI
public import proofs.«01_k».proof.Proof.NormII
public import Idealize.ShloMosaic.Adequacy
public import Idealize.ShloMosaic.Init
public import proofs.«01_k».proof.Proof.Gen.UpKernel.Frame
public import proofs.«01_k».proof.Proof.Gen.UpKernelIdeal.Value
public import proofs.«01_k».proof.Proof.Gen.UpReferenceIdeal.Run
public import proofs.«01_k».proof.Proof.Gen.UpDwKernel.Frame
public import proofs.«01_k».proof.Proof.Gen.UpDwKernelIdeal.Value
public import proofs.«01_k».proof.Proof.Gen.UpDwReferenceIdeal.Run
public import proofs.«01_k».proof.Proof.Gen.DownDxKernel.Frame
public import proofs.«01_k».proof.Proof.Gen.DownDxKernelIdeal.Value
public import proofs.«01_k».proof.Proof.Gen.DownDxReferenceIdeal.Run
public import proofs.«01_k».proof.Proof.Gen.DownDwKernel.Frame
public import proofs.«01_k».proof.Proof.Gen.DownDwKernelIdeal.Value
public import proofs.«01_k».proof.Proof.Gen.DownDwReferenceIdeal.Run
public import proofs.«01_k».proof.Proof.Gen.InKernel.Frame
public import proofs.«01_k».proof.Proof.Gen.InKernelIdeal.Value
public import proofs.«01_k».proof.Proof.Gen.InReferenceIdeal.Run
public import proofs.«01_k».proof.Proof.Gen.NormIKernel.Frame
public import proofs.«01_k».proof.Proof.Gen.NormIKernelIdeal.Value
public import proofs.«01_k».proof.Proof.Gen.NormIReferenceIdeal.Run
public import proofs.«01_k».proof.Proof.Gen.NormIIKernel.Frame
public import proofs.«01_k».proof.Proof.Gen.NormIIKernelIdeal.Value
public import proofs.«01_k».proof.Proof.Gen.NormIIReferenceIdeal.Run
public import proofs.«01_k».proof.Proof.Gen.InDwIKernel.Frame
public import proofs.«01_k».proof.Proof.Gen.InDwIKernelIdeal.Value
public import proofs.«01_k».proof.Proof.Gen.InDwIReferenceIdeal.Run
public import proofs.«01_k».proof.Proof.Gen.InDwIIKernel.Frame
public import proofs.«01_k».proof.Proof.Gen.InDwIIKernelIdeal.Value
public import proofs.«01_k».proof.Proof.Gen.InDwIIReferenceIdeal.Run

@[expose] public section

noncomputable section

namespace Cert.Proof

open Idealize.ShloMosaic Idealize.SL.Sem

/-- The reference runs, leaves its arguments alone and every counter at zero. -/
theorem reference_frame : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

theorem named : Cert.preserves_Kernel_KernelIdeal :=
  ⟨IdealRules.named_const.statement Cert.KernelIdeal.κ "scale_log2e" .f32 0x3E16C740#32 (((Real.sqrt 96)⁻¹ * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "scale" .f32 0x3DD105EC#32 (((Real.sqrt 96)⁻¹ : ℝ) : EReal) rfl⟩

/-- The reference of the up projection runs and leaves its arguments alone. -/
theorem up_reference_frame : Cert.quiescent_UpReferenceIdeal := fun m ρ _ =>
  (θ_run Cert.UpReferenceIdeal.defs _ _).mono
    (fun r h => ⟨fun c => (h c).2, Idealize.ShloMosaic.sem_eq_zero_of_no_sems (by decide) r.2⟩)
    (Cert.UpReferenceIdeal.Value.run (F := Ideal) m ρ)

/-- The reference of the up projection's weight gradient runs and leaves its arguments alone. -/
theorem upDw_reference_frame : Cert.quiescent_UpDwReferenceIdeal := fun m ρ _ =>
  (θ_run Cert.UpDwReferenceIdeal.defs _ _).mono
    (fun r h => ⟨fun c => (h c).2, Idealize.ShloMosaic.sem_eq_zero_of_no_sems (by decide) r.2⟩)
    (Cert.UpDwReferenceIdeal.Value.run (F := Ideal) m ρ)

/-- The reference of the down projection's input gradient runs and leaves its arguments alone. -/
theorem downDx_reference_frame : Cert.quiescent_DownDxReferenceIdeal := fun m ρ _ =>
  (θ_run Cert.DownDxReferenceIdeal.defs _ _).mono
    (fun r h => ⟨fun c => (h c).2, Idealize.ShloMosaic.sem_eq_zero_of_no_sems (by decide) r.2⟩)
    (Cert.DownDxReferenceIdeal.Value.run (F := Ideal) m ρ)

/-- The reference of the down projection's weight gradient runs and leaves its arguments alone. -/
theorem downDw_reference_frame : Cert.quiescent_DownDwReferenceIdeal := fun m ρ _ =>
  (θ_run Cert.DownDwReferenceIdeal.defs _ _).mono
    (fun r h => ⟨fun c => (h c).2, Idealize.ShloMosaic.sem_eq_zero_of_no_sems (by decide) r.2⟩)
    (Cert.DownDwReferenceIdeal.Value.run (F := Ideal) m ρ)

/-- The reference of the input projection runs and leaves its arguments alone. -/
theorem in_reference_frame : Cert.quiescent_InReferenceIdeal := fun m ρ _ =>
  (θ_run Cert.InReferenceIdeal.defs _ _).mono
    (fun r h => ⟨fun c => (h c).2, Idealize.ShloMosaic.sem_eq_zero_of_no_sems (by decide) r.2⟩)
    (Cert.InReferenceIdeal.Value.run (F := Ideal) m ρ)

/-- The reference of the first norm's gradient runs and leaves its arguments alone. -/
theorem normI_reference_frame : Cert.quiescent_NormIReferenceIdeal := fun m ρ _ =>
  (θ_run Cert.NormIReferenceIdeal.defs _ _).mono
    (fun r h => ⟨fun c => (h c).2.2, Idealize.ShloMosaic.sem_eq_zero_of_no_sems (by decide) r.2⟩)
    (Cert.NormIReferenceIdeal.Value.run (F := Ideal) m ρ)

/-- The reference of the second norm's gradient runs and leaves its arguments alone. -/
theorem normII_reference_frame : Cert.quiescent_NormIIReferenceIdeal := fun m ρ _ =>
  (θ_run Cert.NormIIReferenceIdeal.defs _ _).mono
    (fun r h => ⟨fun c => (h c).2.2.2, Idealize.ShloMosaic.sem_eq_zero_of_no_sems (by decide) r.2⟩)
    (Cert.NormIIReferenceIdeal.Value.run (F := Ideal) m ρ)

/-- The reference of the first half of the input projection's weights' gradient runs and leaves its arguments alone. -/
theorem inDwI_reference_frame : Cert.quiescent_InDwIReferenceIdeal := fun m ρ _ =>
  (θ_run Cert.InDwIReferenceIdeal.defs _ _).mono
    (fun r h => ⟨fun c => (h c).2, Idealize.ShloMosaic.sem_eq_zero_of_no_sems (by decide) r.2⟩)
    (Cert.InDwIReferenceIdeal.Value.run (F := Ideal) m ρ)

/-- The reference of the second half of the input projection's weights' gradient runs and leaves its arguments alone. -/
theorem inDwII_reference_frame : Cert.quiescent_InDwIIReferenceIdeal := fun m ρ _ =>
  (θ_run Cert.InDwIIReferenceIdeal.defs _ _).mono
    (fun r h => ⟨fun c => (h c).2, Idealize.ShloMosaic.sem_eq_zero_of_no_sems (by decide) r.2⟩)
    (Cert.InDwIIReferenceIdeal.Value.run (F := Ideal) m ρ)

theorem claim : Cert.Claim := ⟨Cert.Kernel.Gen.facts, Cert.KernelIdeal.Gen.facts, Cert.ReferenceIdeal.Gen.facts,
  Cert.UpKernel.Gen.facts, Cert.UpKernelIdeal.Gen.facts, Cert.UpReferenceIdeal.Gen.facts,
  Cert.UpDwKernel.Gen.facts, Cert.UpDwKernelIdeal.Gen.facts, Cert.UpDwReferenceIdeal.Gen.facts,
  Cert.DownDxKernel.Gen.facts, Cert.DownDxKernelIdeal.Gen.facts, Cert.DownDxReferenceIdeal.Gen.facts,
  Cert.DownDwKernel.Gen.facts, Cert.DownDwKernelIdeal.Gen.facts, Cert.DownDwReferenceIdeal.Gen.facts,
  Cert.InKernel.Gen.facts, Cert.InKernelIdeal.Gen.facts, Cert.InReferenceIdeal.Gen.facts,
  Cert.NormIKernel.Gen.facts, Cert.NormIKernelIdeal.Gen.facts, Cert.NormIReferenceIdeal.Gen.facts,
  Cert.NormIIKernel.Gen.facts, Cert.NormIIKernelIdeal.Gen.facts, Cert.NormIIReferenceIdeal.Gen.facts,
  Cert.InDwIKernel.Gen.facts, Cert.InDwIKernelIdeal.Gen.facts, Cert.InDwIReferenceIdeal.Gen.facts,
  Cert.InDwIIKernel.Gen.facts, Cert.InDwIIKernelIdeal.Gen.facts, Cert.InDwIIReferenceIdeal.Gen.facts,
  Cert.Pre_finite_arguments.Gen.facts, Cert.Pre_finite_norm1.Gen.facts, Cert.Pre_finite_norm2.Gen.facts,
  Cert.Twin.frame, fun m ρ _ => Cert.KernelIdeal.Attn.frame m ρ, fun m ρ _ => Cert.KernelIdeal.Attn.frame m ρ,
  reference_frame, fun m ρ _ => reference_frame m ρ trivial,
  fun m ρ _ => Cert.UpKernel.Gen.frame m ρ, fun m ρ _ => Cert.UpKernelIdeal.Gen.frame m ρ, up_reference_frame,
  fun m ρ _ => Cert.UpDwKernel.Gen.frame m ρ, fun m ρ _ => Cert.UpDwKernelIdeal.Gen.frame m ρ, upDw_reference_frame,
  fun m ρ _ => Cert.DownDxKernel.Gen.frame m ρ, fun m ρ _ => Cert.DownDxKernelIdeal.Gen.frame m ρ, downDx_reference_frame,
  fun m ρ _ => Cert.DownDwKernel.Gen.frame m ρ, fun m ρ _ => Cert.DownDwKernelIdeal.Gen.frame m ρ, downDw_reference_frame,
  fun m ρ _ => Cert.InKernel.Gen.frame m ρ, fun m ρ _ => Cert.InKernelIdeal.Gen.frame m ρ, in_reference_frame,
  fun m ρ _ => Cert.NormIKernel.Gen.frame m ρ, fun m ρ _ => Cert.NormIKernelIdeal.Gen.frame m ρ, fun m ρ _ => Cert.NormIKernelIdeal.Gen.frame m ρ,
  normI_reference_frame, fun m ρ _ => normI_reference_frame m ρ trivial,
  fun m ρ _ => Cert.NormIIKernel.Gen.frame m ρ, fun m ρ _ => Cert.NormIIKernelIdeal.Gen.frame m ρ, fun m ρ _ => Cert.NormIIKernelIdeal.Gen.frame m ρ,
  normII_reference_frame, fun m ρ _ => normII_reference_frame m ρ trivial,
  fun m ρ _ => Cert.InDwIKernel.Gen.frame m ρ, fun m ρ _ => Cert.InDwIKernelIdeal.Gen.frame m ρ, inDwI_reference_frame,
  fun m ρ _ => Cert.InDwIIKernel.Gen.frame m ρ, fun m ρ _ => Cert.InDwIIKernelIdeal.Gen.frame m ρ, inDwII_reference_frame,
  named, Cert.Attn.algebraic, trivial, Cert.Up.algebraic, trivial, Cert.UpDw.algebraic, trivial, Cert.DownDx.algebraic, trivial, Cert.DownDw.algebraic,
  trivial, Cert.InProj.algebraic, trivial, Cert.NormI.algebraic, trivial, Cert.NormII.algebraic,
  trivial, Cert.InDwI.algebraic, trivial, Cert.InDwII.algebraic⟩

end Cert.Proof

end
